-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_MoeUp (m : (ℓ : Loc Cert.MoeUp.nD Cert.MoeUp.τ Cert.MoeUp.sig) → Buf (Elt Bits) ℓ) : Prop :=
  True

def Pre_MoeUpIdeal (m : (ℓ : Loc Cert.MoeUpIdeal.nD Cert.MoeUpIdeal.τ Cert.MoeUpIdeal.sig) → Buf (Elt Ideal) ℓ) : Prop :=
  True

def Pre_MoeUpRefIdeal (m : (ℓ : Loc Cert.MoeUpRefIdeal.nD Cert.MoeUpRefIdeal.τ Cert.MoeUpRefIdeal.sig) → Buf (Elt Ideal) ℓ) : Prop :=
  True

def Pre_MoeDown (m : (ℓ : Loc Cert.MoeDown.nD Cert.MoeDown.τ Cert.MoeDown.sig) → Buf (Elt Bits) ℓ) : Prop :=
  True

def Pre_MoeDownIdeal (m : (ℓ : Loc Cert.MoeDownIdeal.nD Cert.MoeDownIdeal.τ Cert.MoeDownIdeal.sig) → Buf (Elt Ideal) ℓ) : Prop :=
  True

def Pre_MoeDownRefIdeal (m : (ℓ : Loc Cert.MoeDownRefIdeal.nD Cert.MoeDownRefIdeal.τ Cert.MoeDownRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Qkq (m : (ℓ : Loc Cert.Qkq.nD Cert.Qkq.τ Cert.Qkq.sig) → Buf (Elt Bits) ℓ) : Prop :=
  True

def Pre_QkqIdeal (m : (ℓ : Loc Cert.QkqIdeal.nD Cert.QkqIdeal.τ Cert.QkqIdeal.sig) → Buf (Elt Ideal) ℓ) : Prop :=
  True

def Pre_QkqRefIdeal (m : (ℓ : Loc Cert.QkqRefIdeal.nD Cert.QkqRefIdeal.τ Cert.QkqRefIdeal.sig) → Buf (Elt Ideal) ℓ) : Prop :=
  True

def Pre_Va (m : (ℓ : Loc Cert.Va.nD Cert.Va.τ Cert.Va.sig) → Buf (Elt Bits) ℓ) : Prop :=
  True

def Pre_VaIdeal (m : (ℓ : Loc Cert.VaIdeal.nD Cert.VaIdeal.τ Cert.VaIdeal.sig) → Buf (Elt Ideal) ℓ) : Prop :=
  True

def Pre_VaRefIdeal (m : (ℓ : Loc Cert.VaRefIdeal.nD Cert.VaRefIdeal.τ Cert.VaRefIdeal.sig) → Buf (Elt Ideal) ℓ) : Prop :=
  True

def Pre_Qi (m : (ℓ : Loc Cert.Qi.nD Cert.Qi.τ Cert.Qi.sig) → Buf (Elt Bits) ℓ) : Prop :=
  True

def Pre_QiIdeal (m : (ℓ : Loc Cert.QiIdeal.nD Cert.QiIdeal.τ Cert.QiIdeal.sig) → Buf (Elt Ideal) ℓ) : Prop :=
  True

def Pre_QiRefIdeal (m : (ℓ : Loc Cert.QiRefIdeal.nD Cert.QiRefIdeal.τ Cert.QiRefIdeal.sig) → Buf (Elt Ideal) ℓ) : Prop :=
  True

def Pre_Cb (m : (ℓ : Loc Cert.Cb.nD Cert.Cb.τ Cert.Cb.sig) → Buf (Elt Bits) ℓ) : Prop :=
  True

def Pre_CbIdeal (m : (ℓ : Loc Cert.CbIdeal.nD Cert.CbIdeal.τ Cert.CbIdeal.sig) → Buf (Elt Ideal) ℓ) : Prop :=
  True

def Pre_CbRefIdeal (m : (ℓ : Loc Cert.CbRefIdeal.nD Cert.CbRefIdeal.τ Cert.CbRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).1 = (fun _ => 1#1)
    ∧ (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite_router [hPre_finite_router : Cert.Pre_finite_router.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).1 = (fun _ => 1#1)
    ∧ (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_finite_table [hPre_finite_table : Cert.Pre_finite_table.Facts] (m : (ℓ : Loc Cert.BiasIdeal.nD Cert.BiasIdeal.τ Cert.BiasIdeal.sig) → Buf (Elt Ideal) ℓ) : Prop :=
  ∀ c : Dev Cert.BiasIdeal.nD,
    (Cert.Pre_finite_table.fn (F := Ideal) (m ((c.tc : Thread Cert.BiasIdeal.nD Cert.BiasIdeal.τ).loc Cert.BiasIdeal.main_arg0))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_finite_table [hPre_finite_table : Cert.Pre_finite_table.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_finite_table.fn (F := Ideal) (m ((c.tc : Thread Cert.BiasRefIdeal.nD Cert.BiasRefIdeal.τ).loc Cert.BiasRefIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MoeUp [hMoeUp : Cert.MoeUp.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3))
      ∧ r.2.sem = fun _ => 0)

def quiescent_MoeUpIdeal [hMoeUpIdeal : Cert.MoeUpIdeal.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3))
      ∧ r.2.sem = fun _ => 0)

def quiescent_MoeDown [hMoeDown : Cert.MoeDown.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2))
      ∧ r.2.sem = fun _ => 0)

def quiescent_MoeDownIdeal [hMoeDownIdeal : Cert.MoeDownIdeal.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Qkq [hQkq : Cert.Qkq.Facts] : Prop :=
  ∀ (m : (ℓ : Loc Cert.Qkq.nD Cert.Qkq.τ Cert.Qkq.sig) → Buf (Elt Bits) ℓ) (g : Dev Cert.Qkq.nD → PrngReg), Pre_Qkq m →
    θ_run (Cert.Qkq.defs (F := Bits)) (onTc (τ := Cert.Qkq.τ) (Cert.Qkq.main (F := Bits))) ⟨m, fun _ => 0, g⟩ (fun r => (∀ c : Dev Cert.Qkq.nD,
      r.2.mem ((c.tc : Thread Cert.Qkq.nD Cert.Qkq.τ).loc Cert.Qkq.main_arg0) = m ((c.tc : Thread Cert.Qkq.nD Cert.Qkq.τ).loc Cert.Qkq.main_arg0)
      ∧ r.2.mem ((c.tc : Thread Cert.Qkq.nD Cert.Qkq.τ).loc Cert.Qkq.main_arg1) = m ((c.tc : Thread Cert.Qkq.nD Cert.Qkq.τ).loc Cert.Qkq.main_arg1)
      ∧ r.2.mem ((c.tc : Thread Cert.Qkq.nD Cert.Qkq.τ).loc Cert.Qkq.main_arg2) = m ((c.tc : Thread Cert.Qkq.nD Cert.Qkq.τ).loc Cert.Qkq.main_arg2)
      ∧ r.2.mem ((c.tc : Thread Cert.Qkq.nD Cert.Qkq.τ).loc Cert.Qkq.main_arg3) = m ((c.tc : Thread Cert.Qkq.nD Cert.Qkq.τ).loc Cert.Qkq.main_arg3)
      ∧ r.2.mem ((c.tc : Thread Cert.Qkq.nD Cert.Qkq.τ).loc Cert.Qkq.main_arg4) = m ((c.tc : Thread Cert.Qkq.nD Cert.Qkq.τ).loc Cert.Qkq.main_arg4))
      ∧ r.2.sem = fun _ => 0)

def quiescent_QkqIdeal [hQkqIdeal : Cert.QkqIdeal.Facts] : Prop :=
  ∀ (m : (ℓ : Loc Cert.QkqIdeal.nD Cert.QkqIdeal.τ Cert.QkqIdeal.sig) → Buf (Elt Ideal) ℓ) (g : Dev Cert.QkqIdeal.nD → PrngReg), Pre_QkqIdeal m →
    θ_run (Cert.QkqIdeal.defs (F := Ideal)) (onTc (τ := Cert.QkqIdeal.τ) (Cert.QkqIdeal.main (F := Ideal))) ⟨m, fun _ => 0, g⟩ (fun r => (∀ c : Dev Cert.QkqIdeal.nD,
      r.2.mem ((c.tc : Thread Cert.QkqIdeal.nD Cert.QkqIdeal.τ).loc Cert.QkqIdeal.main_arg0) = m ((c.tc : Thread Cert.QkqIdeal.nD Cert.QkqIdeal.τ).loc Cert.QkqIdeal.main_arg0)
      ∧ r.2.mem ((c.tc : Thread Cert.QkqIdeal.nD Cert.QkqIdeal.τ).loc Cert.QkqIdeal.main_arg1) = m ((c.tc : Thread Cert.QkqIdeal.nD Cert.QkqIdeal.τ).loc Cert.QkqIdeal.main_arg1)
      ∧ r.2.mem ((c.tc : Thread Cert.QkqIdeal.nD Cert.QkqIdeal.τ).loc Cert.QkqIdeal.main_arg2) = m ((c.tc : Thread Cert.QkqIdeal.nD Cert.QkqIdeal.τ).loc Cert.QkqIdeal.main_arg2)
      ∧ r.2.mem ((c.tc : Thread Cert.QkqIdeal.nD Cert.QkqIdeal.τ).loc Cert.QkqIdeal.main_arg3) = m ((c.tc : Thread Cert.QkqIdeal.nD Cert.QkqIdeal.τ).loc Cert.QkqIdeal.main_arg3)
      ∧ r.2.mem ((c.tc : Thread Cert.QkqIdeal.nD Cert.QkqIdeal.τ).loc Cert.QkqIdeal.main_arg4) = m ((c.tc : Thread Cert.QkqIdeal.nD Cert.QkqIdeal.τ).loc Cert.QkqIdeal.main_arg4))
      ∧ r.2.sem = fun _ => 0)

def quiescent_QkqRefIdeal [hQkqRefIdeal : Cert.QkqRefIdeal.Facts] : Prop :=
  ∀ (m : (ℓ : Loc Cert.QkqRefIdeal.nD Cert.QkqRefIdeal.τ Cert.QkqRefIdeal.sig) → Buf (Elt Ideal) ℓ) (g : Dev Cert.QkqRefIdeal.nD → PrngReg), Pre_QkqRefIdeal m →
    θ_run (Cert.QkqRefIdeal.defs (F := Ideal)) (onTc (τ := Cert.QkqRefIdeal.τ) (Cert.QkqRefIdeal.main (F := Ideal))) ⟨m, fun _ => 0, g⟩ (fun r => (∀ c : Dev Cert.QkqRefIdeal.nD,
      r.2.mem ((c.tc : Thread Cert.QkqRefIdeal.nD Cert.QkqRefIdeal.τ).loc Cert.QkqRefIdeal.main_arg0) = m ((c.tc : Thread Cert.QkqRefIdeal.nD Cert.QkqRefIdeal.τ).loc Cert.QkqRefIdeal.main_arg0)
      ∧ r.2.mem ((c.tc : Thread Cert.QkqRefIdeal.nD Cert.QkqRefIdeal.τ).loc Cert.QkqRefIdeal.main_arg1) = m ((c.tc : Thread Cert.QkqRefIdeal.nD Cert.QkqRefIdeal.τ).loc Cert.QkqRefIdeal.main_arg1)
      ∧ r.2.mem ((c.tc : Thread Cert.QkqRefIdeal.nD Cert.QkqRefIdeal.τ).loc Cert.QkqRefIdeal.main_arg2) = m ((c.tc : Thread Cert.QkqRefIdeal.nD Cert.QkqRefIdeal.τ).loc Cert.QkqRefIdeal.main_arg2)
      ∧ r.2.mem ((c.tc : Thread Cert.QkqRefIdeal.nD Cert.QkqRefIdeal.τ).loc Cert.QkqRefIdeal.main_arg3) = m ((c.tc : Thread Cert.QkqRefIdeal.nD Cert.QkqRefIdeal.τ).loc Cert.QkqRefIdeal.main_arg3)
      ∧ r.2.mem ((c.tc : Thread Cert.QkqRefIdeal.nD Cert.QkqRefIdeal.τ).loc Cert.QkqRefIdeal.main_arg4) = m ((c.tc : Thread Cert.QkqRefIdeal.nD Cert.QkqRefIdeal.τ).loc Cert.QkqRefIdeal.main_arg4))
      ∧ r.2.sem = fun _ => 0)

def quiescent_Va [hVa : Cert.Va.Facts] : Prop :=
  ∀ (m : (ℓ : Loc Cert.Va.nD Cert.Va.τ Cert.Va.sig) → Buf (Elt Bits) ℓ) (g : Dev Cert.Va.nD → PrngReg), Pre_Va m →
    θ_run (Cert.Va.defs (F := Bits)) (onTc (τ := Cert.Va.τ) (Cert.Va.main (F := Bits))) ⟨m, fun _ => 0, g⟩ (fun r => (∀ c : Dev Cert.Va.nD,
      r.2.mem ((c.tc : Thread Cert.Va.nD Cert.Va.τ).loc Cert.Va.main_arg0) = m ((c.tc : Thread Cert.Va.nD Cert.Va.τ).loc Cert.Va.main_arg0)
      ∧ r.2.mem ((c.tc : Thread Cert.Va.nD Cert.Va.τ).loc Cert.Va.main_arg1) = m ((c.tc : Thread Cert.Va.nD Cert.Va.τ).loc Cert.Va.main_arg1))
      ∧ r.2.sem = fun _ => 0)

def quiescent_VaIdeal [hVaIdeal : Cert.VaIdeal.Facts] : Prop :=
  ∀ (m : (ℓ : Loc Cert.VaIdeal.nD Cert.VaIdeal.τ Cert.VaIdeal.sig) → Buf (Elt Ideal) ℓ) (g : Dev Cert.VaIdeal.nD → PrngReg), Pre_VaIdeal m →
    θ_run (Cert.VaIdeal.defs (F := Ideal)) (onTc (τ := Cert.VaIdeal.τ) (Cert.VaIdeal.main (F := Ideal))) ⟨m, fun _ => 0, g⟩ (fun r => (∀ c : Dev Cert.VaIdeal.nD,
      r.2.mem ((c.tc : Thread Cert.VaIdeal.nD Cert.VaIdeal.τ).loc Cert.VaIdeal.main_arg0) = m ((c.tc : Thread Cert.VaIdeal.nD Cert.VaIdeal.τ).loc Cert.VaIdeal.main_arg0)
      ∧ r.2.mem ((c.tc : Thread Cert.VaIdeal.nD Cert.VaIdeal.τ).loc Cert.VaIdeal.main_arg1) = m ((c.tc : Thread Cert.VaIdeal.nD Cert.VaIdeal.τ).loc Cert.VaIdeal.main_arg1))
      ∧ r.2.sem = fun _ => 0)

def quiescent_VaRefIdeal [hVaRefIdeal : Cert.VaRefIdeal.Facts] : Prop :=
  ∀ (m : (ℓ : Loc Cert.VaRefIdeal.nD Cert.VaRefIdeal.τ Cert.VaRefIdeal.sig) → Buf (Elt Ideal) ℓ) (g : Dev Cert.VaRefIdeal.nD → PrngReg), Pre_VaRefIdeal m →
    θ_run (Cert.VaRefIdeal.defs (F := Ideal)) (onTc (τ := Cert.VaRefIdeal.τ) (Cert.VaRefIdeal.main (F := Ideal))) ⟨m, fun _ => 0, g⟩ (fun r => (∀ c : Dev Cert.VaRefIdeal.nD,
      r.2.mem ((c.tc : Thread Cert.VaRefIdeal.nD Cert.VaRefIdeal.τ).loc Cert.VaRefIdeal.main_arg0) = m ((c.tc : Thread Cert.VaRefIdeal.nD Cert.VaRefIdeal.τ).loc Cert.VaRefIdeal.main_arg0)
      ∧ r.2.mem ((c.tc : Thread Cert.VaRefIdeal.nD Cert.VaRefIdeal.τ).loc Cert.VaRefIdeal.main_arg1) = m ((c.tc : Thread Cert.VaRefIdeal.nD Cert.VaRefIdeal.τ).loc Cert.VaRefIdeal.main_arg1))
      ∧ r.2.sem = fun _ => 0)

def quiescent_Qi [hQi : Cert.Qi.Facts] : Prop :=
  ∀ (m : (ℓ : Loc Cert.Qi.nD Cert.Qi.τ Cert.Qi.sig) → Buf (Elt Bits) ℓ) (g : Dev Cert.Qi.nD → PrngReg), Pre_Qi m →
    θ_run (Cert.Qi.defs (F := Bits)) (onTc (τ := Cert.Qi.τ) (Cert.Qi.main (F := Bits))) ⟨m, fun _ => 0, g⟩ (fun r => (∀ c : Dev Cert.Qi.nD,
      r.2.mem ((c.tc : Thread Cert.Qi.nD Cert.Qi.τ).loc Cert.Qi.main_arg0) = m ((c.tc : Thread Cert.Qi.nD Cert.Qi.τ).loc Cert.Qi.main_arg0)
      ∧ r.2.mem ((c.tc : Thread Cert.Qi.nD Cert.Qi.τ).loc Cert.Qi.main_arg1) = m ((c.tc : Thread Cert.Qi.nD Cert.Qi.τ).loc Cert.Qi.main_arg1))
      ∧ r.2.sem = fun _ => 0)

def quiescent_QiIdeal [hQiIdeal : Cert.QiIdeal.Facts] : Prop :=
  ∀ (m : (ℓ : Loc Cert.QiIdeal.nD Cert.QiIdeal.τ Cert.QiIdeal.sig) → Buf (Elt Ideal) ℓ) (g : Dev Cert.QiIdeal.nD → PrngReg), Pre_QiIdeal m →
    θ_run (Cert.QiIdeal.defs (F := Ideal)) (onTc (τ := Cert.QiIdeal.τ) (Cert.QiIdeal.main (F := Ideal))) ⟨m, fun _ => 0, g⟩ (fun r => (∀ c : Dev Cert.QiIdeal.nD,
      r.2.mem ((c.tc : Thread Cert.QiIdeal.nD Cert.QiIdeal.τ).loc Cert.QiIdeal.main_arg0) = m ((c.tc : Thread Cert.QiIdeal.nD Cert.QiIdeal.τ).loc Cert.QiIdeal.main_arg0)
      ∧ r.2.mem ((c.tc : Thread Cert.QiIdeal.nD Cert.QiIdeal.τ).loc Cert.QiIdeal.main_arg1) = m ((c.tc : Thread Cert.QiIdeal.nD Cert.QiIdeal.τ).loc Cert.QiIdeal.main_arg1))
      ∧ r.2.sem = fun _ => 0)

def quiescent_QiRefIdeal [hQiRefIdeal : Cert.QiRefIdeal.Facts] : Prop :=
  ∀ (m : (ℓ : Loc Cert.QiRefIdeal.nD Cert.QiRefIdeal.τ Cert.QiRefIdeal.sig) → Buf (Elt Ideal) ℓ) (g : Dev Cert.QiRefIdeal.nD → PrngReg), Pre_QiRefIdeal m →
    θ_run (Cert.QiRefIdeal.defs (F := Ideal)) (onTc (τ := Cert.QiRefIdeal.τ) (Cert.QiRefIdeal.main (F := Ideal))) ⟨m, fun _ => 0, g⟩ (fun r => (∀ c : Dev Cert.QiRefIdeal.nD,
      r.2.mem ((c.tc : Thread Cert.QiRefIdeal.nD Cert.QiRefIdeal.τ).loc Cert.QiRefIdeal.main_arg0) = m ((c.tc : Thread Cert.QiRefIdeal.nD Cert.QiRefIdeal.τ).loc Cert.QiRefIdeal.main_arg0)
      ∧ r.2.mem ((c.tc : Thread Cert.QiRefIdeal.nD Cert.QiRefIdeal.τ).loc Cert.QiRefIdeal.main_arg1) = m ((c.tc : Thread Cert.QiRefIdeal.nD Cert.QiRefIdeal.τ).loc Cert.QiRefIdeal.main_arg1))
      ∧ r.2.sem = fun _ => 0)

def quiescent_Cb [hCb : Cert.Cb.Facts] : Prop :=
  ∀ (m : (ℓ : Loc Cert.Cb.nD Cert.Cb.τ Cert.Cb.sig) → Buf (Elt Bits) ℓ) (g : Dev Cert.Cb.nD → PrngReg), Pre_Cb m →
    θ_run (Cert.Cb.defs (F := Bits)) (onTc (τ := Cert.Cb.τ) (Cert.Cb.main (F := Bits))) ⟨m, fun _ => 0, g⟩ (fun r => (∀ c : Dev Cert.Cb.nD,
      r.2.mem ((c.tc : Thread Cert.Cb.nD Cert.Cb.τ).loc Cert.Cb.main_arg0) = m ((c.tc : Thread Cert.Cb.nD Cert.Cb.τ).loc Cert.Cb.main_arg0)
      ∧ r.2.mem ((c.tc : Thread Cert.Cb.nD Cert.Cb.τ).loc Cert.Cb.main_arg1) = m ((c.tc : Thread Cert.Cb.nD Cert.Cb.τ).loc Cert.Cb.main_arg1))
      ∧ r.2.sem = fun _ => 0)

def quiescent_CbIdeal [hCbIdeal : Cert.CbIdeal.Facts] : Prop :=
  ∀ (m : (ℓ : Loc Cert.CbIdeal.nD Cert.CbIdeal.τ Cert.CbIdeal.sig) → Buf (Elt Ideal) ℓ) (g : Dev Cert.CbIdeal.nD → PrngReg), Pre_CbIdeal m →
    θ_run (Cert.CbIdeal.defs (F := Ideal)) (onTc (τ := Cert.CbIdeal.τ) (Cert.CbIdeal.main (F := Ideal))) ⟨m, fun _ => 0, g⟩ (fun r => (∀ c : Dev Cert.CbIdeal.nD,
      r.2.mem ((c.tc : Thread Cert.CbIdeal.nD Cert.CbIdeal.τ).loc Cert.CbIdeal.main_arg0) = m ((c.tc : Thread Cert.CbIdeal.nD Cert.CbIdeal.τ).loc Cert.CbIdeal.main_arg0)
      ∧ r.2.mem ((c.tc : Thread Cert.CbIdeal.nD Cert.CbIdeal.τ).loc Cert.CbIdeal.main_arg1) = m ((c.tc : Thread Cert.CbIdeal.nD Cert.CbIdeal.τ).loc Cert.CbIdeal.main_arg1))
      ∧ r.2.sem = fun _ => 0)

def quiescent_CbRefIdeal [hCbRefIdeal : Cert.CbRefIdeal.Facts] : Prop :=
  ∀ (m : (ℓ : Loc Cert.CbRefIdeal.nD Cert.CbRefIdeal.τ Cert.CbRefIdeal.sig) → Buf (Elt Ideal) ℓ) (g : Dev Cert.CbRefIdeal.nD → PrngReg), Pre_CbRefIdeal m →
    θ_run (Cert.CbRefIdeal.defs (F := Ideal)) (onTc (τ := Cert.CbRefIdeal.τ) (Cert.CbRefIdeal.main (F := Ideal))) ⟨m, fun _ => 0, g⟩ (fun r => (∀ c : Dev Cert.CbRefIdeal.nD,
      r.2.mem ((c.tc : Thread Cert.CbRefIdeal.nD Cert.CbRefIdeal.τ).loc Cert.CbRefIdeal.main_arg0) = m ((c.tc : Thread Cert.CbRefIdeal.nD Cert.CbRefIdeal.τ).loc Cert.CbRefIdeal.main_arg0)
      ∧ r.2.mem ((c.tc : Thread Cert.CbRefIdeal.nD Cert.CbRefIdeal.τ).loc Cert.CbRefIdeal.main_arg1) = m ((c.tc : Thread Cert.CbRefIdeal.nD Cert.CbRefIdeal.τ).loc Cert.CbRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_RouterRefIdeal_pre_finite_router [hRouterRefIdeal : Cert.RouterRefIdeal.Facts] [hPre_finite_router : Cert.Pre_finite_router.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite_router m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasIdeal_pre_finite_table [hBiasIdeal : Cert.BiasIdeal.Facts] [hPre_finite_table : Cert.Pre_finite_table.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_finite_table m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_BiasRefIdeal_pre_finite_table [hBiasRefIdeal : Cert.BiasRefIdeal.Facts] [hPre_finite_table : Cert.Pre_finite_table.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_finite_table m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MoeUp_MoeUpIdeal : Prop :=
  True

def algebraic_MoeUpIdeal_MoeUpRefIdeal [hMoeUpIdeal : Cert.MoeUpIdeal.Facts] [hMoeUpRefIdeal : Cert.MoeUpRefIdeal.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)) →
    ∃ (v0 : (c : Dev Cert.MoeUpIdeal.nD) → Buf (Elt Ideal) ((c.tc : Thread Cert.MoeUpIdeal.nD Cert.MoeUpIdeal.τ).loc Cert.MoeUpIdeal.main_v2)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v2) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v10) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3))

def preserves_MoeDown_MoeDownIdeal : Prop :=
  True

def algebraic_MoeDownIdeal_MoeDownRefIdeal [hMoeDownIdeal : Cert.MoeDownIdeal.Facts] [hMoeDownRefIdeal : Cert.MoeDownRefIdeal.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)) →
    ∃ (v0 : (c : Dev Cert.MoeDownIdeal.nD) → Buf (Elt Ideal) ((c.tc : Thread Cert.MoeDownIdeal.nD Cert.MoeDownIdeal.τ).loc Cert.MoeDownIdeal.main_v2)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v2) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v3) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v11) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v10) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Qkq_QkqIdeal : Prop :=
  True

def algebraic_QkqIdeal_QkqRefIdeal [hQkqIdeal : Cert.QkqIdeal.Facts] [hQkqRefIdeal : Cert.QkqRefIdeal.Facts] : Prop :=
  ∀ (m : (ℓ : Loc Cert.QkqIdeal.nD Cert.QkqIdeal.τ Cert.QkqIdeal.sig) → Buf (Elt Ideal) ℓ) (g : Dev Cert.QkqIdeal.nD → PrngReg)
    (m' : (ℓ : Loc Cert.QkqRefIdeal.nD Cert.QkqRefIdeal.τ Cert.QkqRefIdeal.sig) → Buf (Elt Ideal) ℓ) (g' : Dev Cert.QkqRefIdeal.nD → PrngReg), Pre_QkqIdeal m →
    (∀ c : Dev Cert.QkqIdeal.nD,
      m' ((c.tc : Thread Cert.QkqRefIdeal.nD Cert.QkqRefIdeal.τ).loc Cert.QkqRefIdeal.main_arg0) = m ((c.tc : Thread Cert.QkqIdeal.nD Cert.QkqIdeal.τ).loc Cert.QkqIdeal.main_arg0)
      ∧ m' ((c.tc : Thread Cert.QkqRefIdeal.nD Cert.QkqRefIdeal.τ).loc Cert.QkqRefIdeal.main_arg1) = m ((c.tc : Thread Cert.QkqIdeal.nD Cert.QkqIdeal.τ).loc Cert.QkqIdeal.main_arg1)
      ∧ m' ((c.tc : Thread Cert.QkqRefIdeal.nD Cert.QkqRefIdeal.τ).loc Cert.QkqRefIdeal.main_arg2) = m ((c.tc : Thread Cert.QkqIdeal.nD Cert.QkqIdeal.τ).loc Cert.QkqIdeal.main_arg2)
      ∧ m' ((c.tc : Thread Cert.QkqRefIdeal.nD Cert.QkqRefIdeal.τ).loc Cert.QkqRefIdeal.main_arg3) = m ((c.tc : Thread Cert.QkqIdeal.nD Cert.QkqIdeal.τ).loc Cert.QkqIdeal.main_arg3)
      ∧ m' ((c.tc : Thread Cert.QkqRefIdeal.nD Cert.QkqRefIdeal.τ).loc Cert.QkqRefIdeal.main_arg4) = m ((c.tc : Thread Cert.QkqIdeal.nD Cert.QkqIdeal.τ).loc Cert.QkqIdeal.main_arg4)) →
    ∃ (v0 : (c : Dev Cert.QkqIdeal.nD) → Buf (Elt Ideal) ((c.tc : Thread Cert.QkqIdeal.nD Cert.QkqIdeal.τ).loc Cert.QkqIdeal.main_v20)),
      θ_run (Cert.QkqIdeal.defs (F := Ideal)) (onTc (τ := Cert.QkqIdeal.τ) (Cert.QkqIdeal.main (F := Ideal))) ⟨m, fun _ => 0, g⟩ (fun r => ∀ c : Dev Cert.QkqIdeal.nD,
          r.2.mem ((c.tc : Thread Cert.QkqIdeal.nD Cert.QkqIdeal.τ).loc Cert.QkqIdeal.main_v20) = v0 c
          ∧ r.2.mem ((c.tc : Thread Cert.QkqIdeal.nD Cert.QkqIdeal.τ).loc Cert.QkqIdeal.main_arg0) = m ((c.tc : Thread Cert.QkqIdeal.nD Cert.QkqIdeal.τ).loc Cert.QkqIdeal.main_arg0)
          ∧ r.2.mem ((c.tc : Thread Cert.QkqIdeal.nD Cert.QkqIdeal.τ).loc Cert.QkqIdeal.main_arg1) = m ((c.tc : Thread Cert.QkqIdeal.nD Cert.QkqIdeal.τ).loc Cert.QkqIdeal.main_arg1)
          ∧ r.2.mem ((c.tc : Thread Cert.QkqIdeal.nD Cert.QkqIdeal.τ).loc Cert.QkqIdeal.main_arg2) = m ((c.tc : Thread Cert.QkqIdeal.nD Cert.QkqIdeal.τ).loc Cert.QkqIdeal.main_arg2)
          ∧ r.2.mem ((c.tc : Thread Cert.QkqIdeal.nD Cert.QkqIdeal.τ).loc Cert.QkqIdeal.main_arg3) = m ((c.tc : Thread Cert.QkqIdeal.nD Cert.QkqIdeal.τ).loc Cert.QkqIdeal.main_arg3)
          ∧ r.2.mem ((c.tc : Thread Cert.QkqIdeal.nD Cert.QkqIdeal.τ).loc Cert.QkqIdeal.main_arg4) = m ((c.tc : Thread Cert.QkqIdeal.nD Cert.QkqIdeal.τ).loc Cert.QkqIdeal.main_arg4))
      ∧ θ_run (Cert.QkqRefIdeal.defs (F := Ideal)) (onTc (τ := Cert.QkqRefIdeal.τ) (Cert.QkqRefIdeal.main (F := Ideal))) ⟨m', fun _ => 0, g'⟩ (fun r => ∀ c : Dev Cert.QkqRefIdeal.nD,
          r.2.mem ((c.tc : Thread Cert.QkqRefIdeal.nD Cert.QkqRefIdeal.τ).loc Cert.QkqRefIdeal.main_v61) = v0 c
          ∧ r.2.mem ((c.tc : Thread Cert.QkqRefIdeal.nD Cert.QkqRefIdeal.τ).loc Cert.QkqRefIdeal.main_arg0) = m' ((c.tc : Thread Cert.QkqRefIdeal.nD Cert.QkqRefIdeal.τ).loc Cert.QkqRefIdeal.main_arg0)
          ∧ r.2.mem ((c.tc : Thread Cert.QkqRefIdeal.nD Cert.QkqRefIdeal.τ).loc Cert.QkqRefIdeal.main_arg1) = m' ((c.tc : Thread Cert.QkqRefIdeal.nD Cert.QkqRefIdeal.τ).loc Cert.QkqRefIdeal.main_arg1)
          ∧ r.2.mem ((c.tc : Thread Cert.QkqRefIdeal.nD Cert.QkqRefIdeal.τ).loc Cert.QkqRefIdeal.main_arg2) = m' ((c.tc : Thread Cert.QkqRefIdeal.nD Cert.QkqRefIdeal.τ).loc Cert.QkqRefIdeal.main_arg2)
          ∧ r.2.mem ((c.tc : Thread Cert.QkqRefIdeal.nD Cert.QkqRefIdeal.τ).loc Cert.QkqRefIdeal.main_arg3) = m' ((c.tc : Thread Cert.QkqRefIdeal.nD Cert.QkqRefIdeal.τ).loc Cert.QkqRefIdeal.main_arg3)
          ∧ r.2.mem ((c.tc : Thread Cert.QkqRefIdeal.nD Cert.QkqRefIdeal.τ).loc Cert.QkqRefIdeal.main_arg4) = m' ((c.tc : Thread Cert.QkqRefIdeal.nD Cert.QkqRefIdeal.τ).loc Cert.QkqRefIdeal.main_arg4))

def preserves_Va_VaIdeal : Prop :=
  True

def algebraic_VaIdeal_VaRefIdeal [hVaIdeal : Cert.VaIdeal.Facts] [hVaRefIdeal : Cert.VaRefIdeal.Facts] : Prop :=
  ∀ (m : (ℓ : Loc Cert.VaIdeal.nD Cert.VaIdeal.τ Cert.VaIdeal.sig) → Buf (Elt Ideal) ℓ) (g : Dev Cert.VaIdeal.nD → PrngReg)
    (m' : (ℓ : Loc Cert.VaRefIdeal.nD Cert.VaRefIdeal.τ Cert.VaRefIdeal.sig) → Buf (Elt Ideal) ℓ) (g' : Dev Cert.VaRefIdeal.nD → PrngReg), Pre_VaIdeal m →
    (∀ c : Dev Cert.VaIdeal.nD,
      m' ((c.tc : Thread Cert.VaRefIdeal.nD Cert.VaRefIdeal.τ).loc Cert.VaRefIdeal.main_arg0) = m ((c.tc : Thread Cert.VaIdeal.nD Cert.VaIdeal.τ).loc Cert.VaIdeal.main_arg0)
      ∧ m' ((c.tc : Thread Cert.VaRefIdeal.nD Cert.VaRefIdeal.τ).loc Cert.VaRefIdeal.main_arg1) = m ((c.tc : Thread Cert.VaIdeal.nD Cert.VaIdeal.τ).loc Cert.VaIdeal.main_arg1)) →
    ∃ (v0 : (c : Dev Cert.VaIdeal.nD) → Buf (Elt Ideal) ((c.tc : Thread Cert.VaIdeal.nD Cert.VaIdeal.τ).loc Cert.VaIdeal.main_v2)),
      θ_run (Cert.VaIdeal.defs (F := Ideal)) (onTc (τ := Cert.VaIdeal.τ) (Cert.VaIdeal.main (F := Ideal))) ⟨m, fun _ => 0, g⟩ (fun r => ∀ c : Dev Cert.VaIdeal.nD,
          r.2.mem ((c.tc : Thread Cert.VaIdeal.nD Cert.VaIdeal.τ).loc Cert.VaIdeal.main_v2) = v0 c
          ∧ r.2.mem ((c.tc : Thread Cert.VaIdeal.nD Cert.VaIdeal.τ).loc Cert.VaIdeal.main_arg0) = m ((c.tc : Thread Cert.VaIdeal.nD Cert.VaIdeal.τ).loc Cert.VaIdeal.main_arg0)
          ∧ r.2.mem ((c.tc : Thread Cert.VaIdeal.nD Cert.VaIdeal.τ).loc Cert.VaIdeal.main_arg1) = m ((c.tc : Thread Cert.VaIdeal.nD Cert.VaIdeal.τ).loc Cert.VaIdeal.main_arg1))
      ∧ θ_run (Cert.VaRefIdeal.defs (F := Ideal)) (onTc (τ := Cert.VaRefIdeal.τ) (Cert.VaRefIdeal.main (F := Ideal))) ⟨m', fun _ => 0, g'⟩ (fun r => ∀ c : Dev Cert.VaRefIdeal.nD,
          r.2.mem ((c.tc : Thread Cert.VaRefIdeal.nD Cert.VaRefIdeal.τ).loc Cert.VaRefIdeal.main_v11) = v0 c
          ∧ r.2.mem ((c.tc : Thread Cert.VaRefIdeal.nD Cert.VaRefIdeal.τ).loc Cert.VaRefIdeal.main_arg0) = m' ((c.tc : Thread Cert.VaRefIdeal.nD Cert.VaRefIdeal.τ).loc Cert.VaRefIdeal.main_arg0)
          ∧ r.2.mem ((c.tc : Thread Cert.VaRefIdeal.nD Cert.VaRefIdeal.τ).loc Cert.VaRefIdeal.main_arg1) = m' ((c.tc : Thread Cert.VaRefIdeal.nD Cert.VaRefIdeal.τ).loc Cert.VaRefIdeal.main_arg1))

def preserves_Qi_QiIdeal : Prop :=
  True

def algebraic_QiIdeal_QiRefIdeal [hQiIdeal : Cert.QiIdeal.Facts] [hQiRefIdeal : Cert.QiRefIdeal.Facts] : Prop :=
  ∀ (m : (ℓ : Loc Cert.QiIdeal.nD Cert.QiIdeal.τ Cert.QiIdeal.sig) → Buf (Elt Ideal) ℓ) (g : Dev Cert.QiIdeal.nD → PrngReg)
    (m' : (ℓ : Loc Cert.QiRefIdeal.nD Cert.QiRefIdeal.τ Cert.QiRefIdeal.sig) → Buf (Elt Ideal) ℓ) (g' : Dev Cert.QiRefIdeal.nD → PrngReg), Pre_QiIdeal m →
    (∀ c : Dev Cert.QiIdeal.nD,
      m' ((c.tc : Thread Cert.QiRefIdeal.nD Cert.QiRefIdeal.τ).loc Cert.QiRefIdeal.main_arg0) = m ((c.tc : Thread Cert.QiIdeal.nD Cert.QiIdeal.τ).loc Cert.QiIdeal.main_arg0)
      ∧ m' ((c.tc : Thread Cert.QiRefIdeal.nD Cert.QiRefIdeal.τ).loc Cert.QiRefIdeal.main_arg1) = m ((c.tc : Thread Cert.QiIdeal.nD Cert.QiIdeal.τ).loc Cert.QiIdeal.main_arg1)) →
    ∃ (v0 : (c : Dev Cert.QiIdeal.nD) → Buf (Elt Ideal) ((c.tc : Thread Cert.QiIdeal.nD Cert.QiIdeal.τ).loc Cert.QiIdeal.main_v2)),
      θ_run (Cert.QiIdeal.defs (F := Ideal)) (onTc (τ := Cert.QiIdeal.τ) (Cert.QiIdeal.main (F := Ideal))) ⟨m, fun _ => 0, g⟩ (fun r => ∀ c : Dev Cert.QiIdeal.nD,
          r.2.mem ((c.tc : Thread Cert.QiIdeal.nD Cert.QiIdeal.τ).loc Cert.QiIdeal.main_v2) = v0 c
          ∧ r.2.mem ((c.tc : Thread Cert.QiIdeal.nD Cert.QiIdeal.τ).loc Cert.QiIdeal.main_arg0) = m ((c.tc : Thread Cert.QiIdeal.nD Cert.QiIdeal.τ).loc Cert.QiIdeal.main_arg0)
          ∧ r.2.mem ((c.tc : Thread Cert.QiIdeal.nD Cert.QiIdeal.τ).loc Cert.QiIdeal.main_arg1) = m ((c.tc : Thread Cert.QiIdeal.nD Cert.QiIdeal.τ).loc Cert.QiIdeal.main_arg1))
      ∧ θ_run (Cert.QiRefIdeal.defs (F := Ideal)) (onTc (τ := Cert.QiRefIdeal.τ) (Cert.QiRefIdeal.main (F := Ideal))) ⟨m', fun _ => 0, g'⟩ (fun r => ∀ c : Dev Cert.QiRefIdeal.nD,
          r.2.mem ((c.tc : Thread Cert.QiRefIdeal.nD Cert.QiRefIdeal.τ).loc Cert.QiRefIdeal.main_v11) = v0 c
          ∧ r.2.mem ((c.tc : Thread Cert.QiRefIdeal.nD Cert.QiRefIdeal.τ).loc Cert.QiRefIdeal.main_arg0) = m' ((c.tc : Thread Cert.QiRefIdeal.nD Cert.QiRefIdeal.τ).loc Cert.QiRefIdeal.main_arg0)
          ∧ r.2.mem ((c.tc : Thread Cert.QiRefIdeal.nD Cert.QiRefIdeal.τ).loc Cert.QiRefIdeal.main_arg1) = m' ((c.tc : Thread Cert.QiRefIdeal.nD Cert.QiRefIdeal.τ).loc Cert.QiRefIdeal.main_arg1))

def preserves_Cb_CbIdeal : Prop :=
  True

def algebraic_CbIdeal_CbRefIdeal [hCbIdeal : Cert.CbIdeal.Facts] [hCbRefIdeal : Cert.CbRefIdeal.Facts] : Prop :=
  ∀ (m : (ℓ : Loc Cert.CbIdeal.nD Cert.CbIdeal.τ Cert.CbIdeal.sig) → Buf (Elt Ideal) ℓ) (g : Dev Cert.CbIdeal.nD → PrngReg)
    (m' : (ℓ : Loc Cert.CbRefIdeal.nD Cert.CbRefIdeal.τ Cert.CbRefIdeal.sig) → Buf (Elt Ideal) ℓ) (g' : Dev Cert.CbRefIdeal.nD → PrngReg), Pre_CbIdeal m →
    (∀ c : Dev Cert.CbIdeal.nD,
      m' ((c.tc : Thread Cert.CbRefIdeal.nD Cert.CbRefIdeal.τ).loc Cert.CbRefIdeal.main_arg0) = m ((c.tc : Thread Cert.CbIdeal.nD Cert.CbIdeal.τ).loc Cert.CbIdeal.main_arg0)
      ∧ m' ((c.tc : Thread Cert.CbRefIdeal.nD Cert.CbRefIdeal.τ).loc Cert.CbRefIdeal.main_arg1) = m ((c.tc : Thread Cert.CbIdeal.nD Cert.CbIdeal.τ).loc Cert.CbIdeal.main_arg1)) →
    ∃ (v0 : (c : Dev Cert.CbIdeal.nD) → Buf (Elt Ideal) ((c.tc : Thread Cert.CbIdeal.nD Cert.CbIdeal.τ).loc Cert.CbIdeal.main_v2)),
      θ_run (Cert.CbIdeal.defs (F := Ideal)) (onTc (τ := Cert.CbIdeal.τ) (Cert.CbIdeal.main (F := Ideal))) ⟨m, fun _ => 0, g⟩ (fun r => ∀ c : Dev Cert.CbIdeal.nD,
          r.2.mem ((c.tc : Thread Cert.CbIdeal.nD Cert.CbIdeal.τ).loc Cert.CbIdeal.main_v2) = v0 c
          ∧ r.2.mem ((c.tc : Thread Cert.CbIdeal.nD Cert.CbIdeal.τ).loc Cert.CbIdeal.main_arg0) = m ((c.tc : Thread Cert.CbIdeal.nD Cert.CbIdeal.τ).loc Cert.CbIdeal.main_arg0)
          ∧ r.2.mem ((c.tc : Thread Cert.CbIdeal.nD Cert.CbIdeal.τ).loc Cert.CbIdeal.main_arg1) = m ((c.tc : Thread Cert.CbIdeal.nD Cert.CbIdeal.τ).loc Cert.CbIdeal.main_arg1))
      ∧ θ_run (Cert.CbRefIdeal.defs (F := Ideal)) (onTc (τ := Cert.CbRefIdeal.τ) (Cert.CbRefIdeal.main (F := Ideal))) ⟨m', fun _ => 0, g'⟩ (fun r => ∀ c : Dev Cert.CbRefIdeal.nD,
          r.2.mem ((c.tc : Thread Cert.CbRefIdeal.nD Cert.CbRefIdeal.τ).loc Cert.CbRefIdeal.main_v11) = v0 c
          ∧ r.2.mem ((c.tc : Thread Cert.CbRefIdeal.nD Cert.CbRefIdeal.τ).loc Cert.CbRefIdeal.main_arg0) = m' ((c.tc : Thread Cert.CbRefIdeal.nD Cert.CbRefIdeal.τ).loc Cert.CbRefIdeal.main_arg0)
          ∧ r.2.mem ((c.tc : Thread Cert.CbRefIdeal.nD Cert.CbRefIdeal.τ).loc Cert.CbRefIdeal.main_arg1) = m' ((c.tc : Thread Cert.CbRefIdeal.nD Cert.CbRefIdeal.τ).loc Cert.CbRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)) →
    ∃ (v0 : (c : Dev Cert.SmallIdeal.nD) → Buf (Elt Ideal) ((c.tc : Thread Cert.SmallIdeal.nD Cert.SmallIdeal.τ).loc Cert.SmallIdeal.main_v7)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v7) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v12) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Router_RouterIdeal : Prop :=
  True

def algebraic_RouterIdeal_RouterRefIdeal_pre_finite_router [hRouterIdeal : Cert.RouterIdeal.Facts] [hRouterRefIdeal : Cert.RouterRefIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite_router m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v2_0)) (v1 : (c : Dev Cert.RouterIdeal.nD) → Buf (Elt Ideal) ((c.tc : Thread Cert.RouterIdeal.nD Cert.RouterIdeal.τ).loc Cert.RouterIdeal.main_v2_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v2_0) = v0 c
          ∧ r.2.mem ((c.tc : Thread Cert.RouterIdeal.nD Cert.RouterIdeal.τ).loc Cert.RouterIdeal.main_v2_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v30) = v0 c
          ∧ r.2.mem ((c.tc : Thread Cert.RouterRefIdeal.nD Cert.RouterRefIdeal.τ).loc Cert.RouterRefIdeal.main_v31) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v8_0)) (v1 : (c : Dev Cert.PostIdeal.nD) → Buf (Elt Ideal) ((c.tc : Thread Cert.PostIdeal.nD Cert.PostIdeal.τ).loc Cert.PostIdeal.main_v8_1)) (v2 : (c : Dev Cert.PostIdeal.nD) → Buf (Elt Ideal) ((c.tc : Thread Cert.PostIdeal.nD Cert.PostIdeal.τ).loc Cert.PostIdeal.main_v8_2)) (v3 : (c : Dev Cert.PostIdeal.nD) → Buf (Elt Ideal) ((c.tc : Thread Cert.PostIdeal.nD Cert.PostIdeal.τ).loc Cert.PostIdeal.main_v8_3)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8_0) = v0 c
          ∧ r.2.mem ((c.tc : Thread Cert.PostIdeal.nD Cert.PostIdeal.τ).loc Cert.PostIdeal.main_v8_1) = v1 c
          ∧ r.2.mem ((c.tc : Thread Cert.PostIdeal.nD Cert.PostIdeal.τ).loc Cert.PostIdeal.main_v8_2) = v2 c
          ∧ r.2.mem ((c.tc : Thread Cert.PostIdeal.nD Cert.PostIdeal.τ).loc Cert.PostIdeal.main_v8_3) = v3 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v23) = v0 c
          ∧ r.2.mem ((c.tc : Thread Cert.PostRefIdeal.nD Cert.PostRefIdeal.τ).loc Cert.PostRefIdeal.main_v58) = v1 c
          ∧ r.2.mem ((c.tc : Thread Cert.PostRefIdeal.nD Cert.PostRefIdeal.τ).loc Cert.PostRefIdeal.main_v60) = v2 c
          ∧ r.2.mem ((c.tc : Thread Cert.PostRefIdeal.nD Cert.PostRefIdeal.τ).loc Cert.PostRefIdeal.main_v61) = v3 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5))

def preserves_Bias_BiasIdeal : Prop :=
  True

def algebraic_BiasIdeal_BiasRefIdeal_pre_finite_table [hBiasIdeal : Cert.BiasIdeal.Facts] [hBiasRefIdeal : Cert.BiasRefIdeal.Facts] [hPre_finite_table : Cert.Pre_finite_table.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_finite_table m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v4)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v4) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v89) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hKernel : Cert.Kernel.Facts) (hKernelIdeal : Cert.KernelIdeal.Facts) (hReferenceIdeal : Cert.ReferenceIdeal.Facts) (hMoeUp : Cert.MoeUp.Facts) (hMoeUpIdeal : Cert.MoeUpIdeal.Facts) (hMoeUpRefIdeal : Cert.MoeUpRefIdeal.Facts) (hMoeDown : Cert.MoeDown.Facts) (hMoeDownIdeal : Cert.MoeDownIdeal.Facts) (hMoeDownRefIdeal : Cert.MoeDownRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hGate : Cert.Gate.Facts) (hGateIdeal : Cert.GateIdeal.Facts) (hGateRefIdeal : Cert.GateRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hQkq : Cert.Qkq.Facts) (hQkqIdeal : Cert.QkqIdeal.Facts) (hQkqRefIdeal : Cert.QkqRefIdeal.Facts) (hVa : Cert.Va.Facts) (hVaIdeal : Cert.VaIdeal.Facts) (hVaRefIdeal : Cert.VaRefIdeal.Facts) (hQi : Cert.Qi.Facts) (hQiIdeal : Cert.QiIdeal.Facts) (hQiRefIdeal : Cert.QiRefIdeal.Facts) (hCb : Cert.Cb.Facts) (hCbIdeal : Cert.CbIdeal.Facts) (hCbRefIdeal : Cert.CbRefIdeal.Facts) (hSmall : Cert.Small.Facts) (hSmallIdeal : Cert.SmallIdeal.Facts) (hSmallRefIdeal : Cert.SmallRefIdeal.Facts) (hNorm : Cert.Norm.Facts) (hNormIdeal : Cert.NormIdeal.Facts) (hNormRefIdeal : Cert.NormRefIdeal.Facts) (hRouter : Cert.Router.Facts) (hRouterIdeal : Cert.RouterIdeal.Facts) (hRouterRefIdeal : Cert.RouterRefIdeal.Facts) (hPost : Cert.Post.Facts) (hPostIdeal : Cert.PostIdeal.Facts) (hPostRefIdeal : Cert.PostRefIdeal.Facts) (hBias : Cert.Bias.Facts) (hBiasIdeal : Cert.BiasIdeal.Facts) (hBiasRefIdeal : Cert.BiasRefIdeal.Facts) (hPre_finite_scores : Cert.Pre_finite_scores.Facts) (hPre_finite_router : Cert.Pre_finite_router.Facts) (hPre_finite_table : Cert.Pre_finite_table.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_MoeUp (hMoeUp := hMoeUp)
    ∧ quiescent_MoeUpIdeal (hMoeUpIdeal := hMoeUpIdeal)
    ∧ quiescent_MoeUpRefIdeal (hMoeUpRefIdeal := hMoeUpRefIdeal)
    ∧ quiescent_MoeDown (hMoeDown := hMoeDown)
    ∧ quiescent_MoeDownIdeal (hMoeDownIdeal := hMoeDownIdeal)
    ∧ quiescent_MoeDownRefIdeal (hMoeDownRefIdeal := hMoeDownRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Gate (hGate := hGate)
    ∧ quiescent_GateIdeal (hGateIdeal := hGateIdeal)
    ∧ quiescent_GateRefIdeal (hGateRefIdeal := hGateRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Qkq (hQkq := hQkq)
    ∧ quiescent_QkqIdeal (hQkqIdeal := hQkqIdeal)
    ∧ quiescent_QkqRefIdeal (hQkqRefIdeal := hQkqRefIdeal)
    ∧ quiescent_Va (hVa := hVa)
    ∧ quiescent_VaIdeal (hVaIdeal := hVaIdeal)
    ∧ quiescent_VaRefIdeal (hVaRefIdeal := hVaRefIdeal)
    ∧ quiescent_Qi (hQi := hQi)
    ∧ quiescent_QiIdeal (hQiIdeal := hQiIdeal)
    ∧ quiescent_QiRefIdeal (hQiRefIdeal := hQiRefIdeal)
    ∧ quiescent_Cb (hCb := hCb)
    ∧ quiescent_CbIdeal (hCbIdeal := hCbIdeal)
    ∧ quiescent_CbRefIdeal (hCbRefIdeal := hCbRefIdeal)
    ∧ quiescent_Small (hSmall := hSmall)
    ∧ quiescent_SmallIdeal (hSmallIdeal := hSmallIdeal)
    ∧ quiescent_SmallRefIdeal (hSmallRefIdeal := hSmallRefIdeal)
    ∧ quiescent_Norm (hNorm := hNorm)
    ∧ quiescent_NormIdeal (hNormIdeal := hNormIdeal)
    ∧ quiescent_NormRefIdeal (hNormRefIdeal := hNormRefIdeal)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterRefIdeal (hRouterRefIdeal := hRouterRefIdeal)
    ∧ quiescent_RouterRefIdeal_pre_finite_router (hRouterRefIdeal := hRouterRefIdeal) (hPre_finite_router := hPre_finite_router)
    ∧ quiescent_Post (hPost := hPost)
    ∧ quiescent_PostIdeal (hPostIdeal := hPostIdeal)
    ∧ quiescent_PostRefIdeal (hPostRefIdeal := hPostRefIdeal)
    ∧ quiescent_Bias (hBias := hBias)
    ∧ quiescent_BiasIdeal (hBiasIdeal := hBiasIdeal)
    ∧ quiescent_BiasIdeal_pre_finite_table (hBiasIdeal := hBiasIdeal) (hPre_finite_table := hPre_finite_table)
    ∧ quiescent_BiasRefIdeal (hBiasRefIdeal := hBiasRefIdeal)
    ∧ quiescent_BiasRefIdeal_pre_finite_table (hBiasRefIdeal := hBiasRefIdeal) (hPre_finite_table := hPre_finite_table)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_MoeUp_MoeUpIdeal
    ∧ algebraic_MoeUpIdeal_MoeUpRefIdeal (hMoeUpIdeal := hMoeUpIdeal) (hMoeUpRefIdeal := hMoeUpRefIdeal)
    ∧ preserves_MoeDown_MoeDownIdeal
    ∧ algebraic_MoeDownIdeal_MoeDownRefIdeal (hMoeDownIdeal := hMoeDownIdeal) (hMoeDownRefIdeal := hMoeDownRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Gate_GateIdeal
    ∧ algebraic_GateIdeal_GateRefIdeal (hGateIdeal := hGateIdeal) (hGateRefIdeal := hGateRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Qkq_QkqIdeal
    ∧ algebraic_QkqIdeal_QkqRefIdeal (hQkqIdeal := hQkqIdeal) (hQkqRefIdeal := hQkqRefIdeal)
    ∧ preserves_Va_VaIdeal
    ∧ algebraic_VaIdeal_VaRefIdeal (hVaIdeal := hVaIdeal) (hVaRefIdeal := hVaRefIdeal)
    ∧ preserves_Qi_QiIdeal
    ∧ algebraic_QiIdeal_QiRefIdeal (hQiIdeal := hQiIdeal) (hQiRefIdeal := hQiRefIdeal)
    ∧ preserves_Cb_CbIdeal
    ∧ algebraic_CbIdeal_CbRefIdeal (hCbIdeal := hCbIdeal) (hCbRefIdeal := hCbRefIdeal)
    ∧ preserves_Small_SmallIdeal
    ∧ algebraic_SmallIdeal_SmallRefIdeal (hSmallIdeal := hSmallIdeal) (hSmallRefIdeal := hSmallRefIdeal)
    ∧ preserves_Norm_NormIdeal
    ∧ algebraic_NormIdeal_NormRefIdeal (hNormIdeal := hNormIdeal) (hNormRefIdeal := hNormRefIdeal)
    ∧ preserves_Router_RouterIdeal
    ∧ algebraic_RouterIdeal_RouterRefIdeal_pre_finite_router (hRouterIdeal := hRouterIdeal) (hRouterRefIdeal := hRouterRefIdeal) (hPre_finite_router := hPre_finite_router)
    ∧ preserves_Post_PostIdeal
    ∧ algebraic_PostIdeal_PostRefIdeal (hPostIdeal := hPostIdeal) (hPostRefIdeal := hPostRefIdeal)
    ∧ preserves_Bias_BiasIdeal
    ∧ algebraic_BiasIdeal_BiasRefIdeal_pre_finite_table (hBiasIdeal := hBiasIdeal) (hBiasRefIdeal := hBiasRefIdeal) (hPre_finite_table := hPre_finite_table)
-- ==== Pre_finite_router.lean ====
abbrev S8448x4096 : Shape := ⟨2, ![8448, 4096]⟩
abbrev S4096 : Shape := ⟨1, ![4096]⟩
abbrev S4096x8 : Shape := ⟨2, ![4096, 8]⟩
abbrev S_ : Shape := ⟨0, ![]⟩

class Facts : Prop where
  bcast_S_S4096 : S_.BroadcastsInDim S4096 (![] : Fin 0 → Fin S4096.rank)
  bcast_S_S4096x8 : S_.BroadcastsInDim S4096x8 (![] : Fin 0 → Fin S4096x8.rank)

variable [Facts]

def fn {F : FTy → Type} [FloatOps F] (main_arg0 : FVec F S8448x4096 .f32) (main_arg1 : FVec F S4096 .f32) (main_arg2 : FVec F S4096x8 .f32) : IVec S4096 1 × IVec S4096x8 1 :=
  let main_cst : FVec F S_ .f32 := constant S_ .f32 0x7F800000#32
  let main_v0 : FVec F S4096 .f32 := broadcastInDim S4096 ![] bcast_S_S4096 main_cst
  let main_v1 : IVec S4096 1 := cmpf .olt main_arg1 main_v0
  let main_cst_0 : FVec F S_ .f32 := constant S_ .f32 0xFF800000#32
  let main_v2 : FVec F S4096 .f32 := broadcastInDim S4096 ![] bcast_S_S4096 main_cst_0
  let main_v3 : IVec S4096 1 := cmpf .ogt main_arg1 main_v2
  let main_v4 : IVec S4096 1 := andi main_v1 main_v3
  let main_cst_1 : FVec F S_ .f32 := constant S_ .f32 0x7F800000#32
  let main_v5 : FVec F S4096x8 .f32 := broadcastInDim S4096x8 ![] bcast_S_S4096x8 main_cst_1
  let main_v6 : IVec S4096x8 1 := cmpf .olt main_arg2 main_v5
  let main_cst_2 : FVec F S_ .f32 := constant S_ .f32 0xFF800000#32
  let main_v7 : FVec F S4096x8 .f32 := broadcastInDim S4096x8 ![] bcast_S_S4096x8 main_cst_2
  let main_v8 : IVec S4096x8 1 := cmpf .ogt main_arg2 main_v7
  let main_v9 : IVec S4096x8 1 := andi main_v6 main_v8
  (main_v4, main_v9)
-- ==== Pre_finite_scores.lean ====
abbrev S2x4224x6144 : Shape := ⟨3, ![2, 4224, 6144]⟩
abbrev S2x4224x2048 : Shape := ⟨3, ![2, 4224, 2048]⟩
abbrev S2x16x1x4224 : Shape := ⟨4, ![2, 16, 1, 4224]⟩
abbrev S2x4224x4096 : Shape := ⟨3, ![2, 4224, 4096]⟩
abbrev S_ : Shape := ⟨0, ![]⟩

class Facts : Prop where
  slices_S2x4224x6144_S2x4224x4096_0_0_0 : S2x4224x6144.Slices ![0, 0, 0] S2x4224x4096
  bitsLt_bf16_f32 : FTy.bits .bf16 < FTy.bits .f32
  bcast_S_S2x4224x4096 : S_.BroadcastsInDim S2x4224x4096 (![] : Fin 0 → Fin S2x4224x4096.rank)
  bcast_S_S2x16x1x4224 : S_.BroadcastsInDim S2x16x1x4224 (![] : Fin 0 → Fin S2x16x1x4224.rank)

variable [Facts]

def fn {F : FTy → Type} [FloatOps F] (main_arg0 : FVec F S2x4224x6144 .bf16) (main_arg1 : FVec F S2x4224x2048 .bf16) (main_arg2 : FVec F S2x16x1x4224 .f32) : IVec S2x4224x4096 1 × IVec S2x16x1x4224 1 :=
  let main_v0 : FVec F S2x4224x4096 .bf16 := (extractStridedSlice S2x4224x4096 ![0, 0, 0] · slices_S2x4224x6144_S2x4224x4096_0_0_0) main_arg0
  let main_v1 : FVec F S2x4224x4096 .f32 := (extf .f32 · bitsLt_bf16_f32) main_v0
  let main_cst : FVec F S_ .f32 := constant S_ .f32 0x7F800000#32
  let main_v2 : FVec F S2x4224x4096 .f32 := broadcastInDim S2x4224x4096 ![] bcast_S_S2x4224x4096 main_cst
  let main_v3 : IVec S2x4224x4096 1 := cmpf .olt main_v1 main_v2
  let main_cst_0 : FVec F S_ .f32 := constant S_ .f32 0xFF800000#32
  let main_v4 : FVec F S2x4224x4096 .f32 := broadcastInDim S2x4224x4096 ![] bcast_S_S2x4224x4096 main_cst_0
  let main_v5 : IVec S2x4224x4096 1 := cmpf .ogt main_v1 main_v4
  let main_v6 : IVec S2x4224x4096 1 := andi main_v3 main_v5
  let main_cst_1 : FVec F S_ .f32 := constant S_ .f32 0x7F800000#32
  let main_v7 : FVec F S2x16x1x4224 .f32 := broadcastInDim S2x16x1x4224 ![] bcast_S_S2x16x1x4224 main_cst_1
  let main_v8 : IVec S2x16x1x4224 1 := cmpf .olt main_arg2 main_v7
  let main_cst_2 : FVec F S_ .f32 := constant S_ .f32 0xFF800000#32
  let main_v9 : FVec F S2x16x1x4224 .f32 := broadcastInDim S2x16x1x4224 ![] bcast_S_S2x16x1x4224 main_cst_2
  let main_v10 : IVec S2x16x1x4224 1 := cmpf .ogt main_arg2 main_v9
  let main_v11 : IVec S2x16x1x4224 1 := andi main_v8 main_v10
  (main_v6, main_v11)
-- ==== Pre_finite_table.lean ====
abbrev S32x16 : Shape := ⟨2, ![32, 16]⟩
abbrev S_ : Shape := ⟨0, ![]⟩

class Facts : Prop where
  bcast_S_S32x16 : S_.BroadcastsInDim S32x16 (![] : Fin 0 → Fin S32x16.rank)

variable [Facts]

def fn {F : FTy → Type} [FloatOps F] (main_arg0 : FVec F S32x16 .f32) : IVec S32x16 1 :=
  let main_cst : FVec F S_ .f32 := constant S_ .f32 0x7F800000#32
  let main_v0 : FVec F S32x16 .f32 := broadcastInDim S32x16 ![] bcast_S_S32x16 main_cst
  let main_v1 : IVec S32x16 1 := cmpf .olt main_arg0 main_v0
  let main_cst_0 : FVec F S_ .f32 := constant S_ .f32 0xFF800000#32
  let main_v2 : FVec F S32x16 .f32 := broadcastInDim S32x16 ![] bcast_S_S32x16 main_cst_0
  let main_v3 : IVec S32x16 1 := cmpf .ogt main_arg0 main_v2
  let main_v4 : IVec S32x16 1 := andi main_v1 main_v3
  main_v4
-- ==== Kernel.lean ====
abbrev S2x4224x6144 : Shape := ⟨3, ![2, 4224, 6144]⟩
abbrev S2x4224x2048 : Shape := ⟨3, ![2, 4224, 2048]⟩
abbrev S2x16x1x4224 : Shape := ⟨4, ![2, 16, 1, 4224]⟩
abbrev S1x384x128 : Shape := ⟨3, ![1, 384, 128]⟩
abbrev S1x4224x128 : Shape := ⟨3, ![1, 4224, 128]⟩
abbrev S1x1x1x4224 : Shape := ⟨4, ![1, 1, 1, 4224]⟩
abbrev S384x128 : Shape := ⟨2, ![384, 128]⟩
abbrev S384x1 : Shape := ⟨2, ![384, 1]⟩
abbrev S384x384 : Shape := ⟨2, ![384, 384]⟩
abbrev S1x1x1x384 : Shape := ⟨4, ![1, 1, 1, 384]⟩
abbrev S1x384 : Shape := ⟨2, ![1, 384]⟩
abbrev S384 : Shape := ⟨1, ![384]⟩

abbrev nBuf : Space → Nat
  | .hbm => 4
  | .vmem => 10
  | .smem => 0
  | _ => 0

abbrev bufTy : (tb : Table) → Fin (tcTables nBuf tb) → BufTy
  | .hbm, ⟨0, _⟩ => ⟨S2x4224x6144, .bf16⟩
  | .hbm, ⟨1, _⟩ => ⟨S2x4224x2048, .bf16⟩
  | .hbm, ⟨2, _⟩ => ⟨S2x16x1x4224, .f32⟩
  | .hbm, ⟨3, _⟩ => ⟨S2x4224x2048, .bf16⟩
  | .local _ .vmem, ⟨0, _⟩ => ⟨S1x384x128, .bf16⟩
  | .local _ .vmem, ⟨1, _⟩ => ⟨S1x384x128, .bf16⟩
  | .local _ .vmem, ⟨2, _⟩ => ⟨S1x4224x128, .bf16⟩
  | .local _ .vmem, ⟨3, _⟩ => ⟨S1x4224x128, .bf16⟩
  | .local _ .vmem, ⟨4, _⟩ => ⟨S1x4224x128, .bf16⟩
  | .local _ .vmem, ⟨5, _⟩ => ⟨S1x4224x128, .bf16⟩
  | .local _ .vmem, ⟨6, _⟩ => ⟨S1x1x1x4224, .f32⟩
  | .local _ .vmem, ⟨7, _⟩ => ⟨S1x1x1x4224, .f32⟩
  | .local _ .vmem, ⟨8, _⟩ => ⟨S1x384x128, .bf16⟩
  | .local _ .vmem, ⟨9, _⟩ => ⟨S1x384x128, .bf16⟩
  | _, _ => ⟨S2x4224x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 11], ![false, false, false]⟩

@[reducible] def k0_t1_loop (i : grid0.Coords) : Scf.Loop 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg8 : BitVec 32 := Scf.iv c0_i32 c1_i32_4 k0_t1
  let c384_i32_21 : BitVec 32 := 384#32
  let v54 : BitVec 32 := Scalar.muli arg8 c384_i32_21
  v54
def k0_off1 (i : grid0.Coords) (k0_t1 : Fin (k0_t1_loop i).trips) : Fin 3 → Nat :=
  let c0_22 : Index := 0#32
  let c0_i32 : BitVec 32 := 0#32
  let c1_i32_4 : BitVec 32 := 1#32
  let arg8 : BitVec 32 := Scf.iv c0_i32 c1_i32_4 k0_t1
  let c384_i32_21 : BitVec 32 := 384#32
  let v54 : BitVec 32 := Scalar.muli arg8 c384_i32_21
  let v55 : BitVec 32 := v54
  let v56 : Index := Scalar.indexCast v55
  let c0_23 : Index := 0#32
  ![0, v56.toNat, 0]
def k0_off2 (i : grid0.Coords) (k0_t1 : Fin (k0_t1_loop i).trips) : Fin 4 → Nat :=
  let c0_27 : Index := 0#32
  let c0_28 : Index := 0#32
  let c0_29 : Index := 0#32
  let c0_i32 : BitVec 32 := 0#32
  let c1_i32_4 : BitVec 32 := 1#32
  let arg8 : BitVec 32 := Scf.iv c0_i32 c1_i32_4 k0_t1
  let c384_i32_21 : BitVec 32 := 384#32
  let v54 : BitVec 32 := Scalar.muli arg8 c384_i32_21
  let v55 : BitVec 32 := v54
  let v63 : Index := Scalar.indexCast v55
  ![0, 0, 0, v63.toNat]
@[reducible] def k0_t2_loop (i : grid0.Coords) : Scf.Loop 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg8 : BitVec 32 := Scf.iv v9 c1_i32_5 k0_t2
  let c384_i32_21 : BitVec 32 := 384#32
  let v54 : BitVec 32 := Scalar.muli arg8 c384_i32_21
  v54
def k0_off3 (i : grid0.Coords) (k0_t2 : Fin (k0_t2_loop i).trips) : Fin 3 → Nat :=
  let c0_22 : Index := 0#32
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg8 : BitVec 32 := Scf.iv v9 c1_i32_5 k0_t2
  let c384_i32_21 : BitVec 32 := 384#32
  let v54 : BitVec 32 := Scalar.muli arg8 c384_i32_21
  let v55 : BitVec 32 := v54
  let v56 : Index := Scalar.indexCast v55
  let c0_23 : Index := 0#32
  ![0, v56.toNat, 0]
def k0_off4 (i : grid0.Coords) (k0_t2 : Fin (k0_t2_loop i).trips) : Fin 4 → Nat :=
  let c0_27 : Index := 0#32
  let c0_28 : Index := 0#32
  let c0_29 : Index := 0#32
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg8 : BitVec 32 := Scf.iv v9 c1_i32_5 k0_t2
  let c384_i32_21 : BitVec 32 := 384#32
  let v54 : BitVec 32 := Scalar.muli arg8 c384_i32_21
  let v55 : BitVec 32 := v54
  let v63 : Index := Scalar.indexCast v55
  ![0, 0, 0, v63.toNat]
def k0_mult3 (i : grid0.Coords) : BitVec 32 :=
  let arg2 : BitVec 32 := BitVec.ofNat 32 (i 2).val
  let c384_i32 : BitVec 32 := 384#32
  let v12 : BitVec 32 := Scalar.muli arg2 c384_i32
  v12
def k0_off5 (i : grid0.Coords) : Fin 3 → Nat :=
  let c0_6 : Index := 0#32
  let arg2 : BitVec 32 := BitVec.ofNat 32 (i 2).val
  let c384_i32 : BitVec 32 := 384#32
  let v12 : BitVec 32 := Scalar.muli arg2 c384_i32
  let v13 : BitVec 32 := v12
  let v14 : Index := Scalar.indexCast v13
  let c0_7 : Index := 0#32
  ![0, v14.toNat, 0]
def k0_off6 (i : grid0.Coords) : Fin 4 → Nat :=
  let c0_11 : Index := 0#32
  let c0_12 : Index := 0#32
  let c0_13 : Index := 0#32
  let arg2 : BitVec 32 := BitVec.ofNat 32 (i 2).val
  let c384_i32 : BitVec 32 := 384#32
  let v12 : BitVec 32 := Scalar.muli arg2 c384_i32
  let v13 : BitVec 32 := v12
  let v21 : Index := Scalar.indexCast v13
  ![0, 0, 0, v21.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4224x6144 : Shape := ⟨3, ![2, 4224, 6144]⟩
abbrev S2x4224x2048 : Shape := ⟨3, ![2, 4224, 2048]⟩
abbrev S2x16x1x4224 : Shape := ⟨4, ![2, 16, 1, 4224]⟩
abbrev S2x4224x16x128 : Shape := ⟨4, ![2, 4224, 16, 128]⟩
abbrev S2x16x4224 : Shape := ⟨3, ![2, 16, 4224]⟩
abbrev S4224 : Shape := ⟨1, ![4224]⟩
abbrev S2x16x4224x4224 : Shape := ⟨4, ![2, 16, 4224, 4224]⟩
abbrev S2x16x4224x1 : Shape := ⟨4, ![2, 16, 4224, 1]⟩
abbrev S1x4224 : Shape := ⟨2, ![1, 4224]⟩
abbrev S4224x1 : Shape := ⟨2, ![4224, 1]⟩
abbrev S4224x4224 : Shape := ⟨2, ![4224, 4224]⟩
abbrev S_ : Shape := ⟨0, ![]⟩
abbrev S2x16x128x4224 : Shape := ⟨4, ![2, 16, 128, 4224]⟩

abbrev nBuf : Space → Nat
  | .hbm => 48
  | .vmem => 0
  | .smem => 0
  | _ => 0

abbrev bufTy : (tb : Table) → Fin (tcTables nBuf tb) → BufTy
  | .hbm, ⟨0, _⟩ => ⟨S2x4224x6144, .bf16⟩
  | .hbm, ⟨1, _⟩ => ⟨S2x4224x2048, .bf16⟩
  | .hbm, ⟨2, _⟩ => ⟨S2x16x1x4224, .f32⟩
  | .hbm, ⟨3, _⟩ => ⟨S2x4224x2048, .bf16⟩
  | .hbm, ⟨4, _⟩ => ⟨S2x4224x2048, .f32⟩
  | .hbm, ⟨5, _⟩ => ⟨S2x4224x16x128, .f32⟩
  | .hbm, ⟨6, _⟩ => ⟨S2x4224x2048, .bf16⟩
  | .hbm, ⟨7, _⟩ => ⟨S2x4224x2048, .f32⟩
  | .hbm, ⟨8, _⟩ => ⟨S2x4224x16x128, .f32⟩
  | .hbm, ⟨9, _⟩ => ⟨S2x4224x2048, .f32⟩
  | .hbm, ⟨10, _⟩ => ⟨S2x4224x16x128, .f32⟩
  | .hbm, ⟨11, _⟩ => ⟨S2x16x4224, .f32⟩
  | .hbm, ⟨12, _⟩ => ⟨S4224, .i32⟩
  | .hbm, ⟨13, _⟩ => ⟨S2x16x4224x4224, .f32⟩
  | .hbm, ⟨14, _⟩ => ⟨S2x16x4224x1, .f32⟩
  | .hbm, ⟨15, _⟩ => ⟨S2x16x4224x4224, .f32⟩
  | .hbm, ⟨16, _⟩ => ⟨S2x16x4224x4224, .f32⟩
  | .hbm, ⟨17, _⟩ => ⟨S2x16x1x4224, .f32⟩
  | .hbm, ⟨18, _⟩ => ⟨S2x16x4224x4224, .f32⟩
  | .hbm, ⟨19, _⟩ => ⟨S2x16x4224x4224, .f32⟩
  | .hbm, ⟨20, _⟩ => ⟨S1x4224, .i32⟩
  | .hbm, ⟨21, _⟩ => ⟨S4224x1, .i32⟩
  | .hbm, ⟨22, _⟩ => ⟨S4224x4224, .i32⟩
  | .hbm, ⟨23, _⟩ => ⟨S4224x4224, .i32⟩
  | .hbm, ⟨24, _⟩ => ⟨S4224x4224, .i1⟩
  | .hbm, ⟨25, _⟩ => ⟨S_, .f32⟩
  | .hbm, ⟨26, _⟩ => ⟨S_, .f32⟩
  | .hbm, ⟨27, _⟩ => ⟨S2x16x4224x4224, .i1⟩
  | .hbm, ⟨28, _⟩ => ⟨S2x16x4224x4224, .f32⟩
  | .hbm, ⟨29, _⟩ => ⟨S2x16x4224x4224, .f32⟩
  | .hbm, ⟨30, _⟩ => ⟨S_, .f32⟩
  | .hbm, ⟨31, _⟩ => ⟨S2x16x4224, .f32⟩
  | .hbm, ⟨32, _⟩ => ⟨S_, .f32⟩
  | .hbm, ⟨33, _⟩ => ⟨S2x16x4224, .f32⟩
  | .hbm, ⟨34, _⟩ => ⟨S2x16x4224, .f32⟩
  | .hbm, ⟨35, _⟩ => ⟨S2x16x4224x1, .f32⟩
  | .hbm, ⟨36, _⟩ => ⟨S2x16x4224x4224, .f32⟩
  | .hbm, ⟨37, _⟩ => ⟨S2x16x4224x4224, .f32⟩
  | .hbm, ⟨38, _⟩ => ⟨S2x16x4224x4224, .f32⟩
  | .hbm, ⟨39, _⟩ => ⟨S_, .f32⟩
  | .hbm, ⟨40, _⟩ => ⟨S2x16x4224, .f32⟩
  | .hbm, ⟨41, _⟩ => ⟨S2x16x4224x1, .f32⟩
  | .hbm, ⟨42, _⟩ => ⟨S2x16x4224x4224, .f32⟩
  | .hbm, ⟨43, _⟩ => ⟨S2x16x4224x4224, .f32⟩
  | .hbm, ⟨44, _⟩ => ⟨S2x16x128x4224, .f32⟩
  | .hbm, ⟨45, _⟩ => ⟨S2x4224x16x128, .f32⟩
  | .hbm, ⟨46, _⟩ => ⟨S2x4224x2048, .f32⟩
  | .hbm, ⟨47, _⟩ => ⟨S2x4224x2048, .bf16⟩
  | _, _ => ⟨S2x4224x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== MoeUp.lean ====
abbrev S8448x4096 : Shape := ⟨2, ![8448, 4096]⟩
abbrev S8448x128 : Shape := ⟨2, ![8448, 128]⟩
abbrev S8x4096x4096 : Shape := ⟨3, ![8, 4096, 4096]⟩
abbrev S8448x32768 : Shape := ⟨2, ![8448, 32768]⟩
abbrev S1408x1024 : Shape := ⟨2, ![1408, 1024]⟩
abbrev S1x1024x1024 : Shape := ⟨3, ![1, 1024, 1024]⟩
abbrev S1408x128 : Shape := ⟨2, ![1408, 128]⟩
abbrev S1024x1024 : Shape := ⟨2, ![1024, 1024]⟩
abbrev S1408 : Shape := ⟨1, ![1408]⟩
abbrev S1408x1 : Shape := ⟨2, ![1408, 1]⟩

abbrev nBuf : Space → Nat
  | .hbm => 7
  | .vmem => 12
  | .smem => 0
  | _ => 0

abbrev bufTy : (tb : Table) → Fin (tcTables nBuf tb) → BufTy
  | .hbm, ⟨0, _⟩ => ⟨S8448x4096, .bf16⟩
  | .hbm, ⟨1, _⟩ => ⟨S8448x128, .f32⟩
  | .hbm, ⟨2, _⟩ => ⟨S8x4096x4096, .f32⟩
  | .hbm, ⟨3, _⟩ => ⟨S8x4096x4096, .f32⟩
  | .hbm, ⟨4, _⟩ => ⟨S8x4096x4096, .bf16⟩
  | .hbm, ⟨5, _⟩ => ⟨S8x4096x4096, .bf16⟩
  | .hbm, ⟨6, _⟩ => ⟨S8448x32768, .bf16⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1408x128, .f32⟩
  | .local _ .vmem, ⟨7, _⟩ => ⟨S1408x128, .f32⟩
  | .local _ .vmem, ⟨8, _⟩ => ⟨S1408x1024, .bf16⟩
  | .local _ .vmem, ⟨9, _⟩ => ⟨S1408x1024, .bf16⟩
  | .local _ .vmem, ⟨10, _⟩ => ⟨S1408x1024, .f32⟩
  | .local _ .vmem, ⟨11, _⟩ => ⟨S1408x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![6, 32, 4], ![false, false, false]⟩

def k0_cond5 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MoeUpRefIdeal.lean ====
abbrev S8448x4096 : Shape := ⟨2, ![8448, 4096]⟩
abbrev S8448x128 : Shape := ⟨2, ![8448, 128]⟩
abbrev S8x4096x4096 : Shape := ⟨3, ![8, 4096, 4096]⟩
abbrev S8448x8x4096 : Shape := ⟨3, ![8448, 8, 4096]⟩
abbrev S8448x8 : Shape := ⟨2, ![8448, 8]⟩
abbrev S8448x8x1 : Shape := ⟨3, ![8448, 8, 1]⟩
abbrev S_ : Shape := ⟨0, ![]⟩
abbrev S8448x32768 : Shape := ⟨2, ![8448, 32768]⟩

abbrev nBuf : Space → Nat
  | .hbm => 23
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x128, .f32⟩
  | .hbm, ⟨2, _⟩ => ⟨S8x4096x4096, .f32⟩
  | .hbm, ⟨3, _⟩ => ⟨S8x4096x4096, .f32⟩
  | .hbm, ⟨4, _⟩ => ⟨S8448x4096, .f32⟩
  | .hbm, ⟨5, _⟩ => ⟨S8448x8x4096, .f32⟩
  | .hbm, ⟨6, _⟩ => ⟨S8448x8x4096, .f32⟩
  | .hbm, ⟨7, _⟩ => ⟨S8448x8, .f32⟩
  | .hbm, ⟨8, _⟩ => ⟨S8448x8x1, .f32⟩
  | .hbm, ⟨9, _⟩ => ⟨S8448x8x4096, .f32⟩
  | .hbm, ⟨10, _⟩ => ⟨S8448x8x4096, .f32⟩
  | .hbm, ⟨11, _⟩ => ⟨S_, .f32⟩
  | .hbm, ⟨12, _⟩ => ⟨S8448x8x4096, .f32⟩
  | .hbm, ⟨13, _⟩ => ⟨S8448x8x4096, .f32⟩
  | .hbm, ⟨14, _⟩ => ⟨S_, .f32⟩
  | .hbm, ⟨15, _⟩ => ⟨S8448x8x4096, .f32⟩
  | .hbm, ⟨16, _⟩ => ⟨S8448x8x4096, .f32⟩
  | .hbm, ⟨17, _⟩ => ⟨S8448x8x4096, .f32⟩
  | .hbm, ⟨18, _⟩ => ⟨S8448x8x4096, .f32⟩
  | .hbm, ⟨19, _⟩ => ⟨S8448x8x4096, .f32⟩
  | .hbm, ⟨20, _⟩ => ⟨S8448x8x4096, .f32⟩
  | .hbm, ⟨21, _⟩ => ⟨S8448x32768, .f32⟩
  | .hbm, ⟨22, _⟩ => ⟨S8448x32768, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== MoeDown.lean ====
abbrev S8448x32768 : Shape := ⟨2, ![8448, 32768]⟩
abbrev S8448x4096 : Shape := ⟨2, ![8448, 4096]⟩
abbrev S8x4096x4096 : Shape := ⟨3, ![8, 4096, 4096]⟩
abbrev S32768x4096 : Shape := ⟨2, ![32768, 4096]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8448x32768, .bf16⟩
  | .hbm, ⟨1, _⟩ => ⟨S8448x4096, .f32⟩
  | .hbm, ⟨2, _⟩ => ⟨S8x4096x4096, .f32⟩
  | .hbm, ⟨3, _⟩ => ⟨S8x4096x4096, .bf16⟩
  | .hbm, ⟨4, _⟩ => ⟨S32768x4096, .bf16⟩
  | .hbm, ⟨5, _⟩ => ⟨S8448x4096, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S8448x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 32], ![false, false, false]⟩

def k0_cond3 (i : grid0.Coords) : BitVec 1 :=
  let arg2 : BitVec 32 := BitVec.ofNat 32 (i 2).val
  let c31_i32 : BitVec 32 := 31#32
  let v10 : BitVec 1 := Scalar.cmpi .eq arg2 c31_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MoeDownRefIdeal.lean ====
abbrev S8448x32768 : Shape := ⟨2, ![8448, 32768]⟩
abbrev S8448x4096 : Shape := ⟨2, ![8448, 4096]⟩
abbrev S8x4096x4096 : Shape := ⟨3, ![8, 4096, 4096]⟩
abbrev S8448x8x4096 : Shape := ⟨3, ![8448, 8, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8448x32768, .bf16⟩
  | .hbm, ⟨1, _⟩ => ⟨S8448x4096, .f32⟩
  | .hbm, ⟨2, _⟩ => ⟨S8x4096x4096, .f32⟩
  | .hbm, ⟨3, _⟩ => ⟨S8448x32768, .f32⟩
  | .hbm, ⟨4, _⟩ => ⟨S8448x8x4096, .f32⟩
  | .hbm, ⟨5, _⟩ => ⟨S8448x4096, .f32⟩
  | .hbm, ⟨6, _⟩ => ⟨S8448x4096, .f32⟩
  | _, _ => ⟨S8448x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUp.lean ====
abbrev S8448x4096 : Shape := ⟨2, ![8448, 4096]⟩
abbrev S4096x11008 : Shape := ⟨2, ![4096, 11008]⟩
abbrev S_ : Shape := ⟨0, ![]⟩
abbrev S4096x11264 : Shape := ⟨2, ![4096, 11264]⟩
abbrev S8448x11264 : Shape := ⟨2, ![8448, 11264]⟩
abbrev S1408x1024 : Shape := ⟨2, ![1408, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8448x4096, .bf16⟩
  | .hbm, ⟨1, _⟩ => ⟨S4096x11008, .f32⟩
  | .hbm, ⟨2, _⟩ => ⟨S4096x11008, .f32⟩
  | .hbm, ⟨3, _⟩ => ⟨S_, .i32⟩
  | .hbm, ⟨4, _⟩ => ⟨S_, .f32⟩
  | .hbm, ⟨5, _⟩ => ⟨S4096x11264, .f32⟩
  | .hbm, ⟨6, _⟩ => ⟨S4096x11264, .bf16⟩
  | .hbm, ⟨7, _⟩ => ⟨S_, .i32⟩
  | .hbm, ⟨8, _⟩ => ⟨S_, .f32⟩
  | .hbm, ⟨9, _⟩ => ⟨S4096x11264, .f32⟩
  | .hbm, ⟨10, _⟩ => ⟨S4096x11264, .bf16⟩
  | .hbm, ⟨11, _⟩ => ⟨S8448x11264, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | .local _ .vmem, ⟨9, _⟩ => ⟨S1408x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 11, 4], ![false, false, false]⟩

def k0_cond5 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpRefIdeal.lean ====
abbrev S8448x4096 : Shape := ⟨2, ![8448, 4096]⟩
abbrev S4096x11008 : Shape := ⟨2, ![4096, 11008]⟩
abbrev S8448x11008 : Shape := ⟨2, ![8448, 11008]⟩
abbrev S_ : Shape := ⟨0, ![]⟩
abbrev S8448x11264 : Shape := ⟨2, ![8448, 11264]⟩

abbrev nBuf : Space → Nat
  | .hbm => 20
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x11008, .f32⟩
  | .hbm, ⟨2, _⟩ => ⟨S4096x11008, .f32⟩
  | .hbm, ⟨3, _⟩ => ⟨S8448x4096, .f32⟩
  | .hbm, ⟨4, _⟩ => ⟨S8448x11008, .f32⟩
  | .hbm, ⟨5, _⟩ => ⟨S8448x11008, .f32⟩
  | .hbm, ⟨6, _⟩ => ⟨S8448x11008, .f32⟩
  | .hbm, ⟨7, _⟩ => ⟨S_, .f32⟩
  | .hbm, ⟨8, _⟩ => ⟨S8448x11008, .f32⟩
  | .hbm, ⟨9, _⟩ => ⟨S8448x11008, .f32⟩
  | .hbm, ⟨10, _⟩ => ⟨S_, .f32⟩
  | .hbm, ⟨11, _⟩ => ⟨S8448x11008, .f32⟩
  | .hbm, ⟨12, _⟩ => ⟨S8448x11008, .f32⟩
  | .hbm, ⟨13, _⟩ => ⟨S8448x11008, .f32⟩
  | .hbm, ⟨14, _⟩ => ⟨S8448x11008, .f32⟩
  | .hbm, ⟨15, _⟩ => ⟨S8448x11008, .f32⟩
  | .hbm, ⟨16, _⟩ => ⟨S_, .i32⟩
  | .hbm, ⟨17, _⟩ => ⟨S_, .f32⟩
  | .hbm, ⟨18, _⟩ => ⟨S8448x11264, .f32⟩
  | .hbm, ⟨19, _⟩ => ⟨S8448x11264, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== FfnDown.lean ====
abbrev S8448x11264 : Shape := ⟨2, ![8448, 11264]⟩
abbrev S8448x4096 : Shape := ⟨2, ![8448, 4096]⟩
abbrev S11008x4096 : Shape := ⟨2, ![11008, 4096]⟩
abbrev S_ : Shape := ⟨0, ![]⟩
abbrev S11264x4096 : Shape := ⟨2, ![11264, 4096]⟩
abbrev S1408x1024 : Shape := ⟨2, ![1408, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8448x11264, .bf16⟩
  | .hbm, ⟨1, _⟩ => ⟨S8448x4096, .f32⟩
  | .hbm, ⟨2, _⟩ => ⟨S11008x4096, .f32⟩
  | .hbm, ⟨3, _⟩ => ⟨S_, .i32⟩
  | .hbm, ⟨4, _⟩ => ⟨S_, .f32⟩
  | .hbm, ⟨5, _⟩ => ⟨S11264x4096, .f32⟩
  | .hbm, ⟨6, _⟩ => ⟨S11264x4096, .bf16⟩
  | .hbm, ⟨7, _⟩ => ⟨S8448x4096, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 11], ![false, false, false]⟩

def k0_cond3 (i : grid0.Coords) : BitVec 1 :=
  let arg2 : BitVec 32 := BitVec.ofNat 32 (i 2).val
  let c10_i32 : BitVec 32 := 10#32
  let v10 : BitVec 1 := Scalar.cmpi .eq arg2 c10_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8448x11264 : Shape := ⟨2, ![8448, 11264]⟩
abbrev S8448x4096 : Shape := ⟨2, ![8448, 4096]⟩
abbrev S11008x4096 : Shape := ⟨2, ![11008, 4096]⟩
abbrev S8448x11008 : Shape := ⟨2, ![8448, 11008]⟩

abbrev nBuf : Space → Nat
  | .hbm => 7
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S8448x4096, .f32⟩
  | .hbm, ⟨2, _⟩ => ⟨S11008x4096, .f32⟩
  | .hbm, ⟨3, _⟩ => ⟨S8448x11008, .bf16⟩
  | .hbm, ⟨4, _⟩ => ⟨S8448x11008, .f32⟩
  | .hbm, ⟨5, _⟩ => ⟨S8448x4096, .f32⟩
  | .hbm, ⟨6, _⟩ => ⟨S8448x4096, .f32⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gate.lean ====
abbrev S8448x4096 : Shape := ⟨2, ![8448, 4096]⟩
abbrev S4096x8192 : Shape := ⟨2, ![4096, 8192]⟩
abbrev S8192 : Shape := ⟨1, ![8192]⟩
abbrev S1x8192 : Shape := ⟨2, ![1, 8192]⟩
abbrev S8448x8192 : Shape := ⟨2, ![8448, 8192]⟩
abbrev S1408x1024 : Shape := ⟨2, ![1408, 1024]⟩
abbrev S1024x1024 : Shape := ⟨2, ![1024, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8448x4096, .bf16⟩
  | .hbm, ⟨1, _⟩ => ⟨S4096x8192, .f32⟩
  | .hbm, ⟨2, _⟩ => ⟨S8192, .f32⟩
  | .hbm, ⟨3, _⟩ => ⟨S4096x8192, .bf16⟩
  | .hbm, ⟨4, _⟩ => ⟨S1x8192, .f32⟩
  | .hbm, ⟨5, _⟩ => ⟨S8448x8192, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateRefIdeal.lean ====
abbrev S8448x4096 : Shape := ⟨2, ![8448, 4096]⟩
abbrev S4096x8192 : Shape := ⟨2, ![4096, 8192]⟩
abbrev S8192 : Shape := ⟨1, ![8192]⟩
abbrev S8448x8192 : Shape := ⟨2, ![8448, 8192]⟩
abbrev S1x8192 : Shape := ⟨2, ![1, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x8192, .f32⟩
  | .hbm, ⟨2, _⟩ => ⟨S8192, .f32⟩
  | .hbm, ⟨3, _⟩ => ⟨S8448x4096, .f32⟩
  | .hbm, ⟨4, _⟩ => ⟨S8448x8192, .f32⟩
  | .hbm, ⟨5, _⟩ => ⟨S1x8192, .f32⟩
  | .hbm, ⟨6, _⟩ => ⟨S8448x8192, .f32⟩
  | .hbm, ⟨7, _⟩ => ⟨S8448x8192, .f32⟩
  | .hbm, ⟨8, _⟩ => ⟨S8448x8192, .f32⟩
  | .hbm, ⟨9, _⟩ => ⟨S8448x8192, .f32⟩
  | .hbm, ⟨10, _⟩ => ⟨S_, .f32⟩
  | .hbm, ⟨11, _⟩ => ⟨S8448x8192, .f32⟩
  | .hbm, ⟨12, _⟩ => ⟨S8448x8192, .f32⟩
  | .hbm, ⟨13, _⟩ => ⟨S_, .f32⟩
  | .hbm, ⟨14, _⟩ => ⟨S8448x8192, .f32⟩
  | .hbm, ⟨15, _⟩ => ⟨S8448x8192, .f32⟩
  | .hbm, ⟨16, _⟩ => ⟨S8448x8192, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Merge.lean ====
abbrev S8448x2048 : Shape := ⟨2, ![8448, 2048]⟩
abbrev S8448x8192 : Shape := ⟨2, ![8448, 8192]⟩
abbrev S2048x4096 : Shape := ⟨2, ![2048, 4096]⟩
abbrev S8448x4096 : Shape := ⟨2, ![8448, 4096]⟩
abbrev S1408x1024 : Shape := ⟨2, ![1408, 1024]⟩
abbrev S1024x1024 : Shape := ⟨2, ![1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x8192, .bf16⟩
  | .hbm, ⟨3, _⟩ => ⟨S2048x4096, .f32⟩
  | .hbm, ⟨4, _⟩ => ⟨S2048x4096, .f32⟩
  | .hbm, ⟨5, _⟩ => ⟨S2048x4096, .bf16⟩
  | .hbm, ⟨6, _⟩ => ⟨S2048x4096, .bf16⟩
  | .hbm, ⟨7, _⟩ => ⟨S8448x4096, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .f32⟩
  | .local _ .vmem, ⟨15, _⟩ => ⟨S1408x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![6, 4, 2], ![false, false, false]⟩

def k0_cond5 (i : grid0.Coords) : BitVec 1 :=
  let arg2 : BitVec 32 := BitVec.ofNat 32 (i 2).val
  let c1_i32 : BitVec 32 := 1#32
  let v20 : BitVec 1 := Scalar.cmpi .eq arg2 c1_i32
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MergeRefIdeal.lean ====
abbrev S8448x2048 : Shape := ⟨2, ![8448, 2048]⟩
abbrev S8448x8192 : Shape := ⟨2, ![8448, 8192]⟩
abbrev S2048x4096 : Shape := ⟨2, ![2048, 4096]⟩
abbrev S8448x4096 : Shape := ⟨2, ![8448, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x8192, .bf16⟩
  | .hbm, ⟨3, _⟩ => ⟨S2048x4096, .f32⟩
  | .hbm, ⟨4, _⟩ => ⟨S2048x4096, .f32⟩
  | .hbm, ⟨5, _⟩ => ⟨S8448x8192, .f32⟩
  | .hbm, ⟨6, _⟩ => ⟨S8448x4096, .f32⟩
  | .hbm, ⟨7, _⟩ => ⟨S8448x4096, .f32⟩
  | .hbm, ⟨8, _⟩ => ⟨S8448x2048, .f32⟩
  | .hbm, ⟨9, _⟩ => ⟨S8448x4096, .f32⟩
  | .hbm, ⟨10, _⟩ => ⟨S8448x4096, .f32⟩
  | .hbm, ⟨11, _⟩ => ⟨S8448x2048, .f32⟩
  | .hbm, ⟨12, _⟩ => ⟨S8448x4096, .f32⟩
  | .hbm, ⟨13, _⟩ => ⟨S8448x4096, .f32⟩
  | .hbm, ⟨14, _⟩ => ⟨S8448x4096, .f32⟩
  | .hbm, ⟨15, _⟩ => ⟨S8448x4096, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== OutProj.lean ====
abbrev S8448x4096 : Shape := ⟨2, ![8448, 4096]⟩
abbrev S4096x4096 : Shape := ⟨2, ![4096, 4096]⟩
abbrev S1408x1024 : Shape := ⟨2, ![1408, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8448x4096, .bf16⟩
  | .hbm, ⟨1, _⟩ => ⟨S8448x4096, .f32⟩
  | .hbm, ⟨2, _⟩ => ⟨S4096x4096, .f32⟩
  | .hbm, ⟨3, _⟩ => ⟨S4096x4096, .bf16⟩
  | .hbm, ⟨4, _⟩ => ⟨S8448x4096, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S8448x4096 : Shape := ⟨2, ![8448, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x4096, .f32⟩
  | .hbm, ⟨2, _⟩ => ⟨S4096x4096, .f32⟩
  | .hbm, ⟨3, _⟩ => ⟨S8448x4096, .f32⟩
  | .hbm, ⟨4, _⟩ => ⟨S8448x4096, .f32⟩
  | .hbm, ⟨5, _⟩ => ⟨S8448x4096, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Qkq.lean ====
abbrev S8448x4096 : Shape := ⟨2, ![8448, 4096]⟩
abbrev S4096x9824 : Shape := ⟨2, ![4096, 9824]⟩
abbrev S128 : Shape := ⟨1, ![128]⟩
abbrev S4096x2048 : Shape := ⟨2, ![4096, 2048]⟩
abbrev S4096x6144 : Shape := ⟨2, ![4096, 6144]⟩
abbrev S_ : Shape := ⟨0, ![]⟩
abbrev S1x128 : Shape := ⟨2, ![1, 128]⟩
abbrev S16x128 : Shape := ⟨2, ![16, 128]⟩
abbrev S2048 : Shape := ⟨1, ![2048]⟩
abbrev S6144 : Shape := ⟨1, ![6144]⟩
abbrev S1x6144 : Shape := ⟨2, ![1, 6144]⟩
abbrev S8448x6144 : Shape := ⟨2, ![8448, 6144]⟩
abbrev S1408x1024 : Shape := ⟨2, ![1408, 1024]⟩
abbrev S1024x1024 : Shape := ⟨2, ![1024, 1024]⟩
abbrev S1x1024 : Shape := ⟨2, ![1, 1024]⟩
abbrev S1408x128 : Shape := ⟨2, ![1408, 128]⟩
abbrev S1408 : Shape := ⟨1, ![1408]⟩
abbrev S1408x1 : Shape := ⟨2, ![1408, 1]⟩

abbrev nBuf : Space → Nat
  | .hbm => 28
  | .vmem => 9
  | .smem => 0
  | _ => 0

abbrev bufTy : (tb : Table) → Fin (tcTables nBuf tb) → BufTy
  | .hbm, ⟨0, _⟩ => ⟨S8448x4096, .bf16⟩
  | .hbm, ⟨1, _⟩ => ⟨S4096x9824, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x6144, .f32⟩
  | .hbm, ⟨9, _⟩ => ⟨S4096x6144, .bf16⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S16x128, .f32⟩
  | .hbm, ⟨15, _⟩ => ⟨S2048, .f32⟩
  | .hbm, ⟨16, _⟩ => ⟨S1x128, .f32⟩
  | .hbm, ⟨17, _⟩ => ⟨S16x128, .f32⟩
  | .hbm, ⟨18, _⟩ => ⟨S2048, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S16x128, .f32⟩
  | .hbm, ⟨24, _⟩ => ⟨S2048, .f32⟩
  | .hbm, ⟨25, _⟩ => ⟨S6144, .f32⟩
  | .hbm, ⟨26, _⟩ => ⟨S1x6144, .f32⟩
  | .hbm, ⟨27, _⟩ => ⟨S8448x6144, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 6, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkqRefIdeal.lean ====
abbrev S8448x4096 : Shape := ⟨2, ![8448, 4096]⟩
abbrev S4096x9824 : Shape := ⟨2, ![4096, 9824]⟩
abbrev S128 : Shape := ⟨1, ![128]⟩
abbrev S8448x9824 : Shape := ⟨2, ![8448, 9824]⟩
abbrev S8448x2048 : Shape := ⟨2, ![8448, 2048]⟩
abbrev S8448x16 : Shape := ⟨2, ![8448, 16]⟩
abbrev S8448x512 : Shape := ⟨2, ![8448, 512]⟩
abbrev S8448x1024 : Shape := ⟨2, ![8448, 1024]⟩
abbrev S8448x64 : Shape := ⟨2, ![8448, 64]⟩
abbrev S8448x16x128 : Shape := ⟨3, ![8448, 16, 128]⟩
abbrev S_ : Shape := ⟨0, ![]⟩
abbrev S8448x16x1 : Shape := ⟨3, ![8448, 16, 1]⟩
abbrev S1x1x128 : Shape := ⟨3, ![1, 1, 128]⟩
abbrev S8448x6144 : Shape := ⟨2, ![8448, 6144]⟩

abbrev nBuf : Space → Nat
  | .hbm => 78
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x9824, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S8448x4096, .f32⟩
  | .hbm, ⟨6, _⟩ => ⟨S8448x9824, .f32⟩
  | .hbm, ⟨7, _⟩ => ⟨S8448x2048, .f32⟩
  | .hbm, ⟨8, _⟩ => ⟨S8448x2048, .f32⟩
  | .hbm, ⟨9, _⟩ => ⟨S8448x2048, .f32⟩
  | .hbm, ⟨10, _⟩ => ⟨S8448x16, .f32⟩
  | .hbm, ⟨11, _⟩ => ⟨S8448x2048, .f32⟩
  | .hbm, ⟨12, _⟩ => ⟨S8448x512, .f32⟩
  | .hbm, ⟨13, _⟩ => ⟨S8448x1024, .f32⟩
  | .hbm, ⟨14, _⟩ => ⟨S8448x64, .f32⟩
  | .hbm, ⟨15, _⟩ => ⟨S8448x16, .f32⟩
  | .hbm, ⟨16, _⟩ => ⟨S8448x16x128, .f32⟩
  | .hbm, ⟨17, _⟩ => ⟨S8448x16x128, .f32⟩
  | .hbm, ⟨18, _⟩ => ⟨S_, .f32⟩
  | .hbm, ⟨19, _⟩ => ⟨S8448x16, .f32⟩
  | .hbm, ⟨20, _⟩ => ⟨S8448x16x1, .f32⟩
  | .hbm, ⟨21, _⟩ => ⟨S_, .f32⟩
  | .hbm, ⟨22, _⟩ => ⟨S8448x16x1, .f32⟩
  | .hbm, ⟨23, _⟩ => ⟨S8448x16x1, .f32⟩
  | .hbm, ⟨24, _⟩ => ⟨S_, .f32⟩
  | .hbm, ⟨25, _⟩ => ⟨S8448x16x1, .f32⟩
  | .hbm, ⟨26, _⟩ => ⟨S8448x16x1, .f32⟩
  | .hbm, ⟨27, _⟩ => ⟨S8448x16x1, .f32⟩
  | .hbm, ⟨28, _⟩ => ⟨S8448x16x128, .f32⟩
  | .hbm, ⟨29, _⟩ => ⟨S8448x16x128, .f32⟩
  | .hbm, ⟨30, _⟩ => ⟨S1x1x128, .f32⟩
  | .hbm, ⟨31, _⟩ => ⟨S8448x16x128, .f32⟩
  | .hbm, ⟨32, _⟩ => ⟨S8448x16x128, .f32⟩
  | .hbm, ⟨33, _⟩ => ⟨S_, .f32⟩
  | .hbm, ⟨34, _⟩ => ⟨S8448x16x128, .f32⟩
  | .hbm, ⟨35, _⟩ => ⟨S8448x16x128, .f32⟩
  | .hbm, ⟨36, _⟩ => ⟨S8448x16x128, .f32⟩
  | .hbm, ⟨37, _⟩ => ⟨S8448x16x128, .f32⟩
  | .hbm, ⟨38, _⟩ => ⟨S_, .f32⟩
  | .hbm, ⟨39, _⟩ => ⟨S8448x16, .f32⟩
  | .hbm, ⟨40, _⟩ => ⟨S8448x16x1, .f32⟩
  | .hbm, ⟨41, _⟩ => ⟨S_, .f32⟩
  | .hbm, ⟨42, _⟩ => ⟨S8448x16x1, .f32⟩
  | .hbm, ⟨43, _⟩ => ⟨S8448x16x1, .f32⟩
  | .hbm, ⟨44, _⟩ => ⟨S_, .f32⟩
  | .hbm, ⟨45, _⟩ => ⟨S8448x16x1, .f32⟩
  | .hbm, ⟨46, _⟩ => ⟨S8448x16x1, .f32⟩
  | .hbm, ⟨47, _⟩ => ⟨S8448x16x1, .f32⟩
  | .hbm, ⟨48, _⟩ => ⟨S8448x16x128, .f32⟩
  | .hbm, ⟨49, _⟩ => ⟨S8448x16x128, .f32⟩
  | .hbm, ⟨50, _⟩ => ⟨S1x1x128, .f32⟩
  | .hbm, ⟨51, _⟩ => ⟨S8448x16x128, .f32⟩
  | .hbm, ⟨52, _⟩ => ⟨S8448x16x128, .f32⟩
  | .hbm, ⟨53, _⟩ => ⟨S8448x16x128, .f32⟩
  | .hbm, ⟨54, _⟩ => ⟨S8448x16x128, .f32⟩
  | .hbm, ⟨55, _⟩ => ⟨S_, .f32⟩
  | .hbm, ⟨56, _⟩ => ⟨S8448x16, .f32⟩
  | .hbm, ⟨57, _⟩ => ⟨S8448x16x1, .f32⟩
  | .hbm, ⟨58, _⟩ => ⟨S_, .f32⟩
  | .hbm, ⟨59, _⟩ => ⟨S8448x16x1, .f32⟩
  | .hbm, ⟨60, _⟩ => ⟨S8448x16x1, .f32⟩
  | .hbm, ⟨61, _⟩ => ⟨S_, .f32⟩
  | .hbm, ⟨62, _⟩ => ⟨S8448x16x1, .f32⟩
  | .hbm, ⟨63, _⟩ => ⟨S8448x16x1, .f32⟩
  | .hbm, ⟨64, _⟩ => ⟨S8448x16x1, .f32⟩
  | .hbm, ⟨65, _⟩ => ⟨S8448x16x128, .f32⟩
  | .hbm, ⟨66, _⟩ => ⟨S8448x16x128, .f32⟩
  | .hbm, ⟨67, _⟩ => ⟨S1x1x128, .f32⟩
  | .hbm, ⟨68, _⟩ => ⟨S8448x16x128, .f32⟩
  | .hbm, ⟨69, _⟩ => ⟨S8448x16x128, .f32⟩
  | .hbm, ⟨70, _⟩ => ⟨S_, .f32⟩
  | .hbm, ⟨71, _⟩ => ⟨S8448x16x128, .f32⟩
  | .hbm, ⟨72, _⟩ => ⟨S8448x16x128, .f32⟩
  | .hbm, ⟨73, _⟩ => ⟨S8448x2048, .f32⟩
  | .hbm, ⟨74, _⟩ => ⟨S8448x2048, .f32⟩
  | .hbm, ⟨75, _⟩ => ⟨S8448x2048, .f32⟩
  | .hbm, ⟨76, _⟩ => ⟨S8448x6144, .f32⟩
  | .hbm, ⟨77, _⟩ => ⟨S8448x6144, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Va.lean ====
abbrev S8448x4096 : Shape := ⟨2, ![8448, 4096]⟩
abbrev S4096x9824 : Shape := ⟨2, ![4096, 9824]⟩
abbrev S4096x2048 : Shape := ⟨2, ![4096, 2048]⟩
abbrev S8448x2048 : Shape := ⟨2, ![8448, 2048]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S4096x9824, .f32⟩
  | .hbm, ⟨2, _⟩ => ⟨S4096x2048, .f32⟩
  | .hbm, ⟨3, _⟩ => ⟨S4096x2048, .bf16⟩
  | .hbm, ⟨4, _⟩ => ⟨S8448x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== VaRefIdeal.lean ====
abbrev S8448x4096 : Shape := ⟨2, ![8448, 4096]⟩
abbrev S4096x9824 : Shape := ⟨2, ![4096, 9824]⟩
abbrev S8448x9824 : Shape := ⟨2, ![8448, 9824]⟩
abbrev S8448x2048 : Shape := ⟨2, ![8448, 2048]⟩
abbrev S8448x16 : Shape := ⟨2, ![8448, 16]⟩
abbrev S8448x512 : Shape := ⟨2, ![8448, 512]⟩
abbrev S8448x1024 : Shape := ⟨2, ![8448, 1024]⟩
abbrev S8448x64 : Shape := ⟨2, ![8448, 64]⟩

abbrev nBuf : Space → Nat
  | .hbm => 14
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x9824, .f32⟩
  | .hbm, ⟨2, _⟩ => ⟨S8448x4096, .f32⟩
  | .hbm, ⟨3, _⟩ => ⟨S8448x9824, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8448x16, .f32⟩
  | .hbm, ⟨8, _⟩ => ⟨S8448x2048, .f32⟩
  | .hbm, ⟨9, _⟩ => ⟨S8448x512, .f32⟩
  | .hbm, ⟨10, _⟩ => ⟨S8448x1024, .f32⟩
  | .hbm, ⟨11, _⟩ => ⟨S8448x64, .f32⟩
  | .hbm, ⟨12, _⟩ => ⟨S8448x16, .f32⟩
  | .hbm, ⟨13, _⟩ => ⟨S8448x2048, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Qi.lean ====
abbrev S8448x4096 : Shape := ⟨2, ![8448, 4096]⟩
abbrev S4096x9824 : Shape := ⟨2, ![4096, 9824]⟩
abbrev S4096x1024 : Shape := ⟨2, ![4096, 1024]⟩
abbrev S8448x1024 : Shape := ⟨2, ![8448, 1024]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S4096x9824, .f32⟩
  | .hbm, ⟨2, _⟩ => ⟨S4096x1024, .f32⟩
  | .hbm, ⟨3, _⟩ => ⟨S4096x1024, .bf16⟩
  | .hbm, ⟨4, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QiRefIdeal.lean ====
abbrev S8448x4096 : Shape := ⟨2, ![8448, 4096]⟩
abbrev S4096x9824 : Shape := ⟨2, ![4096, 9824]⟩
abbrev S8448x9824 : Shape := ⟨2, ![8448, 9824]⟩
abbrev S8448x2048 : Shape := ⟨2, ![8448, 2048]⟩
abbrev S8448x16 : Shape := ⟨2, ![8448, 16]⟩
abbrev S8448x512 : Shape := ⟨2, ![8448, 512]⟩
abbrev S8448x1024 : Shape := ⟨2, ![8448, 1024]⟩
abbrev S8448x64 : Shape := ⟨2, ![8448, 64]⟩

abbrev nBuf : Space → Nat
  | .hbm => 14
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x9824, .f32⟩
  | .hbm, ⟨2, _⟩ => ⟨S8448x4096, .f32⟩
  | .hbm, ⟨3, _⟩ => ⟨S8448x9824, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8448x16, .f32⟩
  | .hbm, ⟨8, _⟩ => ⟨S8448x2048, .f32⟩
  | .hbm, ⟨9, _⟩ => ⟨S8448x512, .f32⟩
  | .hbm, ⟨10, _⟩ => ⟨S8448x1024, .f32⟩
  | .hbm, ⟨11, _⟩ => ⟨S8448x64, .f32⟩
  | .hbm, ⟨12, _⟩ => ⟨S8448x16, .f32⟩
  | .hbm, ⟨13, _⟩ => ⟨S8448x1024, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Cb.lean ====
abbrev S8448x4096 : Shape := ⟨2, ![8448, 4096]⟩
abbrev S4096x9824 : Shape := ⟨2, ![4096, 9824]⟩
abbrev S4096x512 : Shape := ⟨2, ![4096, 512]⟩
abbrev S8448x512 : Shape := ⟨2, ![8448, 512]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 5
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S4096x9824, .f32⟩
  | .hbm, ⟨2, _⟩ => ⟨S4096x512, .f32⟩
  | .hbm, ⟨3, _⟩ => ⟨S4096x512, .bf16⟩
  | .hbm, ⟨4, _⟩ => ⟨S8448x512, .bf16⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CbRefIdeal.lean ====
abbrev S8448x4096 : Shape := ⟨2, ![8448, 4096]⟩
abbrev S4096x9824 : Shape := ⟨2, ![4096, 9824]⟩
abbrev S8448x9824 : Shape := ⟨2, ![8448, 9824]⟩
abbrev S8448x2048 : Shape := ⟨2, ![8448, 2048]⟩
abbrev S8448x16 : Shape := ⟨2, ![8448, 16]⟩
abbrev S8448x512 : Shape := ⟨2, ![8448, 512]⟩
abbrev S8448x1024 : Shape := ⟨2, ![8448, 1024]⟩
abbrev S8448x64 : Shape := ⟨2, ![8448, 64]⟩

abbrev nBuf : Space → Nat
  | .hbm => 14
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x9824, .f32⟩
  | .hbm, ⟨2, _⟩ => ⟨S8448x4096, .f32⟩
  | .hbm, ⟨3, _⟩ => ⟨S8448x9824, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8448x16, .f32⟩
  | .hbm, ⟨8, _⟩ => ⟨S8448x2048, .f32⟩
  | .hbm, ⟨9, _⟩ => ⟨S8448x512, .f32⟩
  | .hbm, ⟨10, _⟩ => ⟨S8448x1024, .f32⟩
  | .hbm, ⟨11, _⟩ => ⟨S8448x64, .f32⟩
  | .hbm, ⟨12, _⟩ => ⟨S8448x16, .f32⟩
  | .hbm, ⟨13, _⟩ => ⟨S8448x512, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Small.lean ====
abbrev S8448x4096 : Shape := ⟨2, ![8448, 4096]⟩
abbrev S4096x9824 : Shape := ⟨2, ![4096, 9824]⟩
abbrev S4096x64 : Shape := ⟨2, ![4096, 64]⟩
abbrev S4096x16 : Shape := ⟨2, ![4096, 16]⟩
abbrev S_ : Shape := ⟨0, ![]⟩
abbrev S4096x0 : Shape := ⟨2, ![4096, 0]⟩
abbrev S4096x32 : Shape := ⟨2, ![4096, 32]⟩
abbrev S4096x128 : Shape := ⟨2, ![4096, 128]⟩
abbrev S8448x128 : Shape := ⟨2, ![8448, 128]⟩
abbrev S1408x1024 : Shape := ⟨2, ![1408, 1024]⟩
abbrev S1024x128 : Shape := ⟨2, ![1024, 128]⟩
abbrev S1408x128 : Shape := ⟨2, ![1408, 128]⟩

abbrev nBuf : Space → Nat
  | .hbm => 12
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S4096x9824, .f32⟩
  | .hbm, ⟨2, _⟩ => ⟨S4096x64, .f32⟩
  | .hbm, ⟨3, _⟩ => ⟨S4096x16, .f32⟩
  | .hbm, ⟨4, _⟩ => ⟨S_, .f32⟩
  | .hbm, ⟨5, _⟩ => ⟨S4096x0, .f32⟩
  | .hbm, ⟨6, _⟩ => ⟨S4096x16, .f32⟩
  | .hbm, ⟨7, _⟩ => ⟨S_, .f32⟩
  | .hbm, ⟨8, _⟩ => ⟨S4096x32, .f32⟩
  | .hbm, ⟨9, _⟩ => ⟨S4096x128, .f32⟩
  | .hbm, ⟨10, _⟩ => ⟨S4096x128, .bf16⟩
  | .hbm, ⟨11, _⟩ => ⟨S8448x128, .f32⟩
  | .local _ .vmem, ⟨0, _⟩ => ⟨S1408x1024, .bf16⟩
  | .local _ .vmem, ⟨1, _⟩ => ⟨S1408x1024, .bf16⟩
  | .local _ .vmem, ⟨2, _⟩ => ⟨S1024x128, .bf16⟩
  | .local _ .vmem, ⟨3, _⟩ => ⟨S1024x128, .bf16⟩
  | .local _ .vmem, ⟨4, _⟩ => ⟨S1408x128, .f32⟩
  | .local _ .vmem, ⟨5, _⟩ => ⟨S1408x128, .f32⟩
  | .local _ .vmem, ⟨6, _⟩ => ⟨S1408x128, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SmallRefIdeal.lean ====
abbrev S8448x4096 : Shape := ⟨2, ![8448, 4096]⟩
abbrev S4096x9824 : Shape := ⟨2, ![4096, 9824]⟩
abbrev S8448x9824 : Shape := ⟨2, ![8448, 9824]⟩
abbrev S8448x2048 : Shape := ⟨2, ![8448, 2048]⟩
abbrev S8448x16 : Shape := ⟨2, ![8448, 16]⟩
abbrev S8448x512 : Shape := ⟨2, ![8448, 512]⟩
abbrev S8448x1024 : Shape := ⟨2, ![8448, 1024]⟩
abbrev S8448x64 : Shape := ⟨2, ![8448, 64]⟩
abbrev S8448x96 : Shape := ⟨2, ![8448, 96]⟩
abbrev S_ : Shape := ⟨0, ![]⟩
abbrev S8448x128 : Shape := ⟨2, ![8448, 128]⟩

abbrev nBuf : Space → Nat
  | .hbm => 17
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x9824, .f32⟩
  | .hbm, ⟨2, _⟩ => ⟨S8448x4096, .f32⟩
  | .hbm, ⟨3, _⟩ => ⟨S8448x9824, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8448x16, .f32⟩
  | .hbm, ⟨8, _⟩ => ⟨S8448x2048, .f32⟩
  | .hbm, ⟨9, _⟩ => ⟨S8448x512, .f32⟩
  | .hbm, ⟨10, _⟩ => ⟨S8448x1024, .f32⟩
  | .hbm, ⟨11, _⟩ => ⟨S8448x64, .f32⟩
  | .hbm, ⟨12, _⟩ => ⟨S8448x16, .f32⟩
  | .hbm, ⟨13, _⟩ => ⟨S8448x96, .f32⟩
  | .hbm, ⟨14, _⟩ => ⟨S_, .i32⟩
  | .hbm, ⟨15, _⟩ => ⟨S_, .f32⟩
  | .hbm, ⟨16, _⟩ => ⟨S8448x128, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Norm.lean ====
abbrev S8448x4096 : Shape := ⟨2, ![8448, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S1x4096, .f32⟩
  | .hbm, ⟨3, _⟩ => ⟨S8448x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8448x4096 : Shape := ⟨2, ![8448, 4096]⟩
abbrev S4096 : Shape := ⟨1, ![4096]⟩
abbrev S_ : Shape := ⟨0, ![]⟩
abbrev S8448 : Shape := ⟨1, ![8448]⟩
abbrev S8448x1 : Shape := ⟨2, ![8448, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S8448x4096, .f32⟩
  | .hbm, ⟨3, _⟩ => ⟨S_, .f32⟩
  | .hbm, ⟨4, _⟩ => ⟨S8448, .f32⟩
  | .hbm, ⟨5, _⟩ => ⟨S8448x1, .f32⟩
  | .hbm, ⟨6, _⟩ => ⟨S_, .f32⟩
  | .hbm, ⟨7, _⟩ => ⟨S8448x1, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1, .f32⟩
  | .hbm, ⟨13, _⟩ => ⟨S8448x4096, .f32⟩
  | .hbm, ⟨14, _⟩ => ⟨S8448x4096, .f32⟩
  | .hbm, ⟨15, _⟩ => ⟨S1x4096, .f32⟩
  | .hbm, ⟨16, _⟩ => ⟨S8448x4096, .f32⟩
  | .hbm, ⟨17, _⟩ => ⟨S8448x4096, .f32⟩
  | .hbm, ⟨18, _⟩ => ⟨S8448x4096, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Router.lean ====
abbrev S8448x4096 : Shape := ⟨2, ![8448, 4096]⟩
abbrev S4096 : Shape := ⟨1, ![4096]⟩
abbrev S4096x8 : Shape := ⟨2, ![4096, 8]⟩
abbrev S1x4096 : Shape := ⟨2, ![1, 4096]⟩
abbrev S8x4096 : Shape := ⟨2, ![8, 4096]⟩
abbrev S8448x128 : Shape := ⟨2, ![8448, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S4096x8, .f32⟩
  | .hbm, ⟨3, _⟩ => ⟨S1x4096, .f32⟩
  | .hbm, ⟨4, _⟩ => ⟨S8x4096, .f32⟩
  | .hbm, ⟨5, _⟩ => ⟨S8448x4096, .bf16⟩
  | .hbm, ⟨6, _⟩ => ⟨S8448x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S8x4096, .f32⟩
  | .local _ .vmem, ⟨4, _⟩ => ⟨S256x4096, .bf16⟩
  | .local _ .vmem, ⟨5, _⟩ => ⟨S256x4096, .bf16⟩
  | .local _ .vmem, ⟨6, _⟩ => ⟨S256x128, .f32⟩
  | .local _ .vmem, ⟨7, _⟩ => ⟨S256x128, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterRefIdeal.lean ====
abbrev S8448x4096 : Shape := ⟨2, ![8448, 4096]⟩
abbrev S4096 : Shape := ⟨1, ![4096]⟩
abbrev S4096x8 : Shape := ⟨2, ![4096, 8]⟩
abbrev S_ : Shape := ⟨0, ![]⟩
abbrev S8448 : Shape := ⟨1, ![8448]⟩
abbrev S8448x1 : Shape := ⟨2, ![8448, 1]⟩
abbrev S1x4096 : Shape := ⟨2, ![1, 4096]⟩
abbrev S8448x8 : Shape := ⟨2, ![8448, 8]⟩
abbrev S8448x2 : Shape := ⟨2, ![8448, 2]⟩
abbrev S8448x2x1 : Shape := ⟨3, ![8448, 2, 1]⟩
abbrev S1x1x8 : Shape := ⟨3, ![1, 1, 8]⟩
abbrev S8448x2x8 : Shape := ⟨3, ![8448, 2, 8]⟩
abbrev S8448x128 : Shape := ⟨2, ![8448, 128]⟩

abbrev nBuf : Space → Nat
  | .hbm => 51
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S4096x8, .f32⟩
  | .hbm, ⟨3, _⟩ => ⟨S8448x4096, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x4096, .f32⟩
  | .hbm, ⟨15, _⟩ => ⟨S8448x4096, .f32⟩
  | .hbm, ⟨16, _⟩ => ⟨S1x4096, .f32⟩
  | .hbm, ⟨17, _⟩ => ⟨S8448x4096, .f32⟩
  | .hbm, ⟨18, _⟩ => ⟨S8448x4096, .f32⟩
  | .hbm, ⟨19, _⟩ => ⟨S8448x8, .f32⟩
  | .hbm, ⟨20, _⟩ => ⟨S8448x2, .f32⟩
  | .hbm, ⟨21, _⟩ => ⟨S8448x2, .i32⟩
  | .hbm, ⟨22, _⟩ => ⟨S_, .f32⟩
  | .hbm, ⟨23, _⟩ => ⟨S8448, .f32⟩
  | .hbm, ⟨24, _⟩ => ⟨S_, .f32⟩
  | .hbm, ⟨25, _⟩ => ⟨S8448, .f32⟩
  | .hbm, ⟨26, _⟩ => ⟨S8448, .f32⟩
  | .hbm, ⟨27, _⟩ => ⟨S8448x1, .f32⟩
  | .hbm, ⟨28, _⟩ => ⟨S8448x2, .f32⟩
  | .hbm, ⟨29, _⟩ => ⟨S8448x2, .f32⟩
  | .hbm, ⟨30, _⟩ => ⟨S8448x2, .f32⟩
  | .hbm, ⟨31, _⟩ => ⟨S_, .f32⟩
  | .hbm, ⟨32, _⟩ => ⟨S8448, .f32⟩
  | .hbm, ⟨33, _⟩ => ⟨S8448x1, .f32⟩
  | .hbm, ⟨34, _⟩ => ⟨S8448x2, .f32⟩
  | .hbm, ⟨35, _⟩ => ⟨S8448x2, .f32⟩
  | .hbm, ⟨36, _⟩ => ⟨S8448x2x1, .i32⟩
  | .hbm, ⟨37, _⟩ => ⟨S1x1x8, .i32⟩
  | .hbm, ⟨38, _⟩ => ⟨S8448x2x8, .i32⟩
  | .hbm, ⟨39, _⟩ => ⟨S8448x2x8, .i32⟩
  | .hbm, ⟨40, _⟩ => ⟨S8448x2x8, .i1⟩
  | .hbm, ⟨41, _⟩ => ⟨S8448x2x8, .f32⟩
  | .hbm, ⟨42, _⟩ => ⟨S8448x2x1, .f32⟩
  | .hbm, ⟨43, _⟩ => ⟨S8448x2x8, .f32⟩
  | .hbm, ⟨44, _⟩ => ⟨S8448x2x8, .f32⟩
  | .hbm, ⟨45, _⟩ => ⟨S_, .f32⟩
  | .hbm, ⟨46, _⟩ => ⟨S8448x8, .f32⟩
  | .hbm, ⟨47, _⟩ => ⟨S8448x4096, .bf16⟩
  | .hbm, ⟨48, _⟩ => ⟨S_, .i32⟩
  | .hbm, ⟨49, _⟩ => ⟨S_, .f32⟩
  | .hbm, ⟨50, _⟩ => ⟨S8448x128, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_call1_v0 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Post.lean ====
abbrev S8448x128 : Shape := ⟨2, ![8448, 128]⟩
abbrev S8448x512 : Shape := ⟨2, ![8448, 512]⟩
abbrev S16 : Shape := ⟨1, ![16]⟩
abbrev S512 : Shape := ⟨1, ![512]⟩
abbrev S512x512 : Shape := ⟨2, ![512, 512]⟩
abbrev S128 : Shape := ⟨1, ![128]⟩
abbrev S_ : Shape := ⟨0, ![]⟩
abbrev S1x128 : Shape := ⟨2, ![1, 128]⟩
abbrev S1 : Shape := ⟨1, ![1]⟩
abbrev S2 : Shape := ⟨1, ![2]⟩
abbrev S1x512 : Shape := ⟨2, ![1, 512]⟩
abbrev S2x16x4224 : Shape := ⟨3, ![2, 16, 4224]⟩
abbrev S2x128x4224 : Shape := ⟨3, ![2, 128, 4224]⟩
abbrev S8448x256 : Shape := ⟨2, ![8448, 256]⟩
abbrev S384x128 : Shape := ⟨2, ![384, 128]⟩
abbrev S384x512 : Shape := ⟨2, ![384, 512]⟩
abbrev S1x16x384 : Shape := ⟨3, ![1, 16, 384]⟩
abbrev S1x128x384 : Shape := ⟨3, ![1, 128, 384]⟩
abbrev S384x256 : Shape := ⟨2, ![384, 256]⟩
abbrev S384x1 : Shape := ⟨2, ![384, 1]⟩
abbrev S384x384 : Shape := ⟨2, ![384, 384]⟩
abbrev S128x384 : Shape := ⟨2, ![128, 384]⟩
abbrev S16x384 : Shape := ⟨2, ![16, 384]⟩
abbrev S64x384 : Shape := ⟨2, ![64, 384]⟩
abbrev S1x64x384 : Shape := ⟨3, ![1, 64, 384]⟩
abbrev S384 : Shape := ⟨1, ![384]⟩

abbrev nBuf : Space → Nat
  | .hbm => 21
  | .vmem => 17
  | .smem => 0
  | _ => 0

abbrev bufTy : (tb : Table) → Fin (tcTables nBuf tb) → BufTy
  | .hbm, ⟨0, _⟩ => ⟨S8448x128, .f32⟩
  | .hbm, ⟨1, _⟩ => ⟨S8448x512, .bf16⟩
  | .hbm, ⟨2, _⟩ => ⟨S16, .f32⟩
  | .hbm, ⟨3, _⟩ => ⟨S512, .f32⟩
  | .hbm, ⟨4, _⟩ => ⟨S512x512, .f32⟩
  | .hbm, ⟨5, _⟩ => ⟨S128, .f32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S1x512, .f32⟩
  | .hbm, ⟨15, _⟩ => ⟨S512x512, .bf16⟩
  | .hbm, ⟨16, _⟩ => ⟨S1x128, .f32⟩
  | .hbm, ⟨17, _⟩ => ⟨S2x16x4224, .f32⟩
  | .hbm, ⟨18, _⟩ => ⟨S2x128x4224, .bf16⟩
  | .hbm, ⟨19, _⟩ => ⟨S8448x256, .bf16⟩
  | .hbm, ⟨20, _⟩ => ⟨S8448x256, .bf16⟩
  | .local _ .vmem, ⟨0, _⟩ => ⟨S384x128, .f32⟩
  | .local _ .vmem, ⟨1, _⟩ => ⟨S384x128, .f32⟩
  | .local _ .vmem, ⟨2, _⟩ => ⟨S384x512, .bf16⟩
  | .local _ .vmem, ⟨3, _⟩ => ⟨S384x512, .bf16⟩
  | .local _ .vmem, ⟨4, _⟩ => ⟨S1x128, .f32⟩
  | .local _ .vmem, ⟨5, _⟩ => ⟨S1x512, .f32⟩
  | .local _ .vmem, ⟨6, _⟩ => ⟨S512x512, .bf16⟩
  | .local _ .vmem, ⟨7, _⟩ => ⟨S1x128, .f32⟩
  | .local _ .vmem, ⟨8, _⟩ => ⟨S1x16x384, .f32⟩
  | .local _ .vmem, ⟨9, _⟩ => ⟨S1x16x384, .f32⟩
  | .local _ .vmem, ⟨10, _⟩ => ⟨S1x128x384, .bf16⟩
  | .local _ .vmem, ⟨11, _⟩ => ⟨S1x128x384, .bf16⟩
  | .local _ .vmem, ⟨12, _⟩ => ⟨S384x256, .bf16⟩
  | .local _ .vmem, ⟨13, _⟩ => ⟨S384x256, .bf16⟩
  | .local _ .vmem, ⟨14, _⟩ => ⟨S384x256, .bf16⟩
  | .local _ .vmem, ⟨15, _⟩ => ⟨S384x256, .bf16⟩
  | .local _ .vmem, ⟨16, _⟩ => ⟨S1x128, .f32⟩
  | _, _ => ⟨S8448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PostRefIdeal.lean ====
abbrev S8448x128 : Shape := ⟨2, ![8448, 128]⟩
abbrev S8448x512 : Shape := ⟨2, ![8448, 512]⟩
abbrev S16 : Shape := ⟨1, ![16]⟩
abbrev S512 : Shape := ⟨1, ![512]⟩
abbrev S512x512 : Shape := ⟨2, ![512, 512]⟩
abbrev S128 : Shape := ⟨1, ![128]⟩
abbrev S8448x64 : Shape := ⟨2, ![8448, 64]⟩
abbrev S8448x16 : Shape := ⟨2, ![8448, 16]⟩
abbrev S4224 : Shape := ⟨1, ![4224]⟩
abbrev S_ : Shape := ⟨0, ![]⟩
abbrev S1x16 : Shape := ⟨2, ![1, 16]⟩
abbrev S2x4224x16 : Shape := ⟨3, ![2, 4224, 16]⟩
abbrev S2x16x4224 : Shape := ⟨3, ![2, 16, 4224]⟩
abbrev S1x4224 : Shape := ⟨2, ![1, 4224]⟩
abbrev S4224x1 : Shape := ⟨2, ![4224, 1]⟩
abbrev S4224x4224 : Shape := ⟨2, ![4224, 4224]⟩
abbrev S2x16x1x4224 : Shape := ⟨4, ![2, 16, 1, 4224]⟩
abbrev S2x16x4224x4224 : Shape := ⟨4, ![2, 16, 4224, 4224]⟩
abbrev S2x4224x64 : Shape := ⟨3, ![2, 4224, 64]⟩
abbrev S2x64x4224 : Shape := ⟨3, ![2, 64, 4224]⟩
abbrev S8448 : Shape := ⟨1, ![8448]⟩
abbrev S8448x1 : Shape := ⟨2, ![8448, 1]⟩
abbrev S1x512 : Shape := ⟨2, ![1, 512]⟩
abbrev S8448x256 : Shape := ⟨2, ![8448, 256]⟩
abbrev S8448x2x128 : Shape := ⟨3, ![8448, 2, 128]⟩
abbrev S8448x2 : Shape := ⟨2, ![8448, 2]⟩
abbrev S8448x2x1 : Shape := ⟨3, ![8448, 2, 1]⟩
abbrev S1x1x128 : Shape := ⟨3, ![1, 1, 128]⟩
abbrev S2x128x4224 : Shape := ⟨3, ![2, 128, 4224]⟩

abbrev nBuf : Space → Nat
  | .hbm => 105
  | .vmem => 0
  | .smem => 0
  | _ => 0

abbrev bufTy : (tb : Table) → Fin (tcTables nBuf tb) → BufTy
  | .hbm, ⟨0, _⟩ => ⟨S8448x128, .f32⟩
  | .hbm, ⟨1, _⟩ => ⟨S8448x512, .bf16⟩
  | .hbm, ⟨2, _⟩ => ⟨S16, .f32⟩
  | .hbm, ⟨3, _⟩ => ⟨S512, .f32⟩
  | .hbm, ⟨4, _⟩ => ⟨S512x512, .f32⟩
  | .hbm, ⟨5, _⟩ => ⟨S128, .f32⟩
  | .hbm, ⟨6, _⟩ => ⟨S8448x64, .f32⟩
  | .hbm, ⟨7, _⟩ => ⟨S8448x16, .f32⟩
  | .hbm, ⟨8, _⟩ => ⟨S4224, .i32⟩
  | .hbm, ⟨9, _⟩ => ⟨S_, .i32⟩
  | .hbm, ⟨10, _⟩ => ⟨S4224, .i32⟩
  | .hbm, ⟨11, _⟩ => ⟨S4224, .i1⟩
  | .hbm, ⟨12, _⟩ => ⟨S_, .i32⟩
  | .hbm, ⟨13, _⟩ => ⟨S4224, .i32⟩
  | .hbm, ⟨14, _⟩ => ⟨S4224, .i1⟩
  | .hbm, ⟨15, _⟩ => ⟨S4224, .i1⟩
  | .hbm, ⟨16, _⟩ => ⟨S1x16, .f32⟩
  | .hbm, ⟨17, _⟩ => ⟨S8448x16, .f32⟩
  | .hbm, ⟨18, _⟩ => ⟨S8448x16, .f32⟩
  | .hbm, ⟨19, _⟩ => ⟨S8448x16, .f32⟩
  | .hbm, ⟨20, _⟩ => ⟨S_, .f32⟩
  | .hbm, ⟨21, _⟩ => ⟨S8448x16, .f32⟩
  | .hbm, ⟨22, _⟩ => ⟨S8448x16, .f32⟩
  | .hbm, ⟨23, _⟩ => ⟨S8448x16, .f32⟩
  | .hbm, ⟨24, _⟩ => ⟨S8448x16, .f32⟩
  | .hbm, ⟨25, _⟩ => ⟨S8448x16, .i1⟩
  | .hbm, ⟨26, _⟩ => ⟨S8448x16, .f32⟩
  | .hbm, ⟨27, _⟩ => ⟨S8448x16, .f32⟩
  | .hbm, ⟨28, _⟩ => ⟨S8448x16, .f32⟩
  | .hbm, ⟨29, _⟩ => ⟨S8448x16, .f32⟩
  | .hbm, ⟨30, _⟩ => ⟨S8448x16, .f32⟩
  | .hbm, ⟨31, _⟩ => ⟨S8448x16, .f32⟩
  | .hbm, ⟨32, _⟩ => ⟨S8448x16, .f32⟩
  | .hbm, ⟨33, _⟩ => ⟨S8448x16, .f32⟩
  | .hbm, ⟨34, _⟩ => ⟨S8448x16, .f32⟩
  | .hbm, ⟨35, _⟩ => ⟨S2x4224x16, .f32⟩
  | .hbm, ⟨36, _⟩ => ⟨S2x16x4224, .f32⟩
  | .hbm, ⟨37, _⟩ => ⟨S_, .f32⟩
  | .hbm, ⟨38, _⟩ => ⟨S_, .f32⟩
  | .hbm, ⟨39, _⟩ => ⟨S2x16x4224, .i1⟩
  | .hbm, ⟨40, _⟩ => ⟨S2x16x4224, .f32⟩
  | .hbm, ⟨41, _⟩ => ⟨S2x16x4224, .f32⟩
  | .hbm, ⟨42, _⟩ => ⟨S1x4224, .i32⟩
  | .hbm, ⟨43, _⟩ => ⟨S4224x1, .i32⟩
  | .hbm, ⟨44, _⟩ => ⟨S4224x4224, .i32⟩
  | .hbm, ⟨45, _⟩ => ⟨S4224x4224, .i32⟩
  | .hbm, ⟨46, _⟩ => ⟨S4224x4224, .i1⟩
  | .hbm, ⟨47, _⟩ => ⟨S2x16x1x4224, .f32⟩
  | .hbm, ⟨48, _⟩ => ⟨S_, .f32⟩
  | .hbm, ⟨49, _⟩ => ⟨S_, .f32⟩
  | .hbm, ⟨50, _⟩ => ⟨S2x16x4224x4224, .i1⟩
  | .hbm, ⟨51, _⟩ => ⟨S2x16x4224x4224, .f32⟩
  | .hbm, ⟨52, _⟩ => ⟨S2x16x4224x4224, .f32⟩
  | .hbm, ⟨53, _⟩ => ⟨S2x16x4224x4224, .f32⟩
  | .hbm, ⟨54, _⟩ => ⟨S_, .f32⟩
  | .hbm, ⟨55, _⟩ => ⟨S2x16x4224, .f32⟩
  | .hbm, ⟨56, _⟩ => ⟨S_, .f32⟩
  | .hbm, ⟨57, _⟩ => ⟨S_, .f32⟩
  | .hbm, ⟨58, _⟩ => ⟨S2x16x4224, .i1⟩
  | .hbm, ⟨59, _⟩ => ⟨S2x16x4224, .f32⟩
  | .hbm, ⟨60, _⟩ => ⟨S2x16x4224, .f32⟩
  | .hbm, ⟨61, _⟩ => ⟨S2x4224x64, .f32⟩
  | .hbm, ⟨62, _⟩ => ⟨S2x64x4224, .f32⟩
  | .hbm, ⟨63, _⟩ => ⟨S8448x512, .f32⟩
  | .hbm, ⟨64, _⟩ => ⟨S8448x512, .f32⟩
  | .hbm, ⟨65, _⟩ => ⟨S_, .f32⟩
  | .hbm, ⟨66, _⟩ => ⟨S8448, .f32⟩
  | .hbm, ⟨67, _⟩ => ⟨S8448x1, .f32⟩
  | .hbm, ⟨68, _⟩ => ⟨S_, .f32⟩
  | .hbm, ⟨69, _⟩ => ⟨S8448x1, .f32⟩
  | .hbm, ⟨70, _⟩ => ⟨S8448x1, .f32⟩
  | .hbm, ⟨71, _⟩ => ⟨S_, .f32⟩
  | .hbm, ⟨72, _⟩ => ⟨S8448x1, .f32⟩
  | .hbm, ⟨73, _⟩ => ⟨S8448x1, .f32⟩
  | .hbm, ⟨74, _⟩ => ⟨S8448x1, .f32⟩
  | .hbm, ⟨75, _⟩ => ⟨S8448x512, .f32⟩
  | .hbm, ⟨76, _⟩ => ⟨S8448x512, .f32⟩
  | .hbm, ⟨77, _⟩ => ⟨S1x512, .f32⟩
  | .hbm, ⟨78, _⟩ => ⟨S8448x512, .f32⟩
  | .hbm, ⟨79, _⟩ => ⟨S8448x512, .f32⟩
  | .hbm, ⟨80, _⟩ => ⟨S8448x512, .f32⟩
  | .hbm, ⟨81, _⟩ => ⟨S8448x256, .f32⟩
  | .hbm, ⟨82, _⟩ => ⟨S8448x256, .f32⟩
  | .hbm, ⟨83, _⟩ => ⟨S8448x2x128, .f32⟩
  | .hbm, ⟨84, _⟩ => ⟨S8448x2x128, .f32⟩
  | .hbm, ⟨85, _⟩ => ⟨S_, .f32⟩
  | .hbm, ⟨86, _⟩ => ⟨S8448x2, .f32⟩
  | .hbm, ⟨87, _⟩ => ⟨S8448x2x1, .f32⟩
  | .hbm, ⟨88, _⟩ => ⟨S_, .f32⟩
  | .hbm, ⟨89, _⟩ => ⟨S8448x2x1, .f32⟩
  | .hbm, ⟨90, _⟩ => ⟨S8448x2x1, .f32⟩
  | .hbm, ⟨91, _⟩ => ⟨S_, .f32⟩
  | .hbm, ⟨92, _⟩ => ⟨S8448x2x1, .f32⟩
  | .hbm, ⟨93, _⟩ => ⟨S8448x2x1, .f32⟩
  | .hbm, ⟨94, _⟩ => ⟨S8448x2x1, .f32⟩
  | .hbm, ⟨95, _⟩ => ⟨S8448x2x128, .f32⟩
  | .hbm, ⟨96, _⟩ => ⟨S8448x2x128, .f32⟩
  | .hbm, ⟨97, _⟩ => ⟨S1x1x128, .f32⟩
  | .hbm, ⟨98, _⟩ => ⟨S8448x2x128, .f32⟩
  | .hbm, ⟨99, _⟩ => ⟨S8448x2x128, .f32⟩
  | .hbm, ⟨100, _⟩ => ⟨S2x128x4224, .f32⟩
  | .hbm, ⟨101, _⟩ => ⟨S2x128x4224, .bf16⟩
  | .hbm, ⟨102, _⟩ => ⟨S8448x256, .f32⟩
  | .hbm, ⟨103, _⟩ => ⟨S8448x256, .bf16⟩
  | .hbm, ⟨104, _⟩ => ⟨S8448x256, .bf16⟩
  | _, _ => ⟨S8448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_1 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_v21 : Ref sig .tc := ⟨.hbm, 53, rfl⟩
abbrev main_cst_2 : Ref sig .tc := ⟨.hbm, 54, rfl⟩
abbrev main_v22 : Ref sig .tc := ⟨.hbm, 55, rfl⟩
abbrev main_cst_3 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_4 : Ref sig .tc := ⟨.hbm, 65, rfl⟩
abbrev main_v28 : Ref sig .tc := ⟨.hbm, 66, rfl⟩
abbrev main_v29 : Ref sig .tc := ⟨.hbm, 67, rfl⟩
abbrev main_cst_5 : Ref sig .tc := ⟨.hbm, 68, rfl⟩
abbrev main_v30 : Ref sig .tc := ⟨.hbm, 69, rfl⟩
abbrev main_v31 : Ref sig .tc := ⟨.hbm, 70, rfl⟩
abbrev main_cst_6 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_7 : Ref sig .tc := ⟨.hbm, 85, rfl⟩
abbrev main_v45 : Ref sig .tc := ⟨.hbm, 86, rfl⟩
abbrev main_v46 : Ref sig .tc := ⟨.hbm, 87, rfl⟩
abbrev main_cst_8 : Ref sig .tc := ⟨.hbm, 88, rfl⟩
abbrev main_v47 : Ref sig .tc := ⟨.hbm, 89, rfl⟩
abbrev main_v48 : Ref sig .tc := ⟨.hbm, 90, rfl⟩
abbrev main_cst_9 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩

abbrev nD : Nat := 1
abbrev τ : Topo := Topo.v7x

variable {F : FTy → Type} [FloatOps F]
-- ==== Bias.lean ====
abbrev S32x16 : Shape := ⟨2, ![32, 16]⟩
abbrev S3x1x32768 : Shape := ⟨3, ![3, 1, 32768]⟩
abbrev S_ : Shape := ⟨0, ![]⟩
abbrev S16x128 : Shape := ⟨2, ![16, 128]⟩
abbrev S16x32 : Shape := ⟨2, ![16, 32]⟩
abbrev S1 : Shape := ⟨1, ![1]⟩
abbrev S3x16x32768 : Shape := ⟨3, ![3, 16, 32768]⟩
abbrev S1x1x4096 : Shape := ⟨3, ![1, 1, 4096]⟩
abbrev S1x16x4096 : Shape := ⟨3, ![1, 16, 4096]⟩
abbrev S1x4096 : Shape := ⟨2, ![1, 4096]⟩
abbrev S128x4096 : Shape := ⟨2, ![128, 4096]⟩
abbrev S16x1 : Shape := ⟨2, ![16, 1]⟩
abbrev S16x4096 : Shape := ⟨2, ![16, 4096]⟩

abbrev nBuf : Space → Nat
  | .hbm => 9
  | .vmem => 5
  | .smem => 0
  | _ => 0

abbrev bufTy : (tb : Table) → Fin (tcTables nBuf tb) → BufTy
  | .hbm, ⟨0, _⟩ => ⟨S32x16, .f32⟩
  | .hbm, ⟨1, _⟩ => ⟨S3x1x32768, .i32⟩
  | .hbm, ⟨2, _⟩ => ⟨S_, .f32⟩
  | .hbm, ⟨3, _⟩ => ⟨S16x128, .f32⟩
  | .hbm, ⟨4, _⟩ => ⟨S16x32, .f32⟩
  | .hbm, ⟨5, _⟩ => ⟨S_, .i32⟩
  | .hbm, ⟨6, _⟩ => ⟨S1, .i32⟩
  | .hbm, ⟨7, _⟩ => ⟨S16x128, .f32⟩
  | .hbm, ⟨8, _⟩ => ⟨S3x16x32768, .f32⟩
  | .local _ .vmem, ⟨0, _⟩ => ⟨S1x1x4096, .i32⟩
  | .local _ .vmem, ⟨1, _⟩ => ⟨S1x1x4096, .i32⟩
  | .local _ .vmem, ⟨2, _⟩ => ⟨S16x128, .f32⟩
  | .local _ .vmem, ⟨3, _⟩ => ⟨S1x16x4096, .f32⟩
  | .local _ .vmem, ⟨4, _⟩ => ⟨S1x16x4096, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BiasRefIdeal.lean ====
abbrev S32x16 : Shape := ⟨2, ![32, 16]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S_ : Shape := ⟨0, ![]⟩
abbrev S128x256 : Shape := ⟨2, ![128, 256]⟩
abbrev S1x128x256 : Shape := ⟨3, ![1, 128, 256]⟩
abbrev S3x128x256 : Shape := ⟨3, ![3, 128, 256]⟩
abbrev S98304 : Shape := ⟨1, ![98304]⟩
abbrev S98304x1 : Shape := ⟨2, ![98304, 1]⟩
abbrev S98304x16 : Shape := ⟨2, ![98304, 16]⟩
abbrev S1 : Shape := ⟨1, ![1]⟩
abbrev S1x1 : Shape := ⟨2, ![1, 1]⟩
abbrev S1x16 : Shape := ⟨2, ![1, 16]⟩
abbrev S3x32768x16 : Shape := ⟨3, ![3, 32768, 16]⟩
abbrev S3x16x32768 : Shape := ⟨3, ![3, 16, 32768]⟩

abbrev nBuf : Space → Nat
  | .hbm => 124
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S128, .i32⟩
  | .hbm, ⟨2, _⟩ => ⟨S1x128, .i32⟩
  | .hbm, ⟨3, _⟩ => ⟨S128, .i32⟩
  | .hbm, ⟨4, _⟩ => ⟨S128x1, .i32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x256, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x256, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x256, .i32⟩
  | .hbm, ⟨20, _⟩ => ⟨S1x128x256, .i32⟩
  | .hbm, ⟨21, _⟩ => ⟨S1x128x256, .i32⟩
  | .hbm, ⟨22, _⟩ => ⟨S1x128x256, .i32⟩
  | .hbm, ⟨23, _⟩ => ⟨S3x128x256, .i32⟩
  | .hbm, ⟨24, _⟩ => ⟨S98304, .i32⟩
  | .hbm, ⟨25, _⟩ => ⟨S_, .i32⟩
  | .hbm, ⟨26, _⟩ => ⟨S98304, .i32⟩
  | .hbm, ⟨27, _⟩ => ⟨S98304, .i1⟩
  | .hbm, ⟨28, _⟩ => ⟨S_, .i32⟩
  | .hbm, ⟨29, _⟩ => ⟨S_, .i32⟩
  | .hbm, ⟨30, _⟩ => ⟨S98304, .i32⟩
  | .hbm, ⟨31, _⟩ => ⟨S98304, .i32⟩
  | .hbm, ⟨32, _⟩ => ⟨S98304, .i32⟩
  | .hbm, ⟨33, _⟩ => ⟨S98304, .i32⟩
  | .hbm, ⟨34, _⟩ => ⟨S_, .i32⟩
  | .hbm, ⟨35, _⟩ => ⟨S98304, .i32⟩
  | .hbm, ⟨36, _⟩ => ⟨S98304, .i32⟩
  | .hbm, ⟨37, _⟩ => ⟨S98304, .f32⟩
  | .hbm, ⟨38, _⟩ => ⟨S_, .f32⟩
  | .hbm, ⟨39, _⟩ => ⟨S98304, .f32⟩
  | .hbm, ⟨40, _⟩ => ⟨S98304, .f32⟩
  | .hbm, ⟨41, _⟩ => ⟨S98304, .f32⟩
  | .hbm, ⟨42, _⟩ => ⟨S_, .f32⟩
  | .hbm, ⟨43, _⟩ => ⟨S_, .f32⟩
  | .hbm, ⟨44, _⟩ => ⟨S98304, .f32⟩
  | .hbm, ⟨45, _⟩ => ⟨S98304, .f32⟩
  | .hbm, ⟨46, _⟩ => ⟨S_, .f32⟩
  | .hbm, ⟨47, _⟩ => ⟨S98304, .f32⟩
  | .hbm, ⟨48, _⟩ => ⟨S98304, .f32⟩
  | .hbm, ⟨49, _⟩ => ⟨S98304, .i32⟩
  | .hbm, ⟨50, _⟩ => ⟨S_, .i32⟩
  | .hbm, ⟨51, _⟩ => ⟨S98304, .i32⟩
  | .hbm, ⟨52, _⟩ => ⟨S98304, .i32⟩
  | .hbm, ⟨53, _⟩ => ⟨S_, .i32⟩
  | .hbm, ⟨54, _⟩ => ⟨S98304, .i32⟩
  | .hbm, ⟨55, _⟩ => ⟨S98304, .i32⟩
  | .hbm, ⟨56, _⟩ => ⟨S_, .i32⟩
  | .hbm, ⟨57, _⟩ => ⟨S98304, .i32⟩
  | .hbm, ⟨58, _⟩ => ⟨S98304, .i1⟩
  | .hbm, ⟨59, _⟩ => ⟨S98304, .i32⟩
  | .hbm, ⟨60, _⟩ => ⟨S98304, .i32⟩
  | .hbm, ⟨61, _⟩ => ⟨S98304, .i32⟩
  | .hbm, ⟨62, _⟩ => ⟨S_, .i32⟩
  | .hbm, ⟨63, _⟩ => ⟨S98304, .i32⟩
  | .hbm, ⟨64, _⟩ => ⟨S98304, .i1⟩
  | .hbm, ⟨65, _⟩ => ⟨S_, .i32⟩
  | .hbm, ⟨66, _⟩ => ⟨S98304, .i32⟩
  | .hbm, ⟨67, _⟩ => ⟨S98304, .i32⟩
  | .hbm, ⟨68, _⟩ => ⟨S98304, .i32⟩
  | .hbm, ⟨69, _⟩ => ⟨S98304x1, .i32⟩
  | .hbm, ⟨70, _⟩ => ⟨S98304x16, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S1, .i1⟩
  | .hbm, ⟨76, _⟩ => ⟨S_, .i32⟩
  | .hbm, ⟨77, _⟩ => ⟨S_, .i32⟩
  | .hbm, ⟨78, _⟩ => ⟨S1, .i32⟩
  | .hbm, ⟨79, _⟩ => ⟨S1, .i32⟩
  | .hbm, ⟨80, _⟩ => ⟨S1, .i32⟩
  | .hbm, ⟨81, _⟩ => ⟨S1, .i32⟩
  | .hbm, ⟨82, _⟩ => ⟨S_, .i32⟩
  | .hbm, ⟨83, _⟩ => ⟨S1, .i32⟩
  | .hbm, ⟨84, _⟩ => ⟨S1, .i32⟩
  | .hbm, ⟨85, _⟩ => ⟨S1, .f32⟩
  | .hbm, ⟨86, _⟩ => ⟨S_, .f32⟩
  | .hbm, ⟨87, _⟩ => ⟨S1, .f32⟩
  | .hbm, ⟨88, _⟩ => ⟨S1, .f32⟩
  | .hbm, ⟨89, _⟩ => ⟨S1, .f32⟩
  | .hbm, ⟨90, _⟩ => ⟨S_, .f32⟩
  | .hbm, ⟨91, _⟩ => ⟨S_, .f32⟩
  | .hbm, ⟨92, _⟩ => ⟨S1, .f32⟩
  | .hbm, ⟨93, _⟩ => ⟨S1, .f32⟩
  | .hbm, ⟨94, _⟩ => ⟨S_, .f32⟩
  | .hbm, ⟨95, _⟩ => ⟨S1, .f32⟩
  | .hbm, ⟨96, _⟩ => ⟨S1, .f32⟩
  | .hbm, ⟨97, _⟩ => ⟨S1, .i32⟩
  | .hbm, ⟨98, _⟩ => ⟨S_, .i32⟩
  | .hbm, ⟨99, _⟩ => ⟨S1, .i32⟩
  | .hbm, ⟨100, _⟩ => ⟨S1, .i32⟩
  | .hbm, ⟨101, _⟩ => ⟨S_, .i32⟩
  | .hbm, ⟨102, _⟩ => ⟨S1, .i32⟩
  | .hbm, ⟨103, _⟩ => ⟨S1, .i32⟩
  | .hbm, ⟨104, _⟩ => ⟨S_, .i32⟩
  | .hbm, ⟨105, _⟩ => ⟨S1, .i32⟩
  | .hbm, ⟨106, _⟩ => ⟨S1, .i1⟩
  | .hbm, ⟨107, _⟩ => ⟨S1, .i32⟩
  | .hbm, ⟨108, _⟩ => ⟨S1, .i32⟩
  | .hbm, ⟨109, _⟩ => ⟨S1, .i32⟩
  | .hbm, ⟨110, _⟩ => ⟨S1, .i32⟩
  | .hbm, ⟨111, _⟩ => ⟨S_, .i32⟩
  | .hbm, ⟨112, _⟩ => ⟨S1, .i32⟩
  | .hbm, ⟨113, _⟩ => ⟨S1, .i1⟩
  | .hbm, ⟨114, _⟩ => ⟨S_, .i32⟩
  | .hbm, ⟨115, _⟩ => ⟨S1, .i32⟩
  | .hbm, ⟨116, _⟩ => ⟨S1, .i32⟩
  | .hbm, ⟨117, _⟩ => ⟨S1, .i32⟩
  | .hbm, ⟨118, _⟩ => ⟨S1x1, .i32⟩
  | .hbm, ⟨119, _⟩ => ⟨S1x16, .f32⟩
  | .hbm, ⟨120, _⟩ => ⟨S98304x16, .f32⟩
  | .hbm, ⟨121, _⟩ => ⟨S98304x16, .f32⟩
  | .hbm, ⟨122, _⟩ => ⟨S3x32768x16, .f32⟩
  | .hbm, ⟨123, _⟩ => ⟨S3x16x32768, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_2 : Ref sig .tc := ⟨.hbm, 25, rfl⟩
abbrev main_v21 : Ref sig .tc := ⟨.hbm, 26, rfl⟩
abbrev main_v22 : Ref sig .tc := ⟨.hbm, 27, rfl⟩
abbrev main_c_3 : Ref sig .tc := ⟨.hbm, 28, rfl⟩
abbrev main_c_4 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_8 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_c_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_11 : Ref sig .tc := ⟨.hbm, 62, rfl⟩
abbrev main_v46 : Ref sig .tc := ⟨.hbm, 63, rfl⟩
abbrev main_v47 : Ref sig .tc := ⟨.hbm, 64, rfl⟩
abbrev main_c_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_13 : Ref sig .tc := ⟨.hbm, 71, rfl⟩
abbrev main_v53 : Ref sig .tc := ⟨.hbm, 72, rfl⟩
abbrev main_c_14 : Ref sig .tc := ⟨.hbm, 73, rfl⟩
abbrev main_v54 : Ref sig .tc := ⟨.hbm, 74, rfl⟩
abbrev main_v55 : Ref sig .tc := ⟨.hbm, 75, rfl⟩
abbrev main_c_15 : Ref sig .tc := ⟨.hbm, 76, rfl⟩
abbrev main_c_16 : Ref sig .tc := ⟨.hbm, 77, rfl⟩
abbrev main_call2_v0 : Ref sig .tc := ⟨.hbm, 78, rfl⟩
abbrev main_call2_v1 : Ref sig .tc := ⟨.hbm, 79, rfl⟩
abbrev main_v56 : Ref sig .tc := ⟨.hbm, 80, rfl⟩
abbrev main_v57 : Ref sig .tc := ⟨.hbm, 81, rfl⟩
abbrev main_c_17 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_20 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_21 : Ref sig .tc := ⟨.hbm, 98, rfl⟩
abbrev main_v70 : Ref sig .tc := ⟨.hbm, 99, rfl⟩
abbrev main_v71 : Ref sig .tc := ⟨.hbm, 100, rfl⟩
abbrev main_c_22 : Ref sig .tc := ⟨.hbm, 101, rfl⟩
abbrev main_v72 : Ref sig .tc := ⟨.hbm, 102, rfl⟩
abbrev main_v73 : Ref sig .tc := ⟨.hbm, 103, rfl⟩
abbrev main_c_23 : Ref sig .tc := ⟨.hbm, 104, rfl⟩
abbrev main_v74 : Ref sig .tc := ⟨.hbm, 105, rfl⟩
abbrev main_v75 : Ref sig .tc := ⟨.hbm, 106, rfl⟩
abbrev main_call3_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_24 : Ref sig .tc := ⟨.hbm, 111, rfl⟩
abbrev main_v79 : Ref sig .tc := ⟨.hbm, 112, rfl⟩
abbrev main_v80 : Ref sig .tc := ⟨.hbm, 113, rfl⟩
abbrev main_c_25 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]
-- ==== Proof.FoxMath.lean ====
module
public import Idealize.ShloMosaic.Lib.Pipeline.ValueKit
public import Idealize.ShloMosaic.Lib.Pointwise
@[expose] public section
noncomputable section
open Idealize.ShloMosaic

/-! The running maximum, running sum and running weighted sum of a softmax taken block by block,
    over the extended reals, and their agreement with the softmax of the whole row. -/

namespace Cert.FoxMath

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem exp_pos {x : EReal} (h : x ≠ ⊥) : 0 < Ideal.exp x := by
  induction x with
  | bot => exact absurd rfl h
  | top => simp
  | coe r => rw [Ideal.exp_coe]; exact_mod_cast Real.exp_pos r

/-- A nonnegative finite factor goes inside a finite sum. -/
theorem mul_sum {ι : Type*} (S : Finset ι) (a : EReal) (h0 : 0 ≤ a) (ht : a ≠ ⊤) (g : ι → EReal) :
    a * ∑ u ∈ S, g u = ∑ u ∈ S, a * g u := by
  classical
  induction S using Finset.induction_on with
  | empty => simp
  | insert x S hx ih => rw [Finset.sum_insert hx, Finset.sum_insert hx, EReal.left_distrib_of_nonneg_of_ne_top h0 ht, ih]

/-- Moving one exponential from the maximum `M` to a larger one `M'`. -/
theorem exp_move (f M M' : EReal) (hf : f ≤ M) (hM : M ≤ M') (ht : M' ≠ ⊤) :
    Ideal.exp (M - M') * Ideal.exp (f - M) = Ideal.exp (f - M') := by
  induction M with
  | bot =>
    obtain rfl : f = ⊥ := le_bot_iff.mp hf
    simp [sub_eq_add_neg]
  | top => exact absurd (top_le_iff.mp hM) ht
  | coe a =>
    induction M' with
    | bot => exact absurd (le_bot_iff.mp hM) (EReal.coe_ne_bot a)
    | top => exact absurd rfl ht
    | coe b =>
      induction f with
      | bot => simp [sub_eq_add_neg]
      | top => exact absurd (top_le_iff.mp hf) (EReal.coe_ne_top a)
      | coe x =>
        rw [← EReal.coe_sub, ← EReal.coe_sub, ← EReal.coe_sub, Ideal.exp_coe, Ideal.exp_coe, Ideal.exp_coe, ← EReal.coe_mul, ← Real.exp_add]
        congr 2
        ring

theorem sub_ne_top {M M' : EReal} (hM : M ≤ M') (ht : M' ≠ ⊤) : M - M' ≠ ⊤ := by
  induction M' with
  | bot => obtain rfl : M = ⊥ := le_bot_iff.mp hM; simp [sub_eq_add_neg]
  | top => exact absurd rfl ht
  | coe b =>
    induction M with
    | bot => simp [sub_eq_add_neg]
    | top => exact absurd (top_le_iff.mp hM) (EReal.coe_ne_top b)
    | coe a => rw [← EReal.coe_sub]; exact EReal.coe_ne_top _

theorem rescale {ι : Type*} (S : Finset ι) (f g : ι → EReal) (M M' : EReal) (hf : ∀ u ∈ S, f u ≤ M) (hM : M ≤ M') (ht : M' ≠ ⊤) :
    Ideal.exp (M - M') * ∑ u ∈ S, Ideal.exp (f u - M) * g u = ∑ u ∈ S, Ideal.exp (f u - M') * g u := by
  rw [mul_sum S _ (exp_nonneg _) (exp_ne_top (sub_ne_top hM ht))]
  refine Finset.sum_congr rfl fun u hu => ?_
  rw [← mul_assoc, exp_move _ _ _ (hf u hu) hM ht]

theorem rescale_one {ι : Type*} (S : Finset ι) (f : ι → EReal) (M M' : EReal) (hf : ∀ u ∈ S, f u ≤ M) (hM : M ≤ M') (ht : M' ≠ ⊤) :
    Ideal.exp (M - M') * ∑ u ∈ S, Ideal.exp (f u - M) = ∑ u ∈ S, Ideal.exp (f u - M') := by
  have h := rescale S f (fun _ => 1) M M' hf hM ht
  simpa using h

/-- The maximum of the first `n` scores. -/
def top (f : ℕ → EReal) (n : ℕ) : EReal := (Finset.range n).sup f
/-- The sum of the first `n` weights, against their own maximum. -/
def mass (f : ℕ → EReal) (n : ℕ) : EReal := ∑ u ∈ Finset.range n, Ideal.exp (f u - top f n)
/-- The weighted sum of the first `n` values, against the scores' own maximum. -/
def wsum (f g : ℕ → EReal) (n : ℕ) : EReal := ∑ u ∈ Finset.range n, Ideal.exp (f u - top f n) * g u

theorem le_top {f : ℕ → EReal} {n u : ℕ} (h : u < n) : f u ≤ top f n := Finset.le_sup (f := f) (Finset.mem_range.mpr h)

theorem top_mono (f : ℕ → EReal) {n n' : ℕ} (h : n ≤ n') : top f n ≤ top f n' :=
  Finset.sup_mono (by intro x hx; rw [Finset.mem_range] at *; omega)

theorem top_ne_top {f : ℕ → EReal} (hf : ∀ u, f u ≠ ⊤) (n : ℕ) : top f n ≠ ⊤ := by
  refine ne_of_lt ?_
  unfold top
  rw [Finset.sup_lt_iff (bot_lt_top)]
  exact fun u _ => lt_top_iff_ne_top.mpr (hf u)

theorem fold_eq_sup {B : ℕ} (f : Fin B → EReal) : Finset.fold max ⊥ f Finset.univ = Finset.univ.sup f := rfl

theorem top_zero (f : ℕ → EReal) : top f 0 = ⊥ := rfl
theorem mass_zero (f : ℕ → EReal) : mass f 0 = 0 := rfl
theorem wsum_zero (f g : ℕ → EReal) : wsum f g 0 = 0 := rfl

theorem top_add (f : ℕ → EReal) (n B : ℕ) :
    max (top f n) (Finset.fold max ⊥ (fun x : Fin B => f (n + x)) Finset.univ) = top f (n + B) := by
  rw [fold_eq_sup]
  refine le_antisymm (max_le (top_mono f (by omega)) (Finset.sup_le fun x _ => le_top (by omega))) ?_
  refine Finset.sup_le fun u hu => ?_
  rw [Finset.mem_range] at hu
  by_cases h : u < n
  · exact le_max_of_le_left (le_top h)
  · refine le_max_of_le_right ?_
    have := Finset.le_sup (f := fun x : Fin B => f (n + x)) (Finset.mem_univ (⟨u - n, by omega⟩ : Fin B))
    simpa [Nat.add_sub_cancel' (not_lt.mp h)] using this

theorem sum_block (g : ℕ → EReal) (n B : ℕ) : (∑ u ∈ Finset.range n, g u) + ∑ x : Fin B, g (n + x) = ∑ u ∈ Finset.range (n + B), g u := by
  rw [Finset.sum_range_add, Fin.sum_univ_eq_sum_range (fun x => g (n + x))]

theorem mass_add (f : ℕ → EReal) (hf : ∀ u, f u ≠ ⊤) (n B : ℕ) :
    Ideal.exp (top f n - top f (n + B)) * mass f n + ∑ x : Fin B, Ideal.exp (f (n + x) - top f (n + B)) = mass f (n + B) := by
  unfold mass
  rw [rescale_one _ f _ _ (fun u hu => le_top (Finset.mem_range.mp hu)) (top_mono f (by omega)) (top_ne_top hf _)]
  exact sum_block (fun u => Ideal.exp (f u - top f (n + B))) n B

theorem wsum_add (f g : ℕ → EReal) (hf : ∀ u, f u ≠ ⊤) (n B : ℕ) :
    Ideal.exp (top f n - top f (n + B)) * wsum f g n + ∑ x : Fin B, Ideal.exp (f (n + x) - top f (n + B)) * g (n + x) = wsum f g (n + B) := by
  unfold wsum
  rw [rescale _ f g _ _ (fun u hu => le_top (Finset.mem_range.mp hu)) (top_mono f (by omega)) (top_ne_top hf _)]
  exact sum_block (fun u => Ideal.exp (f u - top f (n + B)) * g u) n B

/-- Scores that end at `n` have the same maximum, mass and weighted sum over any longer range. -/
theorem top_ext {f : ℕ → EReal} {n N : ℕ} (h : n ≤ N) (hz : ∀ u, n ≤ u → f u = ⊥) : top f N = top f n := by
  refine le_antisymm (Finset.sup_le fun u hu => ?_) (top_mono f h)
  by_cases hu : u < n
  · exact le_top hu
  · rw [hz u (by omega)]; exact bot_le

theorem mass_ext {f : ℕ → EReal} {n N : ℕ} (h : n ≤ N) (hz : ∀ u, n ≤ u → f u = ⊥) : mass f N = mass f n := by
  unfold mass
  rw [top_ext h hz]
  refine (Finset.sum_subset (fun x hx => by rw [Finset.mem_range] at *; omega) fun u _ hu => ?_).symm
  rw [hz u (by rw [Finset.mem_range] at hu; omega)]
  simp [sub_eq_add_neg]

theorem wsum_ext {f g : ℕ → EReal} {n N : ℕ} (h : n ≤ N) (hz : ∀ u, n ≤ u → f u = ⊥) : wsum f g N = wsum f g n := by
  unfold wsum
  rw [top_ext h hz]
  refine (Finset.sum_subset (fun x hx => by rw [Finset.mem_range] at *; omega) fun u _ hu => ?_).symm
  rw [hz u (by rw [Finset.mem_range] at hu; omega)]
  simp [sub_eq_add_neg]

theorem top_shift (f : ℕ → EReal) (n : ℕ) (a : ℝ) : top (fun u => f u + a) n = top f n + a := by
  unfold top
  induction n with
  | zero => simp
  | succ n ih =>
    rw [Finset.range_add_one, Finset.sup_insert, Finset.sup_insert, ih]
    exact ((monotone_id.add_const (a : EReal)).map_sup _ _).symm

theorem shift_sub (x M : EReal) (a : ℝ) : x + a - (M + a) = x - M := by
  induction M with
  | bot => induction x <;> simp [sub_eq_add_neg, ← EReal.coe_add]
  | top => induction x <;> simp [sub_eq_add_neg, ← EReal.coe_add]
  | coe y =>
    induction x with
    | bot => simp [sub_eq_add_neg]
    | top => simp only [EReal.top_add_coe, ← EReal.coe_add, EReal.top_sub_coe]
    | coe z => rw [← EReal.coe_add, ← EReal.coe_add, ← EReal.coe_sub, ← EReal.coe_sub]; congr 1; ring

theorem inv_nonneg' {x : EReal} (h : 0 ≤ x) : 0 ≤ x⁻¹ := EReal.inv_nonneg_of_nonneg h

theorem inv_ne_top (x : EReal) : x⁻¹ ≠ ⊤ := by
  induction x with
  | bot => simp
  | top => simp
  | coe r => rw [← EReal.coe_inv]; exact EReal.coe_ne_top _

theorem mass_pos {f : ℕ → EReal} (hf : ∀ u, f u ≠ ⊤) {n t : ℕ} (ht : t < n) (hb : f t ≠ ⊥) : 0 < mass f n := by
  have hM := top_ne_top hf n
  have hM' : top f n ≠ ⊥ := fun h => hb (le_bot_iff.mp (h ▸ le_top ht))
  refine lt_of_lt_of_le (exp_pos (x := f t - top f n) ?_) (Finset.single_le_sum (f := fun u => Ideal.exp (f u - top f n)) (fun u _ => exp_nonneg _) (Finset.mem_range.mpr ht))
  have h1 := hf t
  generalize top f n = M at *
  generalize f t = x at *
  induction x with
  | bot => exact absurd rfl hb
  | top => exact absurd rfl h1
  | coe a =>
    induction M with
    | bot => exact absurd rfl hM'
    | top => exact absurd rfl hM
    | coe b => rw [← EReal.coe_sub]; exact EReal.coe_ne_bot _

/-- The block by block result is the softmax of the whole row, its scores shifted by a real number, against the values. -/
theorem softmax_eq (f g : ℕ → EReal) (hf : ∀ u, f u ≠ ⊤) (n N t : ℕ) (h : n ≤ N) (ht : t < n) (hb : f t ≠ ⊥) (hz : ∀ u, n ≤ u → f u = ⊥) (a : ℝ) :
    Ideal.div (wsum f g n) (mass f n)
      = ∑ u : Fin N, g u * Ideal.div (Ideal.exp (f u + a - Finset.fold max ⊥ (fun x : Fin N => f x + a) Finset.univ))
          (∑ w : Fin N, Ideal.exp (f w + a - Finset.fold max ⊥ (fun x : Fin N => f x + a) Finset.univ)) := by
  have hfold : Finset.fold max ⊥ (fun x : Fin N => f x + a) Finset.univ = top f N + a := by
    have := top_add (fun u => f u + a) 0 N
    simp only [Nat.zero_add] at this
    rw [← top_shift, ← this, top_zero, max_eq_right bot_le]
  have hp : 0 < mass f N := mass_pos hf (lt_of_lt_of_le ht h) hb
  rw [hfold, ← mass_ext h hz, ← wsum_ext h hz]
  simp only [shift_sub]
  rw [Fin.sum_univ_eq_sum_range (fun w => Ideal.exp (f w - top f N)) N]
  change _ = ∑ u : Fin N, g u * Ideal.div (Ideal.exp (f u - top f N)) (mass f N)
  rw [Fin.sum_univ_eq_sum_range (fun u => g u * Ideal.div (Ideal.exp (f u - top f N)) (mass f N)) N]
  unfold Ideal.div
  simp only [if_neg hp.ne']
  unfold wsum
  rw [mul_comm, mul_sum _ _ (inv_nonneg' hp.le) (inv_ne_top _)]
  refine Finset.sum_congr rfl fun u _ => ?_
  rw [mul_comm, mul_comm (Ideal.exp _) (g u), mul_assoc]

/-- One query's score against the key at position `u`: the product less the key's bias, up to the query's own position `t`. -/
def key {D T : ℕ} (Q : Fin D → EReal) (K : Fin T → Fin D → EReal) (C : Fin T → EReal) (t u : ℕ) : EReal :=
  if h : u < T then (if u ≤ t then (∑ x, Q x * K ⟨u, h⟩ x) - C ⟨u, h⟩ else ⊥) else ⊥

/-- A row of values by position. -/
def val {T : ℕ} (V : Fin T → EReal) (u : ℕ) : EReal := if h : u < T then V ⟨u, h⟩ else 0

/-- An extended real that is a real number. -/
def IsReal (x : EReal) : Prop := x ≠ ⊥ ∧ x ≠ ⊤

theorem IsReal.exists {x : EReal} (h : IsReal x) : ∃ a : ℝ, x = a := ⟨x.toReal, (EReal.coe_toReal h.2 h.1).symm⟩

theorem isReal_coe (a : ℝ) : IsReal (a : EReal) := ⟨EReal.coe_ne_bot a, EReal.coe_ne_top a⟩

theorem IsReal.mul {x y : EReal} (hx : IsReal x) (hy : IsReal y) : IsReal (x * y) := by
  obtain ⟨a, rfl⟩ := hx.exists
  obtain ⟨b, rfl⟩ := hy.exists
  rw [← EReal.coe_mul]; exact isReal_coe _

theorem IsReal.sub {x y : EReal} (hx : IsReal x) (hy : IsReal y) : IsReal (x - y) := by
  obtain ⟨a, rfl⟩ := hx.exists
  obtain ⟨b, rfl⟩ := hy.exists
  rw [← EReal.coe_sub]; exact isReal_coe _

theorem IsReal.sum {ι : Type*} (S : Finset ι) {f : ι → EReal} (hf : ∀ u, IsReal (f u)) : IsReal (∑ u ∈ S, f u) := by
  choose g hg using fun u => (hf u).exists
  have : ∑ u ∈ S, f u = ((∑ u ∈ S, g u : ℝ) : EReal) := by
    classical
    induction S using Finset.induction_on with
    | empty => simp
    | insert x S hx ih => rw [Finset.sum_insert hx, Finset.sum_insert hx, ih, hg x, EReal.coe_add]
  rw [this]; exact isReal_coe _

section
variable {D T : ℕ} {Q : Fin D → EReal} {K : Fin T → Fin D → EReal} {C : Fin T → EReal}

theorem score_real (hQ : ∀ x, IsReal (Q x)) (hK : ∀ u x, IsReal (K u x)) (hC : ∀ u, IsReal (C u)) (u : Fin T) :
    IsReal ((∑ x, Q x * K u x) - C u) :=
  (IsReal.sum _ fun x => (hQ x).mul (hK u x)).sub (hC u)

theorem key_ne_top (hQ : ∀ x, IsReal (Q x)) (hK : ∀ u x, IsReal (K u x)) (hC : ∀ u, IsReal (C u)) (t u : ℕ) :
    key Q K C t u ≠ ⊤ := by
  unfold key
  split_ifs
  · exact (score_real hQ hK hC _).2
  · exact bot_ne_top
  · exact bot_ne_top

theorem key_self (hQ : ∀ x, IsReal (Q x)) (hK : ∀ u x, IsReal (K u x)) (hC : ∀ u, IsReal (C u)) {t : ℕ} (h : t < T) :
    key Q K C t t ≠ ⊥ := by
  unfold key
  rw [dif_pos h, if_pos le_rfl]
  exact (score_real hQ hK hC _).1

theorem key_of_le {t u : ℕ} (h : u < T) (ht : u ≤ t) : key Q K C t u = (∑ x, Q x * K ⟨u, h⟩ x) - C ⟨u, h⟩ := by
  unfold key
  rw [dif_pos h, if_pos ht]

theorem key_of_lt {t u : ℕ} (ht : t < u) : key Q K C t u = ⊥ := by
  unfold key
  split_ifs with h h'
  · exact absurd h' (by omega)
  · rfl
  · rfl
end

end Cert.FoxMath
-- ==== Proof.FoxBody.lean ====
module
public import proofs.«01_k».proof.Proof.Gen.KernelIdeal.Value
public import Idealize.ShloMosaic.Lib.Pipeline.ValueKit
public import Idealize.ShloMosaic.Lib.Pointwise
public import Idealize.ShloMosaic.Lib.WordCmp
public import proofs.«01_k».proof.Proof.FoxMath
@[expose] public section
set_option maxRecDepth 16384
noncomputable section
open Idealize.ShloMosaic Idealize.ShloMosaic.TcCoe Idealize.SL.Sem
open Idealize.ShloMosaic.Pipeline (Dat)

/-! The attention kernel's body at one grid point: what its loop carries, what it stores. -/

namespace Cert.KernelIdeal.Fox
open Cert.KernelIdeal Cert.KernelIdeal.Gen
variable (m : (ℓ : Loc nD τ sig) → Buf (Elt Ideal) ℓ)

section Body
variable (c : Dev nD) (i : grid0.Coords) (arg3 : Memref sig .tc .vmem S1x384x128 .bf16) (harg3 : arg3.IsWhole) (arg4 : Memref sig .tc .vmem S1x4224x128 .bf16) (harg4 : arg4.IsWhole) (arg5 : Memref sig .tc .vmem S1x4224x128 .bf16) (harg5 : arg5.IsWhole) (arg6 : Memref sig .tc .vmem S1x1x1x4224 .f32) (harg6 : arg6.IsWhole) (arg7 : Memref sig .tc .vmem S1x384x128 .bf16) (harg7 : arg7.IsWhole)
  (v0 : Vec Ideal S1x384x128 .bf16) (x1 x2 : Vec Ideal S1x4224x128 .bf16) (x3 : Vec Ideal S1x1x1x4224 .f32)

theorem trips1 : (k0_t1_loop i).trips = (i 2).val :=
  (by decide +kernel : ∀ a : Fin 11, Scf.trips 0#32 (Scalar.addi 0#32 (Scalar.muli (Scalar.divsi (Scalar.subi (BitVec.ofNat 32 a.val) 0#32) 1#32) 1#32)) 1#32 = a.val) (i 2)

/-- Block `k` of the keys (or values), read from the whole row's window. -/
abbrev rows (x : Vec Ideal S1x4224x128 .bf16) (k : Fin (k0_t1_loop i).trips) : Vec Ideal S1x384x128 .bf16 :=
  View.ld x (Rect.unit (k0_off1 i k) ![1, 384, 128] (k0_off1_inb i k))

/-- Block `k` of the keys' biases. -/
abbrev bias (x : Vec Ideal S1x1x1x4224 .f32) (k : Fin (k0_t1_loop i).trips) : Vec Ideal S1x1x1x384 .f32 :=
  View.ld x (Rect.unit (k0_off2 i k) ![1, 1, 1, 384] (k0_off2_inb i k))

theorem pos_lt (k : Fin (k0_t1_loop i).trips) (x : Fin 384) : 384 * k.val + x.val < 4224 := by
  have h := lt_of_lt_of_eq k.isLt (trips1 i)
  have h2 : (i 2).val < 11 := (i 2).isLt
  omega

theorem rows_at (x : Vec Ideal S1x4224x128 .bf16) (k : Fin (k0_t1_loop i).trips) (u : Fin 384) (d : Fin 128) :
    rows i x k (ix3 0 u d) = x (ix3 0 ⟨384 * k.val + u.val, pos_lt i k u⟩ d) := by
  refine View.ld_unit_apply_of _ _ _ _ _ _ fun a => ?_
  refine Eq.trans ?_ (congrArg (· + _) (congrFun (k0_off1_eq i k) a).symm)
  match a with
  | 0 => rfl
  | 1 => rfl
  | 2 => exact (Nat.zero_add _).symm

theorem bias_at (x : Vec Ideal S1x1x1x4224 .f32) (k : Fin (k0_t1_loop i).trips) (u : Fin 384) :
    bias i x k (ix4 0 0 0 u) = x (ix4 0 0 0 ⟨384 * k.val + u.val, pos_lt i k u⟩) := by
  refine View.ld_unit_apply_of _ _ _ _ _ _ fun a => ?_
  refine Eq.trans ?_ (congrArg (· + _) (congrFun (k0_off2_eq i k) a).symm)
  match a with
  | 0 => rfl
  | 1 => rfl
  | 2 => rfl
  | 3 => rfl

theorem trip_val (k : Fin (k0_t1_loop i).trips) (acc : FVec Ideal S384x1 .f32 × FVec Ideal S384x1 .f32 × FVec Ideal S384x128 .f32) :
    tripR_k0_t1 Variants.none c none i arg3 harg3 arg4 harg4 arg5 harg5 arg6 harg6 arg7 harg7 v0 (harg4.unread x1) (harg5.unread x2) (harg6.unread x3) k acc
      = (k0_pay7 v0 acc.1 (rows i x1 k) (bias i x3 k), k0_pay10 v0 acc.1 acc.2.1 (rows i x1 k) (bias i x3 k),
          k0_pay11 v0 acc.1 acc.2.2 (rows i x1 k) (rows i x2 k) (bias i x3 k)) := by
  unfold tripR_k0_t1 trip_k0_t1
  dsimp only
  simp only [View.readAt_eq_ld, Memref.IsWhole.read_unread]

/-- The scores of query row `r` of this point's block, by key position. -/
abbrev scoreOf (r : Fin 384) : ℕ → EReal :=
  FoxMath.key (fun x : Fin 128 => v0 (ix3 0 r x)) (fun (u : Fin 4224) x => x1 (ix3 0 u x)) (fun u => x3 (ix4 0 0 0 u)) (384 * (i 2).val + r.val)

/-- Column `d` of the values, by position. -/
abbrev colOf (d : Fin 128) : ℕ → EReal := FoxMath.val fun u : Fin 4224 => x2 (ix3 0 u d)

theorem ninf : Ideal.ofBits FTy.f32 0xFF800000#32 = ⊥ := by
  simp [Ideal.ofBits, Ideal.ieee]

theorem mask_bot : Named.named (F := Ideal) κ "mask" (φ := .f32) 0xF149F2CA#32 = (⊥ : EReal) :=
  IdealRules.named_const.ideal_named_scalar _ _ _ _ rfl

theorem pay6_at (k : Fin (k0_t1_loop i).trips) (r u : Fin 384) :
    k0_pay6 v0 (rows i x1 k) (bias i x3 k) (ix2 r u) = scoreOf i v0 x1 x3 r (384 * k.val + u.val) := by
  have hk := lt_of_lt_of_eq k.isLt (trips1 i)
  refine Eq.trans ?_ (FoxMath.key_of_le (pos_lt i k u) (by omega)).symm
  pointwise [k0_pay6, k0_pay2]
  rw [bias_at]
  exact congrArg (· - _) (Finset.sum_congr rfl fun x _ => congrArg (_ * ·) (rows_at i x1 k u x))

theorem pay7_at (k : Fin (k0_t1_loop i).trips) (a : FVec Ideal S384x1 .f32) (r : Fin 384) (ha : a (ix2 r 0) = FoxMath.top (scoreOf i v0 x1 x3 r) (384 * k.val)) :
    k0_pay7 v0 a (rows i x1 k) (bias i x3 k) (ix2 r 0) = FoxMath.top (scoreOf i v0 x1 x3 r) (384 * (k.val + 1)) := by
  have h := FoxMath.top_add (scoreOf i v0 x1 x3 r) (384 * k.val) 384
  rw [Nat.mul_succ, ← h, ← ha, ← ninf]
  pointwise [k0_pay7]
  simp only [pay6_at]

theorem pay10_at (k : Fin (k0_t1_loop i).trips) (a b : FVec Ideal S384x1 .f32) (r : Fin 384) (hf : ∀ u, scoreOf i v0 x1 x3 r u ≠ ⊤)
    (ha : a (ix2 r 0) = FoxMath.top (scoreOf i v0 x1 x3 r) (384 * k.val)) (hb : b (ix2 r 0) = FoxMath.mass (scoreOf i v0 x1 x3 r) (384 * k.val)) :
    k0_pay10 v0 a b (rows i x1 k) (bias i x3 k) (ix2 r 0) = FoxMath.mass (scoreOf i v0 x1 x3 r) (384 * (k.val + 1)) := by
  have h := FoxMath.mass_add (scoreOf i v0 x1 x3 r) hf (384 * k.val) 384
  pointwise [k0_pay10, k0_pay9, k0_pay8]
  simp only [pay6_at, pay7_at i v0 x1 x3 k a r ha]
  rw [ha, hb, Nat.mul_succ, ← h]

theorem pay11_at (k : Fin (k0_t1_loop i).trips) (a : FVec Ideal S384x1 .f32) (b : FVec Ideal S384x128 .f32) (r : Fin 384) (d : Fin 128) (hf : ∀ u, scoreOf i v0 x1 x3 r u ≠ ⊤)
    (ha : a (ix2 r 0) = FoxMath.top (scoreOf i v0 x1 x3 r) (384 * k.val)) (hb : b (ix2 r d) = FoxMath.wsum (scoreOf i v0 x1 x3 r) (colOf x2 d) (384 * k.val)) :
    k0_pay11 v0 a b (rows i x1 k) (rows i x2 k) (bias i x3 k) (ix2 r d) = FoxMath.wsum (scoreOf i v0 x1 x3 r) (colOf x2 d) (384 * (k.val + 1)) := by
  have h := FoxMath.wsum_add (scoreOf i v0 x1 x3 r) (colOf x2 d) hf (384 * k.val) 384
  have hv : ∀ u : Fin 384, colOf x2 d (384 * k.val + u.val) = rows i x2 k (ix3 0 u d) := fun u => by
    rw [rows_at]; exact dif_pos (pos_lt i k u)
  simp only [hv] at h
  pointwise [k0_pay11, k0_pay9, k0_pay8]
  simp only [pay6_at, pay7_at i v0 x1 x3 k a r ha]
  rw [ha, hb, Nat.mul_succ, ← h]

/-- What the loop carries after `k` trips: maximum, mass and weighted values of the first `384 k` keys. -/
theorem carried (r : Fin 384) (hf : ∀ u, scoreOf i v0 x1 x3 r u ≠ ⊤) (k : ℕ) (hk : k ≤ (k0_t1_loop i).trips) :
    (st_k0_t1 Variants.none c none i arg3 harg3 arg4 harg4 arg5 harg5 arg6 harg6 arg7 harg7 v0 (harg4.unread x1) (harg5.unread x2) (harg6.unread x3) (k0_pay3, k0_pay4, k0_pay5) k).1 (ix2 r 0) = FoxMath.top (scoreOf i v0 x1 x3 r) (384 * k)
    ∧ (st_k0_t1 Variants.none c none i arg3 harg3 arg4 harg4 arg5 harg5 arg6 harg6 arg7 harg7 v0 (harg4.unread x1) (harg5.unread x2) (harg6.unread x3) (k0_pay3, k0_pay4, k0_pay5) k).2.1 (ix2 r 0) = FoxMath.mass (scoreOf i v0 x1 x3 r) (384 * k)
    ∧ ∀ d : Fin 128, (st_k0_t1 Variants.none c none i arg3 harg3 arg4 harg4 arg5 harg5 arg6 harg6 arg7 harg7 v0 (harg4.unread x1) (harg5.unread x2) (harg6.unread x3) (k0_pay3, k0_pay4, k0_pay5) k).2.2 (ix2 r d) = FoxMath.wsum (scoreOf i v0 x1 x3 r) (colOf x2 d) (384 * k) := by
  induction k with
  | zero =>
    rw [st_k0_t1_zero]
    refine ⟨?_, ?_, fun d => ?_⟩
    · rw [Nat.mul_zero, FoxMath.top_zero, ← ninf]; pointwise [k0_pay3]
    · rw [Nat.mul_zero, FoxMath.mass_zero]; pointwise [k0_pay4]
    · rw [Nat.mul_zero, FoxMath.wsum_zero]; pointwise [k0_pay5]
  | succ k ih =>
    obtain ⟨h1, h2, h3⟩ := ih (by omega)
    have e := st_k0_t1_succ (F := Ideal) Variants.none c none i arg3 harg3 arg4 harg4 arg5 harg5 arg6 harg6 arg7 harg7 v0 (harg4.unread x1) (harg5.unread x2) (harg6.unread x3) (k0_pay3, k0_pay4, k0_pay5) ⟨k, by omega⟩
    rw [trip_val] at e
    rw [e]
    exact ⟨pay7_at i v0 x1 x3 ⟨k, by omega⟩ _ r h1, pay10_at i v0 x1 x3 ⟨k, by omega⟩ _ _ r hf h1 h2, fun d => pay11_at i v0 x1 x2 x3 ⟨k, by omega⟩ _ _ r d hf h1 (h3 d)⟩

/-- The keys (or values) of the query block's own positions. -/
abbrev ownRows (x : Vec Ideal S1x4224x128 .bf16) : Vec Ideal S1x384x128 .bf16 :=
  View.ld x (Rect.unit (k0_off5 i) ![1, 384, 128] (k0_off5_inb i))

/-- The biases of the query block's own positions. -/
abbrev ownBias (x : Vec Ideal S1x1x1x4224 .f32) : Vec Ideal S1x1x1x384 .f32 :=
  View.ld x (Rect.unit (k0_off6 i) ![1, 1, 1, 384] (k0_off6_inb i))

theorem own_lt (x : Fin 384) : 384 * (i 2).val + x.val < 4224 := by
  have h2 : (i 2).val < 11 := (i 2).isLt
  omega

theorem ownRows_at (x : Vec Ideal S1x4224x128 .bf16) (u : Fin 384) (d : Fin 128) :
    ownRows i x (ix3 0 u d) = x (ix3 0 ⟨384 * (i 2).val + u.val, own_lt i u⟩ d) := by
  refine View.ld_unit_apply_of _ _ _ _ _ _ fun a => ?_
  refine Eq.trans ?_ (congrArg (· + _) (congrFun (k0_off5_eq i) a).symm)
  match a with
  | 0 => rfl
  | 1 => rfl
  | 2 => exact (Nat.zero_add _).symm

theorem ownBias_at (x : Vec Ideal S1x1x1x4224 .f32) (u : Fin 384) :
    ownBias i x (ix4 0 0 0 u) = x (ix4 0 0 0 ⟨384 * (i 2).val + u.val, own_lt i u⟩) := by
  refine View.ld_unit_apply_of _ _ _ _ _ _ fun a => ?_
  refine Eq.trans ?_ (congrArg (· + _) (congrFun (k0_off6_eq i) a).symm)
  match a with
  | 0 => rfl
  | 1 => rfl
  | 2 => rfl
  | 3 => rfl

/-- The masked scores of the query block's own positions. -/
theorem pay19_at (r u : Fin 384) :
    k0_pay19 v0 (ownRows i x1) (ownBias i x3) (ix2 r u) = scoreOf i v0 x1 x3 r (384 * (i 2).val + u.val) := by
  pointwise [k0_pay19, k0_pay2]
  rw [mask_bot, WordCmp.cmpi_sle_ofNat (by have := u.isLt; omega) (by have := r.isLt; omega), ownBias_at]
  by_cases h : u.val ≤ r.val
  · rw [decide_eq_true h]
    refine Eq.trans ?_ (FoxMath.key_of_le (t := 384 * (i 2).val + r.val) (own_lt i u) (by omega)).symm
    exact congrArg (· - _) (Finset.sum_congr rfl fun x _ => congrArg (_ * ·) (ownRows_at i x1 u x))
  · rw [decide_eq_false h]
    exact (FoxMath.key_of_lt (t := 384 * (i 2).val + r.val) (by omega)).symm

theorem pay20_at (a : FVec Ideal S384x1 .f32) (r : Fin 384) (ha : a (ix2 r 0) = FoxMath.top (scoreOf i v0 x1 x3 r) (384 * (i 2).val)) :
    k0_pay20 v0 a (ownRows i x1) (ownBias i x3) (ix2 r 0) = FoxMath.top (scoreOf i v0 x1 x3 r) (384 * (i 2).val + 384) := by
  rw [← FoxMath.top_add, ← ha, ← ninf]
  pointwise [k0_pay20]
  simp only [pay19_at]

/-- What the point stores: the weighted values over the mass of the keys up to this block's end. -/
theorem stored (st : FVec Ideal S384x1 .f32 × FVec Ideal S384x1 .f32 × FVec Ideal S384x128 .f32) (r : Fin 384) (d : Fin 128) (hf : ∀ u, scoreOf i v0 x1 x3 r u ≠ ⊤)
    (h1 : st.1 (ix2 r 0) = FoxMath.top (scoreOf i v0 x1 x3 r) (384 * (i 2).val))
    (h2 : st.2.1 (ix2 r 0) = FoxMath.mass (scoreOf i v0 x1 x3 r) (384 * (i 2).val))
    (h3 : st.2.2 (ix2 r d) = FoxMath.wsum (scoreOf i v0 x1 x3 r) (colOf x2 d) (384 * (i 2).val)) :
    k0_pay1 st.2.1 st.2.2 (k0_pay18 (ownRows i x2)) (k0_pay19 v0 (ownRows i x1) (ownBias i x3)) (k0_pay20 v0 st.1 (ownRows i x1) (ownBias i x3))
        (k0_pay21 v0 st.1 (ownRows i x1) (ownBias i x3)) (ix3 0 r d)
      = Ideal.div (FoxMath.wsum (scoreOf i v0 x1 x3 r) (colOf x2 d) (384 * (i 2).val + 384)) (FoxMath.mass (scoreOf i v0 x1 x3 r) (384 * (i 2).val + 384)) := by
  have hm := FoxMath.mass_add (scoreOf i v0 x1 x3 r) hf (384 * (i 2).val) 384
  have hw := FoxMath.wsum_add (scoreOf i v0 x1 x3 r) (colOf x2 d) hf (384 * (i 2).val) 384
  have hv : ∀ u : Fin 384, colOf x2 d (384 * (i 2).val + u.val) = ownRows i x2 (ix3 0 u d) := fun u => by
    rw [ownRows_at]; exact dif_pos (own_lt i u)
  simp only [hv] at hw
  have h21 : k0_pay21 v0 st.1 (ownRows i x1) (ownBias i x3) (ix2 r 0)
      = Ideal.exp (FoxMath.top (scoreOf i v0 x1 x3 r) (384 * (i 2).val) - FoxMath.top (scoreOf i v0 x1 x3 r) (384 * (i 2).val + 384)) := by
    rw [← h1, ← pay20_at i v0 x1 x3 st.1 r h1]
    rfl
  pointwise [k0_pay1, k0_pay18]
  simp only [pay19_at, pay20_at i v0 x1 x3 st.1 r h1, h21]
  rw [h2, h3, ← hm, ← hw]

end Body

/-- Every window's block, by the point's coordinates. -/
theorem idx : ∀ t : Fin cfg0.N,
    win0_0.index t = ![(grid0.coords t 0).val, (grid0.coords t 2).val, (grid0.coords t 1).val]
    ∧ win0_1.index t = ![(grid0.coords t 0).val, 0, (grid0.coords t 1).val + 16]
    ∧ win0_2.index t = ![(grid0.coords t 0).val, 0, (grid0.coords t 1).val]
    ∧ win0_3.index t = ![(grid0.coords t 0).val, (grid0.coords t 1).val, 0, 0]
    ∧ win0_4.index t = ![(grid0.coords t 0).val, (grid0.coords t 2).val, (grid0.coords t 1).val] :=
  (by decide +kernel : ∀ t : Fin grid0.N, _)

theorem out_val (c : Dev nD) (t : Fin cfg0.N) (r : Fin 384) (d : Fin 128)
    (hf : ∀ u, scoreOf (grid0.coords t) (iblk m c 0 t) (iblk m c 1 t) (iblk m c 3 t) r u ≠ ⊤) :
    outsAt0 m c t (ix3 0 r d)
      = Ideal.div (FoxMath.wsum (scoreOf (grid0.coords t) (iblk m c 0 t) (iblk m c 1 t) (iblk m c 3 t) r) (colOf (iblk m c 2 t) d) (384 * (grid0.coords t 2).val + 384))
          (FoxMath.mass (scoreOf (grid0.coords t) (iblk m c 0 t) (iblk m c 1 t) (iblk m c 3 t) r) (384 * (grid0.coords t 2).val + 384)) := by
  unfold outsAt0
  frame_out
  have e2 : Scf.trips
              (Scalar.addi (0#32)
                (Scalar.muli (Scalar.divsi (Scalar.subi (BitVec.ofNat 32 (grid0.coords t 2).val) 0#32) 1#32) 1#32))
              (Scalar.addi (0#32) (Scalar.subi (BitVec.ofNat 32 (grid0.coords t 2).val) 0#32)) 1#32 = 0 :=
    Nat.le_zero.mp (k0_t2_abs (grid0.coords t)).2.1
  have e1 : Scf.trips (0#32)
                (Scalar.addi (0#32)
                (Scalar.muli (Scalar.divsi (Scalar.subi (BitVec.ofNat 32 (grid0.coords t 2).val) 0#32) 1#32) 1#32)) 1#32 = (grid0.coords t 2).val :=
    trips1 (grid0.coords t)
  rw [e2, e1]
  simp only [st_k0_t2_zero]
  have hk := (trips1 (grid0.coords t)).ge
  exact stored (grid0.coords t) (iblk m c 0 t) (iblk m c 1 t) (iblk m c 2 t) (iblk m c 3 t) _ r d hf
    (carried _ _ _ _ _ _ _ _ _ _ _ _ _ _ _ _ r hf _ hk).1 (carried _ _ _ _ _ _ _ _ _ _ _ _ _ _ _ _ r hf _ hk).2.1
    ((carried _ _ _ _ _ _ _ _ _ _ _ _ _ _ _ _ r hf _ hk).2.2 d)

end Cert.KernelIdeal.Fox
-- ==== Proof.FoxRef.lean ====
module
public import proofs.«01_k».proof.Proof.Gen.ReferenceIdeal.Run
public import Idealize.ShloMosaic.Lib.Pipeline.ValueKit
public import Idealize.ShloMosaic.Lib.Pointwise
public import Idealize.ShloMosaic.Lib.WordCmp
public import proofs.«01_k».proof.Proof.FoxMath
@[expose] public section
set_option maxRecDepth 16384
noncomputable section
open Idealize.ShloMosaic Idealize.ShloMosaic.TcCoe Idealize.SL.Sem

/-! The attention's reference at an index: scores, unnormalised weights, result. -/

namespace Cert.ReferenceIdeal.Fox
open Cert.ReferenceIdeal Cert.ReferenceIdeal.Gen
variable (m : (ℓ : Loc nD τ sig) → Buf (Elt Ideal) ℓ)

/-- The masked scores of every query against every key. -/
def scores (qk : Vec Ideal S2x4224x6144 .bf16) (c : Vec Ideal S2x16x1x4224 .f32) : FVec Ideal S2x16x4224x4224 .f32 :=
  (select (broadcastInDim S2x16x4224x4224 ![2, 3] bcast_S4224x4224_S2x16x4224x4224_2_3 (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0))))) (subf (addf (Host.dotGeneral dot_S2x4224x16x128_S2x4224x16x128_S2x16x4224x4224_3_3_1_1_02_02 none (shapeCast _ (extf .f32 (extractStridedSlice S2x4224x2048 ![0, 0, 0] qk slices_S2x4224x6144_S2x4224x2048_0_0_0) bitsLt_bf16_f32) shapeCasts_S2x4224x2048_S2x4224x16x128) (shapeCast _ (extf .f32 (extractStridedSlice S2x4224x2048 ![0, 0, 2048] qk slices_S2x4224x6144_S2x4224x2048_0_0_2048) bitsLt_bf16_f32) shapeCasts_S2x4224x2048_S2x4224x16x128)) (broadcastInDim S2x16x4224x4224 ![0, 1, 2, 3] bcast_S2x16x4224x1_S2x16x4224x4224_0_1_2_3 (broadcastInDim S2x16x4224x1 ![0, 1, 2] bcast_S2x16x4224_S2x16x4224x1_0_1_2 (shapeCast _ c shapeCasts_S2x16x1x4224_S2x16x4224)))) (broadcastInDim S2x16x4224x4224 ![0, 1, 2, 3] bcast_S2x16x1x4224_S2x16x4224x4224_0_1_2_3 (broadcastInDim S2x16x1x4224 ![0, 1, 3] bcast_S2x16x4224_S2x16x1x4224_0_1_3 (shapeCast _ c shapeCasts_S2x16x1x4224_S2x16x4224)))) (broadcastInDim S2x16x4224x4224 ![] bcast_S_S2x16x4224x4224 (id (constant S_ .f32 0xFF800000#32))))

/-- The greatest score of every query. -/
def rowMax (s : FVec Ideal S2x16x4224x4224 .f32) : FVec Ideal S2x16x4224 .f32 :=
  Host.reduce FloatOps.maximumf s (constant S_ .f32 0xFF800000#32) reducesTo_S2x16x4224x4224_S2x16x4224_d3 h_S_

/-- The greatest score of every query, once more against minus infinity. -/
def rowTop (s : FVec Ideal S2x16x4224x4224 .f32) : FVec Ideal S2x16x4224 .f32 :=
  maximumf (broadcastInDim S2x16x4224 ![] bcast_S_S2x16x4224 (constant S_ .f32 0xFF800000#32)) (rowMax s)

/-- The exponentials of the scores less their row's maximum. -/
def weights (s : FVec Ideal S2x16x4224x4224 .f32) : FVec Ideal S2x16x4224x4224 .f32 :=
  (Host.exp (subf s (broadcastInDim S2x16x4224x4224 ![0, 1, 2, 3] bcast_S2x16x4224x1_S2x16x4224x4224_0_1_2_3 (broadcastInDim S2x16x4224x1 ![0, 1, 2] bcast_S2x16x4224_S2x16x4224x1_0_1_2 (rowTop s)))))

/-- The weighted values over the sum of the weights. -/
def attend (s : FVec Ideal S2x16x4224x4224 .f32) (v : Vec Ideal S2x4224x2048 .bf16) : FVec Ideal S2x4224x2048 .bf16 :=
  truncf .bf16 (shapeCast _ (transpose S2x4224x16x128 [0, 3, 1, 2] (Host.dotGeneral dot_S2x4224x16x128_S2x16x4224x4224_S2x16x128x4224_1_3_3_2_02_01 none (shapeCast _ (extf .f32 v bitsLt_bf16_f32) shapeCasts_S2x4224x2048_S2x4224x16x128) (Host.divf (weights s) (broadcastInDim S2x16x4224x4224 ![0, 1, 2, 3] bcast_S2x16x4224x1_S2x16x4224x4224_0_1_2_3 (broadcastInDim S2x16x4224x1 ![0, 1, 2] bcast_S2x16x4224_S2x16x4224x1_0_1_2 (Host.reduceAdd (weights s) (constant S_ .f32 0x00000000#32) reducesTo_S2x16x4224x4224_S2x16x4224_d3 h_S_))))) transposes_S2x16x128x4224_S2x4224x16x128_0_3_1_2) shapeCasts_S2x4224x16x128_S2x4224x2048) bitsLt_bf16_f32

theorem res_eq (c : Dev nD) : Value.res_out0 m c
    = attend (scores (m ((c.tc : Thread nD τ).loc main_arg0)) (m ((c.tc : Thread nD τ).loc main_arg2))) (m ((c.tc : Thread nD τ).loc main_arg1)) := rfl

theorem ninf : Ideal.ofBits FTy.f32 0xFF800000#32 = ⊥ := by
  simp [Ideal.ofBits, Ideal.ieee]

theorem add_sub_right (x y z : EReal) : x + y - z = x - z + y := by
  rw [sub_eq_add_neg, sub_eq_add_neg, add_right_comm]

theorem scores_at (qk : Vec Ideal S2x4224x6144 .bf16) (c : Vec Ideal S2x16x1x4224 .f32) (b : Fin 2) (h : Fin 16) (t u : Fin 4224) :
    scores qk c (ix4 b h t u) = FoxMath.key (D := 128) (T := 4224) (fun x => qk (ix3 b t ⟨h * 128 + x, by omega⟩))
      (fun u x => qk (ix3 b u ⟨2048 + (h * 128 + x), by omega⟩)) (fun u => c (ix4 b h 0 u)) t u + c (ix4 b h 0 t) := by
  unfold scores
  pointwise
  change Scalar.select _ _ (Ideal.ofBits FTy.f32 0xFF800000#32) = _
  rw [ninf, WordCmp.cmpi_sle_ofNat (by have := u.isLt; omega) (by have := t.isLt; omega)]
  by_cases hu : u.val ≤ t.val
  · rw [FoxMath.key_of_le u.isLt hu]
    rw [decide_eq_true hu]
    exact add_sub_right (∑ x : Fin 128, qk (ix3 b t ⟨h * 128 + x, by omega⟩) * qk (ix3 b u ⟨2048 + (h * 128 + x), by omega⟩)) (c (ix4 b h 0 t)) (c (ix4 b h 0 u))
  · rw [FoxMath.key_of_lt (by omega)]
    rw [decide_eq_false hu]
    exact (EReal.bot_add _).symm

theorem rowMax_at (s : FVec Ideal S2x16x4224x4224 .f32) (b : Fin 2) (h : Fin 16) (t : Fin 4224) :
    rowMax s (ix3 b h t) = Finset.fold max ⊥ (fun x : Fin 4224 => s (ix4 b h t x)) Finset.univ := by
  rw [← ninf]
  unfold rowMax
  pointwise

theorem larger_at (x y : FVec Ideal S2x16x4224 .f32) (j : S2x16x4224.Idx) : maximumf x y j = max (x j) (y j) := rfl

theorem ninf_at (j : S2x16x4224.Idx) :
    broadcastInDim S2x16x4224 ![] bcast_S_S2x16x4224 (constant (F := Ideal) S_ .f32 0xFF800000#32) j = ⊥ := by
  rw [← ninf]
  pointwise

theorem rowTop_at (s : FVec Ideal S2x16x4224x4224 .f32) (b : Fin 2) (h : Fin 16) (t : Fin 4224) :
    rowTop s (ix3 b h t) = Finset.fold max ⊥ (fun x : Fin 4224 => s (ix4 b h t x)) Finset.univ := by
  unfold rowTop
  rw [larger_at, ninf_at, max_eq_right bot_le, rowMax_at]

theorem spread_at (x : FVec Ideal S2x16x4224 .f32) (b : Fin 2) (h : Fin 16) (t u : Fin 4224) :
    (broadcastInDim S2x16x4224x4224 ![0, 1, 2, 3] bcast_S2x16x4224x1_S2x16x4224x4224_0_1_2_3 (broadcastInDim S2x16x4224x1 ![0, 1, 2] bcast_S2x16x4224_S2x16x4224x1_0_1_2 x)) (ix4 b h t u) = x (ix3 b h t) := by
  pointwise

theorem weights_at (s : FVec Ideal S2x16x4224x4224 .f32) (b : Fin 2) (h : Fin 16) (t u : Fin 4224) :
    weights s (ix4 b h t u) = Ideal.exp (s (ix4 b h t u) - Finset.fold max ⊥ (fun x : Fin 4224 => s (ix4 b h t x)) Finset.univ) := by
  rw [← rowTop_at]
  exact congrArg (fun z => Ideal.exp (s (ix4 b h t u) - z)) (spread_at (rowTop s) b h t u)

theorem attend_at (s : FVec Ideal S2x16x4224x4224 .f32) (v : Vec Ideal S2x4224x2048 .bf16) (b : Fin 2) (t : Fin 4224) (n : Fin 2048) :
    attend s v (ix3 b t n) = ∑ u : Fin 4224, v (ix3 b u n) * Ideal.div (weights s (ix4 b ⟨n / 128, by omega⟩ t u)) (∑ w : Fin 4224, weights s (ix4 b ⟨n / 128, by omega⟩ t w)) := by
  unfold attend
  pointwise

end Cert.ReferenceIdeal.Fox
-- ==== Proof.Fox.lean ====
module
public import proofs.«01_k».proof.Defs
public import proofs.«01_k».proof.Proof.Gen.Pre_finite_scores
public import proofs.«01_k».proof.Proof.FoxBody
public import proofs.«01_k».proof.Proof.FoxRef
public import Idealize.ShloMosaic.Lib.Quiescent
@[expose] public section
set_option maxRecDepth 16384
noncomputable section
open Idealize.ShloMosaic Idealize.ShloMosaic.TcCoe Idealize.SL.Sem

/-! The attention: the kernel's result array is the reference's, where the queries, keys and biases are real numbers. -/

namespace Cert.KernelIdeal.Fox
open Cert.KernelIdeal Cert.KernelIdeal.Gen
variable (m : (ℓ : Loc nD τ sig) → Buf (Elt Ideal) ℓ)

theorem pinf : Ideal.ofBits FTy.f32 0x7F800000#32 = ⊤ := by
  simp [Ideal.ofBits, Ideal.ieee]

/-- Both comparisons true: the value is a real number. -/
theorem real_of_bits (x : EReal)
    (h : IntOp.andi (BitVec.ofBool (decide (x < Ideal.ofBits FTy.f32 0x7F800000#32))) (BitVec.ofBool (decide (Ideal.ofBits FTy.f32 0xFF800000#32 < x))) = 1#1) :
    FoxMath.IsReal x := by
  rw [pinf, ninf] at h
  refine ⟨fun e => ?_, fun e => ?_⟩
  · subst e
    simp [IntOp.andi] at h
  · subst e
    simp [IntOp.andi] at h

section
variable [hPre : Cert.Pre_finite_scores.Facts]

theorem qk_real (hp : Cert.Pre_KernelIdeal_finite_scores m) (c : Dev nD) (b : Fin 2) (t : Fin 4224) (n : Fin 6144) (hn : n.val < 4096) :
    FoxMath.IsReal (m ((c.tc : Thread nD τ).loc main_arg0) (ix3 b t n)) := by
  have h := congrFun (hp c).1 (ix3 b t ⟨n.val, hn⟩)
  unfold Cert.Pre_finite_scores.fn at h
  pointwise at h
  exact real_of_bits _ h

theorem c_real (hp : Cert.Pre_KernelIdeal_finite_scores m) (c : Dev nD) (b : Fin 2) (h : Fin 16) (t : Fin 4224) :
    FoxMath.IsReal (m ((c.tc : Thread nD τ).loc main_arg2) (ix4 b h 0 t)) := by
  have h := congrFun (hp c).2 (ix4 b h 0 t)
  unfold Cert.Pre_finite_scores.fn at h
  pointwise at h
  exact real_of_bits _ h
end

/-- The result array, as a function of the arguments: the reference's own term. -/
abbrev REF (c : Dev nD) : Vec Ideal S2x4224x2048 .bf16 :=
  Cert.ReferenceIdeal.Fox.attend (Cert.ReferenceIdeal.Fox.scores (m ((c.tc : Thread nD τ).loc main_arg0)) (m ((c.tc : Thread nD τ).loc main_arg2))) (m ((c.tc : Thread nD τ).loc main_arg1))

theorem point (c : Dev nD) (hq : ∀ b t (n : Fin 6144), n.val < 4096 → FoxMath.IsReal (m ((c.tc : Thread nD τ).loc main_arg0) (ix3 b t n)))
    (hc : ∀ b h t, FoxMath.IsReal (m ((c.tc : Thread nD τ).loc main_arg2) (ix4 b h 0 t))) (t : Fin cfg0.N) (r : Fin 384) (d : Fin 128) :
    outsAt0 m c t (ix3 0 r d) = REF m c (((cfg0.win 4).blk t).view.emb (ix3 0 r d)) := by
  have b0 : (grid0.coords t 0).val < 2 := (grid0.coords t 0).isLt
  have b1 : (grid0.coords t 1).val < 16 := (grid0.coords t 1).isLt
  have b2 : (grid0.coords t 2).val < 11 := (grid0.coords t 2).isLt
  have he : ((cfg0.win 4).blk t).view.emb (ix3 0 r d)
      = ix3 (⟨(grid0.coords t 0).val, b0⟩ : Fin 2) (⟨384 * (grid0.coords t 2).val + r.val, by omega⟩ : Fin 4224) (⟨128 * (grid0.coords t 1).val + d.val, by omega⟩ : Fin 2048) := by
    blk_ext [idx t]
  have hQ : ∀ x : Fin 128, iblk m c 0 t (ix3 0 r x) = m ((c.tc : Thread nD τ).loc main_arg0)
      (ix3 (⟨(grid0.coords t 0).val, b0⟩ : Fin 2) (⟨384 * (grid0.coords t 2).val + r.val, by omega⟩ : Fin 4224) (⟨(grid0.coords t 1).val * 128 + x.val, by omega⟩ : Fin 6144)) := fun x => by
    blk_ext [iblk, V, idx t]
  have hK : ∀ (u : Fin 4224) (x : Fin 128), iblk m c 1 t (ix3 0 u x) = m ((c.tc : Thread nD τ).loc main_arg0)
      (ix3 (⟨(grid0.coords t 0).val, b0⟩ : Fin 2) u (⟨2048 + ((grid0.coords t 1).val * 128 + x.val), by omega⟩ : Fin 6144)) := fun u x => by
    blk_ext [iblk, V, idx t]
  have hV : ∀ u : Fin 4224, iblk m c 2 t (ix3 0 u d) = m ((c.tc : Thread nD τ).loc main_arg1)
      (ix3 (⟨(grid0.coords t 0).val, b0⟩ : Fin 2) u (⟨128 * (grid0.coords t 1).val + d.val, by omega⟩ : Fin 2048)) := fun u => by
    blk_ext [iblk, V, idx t]
  have hC : ∀ u : Fin 4224, iblk m c 3 t (ix4 0 0 0 u) = m ((c.tc : Thread nD τ).loc main_arg2)
      (ix4 (⟨(grid0.coords t 0).val, b0⟩ : Fin 2) (⟨(grid0.coords t 1).val, b1⟩ : Fin 16) 0 u) := fun u => by
    blk_ext [iblk, V, idx t]
  have rQ : ∀ x : Fin 128, FoxMath.IsReal (iblk m c 0 t (ix3 0 r x)) := fun x => by rw [hQ]; exact hq _ _ _ (by simp only; omega)
  have rK : ∀ (u : Fin 4224) (x : Fin 128), FoxMath.IsReal (iblk m c 1 t (ix3 0 u x)) := fun u x => by rw [hK]; exact hq _ _ _ (by simp only; omega)
  have rC : ∀ u : Fin 4224, FoxMath.IsReal (iblk m c 3 t (ix4 0 0 0 u)) := fun u => by rw [hC]; exact hc _ _ _
  have hf : ∀ u, scoreOf (grid0.coords t) (iblk m c 0 t) (iblk m c 1 t) (iblk m c 3 t) r u ≠ ⊤ := FoxMath.key_ne_top rQ rK rC _
  obtain ⟨a, ha⟩ := (hc ⟨(grid0.coords t 0).val, b0⟩ ⟨(grid0.coords t 1).val, b1⟩ ⟨384 * (grid0.coords t 2).val + r.val, by omega⟩).exists
  have hh : (⟨(128 * (grid0.coords t 1).val + d.val) / 128, by omega⟩ : Fin 16) = ⟨(grid0.coords t 1).val, b1⟩ := Fin.ext (by simp only; omega)
  rw [out_val m c t r d hf, FoxMath.softmax_eq _ _ hf _ 4224 (384 * (grid0.coords t 2).val + r.val) (by omega) (by omega)
    (FoxMath.key_self rQ rK rC (by omega)) (fun u hu => FoxMath.key_of_lt (by omega)) a]
  rw [he]
  unfold REF
  rw [Cert.ReferenceIdeal.Fox.attend_at]
  simp only [Cert.ReferenceIdeal.Fox.weights_at, Cert.ReferenceIdeal.Fox.scores_at, hh, ha]
  simp only [scoreOf, colOf, hQ, hK, hV, hC]
  refine Finset.sum_congr rfl fun u _ => ?_
  congr 1
  exact dif_pos u.isLt

theorem final (c : Dev nD) (hq : ∀ b t (n : Fin 6144), n.val < 4096 → FoxMath.IsReal (m ((c.tc : Thread nD τ).loc main_arg0) (ix3 b t n)))
    (hc : ∀ b h t, FoxMath.IsReal (m ((c.tc : Thread nD τ).loc main_arg2) (ix4 b h 0 t))) :
    (dats m 0 c).arrAt 4 cfg0.N = REF m c := by
  refine (dats m 0 c).arrAt_eq_of_covers 4 _ (by decide +kernel) fun t _ y => ?_
  blk_simp
  rw [after0_4]
  obtain ⟨r, d, rfl⟩ : ∃ (r : Fin 384) (d : Fin 128), y = ix3 0 r d := ⟨y 1, y 2, by idx_vars y; blk_ext⟩
  exact point m c hq hc t r d

theorem algebraic : Cert.algebraic_KernelIdeal_ReferenceIdeal_pre_finite_scores := by
  unfold Cert.algebraic_KernelIdeal_ReferenceIdeal_pre_finite_scores
  pair_intro
  · run_from Cert.KernelIdeal.Value.run_blocks m g
  · run_from Cert.ReferenceIdeal.Value.run m' g'
    have e := Cert.ReferenceIdeal.Fox.res_eq m' c
    rw [(hagree c).1, (hagree c).2.1, (hagree c).2.2] at e
    exact e.trans (final m c (fun b t n hn => qk_real m hpre c b t n hn) (fun b h t => c_real m hpre c b h t)).symm

end Cert.KernelIdeal.Fox
-- ==== Proof.MoeUp.lean ====
module
public import proofs.«01_k».proof.Defs
public import proofs.«01_k».proof.Proof.Gen.MoeUpIdeal.Value
public import proofs.«01_k».proof.Proof.Gen.MoeUpRefIdeal.Run
public import Idealize.ShloMosaic.Lib.Pipeline.ValueKit
public import Idealize.ShloMosaic.Lib.Pointwise
public import Idealize.ShloMosaic.Lib.Quiescent
@[expose] public section
set_option maxRecDepth 16384
noncomputable section
open Idealize.ShloMosaic Idealize.ShloMosaic.TcCoe Idealize.SL.Sem

/-! The experts' up products: two sums kept block by block over the contracted dimension, then the gated silu of them. -/

namespace Cert.MoeUpRefIdeal.Mat
open Cert.MoeUpRefIdeal Cert.MoeUpRefIdeal.Gen

/-- One expert product over all experts. -/
def prod (x : Vec Ideal S8448x4096 .bf16) (w : Vec Ideal S8x4096x4096 .f32) : FVec Ideal S8448x8x4096 .f32 :=
  Host.dotGeneral (φ₁ := .f32) (φ₂ := .f32) dot_S8448x4096_S8x4096x4096_S8448x8x4096_1_1_0_02_n_n none (extf (F := Ideal) (φ := .bf16) .f32 x bitsLt_bf16_f32) w

theorem prod_at (x : Vec Ideal S8448x4096 .bf16) (w : Vec Ideal S8x4096x4096 .f32) (r : Fin 8448) (e : Fin 8) (n : Fin 4096) :
    prod x w (ix3 r e n) = ∑ k : Fin 4096, x (ix2 r k) * w (ix3 e k n) := by
  pointwise [prod]

/-- The gated silu of the two products. -/
def REF (x : Vec Ideal S8448x4096 .bf16) (g : Vec Ideal S8448x128 .f32) (w1 w3 : Vec Ideal S8x4096x4096 .f32) : FVec Ideal S8448x32768 .bf16 :=
  truncf (F := Ideal) (φ := .f32) .bf16 (shapeCast _ (mulf (F := Ideal) (φ := .f32) (broadcastInDim S8448x8x4096 ![0, 1, 2] bcast_S8448x8x1_S8448x8x4096_0_1_2 (broadcastInDim S8448x8x1 ![0, 1] bcast_S8448x8_S8448x8x1_0_1 (extractStridedSlice S8448x8 ![0, 0] g slices_S8448x128_S8448x8_0_0))) (mulf (F := Ideal) (φ := .f32) (mulf (F := Ideal) (φ := .f32) (prod x w1) (Host.divf (F := Ideal) (φ := .f32) (broadcastInDim S8448x8x4096 ![] bcast_S_S8448x8x4096 (constant (F := Ideal) S_ .f32 0x3F800000#32)) (addf (F := Ideal) (φ := .f32) (broadcastInDim S8448x8x4096 ![] bcast_S_S8448x8x4096 (constant (F := Ideal) S_ .f32 0x3F800000#32)) (Host.exp (F := Ideal) (φ := .f32) (Host.negf (F := Ideal) (φ := .f32) (prod x w1)))))) (prod x w3))) shapeCasts_S8448x8x4096_S8448x32768) bitsLt_bf16_f32

theorem ref_at (x : Vec Ideal S8448x4096 .bf16) (g : Vec Ideal S8448x128 .f32) (w1 w3 : Vec Ideal S8x4096x4096 .f32) (r : Fin 8448) (n : Fin 32768) :
    REF x g w1 w3 (ix2 r n) = g (ix2 r ⟨n.val / 4096, by omega⟩)
      * (prod x w1 (ix3 r ⟨n.val / 4096, by omega⟩ ⟨n.val % 4096, by omega⟩)
          * Ideal.div 1 (1 + Ideal.exp (-prod x w1 (ix3 r ⟨n.val / 4096, by omega⟩ ⟨n.val % 4096, by omega⟩)))
        * prod x w3 (ix3 r ⟨n.val / 4096, by omega⟩ ⟨n.val % 4096, by omega⟩)) := by
  pointwise [REF]
end Cert.MoeUpRefIdeal.Mat

namespace Cert.MoeUpIdeal.Mat
open Cert.MoeUpIdeal Cert.MoeUpIdeal.Gen
variable (m : (ℓ : Loc nD τ sig) → Buf (Elt Ideal) ℓ)

theorem first1_at (x : Vec Ideal S1408x1024 .bf16) (w : Vec Ideal S1x1024x1024 .bf16) (r : Fin 1408) (n : Fin 1024) :
    k0_pay2 x w (ix2 r n) = 0 + ∑ k : Fin 1024, x (ix2 r k) * w (ix3 0 k n) := by
  pointwise [k0_pay2, k0_pay1]

theorem first3_at (x : Vec Ideal S1408x1024 .bf16) (w : Vec Ideal S1x1024x1024 .bf16) (r : Fin 1408) (n : Fin 1024) :
    k0_pay5 x w (ix2 r n) = 0 + ∑ k : Fin 1024, x (ix2 r k) * w (ix3 0 k n) := by
  pointwise [k0_pay5, k0_pay4]

theorem next1_at (x : Vec Ideal S1408x1024 .bf16) (w : Vec Ideal S1x1024x1024 .bf16) (acc : Vec Ideal S1408x1024 .f32) (r : Fin 1408) (n : Fin 1024) :
    k0_pay3 x w acc (ix2 r n) = acc (ix2 r n) + ∑ k : Fin 1024, x (ix2 r k) * w (ix3 0 k n) := by
  pointwise [k0_pay3, k0_pay1]

theorem next3_at (x : Vec Ideal S1408x1024 .bf16) (w : Vec Ideal S1x1024x1024 .bf16) (acc : Vec Ideal S1408x1024 .f32) (r : Fin 1408) (n : Fin 1024) :
    k0_pay6 x w acc (ix2 r n) = acc (ix2 r n) + ∑ k : Fin 1024, x (ix2 r k) * w (ix3 0 k n) := by
  pointwise [k0_pay6, k0_pay4]

/-- The expert of a column block: the kernel's word for the block's number over 4, compared with a lane's number. -/
theorem lane_at : ∀ (j : Fin 32) (x : Fin 128), IntOp.cmpi CmpIPredicate.eq (BitVec.ofNat 32 x.val)
            (Scalar.select
              (Scalar.andi
                (Scalar.cmpi CmpIPredicate.ne
                  (Scalar.subi (Scalar.extui (Scalar.cmpi CmpIPredicate.sgt (BitVec.ofNat 32 j.val) 0#32))
                    (Scalar.extui (Scalar.cmpi CmpIPredicate.slt (BitVec.ofNat 32 j.val) 0#32)))
                  (Scalar.subi (Scalar.extui (Scalar.cmpi CmpIPredicate.sgt 4#32 0#32))
                    (Scalar.extui (Scalar.cmpi CmpIPredicate.slt 4#32 0#32))))
                (Scalar.cmpi CmpIPredicate.ne (Scalar.remsi (BitVec.ofNat 32 j.val) 4#32) 0#32))
              (Scalar.subi (Scalar.divsi (BitVec.ofNat 32 j.val) 4#32) 1#32) (Scalar.divsi (BitVec.ofNat 32 j.val) 4#32))
      = if x.val = j.val / 4 then 1#1 else 0#1 := by decide +kernel

theorem end_at (j : Fin 32) (a b : Vec Ideal S1408x1024 .f32) (g : Vec Ideal S1408x128 .f32) (r : Fin 1408) (n : Fin 1024) :
    k0_pay7 (BitVec.ofNat 32 j.val) a b g (ix2 r n)
      = a (ix2 r n) * Ideal.div 1 (1 + Ideal.exp (0 - a (ix2 r n))) * b (ix2 r n) * g (ix2 r ⟨j.val / 4, by omega⟩) := by
  pointwise [k0_pay7]
  refine congrArg₂ (fun y z : EReal => y * z) rfl ?_
  refine (Finset.sum_congr rfl fun x _ => congrArg (fun w => Scalar.select w _ _) (lane_at j x)).trans ?_
  refine (Finset.sum_eq_single (⟨j.val / 4, by omega⟩ : Fin 128) (fun x _ hx => ?_) (fun h => absurd (Finset.mem_univ _) h)).trans ?_
  · rw [if_neg fun e => hx (Fin.ext e)]
    rfl
  · rw [if_pos rfl]
    rfl

theorem idx : ∀ t : Fin cfg0.N, win0_0.index t = ![t.val / 128, t.val % 4] ∧ win0_1.index t = ![t.val / 4 % 32 / 4, t.val % 4, t.val / 4 % 4]
    ∧ win0_2.index t = ![t.val / 4 % 32 / 4, t.val % 4, t.val / 4 % 4] ∧ win0_3.index t = ![t.val / 128, 0] ∧ win0_4.index t = ![t.val / 128, t.val / 4 % 32] :=
  (by decide +kernel : ∀ t : Fin grid0.N, _)

theorem coord1 : ∀ t : Fin cfg0.N, (grid0.coords t 1).val = t.val / 4 % 32 :=
  (by decide +kernel : ∀ t : Fin grid0.N, _)

/-- The point's blocks: of the left operand, of the two right operands and of the gates. -/
abbrev lhs (c : Dev nD) (t : Fin cfg0.N) : Vec Ideal S1408x1024 .bf16 := iblk m c 0 t
abbrev rhs1 (c : Dev nD) (t : Fin cfg0.N) : Vec Ideal S1x1024x1024 .bf16 := iblk m c 1 t
abbrev rhs3 (c : Dev nD) (t : Fin cfg0.N) : Vec Ideal S1x1024x1024 .bf16 := iblk m c 2 t
abbrev gat (c : Dev nD) (t : Fin cfg0.N) : Vec Ideal S1408x128 .f32 := iblk m c 3 t
abbrev acc1 (c : Dev nD) (t : Fin cfg0.N) : Vec Ideal S1408x1024 .f32 := (outsAt0 m c t.val t.isLt).2.1
abbrev acc3 (c : Dev nD) (t : Fin cfg0.N) : Vec Ideal S1408x1024 .f32 := (outsAt0 m c t.val t.isLt).2.2

theorem keep0 (x : Vec Ideal S1408x1024 .f32) : View.read (Elt Ideal) (View.whole cc0_scratch0) ((Memref.isWhole_whole cc0_scratch0).unread x) = x :=
  Memref.IsWhole.read_unread _ _
theorem keep1 (x : Vec Ideal S1408x1024 .f32) : View.read (Elt Ideal) (View.whole cc0_scratch1) ((Memref.isWhole_whole cc0_scratch1).unread x) = x :=
  Memref.IsWhole.read_unread _ _

theorem acc1_at (c : Dev nD) (t : Fin cfg0.N) (h : t.val % 4 = 3) (r : Fin 1408) (n : Fin 1024) :
    acc1 m c t (ix2 r n) = ∑ s : Fin 4, ∑ k : Fin 1024,
      lhs m c ⟨4 * (t.val / 4) + s.val, Pipeline.run_point_lt_of_flush t h s⟩ (ix2 r k) * rhs1 m c ⟨4 * (t.val / 4) + s.val, Pipeline.run_point_lt_of_flush t h s⟩ (ix3 0 k n) := by
  have e := Pipeline.eq_sum_fin_of_reset_step_apply_of_flush (fun n h (q : Fin 1408 × Fin 1024) => (outsAt0 m c n h).2.1 (ix2 q.1 q.2)) 4 (fun _ => (0 : EReal))
    (fun p q => ∑ k : Fin 1024, lhs m c p (ix2 q.1 k) * rhs1 m c p (ix3 0 k q.2))
    (fun t h q => by
      beta_reduce
      rw [outsAt0_A m c t h (by omega) h (by omega) (by omega)]
      frame_out
      rw [first1_at])
    (fun t h q => by
      beta_reduce
      by_cases h2 : t.val % 4 = 3
      · rw [outsAt0_C m c t h (by omega) h (by omega) h2]
        frame_out
        rw [next1_at, keep0]
      · rw [outsAt0_B m c t h (by omega) h (by omega) h2]
        frame_out
        rw [next1_at, keep0])
    t h (r, n)
  exact e.trans (zero_add _)

theorem acc3_at (c : Dev nD) (t : Fin cfg0.N) (h : t.val % 4 = 3) (r : Fin 1408) (n : Fin 1024) :
    acc3 m c t (ix2 r n) = ∑ s : Fin 4, ∑ k : Fin 1024,
      lhs m c ⟨4 * (t.val / 4) + s.val, Pipeline.run_point_lt_of_flush t h s⟩ (ix2 r k) * rhs3 m c ⟨4 * (t.val / 4) + s.val, Pipeline.run_point_lt_of_flush t h s⟩ (ix3 0 k n) := by
  have e := Pipeline.eq_sum_fin_of_reset_step_apply_of_flush (fun n h (q : Fin 1408 × Fin 1024) => (outsAt0 m c n h).2.2 (ix2 q.1 q.2)) 4 (fun _ => (0 : EReal))
    (fun p q => ∑ k : Fin 1024, lhs m c p (ix2 q.1 k) * rhs3 m c p (ix3 0 k q.2))
    (fun t h q => by
      beta_reduce
      rw [outsAt0_A m c t h (by omega) h (by omega) (by omega)]
      frame_out
      rw [first3_at])
    (fun t h q => by
      beta_reduce
      by_cases h2 : t.val % 4 = 3
      · rw [outsAt0_C m c t h (by omega) h (by omega) h2]
        frame_out
        rw [next3_at, keep1]
      · rw [outsAt0_B m c t h (by omega) h (by omega) h2]
        frame_out
        rw [next3_at, keep1])
    t h (r, n)
  exact e.trans (zero_add _)

theorem out_at (c : Dev nD) (t : Fin cfg0.N) (h : t.val % 4 = 3) :
    (outsAt0 m c t.val t.isLt).1 = k0_pay7 (F := Ideal) (BitVec.ofNat 32 (grid0.coords t 1).val) (acc1 m c t) (acc3 m c t) (gat m c t) := by
  unfold acc1 acc3
  rw [outsAt0_C m c t (by omega) (by omega) (by omega) (by omega) h]
  frame_out

abbrev arr0 (c : Dev nD) : Vec Ideal S8448x4096 .bf16 := m ((c.tc : Thread nD τ).loc main_arg0)
abbrev arr1 (c : Dev nD) : Vec Ideal S8448x128 .f32 := m ((c.tc : Thread nD τ).loc main_arg1)
abbrev arr2 (c : Dev nD) : Vec Ideal S8x4096x4096 .f32 := m ((c.tc : Thread nD τ).loc main_arg2)
abbrev arr3 (c : Dev nD) : Vec Ideal S8x4096x4096 .f32 := m ((c.tc : Thread nD τ).loc main_arg3)

theorem lhs_at (c : Dev nD) (t : Fin cfg0.N) (r : Fin 1408) (k : Fin 1024) : lhs m c t (ix2 r k)
    = arr0 m c (ix2 (⟨t.val / 128 * 1408 + r.val, by have := lt_of_lt_of_eq t.isLt N_0; omega⟩ : Fin 8448) (⟨t.val % 4 * 1024 + k.val, by omega⟩ : Fin 4096)) := by
  blk_ext [iblk, V, idx t]

theorem rhs1_at (c : Dev nD) (t : Fin cfg0.N) (k : Fin 1024) (n : Fin 1024) : rhs1 m c t (ix3 0 k n)
    = arr2 m c (ix3 (⟨t.val / 4 % 32 / 4, by omega⟩ : Fin 8) (⟨t.val % 4 * 1024 + k.val, by omega⟩ : Fin 4096) (⟨t.val / 4 % 4 * 1024 + n.val, by omega⟩ : Fin 4096)) := by
  blk_point [iblk, V, idx t]

theorem rhs3_at (c : Dev nD) (t : Fin cfg0.N) (k : Fin 1024) (n : Fin 1024) : rhs3 m c t (ix3 0 k n)
    = arr3 m c (ix3 (⟨t.val / 4 % 32 / 4, by omega⟩ : Fin 8) (⟨t.val % 4 * 1024 + k.val, by omega⟩ : Fin 4096) (⟨t.val / 4 % 4 * 1024 + n.val, by omega⟩ : Fin 4096)) := by
  blk_point [iblk, V, idx t]

theorem gat_at (c : Dev nD) (t : Fin cfg0.N) (r : Fin 1408) (n : Fin 128) : gat m c t (ix2 r n)
    = arr1 m c (ix2 (⟨t.val / 128 * 1408 + r.val, by have := lt_of_lt_of_eq t.isLt N_0; omega⟩ : Fin 8448) n) := by
  blk_ext [iblk, V, idx t]

/-- The result array, as a function of the arguments: the reference's own term. -/
abbrev OUT (c : Dev nD) : Vec Ideal S8448x32768 .bf16 :=
  Cert.MoeUpRefIdeal.Mat.REF (arr0 m c) (arr1 m c) (arr2 m c) (arr3 m c)

theorem prod1_at (c : Dev nD) (t : Fin cfg0.N) (h : t.val % 4 = 3) (r : Fin 1408) (n : Fin 1024) :
    acc1 m c t (ix2 r n) = Cert.MoeUpRefIdeal.Mat.prod (arr0 m c) (arr2 m c)
      (ix3 (⟨t.val / 128 * 1408 + r.val, by have := lt_of_lt_of_eq t.isLt N_0; omega⟩ : Fin 8448) (⟨t.val / 4 % 32 / 4, by omega⟩ : Fin 8) (⟨t.val / 4 % 4 * 1024 + n.val, by omega⟩ : Fin 4096)) := by
  have ht := lt_of_lt_of_eq t.isLt N_0
  rw [acc1_at m c t h, Cert.MoeUpRefIdeal.Mat.prod_at]
  refine Fin.sum_mul_add_congr fun s k hl => ?_
  rw [lhs_at, rhs1_at]
  refine congrArg₂ (· * ·) (congrArg _ ?_) (congrArg _ ?_) <;> blk_ext

theorem prod3_at (c : Dev nD) (t : Fin cfg0.N) (h : t.val % 4 = 3) (r : Fin 1408) (n : Fin 1024) :
    acc3 m c t (ix2 r n) = Cert.MoeUpRefIdeal.Mat.prod (arr0 m c) (arr3 m c)
      (ix3 (⟨t.val / 128 * 1408 + r.val, by have := lt_of_lt_of_eq t.isLt N_0; omega⟩ : Fin 8448) (⟨t.val / 4 % 32 / 4, by omega⟩ : Fin 8) (⟨t.val / 4 % 4 * 1024 + n.val, by omega⟩ : Fin 4096)) := by
  have ht := lt_of_lt_of_eq t.isLt N_0
  rw [acc3_at m c t h, Cert.MoeUpRefIdeal.Mat.prod_at]
  refine Fin.sum_mul_add_congr fun s k hl => ?_
  rw [lhs_at, rhs3_at]
  refine congrArg₂ (· * ·) (congrArg _ ?_) (congrArg _ ?_) <;> blk_ext

theorem point (c : Dev nD) (t : Fin cfg0.N) (h : t.val % 4 = 3) (r : Fin 1408) (n : Fin 1024) :
    (outsAt0 m c t.val t.isLt).1 (ix2 r n) = OUT m c (((cfg0.win 4).blk t).view.emb (ix2 r n)) := by
  have ht := lt_of_lt_of_eq t.isLt N_0
  have he : ((cfg0.win 4).blk t).view.emb (ix2 r n)
      = ix2 (⟨t.val / 128 * 1408 + r.val, by omega⟩ : Fin 8448) (⟨t.val / 4 % 32 * 1024 + n.val, by omega⟩ : Fin 32768) := by
    blk_ext [idx t]
  have h1 : (⟨(t.val / 4 % 32 * 1024 + n.val) / 4096, by omega⟩ : Fin 8) = ⟨t.val / 4 % 32 / 4, by omega⟩ := Fin.ext (by simp only; omega)
  have h2 : (⟨(t.val / 4 % 32 * 1024 + n.val) % 4096, by omega⟩ : Fin 4096) = ⟨t.val / 4 % 4 * 1024 + n.val, by omega⟩ := Fin.ext (by simp only; omega)
  have h3 : (⟨(t.val / 4 % 32 * 1024 + n.val) / 4096, by omega⟩ : Fin 128) = ⟨t.val / 4 % 32 / 4, by omega⟩ := Fin.ext (by simp only; omega)
  rw [he]
  unfold OUT
  rw [Cert.MoeUpRefIdeal.Mat.ref_at, out_at m c t h, coord1 t]
  rw [end_at ⟨t.val / 4 % 32, by omega⟩, prod1_at m c t h, prod3_at m c t h, gat_at, zero_sub]
  simp only [h1, h2, h3]
  exact mul_comm _ _

theorem final (c : Dev nD) : (dats m 0 c).arrAt 4 cfg0.N = OUT m c := by
  refine (dats m 0 c).arrAt_eq_of_covers 4 _ (by decide +kernel) fun t hf y => ?_
  blk_simp
  rw [after0_4]
  obtain ⟨r, n, rfl⟩ : ∃ (r : Fin 1408) (n : Fin 1024), y = ix2 r n := ⟨y 0, y 1, by idx_vars y; blk_ext⟩
  exact point m c t ((flush0_4 t).mp hf) r n

theorem algebraic : Cert.algebraic_MoeUpIdeal_MoeUpRefIdeal := by
  unfold Cert.algebraic_MoeUpIdeal_MoeUpRefIdeal
  pair_intro
  · run_from Cert.MoeUpIdeal.Value.run_blocks m g
  · run_from Cert.MoeUpRefIdeal.Value.run m' g'
    exact (final m c).symm

end Cert.MoeUpIdeal.Mat
-- ==== Proof.MoeDown.lean ====
module
public import proofs.«01_k».proof.Defs
public import proofs.«01_k».proof.Proof.Gen.MoeDownIdeal.Value
public import proofs.«01_k».proof.Proof.Gen.MoeDownRefIdeal.Run
public import Idealize.ShloMosaic.Lib.Pipeline.ValueKit
public import Idealize.ShloMosaic.Lib.Pointwise
public import Idealize.ShloMosaic.Lib.Quiescent
@[expose] public section
set_option maxRecDepth 16384
noncomputable section
open Idealize.ShloMosaic Idealize.ShloMosaic.TcCoe Idealize.SL.Sem

/-! The experts' down product: a sum kept block by block over the contracted dimension, then added to the residual. -/

namespace Cert.MoeDownRefIdeal.Mat
open Cert.MoeDownRefIdeal Cert.MoeDownRefIdeal.Gen

/-- The reference's result, of its arguments. -/
def REF (a : Vec Ideal S8448x32768 .bf16) (h : Vec Ideal S8448x4096 .f32) (w : Vec Ideal S8x4096x4096 .f32) : Vec Ideal S8448x4096 .f32 :=
  addf (F := Ideal) (φ := .f32) h (Host.dotGeneral (φ₁ := .f32) (φ₂ := .f32) dot_S8448x8x4096_S8x4096x4096_S8448x4096_12_01_0_2_n_n none (shapeCast _ (extf (F := Ideal) (φ := .bf16) .f32 a bitsLt_bf16_f32) shapeCasts_S8448x32768_S8448x8x4096) w)

theorem ref_at (a : Vec Ideal S8448x32768 .bf16) (h : Vec Ideal S8448x4096 .f32) (w : Vec Ideal S8x4096x4096 .f32) (r : Fin 8448) (n : Fin 4096) :
    REF a h w (ix2 r n) = h (ix2 r n) + ∑ e : Fin 8, ∑ f : Fin 4096, a (ix2 r ⟨e.val * 4096 + f.val, by omega⟩) * w (ix3 e f n) := by
  pointwise [REF]

end Cert.MoeDownRefIdeal.Mat

namespace Cert.MoeDownIdeal.Mat
open Cert.MoeDownIdeal Cert.MoeDownIdeal.Gen
variable (m : (ℓ : Loc nD τ sig) → Buf (Elt Ideal) ℓ)

theorem first_at (x : Vec Ideal S1408x1024 .bf16) (w : Vec Ideal S1024x1024 .bf16) (r : Fin 1408) (n : Fin 1024) :
    k0_pay2 x w (ix2 r n) = 0 + ∑ k : Fin 1024, x (ix2 r k) * w (ix2 k n) := by
  pointwise [k0_pay2, k0_pay1]

theorem next_at (x : Vec Ideal S1408x1024 .bf16) (w : Vec Ideal S1024x1024 .bf16) (acc : Vec Ideal S1408x1024 .f32) (r : Fin 1408) (n : Fin 1024) :
    k0_pay3 x w acc (ix2 r n) = acc (ix2 r n) + ∑ k : Fin 1024, x (ix2 r k) * w (ix2 k n) := by
  pointwise [k0_pay3, k0_pay1]

theorem idx : ∀ t : Fin cfg0.N, win0_0.index t = ![t.val / 128, t.val % 32] ∧ win0_1.index t = ![t.val % 32, t.val / 32 % 4]
    ∧ win0_2.index t = ![t.val / 128, t.val / 32 % 4] ∧ win0_3.index t = ![t.val / 128, t.val / 32 % 4] :=
  (by decide +kernel : ∀ t : Fin grid0.N, _)

/-- The point's blocks of the left operand, of the right operand and of the residual. -/
abbrev lhs (c : Dev nD) (t : Fin cfg0.N) : Vec Ideal S1408x1024 .bf16 := iblk m c 0 t
abbrev rhs (c : Dev nD) (t : Fin cfg0.N) : Vec Ideal S1024x1024 .bf16 := iblk m c 1 t
abbrev add (c : Dev nD) (t : Fin cfg0.N) : Vec Ideal S1408x1024 .f32 := iblk m c 2 t

theorem keep (x : Vec Ideal S1408x1024 .f32) : View.read (Elt Ideal) (View.whole cc0_scratch0) ((Memref.isWhole_whole cc0_scratch0).unread x) = x :=
  Memref.IsWhole.read_unread _ _

theorem acc_at (c : Dev nD) (t : Fin cfg0.N) (h : t.val % 32 = 31) (r : Fin 1408) (n : Fin 1024) :
    (outsAt0 m c t.val t.isLt).2 (ix2 r n) = ∑ s : Fin 32, ∑ k : Fin 1024,
      lhs m c ⟨32 * (t.val / 32) + s.val, Pipeline.run_point_lt_of_flush t h s⟩ (ix2 r k) * rhs m c ⟨32 * (t.val / 32) + s.val, Pipeline.run_point_lt_of_flush t h s⟩ (ix2 k n) := by
  have e := Pipeline.eq_sum_fin_of_reset_step_apply_of_flush (fun n h (q : Fin 1408 × Fin 1024) => (outsAt0 m c n h).2 (ix2 q.1 q.2)) 32 (fun _ => (0 : EReal))
    (fun p q => ∑ k : Fin 1024, lhs m c p (ix2 q.1 k) * rhs m c p (ix2 k q.2))
    (fun t h q => by
      beta_reduce
      rw [outsAt0_A m c t h (by omega) (by omega)]
      frame_out
      rw [first_at])
    (fun t h q => by
      beta_reduce
      by_cases h2 : t.val % 32 = 31
      · rw [outsAt0_C m c t h (by omega) h2]
        frame_out
        rw [next_at, keep]
      · rw [outsAt0_B m c t h (by omega) h2]
        frame_out
        rw [next_at, keep])
    t h (r, n)
  exact e.trans (zero_add _)

theorem out_at (c : Dev nD) (t : Fin cfg0.N) (h : t.val % 32 = 31) (r : Fin 1408) (n : Fin 1024) :
    (outsAt0 m c t.val t.isLt).1 (ix2 r n) = add m c t (ix2 r n) + (show Vec Ideal S1408x1024 .f32 from (outsAt0 m c t.val t.isLt).2) (ix2 r n) := by
  rw [outsAt0_C m c t (by omega) (by omega) h]
  frame_out
  pointwise [k0_pay4]

abbrev arr0 (c : Dev nD) : Vec Ideal S8448x32768 .bf16 := m ((c.tc : Thread nD τ).loc main_arg0)
abbrev arr1 (c : Dev nD) : Vec Ideal S8448x4096 .f32 := m ((c.tc : Thread nD τ).loc main_arg1)
abbrev arr2 (c : Dev nD) : Vec Ideal S8x4096x4096 .f32 := m ((c.tc : Thread nD τ).loc main_arg2)

theorem lhs_at (c : Dev nD) (t : Fin cfg0.N) (r : Fin 1408) (k : Fin 1024) : lhs m c t (ix2 r k)
    = arr0 m c (ix2 (⟨t.val / 128 * 1408 + r.val, by have := lt_of_lt_of_eq t.isLt N_0; omega⟩ : Fin 8448) (⟨t.val % 32 * 1024 + k.val, by omega⟩ : Fin 32768)) := by
  blk_ext [iblk, V, idx t]

theorem rhs_at (c : Dev nD) (t : Fin cfg0.N) (k : Fin 1024) (n : Fin 1024) : rhs m c t (ix2 k n)
    = arr2 m c (ix3 (⟨t.val % 32 / 4, by omega⟩ : Fin 8) (⟨t.val % 4 * 1024 + k.val, by omega⟩ : Fin 4096) (⟨t.val / 32 % 4 * 1024 + n.val, by omega⟩ : Fin 4096)) := by
  blk_point [iblk, V, idx t]

theorem add_at (c : Dev nD) (t : Fin cfg0.N) (r : Fin 1408) (n : Fin 1024) : add m c t (ix2 r n)
    = arr1 m c (ix2 (⟨t.val / 128 * 1408 + r.val, by have := lt_of_lt_of_eq t.isLt N_0; omega⟩ : Fin 8448) (⟨t.val / 32 % 4 * 1024 + n.val, by omega⟩ : Fin 4096)) := by
  blk_ext [iblk, V, idx t]

/-- The result array, as a function of the arguments: the reference's own term. -/
abbrev OUT (c : Dev nD) : Vec Ideal S8448x4096 .f32 :=
  Cert.MoeDownRefIdeal.Mat.REF (arr0 m c) (arr1 m c) (arr2 m c)

theorem point (c : Dev nD) (t : Fin cfg0.N) (h : t.val % 32 = 31) (r : Fin 1408) (n : Fin 1024) :
    (outsAt0 m c t.val t.isLt).1 (ix2 r n) = OUT m c (((cfg0.win 3).blk t).view.emb (ix2 r n)) := by
  have ht := lt_of_lt_of_eq t.isLt N_0
  have he : ((cfg0.win 3).blk t).view.emb (ix2 r n)
      = ix2 (⟨t.val / 128 * 1408 + r.val, by omega⟩ : Fin 8448) (⟨t.val / 32 % 4 * 1024 + n.val, by omega⟩ : Fin 4096) := by
    blk_ext [idx t]
  rw [he]
  unfold OUT
  rw [Cert.MoeDownRefIdeal.Mat.ref_at, out_at m c t h, add_at]
  refine congrArg (_ + ·) ?_
  refine (acc_at m c t h r n).trans ?_
  refine Eq.trans (b := ∑ l : Fin 32768, arr0 m c (ix2 (⟨t.val / 128 * 1408 + r.val, by omega⟩ : Fin 8448) l)
      * arr2 m c (ix3 (⟨l.val / 4096, by omega⟩ : Fin 8) (⟨l.val % 4096, by omega⟩ : Fin 4096) (⟨t.val / 32 % 4 * 1024 + n.val, by omega⟩ : Fin 4096))) ?_ ?_
  · refine Fin.sum_mul_add_congr fun s k hl => ?_
    rw [lhs_at, rhs_at]
    refine congrArg₂ (· * ·) (congrArg _ ?_) (congrArg _ ?_) <;> blk_ext
  · refine (Fin.sum_mul_add_congr fun e f hl => ?_).symm
    refine congrArg₂ (· * ·) (congrArg _ ?_) (congrArg _ ?_) <;> blk_ext

theorem final (c : Dev nD) : (dats m 0 c).arrAt 3 cfg0.N = OUT m c := by
  refine (dats m 0 c).arrAt_eq_of_covers 3 _ (by decide +kernel) fun t hf y => ?_
  blk_simp
  rw [after0_3]
  obtain ⟨r, n, rfl⟩ : ∃ (r : Fin 1408) (n : Fin 1024), y = ix2 r n := ⟨y 0, y 1, by idx_vars y; blk_ext⟩
  exact point m c t ((flush0_3 t).mp hf) r n

theorem algebraic : Cert.algebraic_MoeDownIdeal_MoeDownRefIdeal := by
  unfold Cert.algebraic_MoeDownIdeal_MoeDownRefIdeal
  pair_intro
  · run_from Cert.MoeDownIdeal.Value.run_blocks m g
  · run_from Cert.MoeDownRefIdeal.Value.run m' g'
    exact (final m c).symm

end Cert.MoeDownIdeal.Mat
-- ==== Proof.FfnUp.lean ====
module
public import proofs.«01_k».proof.Defs
public import proofs.«01_k».proof.Proof.Gen.FfnUpIdeal.Value
public import proofs.«01_k».proof.Proof.Gen.FfnUpRefIdeal.Run
public import Idealize.ShloMosaic.Lib.Pipeline.ValueKit
public import Idealize.ShloMosaic.Lib.Pointwise
public import Idealize.ShloMosaic.Lib.Quiescent
@[expose] public section
set_option maxRecDepth 16384
noncomputable section
open Idealize.ShloMosaic Idealize.ShloMosaic.TcCoe Idealize.SL.Sem

/-! The dense part's up products: two sums kept block by block over the contracted dimension, then the silu of the one times
the other; past the 11008 columns of the weights both sums, and the result, are zero. -/

namespace Cert.FfnUpRefIdeal.Mat
open Cert.FfnUpRefIdeal Cert.FfnUpRefIdeal.Gen

/-- One product. -/
def prod (x : Vec Ideal S8448x4096 .bf16) (w : Vec Ideal S4096x11008 .f32) : FVec Ideal S8448x11008 .f32 :=
  Host.dotGeneral (φ₁ := .f32) (φ₂ := .f32) dot_S8448x4096_S4096x11008_S8448x11008_1_0_0_1_n_n none (extf (F := Ideal) (φ := .bf16) .f32 x bitsLt_bf16_f32) w

theorem prod_at (x : Vec Ideal S8448x4096 .bf16) (w : Vec Ideal S4096x11008 .f32) (r : Fin 8448) (n : Fin 11008) :
    prod x w (ix2 r n) = ∑ k : Fin 4096, x (ix2 r k) * w (ix2 k n) := by
  pointwise [prod]

theorem zero_at : FloatOps.sitofp (F := Ideal) FTy.f32 0#32 = (0 : EReal) := by
  simp [FloatOps.sitofp]

/-- The reference's result, of its arguments. -/
def REF (x : Vec Ideal S8448x4096 .bf16) (w1 w3 : Vec Ideal S4096x11008 .f32) : FVec Ideal S8448x11264 .bf16 :=
  truncf (F := Ideal) (φ := .f32) .bf16 (pad S8448x11264 ![0, 0] ![0, 256] ![0, 0] (mulf (F := Ideal) (φ := .f32) (mulf (F := Ideal) (φ := .f32) (prod x w1) (Host.divf (F := Ideal) (φ := .f32) (broadcastInDim S8448x11008 ![] bcast_S_S8448x11008 (constant (F := Ideal) S_ .f32 0x3F800000#32)) (addf (F := Ideal) (φ := .f32) (broadcastInDim S8448x11008 ![] bcast_S_S8448x11008 (constant (F := Ideal) S_ .f32 0x3F800000#32)) (Host.exp (F := Ideal) (φ := .f32) (Host.negf (F := Ideal) (φ := .f32) (prod x w1)))))) (prod x w3)) (sitofp (F := Ideal) .f32 (constantI S_ 32 0#32)) pads_S8448x11008_S8448x11264_000_02560 h_S_) bitsLt_bf16_f32

theorem ref_at (x : Vec Ideal S8448x4096 .bf16) (w1 w3 : Vec Ideal S4096x11008 .f32) (r : Fin 8448) (n : Fin 11264) :
    REF x w1 w3 (ix2 r n) = if hn : n.val < 11008 then prod x w1 (ix2 r (⟨n.val, hn⟩ : Fin 11008))
          * Ideal.div 1 (1 + Ideal.exp (-prod x w1 (ix2 r (⟨n.val, hn⟩ : Fin 11008))))
        * prod x w3 (ix2 r (⟨n.val, hn⟩ : Fin 11008)) else 0 := by
  pointwise [REF]
  by_cases hn : n.val < 11008
  · rw [dif_pos hn, dif_pos hn]
  · rw [dif_neg hn, dif_neg hn]
    exact zero_at

end Cert.FfnUpRefIdeal.Mat

namespace Cert.FfnUpIdeal.Mat
open Cert.FfnUpIdeal Cert.FfnUpIdeal.Gen
variable (m : (ℓ : Loc nD τ sig) → Buf (Elt Ideal) ℓ)

theorem first1_at (x : Vec Ideal S1408x1024 .bf16) (w : Vec Ideal S1024x1024 .bf16) (r : Fin 1408) (n : Fin 1024) :
    k0_pay2 x w (ix2 r n) = 0 + ∑ k : Fin 1024, x (ix2 r k) * w (ix2 k n) := by
  pointwise [k0_pay2, k0_pay1]

theorem first3_at (x : Vec Ideal S1408x1024 .bf16) (w : Vec Ideal S1024x1024 .bf16) (r : Fin 1408) (n : Fin 1024) :
    k0_pay5 x w (ix2 r n) = 0 + ∑ k : Fin 1024, x (ix2 r k) * w (ix2 k n) := by
  pointwise [k0_pay5, k0_pay4]

theorem next1_at (x : Vec Ideal S1408x1024 .bf16) (w : Vec Ideal S1024x1024 .bf16) (acc : Vec Ideal S1408x1024 .f32) (r : Fin 1408) (n : Fin 1024) :
    k0_pay3 x w acc (ix2 r n) = acc (ix2 r n) + ∑ k : Fin 1024, x (ix2 r k) * w (ix2 k n) := by
  pointwise [k0_pay3, k0_pay1]

theorem next3_at (x : Vec Ideal S1408x1024 .bf16) (w : Vec Ideal S1024x1024 .bf16) (acc : Vec Ideal S1408x1024 .f32) (r : Fin 1408) (n : Fin 1024) :
    k0_pay6 x w acc (ix2 r n) = acc (ix2 r n) + ∑ k : Fin 1024, x (ix2 r k) * w (ix2 k n) := by
  pointwise [k0_pay6, k0_pay4]

theorem end_at (a b : Vec Ideal S1408x1024 .f32) (r : Fin 1408) (n : Fin 1024) :
    k0_pay7 a b (ix2 r n) = a (ix2 r n) * Ideal.div 1 (1 + Ideal.exp (-a (ix2 r n))) * b (ix2 r n) := by
  pointwise [k0_pay7]
  rw [zero_sub]

theorem idx : ∀ t : Fin cfg0.N, win0_0.index t = ![t.val / 44, t.val % 4] ∧ win0_1.index t = ![t.val % 4, t.val / 4 % 11]
    ∧ win0_2.index t = ![t.val % 4, t.val / 4 % 11] ∧ win0_3.index t = ![t.val / 44, t.val / 4 % 11] :=
  (by decide +kernel : ∀ t : Fin grid0.N, _)

/-- The point's blocks, of the left operand and of the two right operands; and the two kept sums. -/
abbrev lhs (c : Dev nD) (t : Fin cfg0.N) : Vec Ideal S1408x1024 .bf16 := iblk m c 0 t
abbrev rhs1 (c : Dev nD) (t : Fin cfg0.N) : Vec Ideal S1024x1024 .bf16 := iblk m c 1 t
abbrev rhs3 (c : Dev nD) (t : Fin cfg0.N) : Vec Ideal S1024x1024 .bf16 := iblk m c 2 t
abbrev acc1 (c : Dev nD) (t : Fin cfg0.N) : Vec Ideal S1408x1024 .f32 := (outsAt0 m c t.val t.isLt).2.1
abbrev acc3 (c : Dev nD) (t : Fin cfg0.N) : Vec Ideal S1408x1024 .f32 := (outsAt0 m c t.val t.isLt).2.2

theorem keep0 (x : Vec Ideal S1408x1024 .f32) : View.read (Elt Ideal) (View.whole cc0_scratch0) ((Memref.isWhole_whole cc0_scratch0).unread x) = x :=
  Memref.IsWhole.read_unread _ _
theorem keep1 (x : Vec Ideal S1408x1024 .f32) : View.read (Elt Ideal) (View.whole cc0_scratch1) ((Memref.isWhole_whole cc0_scratch1).unread x) = x :=
  Memref.IsWhole.read_unread _ _

theorem acc1_at (c : Dev nD) (t : Fin cfg0.N) (h : t.val % 4 = 3) (r : Fin 1408) (n : Fin 1024) :
    acc1 m c t (ix2 r n) = ∑ s : Fin 4, ∑ k : Fin 1024,
      lhs m c ⟨4 * (t.val / 4) + s.val, Pipeline.run_point_lt_of_flush t h s⟩ (ix2 r k) * rhs1 m c ⟨4 * (t.val / 4) + s.val, Pipeline.run_point_lt_of_flush t h s⟩ (ix2 k n) := by
  have e := Pipeline.eq_sum_fin_of_reset_step_apply_of_flush (fun n h (q : Fin 1408 × Fin 1024) => (outsAt0 m c n h).2.1 (ix2 q.1 q.2)) 4 (fun _ => (0 : EReal))
    (fun p q => ∑ k : Fin 1024, lhs m c p (ix2 q.1 k) * rhs1 m c p (ix2 k q.2))
    (fun t h q => by
      beta_reduce
      rw [outsAt0_A m c t h (by omega) h (by omega) (by omega)]
      frame_out
      rw [first1_at])
    (fun t h q => by
      beta_reduce
      by_cases h2 : t.val % 4 = 3
      · rw [outsAt0_C m c t h (by omega) h (by omega) h2]
        frame_out
        rw [next1_at, keep0]
      · rw [outsAt0_B m c t h (by omega) h (by omega) h2]
        frame_out
        rw [next1_at, keep0])
    t h (r, n)
  exact e.trans (zero_add _)

theorem acc3_at (c : Dev nD) (t : Fin cfg0.N) (h : t.val % 4 = 3) (r : Fin 1408) (n : Fin 1024) :
    acc3 m c t (ix2 r n) = ∑ s : Fin 4, ∑ k : Fin 1024,
      lhs m c ⟨4 * (t.val / 4) + s.val, Pipeline.run_point_lt_of_flush t h s⟩ (ix2 r k) * rhs3 m c ⟨4 * (t.val / 4) + s.val, Pipeline.run_point_lt_of_flush t h s⟩ (ix2 k n) := by
  have e := Pipeline.eq_sum_fin_of_reset_step_apply_of_flush (fun n h (q : Fin 1408 × Fin 1024) => (outsAt0 m c n h).2.2 (ix2 q.1 q.2)) 4 (fun _ => (0 : EReal))
    (fun p q => ∑ k : Fin 1024, lhs m c p (ix2 q.1 k) * rhs3 m c p (ix2 k q.2))
    (fun t h q => by
      beta_reduce
      rw [outsAt0_A m c t h (by omega) h (by omega) (by omega)]
      frame_out
      rw [first3_at])
    (fun t h q => by
      beta_reduce
      by_cases h2 : t.val % 4 = 3
      · rw [outsAt0_C m c t h (by omega) h (by omega) h2]
        frame_out
        rw [next3_at, keep1]
      · rw [outsAt0_B m c t h (by omega) h (by omega) h2]
        frame_out
        rw [next3_at, keep1])
    t h (r, n)
  exact e.trans (zero_add _)

theorem out_at (c : Dev nD) (t : Fin cfg0.N) (h : t.val % 4 = 3) :
    (outsAt0 m c t.val t.isLt).1 = k0_pay7 (F := Ideal) (acc1 m c t) (acc3 m c t) := by
  unfold acc1 acc3
  rw [outsAt0_C m c t (by omega) (by omega) (by omega) (by omega) h]
  frame_out

abbrev arr0 (c : Dev nD) : Vec Ideal S8448x4096 .bf16 := m ((c.tc : Thread nD τ).loc main_arg0)
abbrev arr1 (c : Dev nD) : Vec Ideal S4096x11008 .f32 := m ((c.tc : Thread nD τ).loc main_arg1)
abbrev arr2 (c : Dev nD) : Vec Ideal S4096x11008 .f32 := m ((c.tc : Thread nD τ).loc main_arg2)

/-- A right operand, zero past its last column. -/
def wide (w : Vec Ideal S4096x11008 .f32) (k : Fin 4096) (n : Fin 11264) : EReal :=
  if hn : n.val < 11008 then w (ix2 k (⟨n.val, hn⟩ : Fin 11008)) else 0

/-- What the host makes of a right operand before the call. -/
def host (w : Vec Ideal S4096x11008 .f32) : Vec Ideal S4096x11264 .bf16 :=
  truncf (F := Ideal) (φ := .f32) .bf16 (pad S4096x11264 ![0, 0] ![0, 256] ![0, 0] w (sitofp (F := Ideal) .f32 (constantI S_ 32 0#32)) pads_S4096x11008_S4096x11264_000_02560 h_S_) bitsLt_bf16_f32

theorem host_at (w : Vec Ideal S4096x11008 .f32) (k : Fin 4096) (n : Fin 11264) : host w (ix2 k n) = wide w k n := by
  unfold wide
  pointwise [host]
  by_cases hn : n.val < 11008
  · rw [dif_pos hn, dif_pos hn]
  · rw [dif_neg hn, dif_neg hn]
    exact Cert.FfnUpRefIdeal.Mat.zero_at

theorem lhs_at (c : Dev nD) (t : Fin cfg0.N) (r : Fin 1408) (k : Fin 1024) : lhs m c t (ix2 r k)
    = arr0 m c (ix2 (⟨t.val / 44 * 1408 + r.val, by have := lt_of_lt_of_eq t.isLt N_0; omega⟩ : Fin 8448) (⟨t.val % 4 * 1024 + k.val, by omega⟩ : Fin 4096)) := by
  blk_ext [iblk, V, idx t]

theorem padded1 (c : Dev nD) : V m c main_v1 = host (arr1 m c) := by
  unfold host
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results

theorem rhs1_at (c : Dev nD) (t : Fin cfg0.N) (k : Fin 1024) (n : Fin 1024) : rhs1 m c t (ix2 k n)
    = wide (arr1 m c) (⟨t.val % 4 * 1024 + k.val, by omega⟩ : Fin 4096) (⟨t.val / 4 % 11 * 1024 + n.val, by omega⟩ : Fin 11264) := by
  have he : ((cfg0.win 1).blk t).view.emb (ix2 k n) = ix2 (⟨t.val % 4 * 1024 + k.val, by omega⟩ : Fin 4096) (⟨t.val / 4 % 11 * 1024 + n.val, by omega⟩ : Fin 11264) := by
    blk_ext [idx t]
  refine Eq.trans (b := V m c main_v1 (((cfg0.win 1).blk t).view.emb (ix2 k n))) rfl ?_
  rw [he, padded1, host_at]

theorem sum1_at (c : Dev nD) (t : Fin cfg0.N) (h : t.val % 4 = 3) (r : Fin 1408) (n : Fin 1024) :
    acc1 m c t (ix2 r n) = ∑ k : Fin 4096, arr0 m c (ix2 (⟨t.val / 44 * 1408 + r.val, by have := lt_of_lt_of_eq t.isLt N_0; omega⟩ : Fin 8448) k) * wide (arr1 m c) k (⟨t.val / 4 % 11 * 1024 + n.val, by omega⟩ : Fin 11264) := by
  have ht := lt_of_lt_of_eq t.isLt N_0
  rw [acc1_at m c t h]
  refine Fin.sum_mul_add_congr fun s k hl => ?_
  rw [lhs_at, rhs1_at]
  refine congrArg₂ (· * ·) (congrArg _ ?_) (congrArg₂ (wide (arr1 m c)) (Fin.ext ?_) (Fin.ext ?_))
  · blk_ext
  · dsimp only
    omega
  · dsimp only
    omega

theorem padded3 (c : Dev nD) : V m c main_v3 = host (arr2 m c) := by
  unfold host
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results

theorem rhs3_at (c : Dev nD) (t : Fin cfg0.N) (k : Fin 1024) (n : Fin 1024) : rhs3 m c t (ix2 k n)
    = wide (arr2 m c) (⟨t.val % 4 * 1024 + k.val, by omega⟩ : Fin 4096) (⟨t.val / 4 % 11 * 1024 + n.val, by omega⟩ : Fin 11264) := by
  have he : ((cfg0.win 2).blk t).view.emb (ix2 k n) = ix2 (⟨t.val % 4 * 1024 + k.val, by omega⟩ : Fin 4096) (⟨t.val / 4 % 11 * 1024 + n.val, by omega⟩ : Fin 11264) := by
    blk_ext [idx t]
  refine Eq.trans (b := V m c main_v3 (((cfg0.win 2).blk t).view.emb (ix2 k n))) rfl ?_
  rw [he, padded3, host_at]

theorem sum3_at (c : Dev nD) (t : Fin cfg0.N) (h : t.val % 4 = 3) (r : Fin 1408) (n : Fin 1024) :
    acc3 m c t (ix2 r n) = ∑ k : Fin 4096, arr0 m c (ix2 (⟨t.val / 44 * 1408 + r.val, by have := lt_of_lt_of_eq t.isLt N_0; omega⟩ : Fin 8448) k) * wide (arr2 m c) k (⟨t.val / 4 % 11 * 1024 + n.val, by omega⟩ : Fin 11264) := by
  have ht := lt_of_lt_of_eq t.isLt N_0
  rw [acc3_at m c t h]
  refine Fin.sum_mul_add_congr fun s k hl => ?_
  rw [lhs_at, rhs3_at]
  refine congrArg₂ (· * ·) (congrArg _ ?_) (congrArg₂ (wide (arr2 m c)) (Fin.ext ?_) (Fin.ext ?_))
  · blk_ext
  · dsimp only
    omega
  · dsimp only
    omega

theorem wide_sum (x : Vec Ideal S8448x4096 .bf16) (w : Vec Ideal S4096x11008 .f32) (r : Fin 8448) (n : Fin 11264) :
    ∑ k : Fin 4096, x (ix2 r k) * wide w k n = if hn : n.val < 11008 then Cert.FfnUpRefIdeal.Mat.prod x w (ix2 r (⟨n.val, hn⟩ : Fin 11008)) else 0 := by
  by_cases hn : n.val < 11008
  · rw [dif_pos hn, Cert.FfnUpRefIdeal.Mat.prod_at]
    exact Finset.sum_congr rfl fun k _ => congrArg (_ * ·) (dif_pos hn)
  · rw [dif_neg hn]
    exact Finset.sum_eq_zero fun k _ => (congrArg (_ * ·) (dif_neg hn)).trans (mul_zero _)

/-- The result array, as a function of the arguments: the reference's own term. -/
abbrev OUT (c : Dev nD) : Vec Ideal S8448x11264 .bf16 :=
  Cert.FfnUpRefIdeal.Mat.REF (arr0 m c) (arr1 m c) (arr2 m c)

theorem point (c : Dev nD) (t : Fin cfg0.N) (h : t.val % 4 = 3) (r : Fin 1408) (n : Fin 1024) :
    (outsAt0 m c t.val t.isLt).1 (ix2 r n) = OUT m c (((cfg0.win 3).blk t).view.emb (ix2 r n)) := by
  have ht := lt_of_lt_of_eq t.isLt N_0
  have he : ((cfg0.win 3).blk t).view.emb (ix2 r n)
      = ix2 (⟨t.val / 44 * 1408 + r.val, by omega⟩ : Fin 8448) (⟨t.val / 4 % 11 * 1024 + n.val, by omega⟩ : Fin 11264) := by
    blk_ext [idx t]
  rw [he]
  unfold OUT
  rw [Cert.FfnUpRefIdeal.Mat.ref_at, out_at m c t h, end_at, sum1_at m c t h, sum3_at m c t h, wide_sum, wide_sum]
  split_ifs
  · rfl
  · exact mul_zero _

theorem final (c : Dev nD) : (dats m 0 c).arrAt 3 cfg0.N = OUT m c := by
  refine (dats m 0 c).arrAt_eq_of_covers 3 _ (by decide +kernel) fun t hf y => ?_
  blk_simp
  rw [after0_3]
  obtain ⟨r, n, rfl⟩ : ∃ (r : Fin 1408) (n : Fin 1024), y = ix2 r n := ⟨y 0, y 1, by idx_vars y; blk_ext⟩
  exact point m c t ((flush0_3 t).mp hf) r n

theorem algebraic : Cert.algebraic_FfnUpIdeal_FfnUpRefIdeal := by
  unfold Cert.algebraic_FfnUpIdeal_FfnUpRefIdeal
  pair_intro
  · run_from Cert.FfnUpIdeal.Value.run_blocks m g
  · run_from Cert.FfnUpRefIdeal.Value.run m' g'
    exact (final m c).symm

end Cert.FfnUpIdeal.Mat

end
-- ==== Proof.FfnDown.lean ====
module

public import proofs.«01_k».proof.Defs
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The dense part's down product: a sum kept block by block over the contracted dimension, padded with zeros past its 11008 terms, then added to the residual. -/

namespace Cert.FfnDownRefIdeal.Mat
open Cert.FfnDownRefIdeal Cert.FfnDownRefIdeal.Gen

/-- The reference's result, of its arguments. -/
def REF (a : Vec Ideal S8448x11264 .bf16) (h : Vec Ideal S8448x4096 .f32) (w : Vec Ideal S11008x4096 .f32) : Vec Ideal S8448x4096 .f32 :=
  addf (F := Ideal) (φ := .f32) h (Host.dotGeneral (φ₁ := .f32) (φ₂ := .f32) dot_S8448x11008_S11008x4096_S8448x4096_1_0_0_1_n_n none (extf (F := Ideal) (φ := .bf16) .f32 (extractStridedSlice S8448x11008 ![0, 0] a slices_S8448x11264_S8448x11008_0_0) bitsLt_bf16_f32) w)

theorem ref_at (a : Vec Ideal S8448x11264 .bf16) (h : Vec Ideal S8448x4096 .f32) (w : Vec Ideal S11008x4096 .f32) (r : Fin 8448) (n : Fin 4096) :
    REF a h w (ix2 r n) = h (ix2 r n) + ∑ k : Fin 11008, a (ix2 r (⟨k.val, by omega⟩ : Fin 11264)) * w (ix2 k n) := by
  pointwise [REF]

end Cert.FfnDownRefIdeal.Mat

namespace Cert.FfnDownIdeal.Mat
open Cert.FfnDownIdeal Cert.FfnDownIdeal.Gen
variable (m : (ℓ : Loc nD τ sig) → Buf (Elt Ideal) ℓ)

theorem first_at (x : Vec Ideal S1408x1024 .bf16) (w : Vec Ideal S1024x1024 .bf16) (r : Fin 1408) (n : Fin 1024) :
    k0_pay2 x w (ix2 r n) = 0 + ∑ k : Fin 1024, x (ix2 r k) * w (ix2 k n) := by
  pointwise [k0_pay2, k0_pay1]

theorem next_at (x : Vec Ideal S1408x1024 .bf16) (w : Vec Ideal S1024x1024 .bf16) (acc : Vec Ideal S1408x1024 .f32) (r : Fin 1408) (n : Fin 1024) :
    k0_pay3 x w acc (ix2 r n) = acc (ix2 r n) + ∑ k : Fin 1024, x (ix2 r k) * w (ix2 k n) := by
  pointwise [k0_pay3, k0_pay1]

theorem idx : ∀ t : Fin cfg0.N, win0_0.index t = ![t.val / 44, t.val % 11] ∧ win0_1.index t = ![t.val % 11, t.val / 11 % 4]
    ∧ win0_2.index t = ![t.val / 44, t.val / 11 % 4] ∧ win0_3.index t = ![t.val / 44, t.val / 11 % 4] :=
  (by decide +kernel : ∀ t : Fin grid0.N, _)

/-- The point's blocks of the operands. -/
abbrev lhs (c : Dev nD) (t : Fin cfg0.N) : Vec Ideal S1408x1024 .bf16 := iblk m c 0 t
abbrev rhs (c : Dev nD) (t : Fin cfg0.N) : Vec Ideal S1024x1024 .bf16 := iblk m c 1 t
abbrev add (c : Dev nD) (t : Fin cfg0.N) : Vec Ideal S1408x1024 .f32 := iblk m c 2 t

theorem keep (x : Vec Ideal S1408x1024 .f32) : View.read (Elt Ideal) (View.whole cc0_scratch0) ((Memref.isWhole_whole cc0_scratch0).unread x) = x :=
  Memref.IsWhole.read_unread _ _

/-- The kept sum after a run's last step. -/
theorem acc_at (c : Dev nD) (t : Fin cfg0.N) (h : t.val % 11 = 10) (r : Fin 1408) (n : Fin 1024) :
    (outsAt0 m c t.val t.isLt).2 (ix2 r n) = ∑ s : Fin 11, ∑ k : Fin 1024,
      lhs m c ⟨11 * (t.val / 11) + s.val, Pipeline.run_point_lt_of_flush t h s⟩ (ix2 r k) * rhs m c ⟨11 * (t.val / 11) + s.val, Pipeline.run_point_lt_of_flush t h s⟩ (ix2 k n) := by
  have e := Pipeline.eq_sum_fin_of_reset_step_apply_of_flush (fun n h (q : Fin 1408 × Fin 1024) => (outsAt0 m c n h).2 (ix2 q.1 q.2)) 11 (fun _ => (0 : EReal))
    (fun p q => ∑ k : Fin 1024, lhs m c p (ix2 q.1 k) * rhs m c p (ix2 k q.2))
    (fun t h q => by
      beta_reduce
      rw [outsAt0_A m c t h (by omega) (by omega)]
      frame_out
      rw [first_at])
    (fun t h q => by
      beta_reduce
      by_cases h2 : t.val % 11 = 10
      · rw [outsAt0_C m c t h (by omega) h2]
        frame_out
        rw [next_at, keep]
      · rw [outsAt0_B m c t h (by omega) h2]
        frame_out
        rw [next_at, keep])
    t h (r, n)
  exact e.trans (zero_add _)

theorem out_at (c : Dev nD) (t : Fin cfg0.N) (h : t.val % 11 = 10) (r : Fin 1408) (n : Fin 1024) :
    (outsAt0 m c t.val t.isLt).1 (ix2 r n) = add m c t (ix2 r n) + (show Vec Ideal S1408x1024 .f32 from (outsAt0 m c t.val t.isLt).2) (ix2 r n) := by
  rw [outsAt0_C m c t (by omega) (by omega) h]
  frame_out
  pointwise [k0_pay4]

abbrev arr0 (c : Dev nD) : Vec Ideal S8448x11264 .bf16 := m ((c.tc : Thread nD τ).loc main_arg0)
abbrev arr1 (c : Dev nD) : Vec Ideal S8448x4096 .f32 := m ((c.tc : Thread nD τ).loc main_arg1)
abbrev arr2 (c : Dev nD) : Vec Ideal S11008x4096 .f32 := m ((c.tc : Thread nD τ).loc main_arg2)

/-- The right operand, zero past its last row. -/
def wide (c : Dev nD) (k : Fin 11264) (n : Fin 4096) : EReal :=
  if hk : k.val < 11008 then arr2 m c (ix2 (⟨k.val, hk⟩ : Fin 11008) n) else 0

theorem padded (c : Dev nD) : V m c main_v1 = truncf (F := Ideal) (φ := .f32) .bf16 (pad S11264x4096 ![0, 0] ![256, 0] ![0, 0] (arr2 m c) (sitofp (F := Ideal) .f32 (constantI S_ 32 0#32)) pads_S11008x4096_S11264x4096_02560_000 h_S_) bitsLt_bf16_f32 := by
  simp only [V, hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results

theorem lhs_at (c : Dev nD) (t : Fin cfg0.N) (r : Fin 1408) (k : Fin 1024) : lhs m c t (ix2 r k)
    = arr0 m c (ix2 (⟨t.val / 44 * 1408 + r.val, by have := lt_of_lt_of_eq t.isLt N_0; omega⟩ : Fin 8448) (⟨t.val % 11 * 1024 + k.val, by omega⟩ : Fin 11264)) := by
  blk_ext [iblk, V, idx t]

theorem rhs_at (c : Dev nD) (t : Fin cfg0.N) (k : Fin 1024) (n : Fin 1024) : rhs m c t (ix2 k n)
    = wide m c (⟨t.val % 11 * 1024 + k.val, by omega⟩ : Fin 11264) (⟨t.val / 11 % 4 * 1024 + n.val, by omega⟩ : Fin 4096) := by
  have he : ((cfg0.win 1).blk t).view.emb (ix2 k n)
      = ix2 (⟨t.val % 11 * 1024 + k.val, by omega⟩ : Fin 11264) (⟨t.val / 11 % 4 * 1024 + n.val, by omega⟩ : Fin 4096) := by
    blk_ext [idx t]
  refine Eq.trans (b := V m c main_v1 (((cfg0.win 1).blk t).view.emb (ix2 k n))) rfl ?_
  rw [he, padded]
  unfold wide
  pointwise []
  by_cases hk : t.val % 11 * 1024 + k.val < 11008
  · rw [dif_pos ⟨hk, by omega⟩, dif_pos hk]
  · rw [dif_neg fun h => hk h.1, dif_neg hk]
    simp [FloatOps.sitofp]

theorem add_at (c : Dev nD) (t : Fin cfg0.N) (r : Fin 1408) (n : Fin 1024) : add m c t (ix2 r n)
    = arr1 m c (ix2 (⟨t.val / 44 * 1408 + r.val, by have := lt_of_lt_of_eq t.isLt N_0; omega⟩ : Fin 8448) (⟨t.val / 11 % 4 * 1024 + n.val, by omega⟩ : Fin 4096)) := by
  blk_ext [iblk, V, idx t]

/-- The result array, as a function of the arguments: the reference's own term. -/
abbrev OUT (c : Dev nD) : Vec Ideal S8448x4096 .f32 :=
  Cert.FfnDownRefIdeal.Mat.REF (arr0 m c) (arr1 m c) (arr2 m c)

/-- The kept sum is the reference's product. -/
theorem sum_at (c : Dev nD) (t : Fin cfg0.N) (h : t.val % 11 = 10) (r : Fin 1408) (n : Fin 1024) :
    (outsAt0 m c t.val t.isLt).2 (ix2 r n) = ∑ k : Fin 11008, arr0 m c (ix2 (⟨t.val / 44 * 1408 + r.val, by have := lt_of_lt_of_eq t.isLt N_0; omega⟩ : Fin 8448) (⟨k.val, by omega⟩ : Fin 11264)) * arr2 m c (ix2 k (⟨t.val / 11 % 4 * 1024 + n.val, by omega⟩ : Fin 4096)) := by
  have ht := lt_of_lt_of_eq t.isLt N_0
  refine (acc_at m c t h r n).trans ?_
  refine Eq.trans (b := ∑ k : Fin (11008 + 256), arr0 m c (ix2 (⟨t.val / 44 * 1408 + r.val, by omega⟩ : Fin 8448) k) * wide m c k (⟨t.val / 11 % 4 * 1024 + n.val, by omega⟩ : Fin 4096)) ?_ ?_
  · refine Fin.sum_mul_add_congr (fun s k hl => ?_)
    rw [lhs_at, rhs_at]
    refine congrArg₂ (· * ·) (congrArg _ ?_) (congrArg₂ (wide m c) (Fin.ext ?_) (Fin.ext ?_))
    · blk_ext
    · dsimp only
      omega
    · dsimp only
      omega
  · rw [Fin.sum_univ_add]
    refine (congrArg₂ (· + ·) (Finset.sum_congr rfl fun k _ => ?_) (Finset.sum_eq_zero fun k _ => ?_)).trans (add_zero _)
    · exact congrArg (_ * ·) (dif_pos k.isLt)
    · refine (congrArg (_ * ·) (dif_neg ?_)).trans (mul_zero _)
      simp

theorem point (c : Dev nD) (t : Fin cfg0.N) (h : t.val % 11 = 10) (r : Fin 1408) (n : Fin 1024) :
    (outsAt0 m c t.val t.isLt).1 (ix2 r n) = OUT m c (((cfg0.win 3).blk t).view.emb (ix2 r n)) := by
  have ht := lt_of_lt_of_eq t.isLt N_0
  have he : ((cfg0.win 3).blk t).view.emb (ix2 r n)
      = ix2 (⟨t.val / 44 * 1408 + r.val, by omega⟩ : Fin 8448) (⟨t.val / 11 % 4 * 1024 + n.val, by omega⟩ : Fin 4096) := by
    blk_ext [idx t]
  rw [he]
  unfold OUT
  rw [Cert.FfnDownRefIdeal.Mat.ref_at, out_at m c t h, add_at]
  exact congrArg (_ + ·) (sum_at m c t h r n)

theorem final (c : Dev nD) : (dats m 0 c).arrAt 3 cfg0.N = OUT m c := by
  refine (dats m 0 c).arrAt_eq_of_covers 3 _ (by decide +kernel) fun t hf y => ?_
  blk_simp
  rw [after0_3]
  obtain ⟨r, n, rfl⟩ : ∃ (r : Fin 1408) (n : Fin 1024), y = ix2 r n := ⟨y 0, y 1, by idx_vars y; blk_ext⟩
  exact point m c t ((flush0_3 t).mp hf) r n

theorem algebraic : Cert.algebraic_FfnDownIdeal_FfnDownRefIdeal := by
  unfold Cert.algebraic_FfnDownIdeal_FfnDownRefIdeal
  pair_intro
  · run_from Cert.FfnDownIdeal.Value.run_blocks m g
  · run_from Cert.FfnDownRefIdeal.Value.run m' g'
    exact (final m c).symm

end Cert.FfnDownIdeal.Mat

end
-- ==== Proof.Gate.lean ====
module

public import proofs.«01_k».proof.Defs
public import proofs.«01_k».proof.Proof.Gen.GateIdeal.Value
public import proofs.«01_k».proof.Proof.Gen.GateRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The gates: a sum kept block by block over the contracted dimension, then the logistic function of it and of the bias. -/

namespace Cert.GateRefIdeal.Mat
open Cert.GateRefIdeal Cert.GateRefIdeal.Gen

/-- The reference's result, of its arguments. -/
def REF (a : Vec Ideal S8448x4096 .bf16) (w : Vec Ideal S4096x8192 .f32) (b : Vec Ideal S8192 .f32) : Vec Ideal S8448x8192 .bf16 :=
  truncf (F := Ideal) (φ := .f32) .bf16 (Host.divf (F := Ideal) (φ := .f32) (broadcastInDim S8448x8192 ![] bcast_S_S8448x8192 (constant S_ .f32 0x3F800000#32)) (addf (F := Ideal) (φ := .f32) (broadcastInDim S8448x8192 ![] bcast_S_S8448x8192 (constant S_ .f32 0x3F800000#32)) (Host.exp (F := Ideal) (φ := .f32) (Host.negf (F := Ideal) (φ := .f32) (addf (F := Ideal) (φ := .f32) (Host.dotGeneral (φ₁ := .f32) (φ₂ := .f32) dot_S8448x4096_S4096x8192_S8448x8192_1_0_0_1_n_n none (extf (F := Ideal) (φ := .bf16) .f32 a bitsLt_bf16_f32) w) (broadcastInDim S8448x8192 ![0, 1] bcast_S1x8192_S8448x8192_0_1 (broadcastInDim S1x8192 ![1] bcast_S8192_S1x8192_1 b))))))) bitsLt_bf16_f32

theorem ref_at (a : Vec Ideal S8448x4096 .bf16) (w : Vec Ideal S4096x8192 .f32) (b : Vec Ideal S8192 .f32) (r : Fin 8448) (n : Fin 8192) :
    REF a w b (ix2 r n) = Ideal.div 1 (1 + Ideal.exp (-(∑ k : Fin 4096, a (ix2 r k) * w (ix2 k n) + b (ix1 n)))) := by
  pointwise [REF]

end Cert.GateRefIdeal.Mat

namespace Cert.GateIdeal.Mat
open Cert.GateIdeal Cert.GateIdeal.Gen
variable (m : (ℓ : Loc nD τ sig) → Buf (Elt Ideal) ℓ)

theorem first_at (x : Vec Ideal S1408x1024 .bf16) (w : Vec Ideal S1024x1024 .bf16) (r : Fin 1408) (n : Fin 1024) :
    k0_pay2 x w (ix2 r n) = 0 + ∑ k : Fin 1024, x (ix2 r k) * w (ix2 k n) := by
  pointwise [k0_pay2, k0_pay1]

theorem next_at (x : Vec Ideal S1408x1024 .bf16) (w : Vec Ideal S1024x1024 .bf16) (acc : Vec Ideal S1408x1024 .f32) (r : Fin 1408) (n : Fin 1024) :
    k0_pay3 x w acc (ix2 r n) = acc (ix2 r n) + ∑ k : Fin 1024, x (ix2 r k) * w (ix2 k n) := by
  pointwise [k0_pay3, k0_pay1]

theorem end_at (acc : Vec Ideal S1408x1024 .f32) (b : Vec Ideal S1x1024 .f32) (r : Fin 1408) (n : Fin 1024) :
    k0_pay4 acc b (ix2 r n) = Ideal.div 1 (1 + Ideal.exp (-(acc (ix2 r n) + b (ix2 (0 : Fin 1) n)))) := by
  pointwise [k0_pay4]
  rw [zero_sub]

theorem idx : ∀ t : Fin cfg0.N, win0_0.index t = ![t.val / 32, t.val % 4] ∧ win0_1.index t = ![t.val % 4, t.val / 4 % 8]
    ∧ win0_2.index t = ![0, t.val / 4 % 8] ∧ win0_3.index t = ![t.val / 32, t.val / 4 % 8] :=
  (by decide +kernel : ∀ t : Fin grid0.N, _)

/-- The point's blocks of the operands. -/
abbrev lhs (c : Dev nD) (t : Fin cfg0.N) : Vec Ideal S1408x1024 .bf16 := iblk m c 0 t
abbrev rhs (c : Dev nD) (t : Fin cfg0.N) : Vec Ideal S1024x1024 .bf16 := iblk m c 1 t
abbrev add (c : Dev nD) (t : Fin cfg0.N) : Vec Ideal S1x1024 .f32 := iblk m c 2 t

theorem keep (x : Vec Ideal S1408x1024 .f32) : View.read (Elt Ideal) (View.whole cc0_scratch0) ((Memref.isWhole_whole cc0_scratch0).unread x) = x :=
  Memref.IsWhole.read_unread _ _

/-- The kept sum after a run's last step. -/
theorem acc_at (c : Dev nD) (t : Fin cfg0.N) (h : t.val % 4 = 3) (r : Fin 1408) (n : Fin 1024) :
    (outsAt0 m c t.val t.isLt).2 (ix2 r n) = ∑ s : Fin 4, ∑ k : Fin 1024,
      lhs m c ⟨4 * (t.val / 4) + s.val, Pipeline.run_point_lt_of_flush t h s⟩ (ix2 r k) * rhs m c ⟨4 * (t.val / 4) + s.val, Pipeline.run_point_lt_of_flush t h s⟩ (ix2 k n) := by
  have e := Pipeline.eq_sum_fin_of_reset_step_apply_of_flush (fun n h (q : Fin 1408 × Fin 1024) => (outsAt0 m c n h).2 (ix2 q.1 q.2)) 4 (fun _ => (0 : EReal))
    (fun p q => ∑ k : Fin 1024, lhs m c p (ix2 q.1 k) * rhs m c p (ix2 k q.2))
    (fun t h q => by
      beta_reduce
      rw [outsAt0_A m c t h (by omega) (by omega)]
      frame_out
      rw [first_at])
    (fun t h q => by
      beta_reduce
      by_cases h2 : t.val % 4 = 3
      · rw [outsAt0_C m c t h (by omega) h2]
        frame_out
        rw [next_at, keep]
      · rw [outsAt0_B m c t h (by omega) h2]
        frame_out
        rw [next_at, keep])
    t h (r, n)
  exact e.trans (zero_add _)

theorem out_at (c : Dev nD) (t : Fin cfg0.N) (h : t.val % 4 = 3) (r : Fin 1408) (n : Fin 1024) :
    (outsAt0 m c t.val t.isLt).1 (ix2 r n) = Ideal.div 1 (1 + Ideal.exp (-((show Vec Ideal S1408x1024 .f32 from (outsAt0 m c t.val t.isLt).2) (ix2 r n) + add m c t (ix2 (0 : Fin 1) n)))) := by
  rw [outsAt0_C m c t (by omega) (by omega) h]
  frame_out
  rw [end_at]

abbrev arr0 (c : Dev nD) : Vec Ideal S8448x4096 .bf16 := m ((c.tc : Thread nD τ).loc main_arg0)
abbrev arr1 (c : Dev nD) : Vec Ideal S4096x8192 .f32 := m ((c.tc : Thread nD τ).loc main_arg1)
abbrev arr2 (c : Dev nD) : Vec Ideal S8192 .f32 := m ((c.tc : Thread nD τ).loc main_arg2)

theorem lhs_at (c : Dev nD) (t : Fin cfg0.N) (r : Fin 1408) (k : Fin 1024) : lhs m c t (ix2 r k)
    = arr0 m c (ix2 (⟨t.val / 32 * 1408 + r.val, by have := lt_of_lt_of_eq t.isLt N_0; omega⟩ : Fin 8448) (⟨t.val % 4 * 1024 + k.val, by omega⟩ : Fin 4096)) := by
  blk_ext [iblk, V, idx t]

theorem rhs_at (c : Dev nD) (t : Fin cfg0.N) (k : Fin 1024) (n : Fin 1024) : rhs m c t (ix2 k n)
    = arr1 m c (ix2 (⟨t.val % 4 * 1024 + k.val, by omega⟩ : Fin 4096) (⟨t.val / 4 % 8 * 1024 + n.val, by omega⟩ : Fin 8192)) := by
  blk_point [iblk, V, idx t]

theorem add_at (c : Dev nD) (t : Fin cfg0.N) (n : Fin 1024) : add m c t (ix2 (0 : Fin 1) n)
    = arr2 m c (ix1 (⟨t.val / 4 % 8 * 1024 + n.val, by omega⟩ : Fin 8192)) := by
  blk_point [iblk, V, idx t]

/-- The result array, as a function of the arguments: the reference's own term. -/
abbrev OUT (c : Dev nD) : Vec Ideal S8448x8192 .bf16 :=
  Cert.GateRefIdeal.Mat.REF (arr0 m c) (arr1 m c) (arr2 m c)

/-- The kept sum is the reference's product. -/
theorem sum_at (c : Dev nD) (t : Fin cfg0.N) (h : t.val % 4 = 3) (r : Fin 1408) (n : Fin 1024) :
    (outsAt0 m c t.val t.isLt).2 (ix2 r n) = ∑ k : Fin 4096, arr0 m c (ix2 (⟨t.val / 32 * 1408 + r.val, by have := lt_of_lt_of_eq t.isLt N_0; omega⟩ : Fin 8448) k) * arr1 m c (ix2 k (⟨t.val / 4 % 8 * 1024 + n.val, by omega⟩ : Fin 8192)) := by
  have ht := lt_of_lt_of_eq t.isLt N_0
  refine (acc_at m c t h r n).trans ?_
  refine Fin.sum_mul_add_congr fun s k hl => ?_
  rw [lhs_at, rhs_at]
  refine congrArg₂ (· * ·) (congrArg _ ?_) (congrArg _ ?_) <;> blk_ext

theorem point (c : Dev nD) (t : Fin cfg0.N) (h : t.val % 4 = 3) (r : Fin 1408) (n : Fin 1024) :
    (outsAt0 m c t.val t.isLt).1 (ix2 r n) = OUT m c (((cfg0.win 3).blk t).view.emb (ix2 r n)) := by
  have ht := lt_of_lt_of_eq t.isLt N_0
  have he : ((cfg0.win 3).blk t).view.emb (ix2 r n)
      = ix2 (⟨t.val / 32 * 1408 + r.val, by omega⟩ : Fin 8448) (⟨t.val / 4 % 8 * 1024 + n.val, by omega⟩ : Fin 8192) := by
    blk_ext [idx t]
  rw [he]
  unfold OUT
  rw [Cert.GateRefIdeal.Mat.ref_at, out_at m c t h, add_at]
  exact congrArg (fun s : EReal => Ideal.div 1 (1 + Ideal.exp (-(s + _)))) (sum_at m c t h r n)

theorem final (c : Dev nD) : (dats m 0 c).arrAt 3 cfg0.N = OUT m c := by
  refine (dats m 0 c).arrAt_eq_of_covers 3 _ (by decide +kernel) fun t hf y => ?_
  blk_simp
  rw [after0_3]
  obtain ⟨r, n, rfl⟩ : ∃ (r : Fin 1408) (n : Fin 1024), y = ix2 r n := ⟨y 0, y 1, by idx_vars y; blk_ext⟩
  exact point m c t ((flush0_3 t).mp hf) r n

theorem algebraic : Cert.algebraic_GateIdeal_GateRefIdeal := by
  unfold Cert.algebraic_GateIdeal_GateRefIdeal
  pair_intro
  · run_from Cert.GateIdeal.Value.run_blocks m g
  · run_from Cert.GateRefIdeal.Value.run m' g'
    exact (final m c).symm

end Cert.GateIdeal.Mat

end
-- ==== Proof.Merge.lean ====
module
public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Quiescent
@[expose] public section
set_option maxRecDepth 16384
noncomputable section
open Idealize.ShloMosaic Idealize.ShloMosaic.TcCoe Idealize.SL.Sem

/-! The merge of the two branches: two sums kept block by block over the contracted dimension, each times its gate, added. -/

namespace Cert.MergeRefIdeal.Mat
open Cert.MergeRefIdeal Cert.MergeRefIdeal.Gen

/-- One branch's product. -/
def prod (x : Vec Ideal S8448x2048 .bf16) (w : Vec Ideal S2048x4096 .f32) : FVec Ideal S8448x4096 .f32 :=
  Host.dotGeneral (φ₁ := .f32) (φ₂ := .f32) dot_S8448x2048_S2048x4096_S8448x4096_1_0_0_1_n_n none (extf (F := Ideal) (φ := .bf16) .f32 x bitsLt_bf16_f32) w

theorem prod_at (x : Vec Ideal S8448x2048 .bf16) (w : Vec Ideal S2048x4096 .f32) (r : Fin 8448) (n : Fin 4096) :
    prod x w (ix2 r n) = ∑ k : Fin 2048, x (ix2 r k) * w (ix2 k n) := by
  pointwise [prod]

/-- The reference's result, of its arguments. -/
def REF (x y : Vec Ideal S8448x2048 .bf16) (g : Vec Ideal S8448x8192 .bf16) (wa wb : Vec Ideal S2048x4096 .f32) : FVec Ideal S8448x4096 .bf16 :=
  truncf (F := Ideal) (φ := .f32) .bf16 (addf (F := Ideal) (φ := .f32) (mulf (F := Ideal) (φ := .f32) (extractStridedSlice S8448x4096 ![0, 0] (extf (F := Ideal) (φ := .bf16) .f32 g bitsLt_bf16_f32) slices_S8448x8192_S8448x4096_0_0) (prod x wa)) (mulf (F := Ideal) (φ := .f32) (extractStridedSlice S8448x4096 ![0, 4096] (extf (F := Ideal) (φ := .bf16) .f32 g bitsLt_bf16_f32) slices_S8448x8192_S8448x4096_0_4096) (prod y wb))) bitsLt_bf16_f32

theorem ref_at (x y : Vec Ideal S8448x2048 .bf16) (g : Vec Ideal S8448x8192 .bf16) (wa wb : Vec Ideal S2048x4096 .f32) (r : Fin 8448) (n : Fin 4096) :
    REF x y g wa wb (ix2 r n) = g (ix2 r (⟨n.val, by omega⟩ : Fin 8192)) * prod x wa (ix2 r n) + g (ix2 r (⟨4096 + n.val, by omega⟩ : Fin 8192)) * prod y wb (ix2 r n) := by
  pointwise [REF]

end Cert.MergeRefIdeal.Mat

namespace Cert.MergeIdeal.Mat
open Cert.MergeIdeal Cert.MergeIdeal.Gen
variable (m : (ℓ : Loc nD τ sig) → Buf (Elt Ideal) ℓ)

theorem first1_at (x : Vec Ideal S1408x1024 .bf16) (w : Vec Ideal S1024x1024 .bf16) (r : Fin 1408) (n : Fin 1024) :
    k0_pay2 x w (ix2 r n) = 0 + ∑ k : Fin 1024, x (ix2 r k) * w (ix2 k n) := by
  pointwise [k0_pay2, k0_pay1]

theorem first3_at (x : Vec Ideal S1408x1024 .bf16) (w : Vec Ideal S1024x1024 .bf16) (r : Fin 1408) (n : Fin 1024) :
    k0_pay5 x w (ix2 r n) = 0 + ∑ k : Fin 1024, x (ix2 r k) * w (ix2 k n) := by
  pointwise [k0_pay5, k0_pay4]

theorem next1_at (x : Vec Ideal S1408x1024 .bf16) (w : Vec Ideal S1024x1024 .bf16) (acc : Vec Ideal S1408x1024 .f32) (r : Fin 1408) (n : Fin 1024) :
    k0_pay3 x w acc (ix2 r n) = acc (ix2 r n) + ∑ k : Fin 1024, x (ix2 r k) * w (ix2 k n) := by
  pointwise [k0_pay3, k0_pay1]

theorem next3_at (x : Vec Ideal S1408x1024 .bf16) (w : Vec Ideal S1024x1024 .bf16) (acc : Vec Ideal S1408x1024 .f32) (r : Fin 1408) (n : Fin 1024) :
    k0_pay6 x w acc (ix2 r n) = acc (ix2 r n) + ∑ k : Fin 1024, x (ix2 r k) * w (ix2 k n) := by
  pointwise [k0_pay6, k0_pay4]

theorem end_at (a b : Vec Ideal S1408x1024 .f32) (g g' : Vec Ideal S1408x1024 .bf16) (r : Fin 1408) (n : Fin 1024) :
    k0_pay7 a b g g' (ix2 r n) = g (ix2 r n) * a (ix2 r n) + g' (ix2 r n) * b (ix2 r n) := by
  pointwise [k0_pay7]

theorem idx : ∀ t : Fin cfg0.N, win0_0.index t = ![t.val / 8, t.val % 2] ∧ win0_1.index t = ![t.val / 8, t.val % 2]
    ∧ win0_2.index t = ![t.val % 2, t.val / 2 % 4] ∧ win0_3.index t = ![t.val % 2, t.val / 2 % 4]
    ∧ win0_4.index t = ![t.val / 8, t.val / 2 % 4] ∧ win0_5.index t = ![t.val / 8, t.val / 2 % 4 + 4] ∧ win0_6.index t = ![t.val / 8, t.val / 2 % 4] :=
  (by decide +kernel : ∀ t : Fin grid0.N, _)

/-- The point's blocks: of the two left operands, of the two right operands and of the gates; and the two kept sums. -/
abbrev lhs1 (c : Dev nD) (t : Fin cfg0.N) : Vec Ideal S1408x1024 .bf16 := iblk m c 0 t
abbrev lhs3 (c : Dev nD) (t : Fin cfg0.N) : Vec Ideal S1408x1024 .bf16 := iblk m c 1 t
abbrev rhs1 (c : Dev nD) (t : Fin cfg0.N) : Vec Ideal S1024x1024 .bf16 := iblk m c 2 t
abbrev rhs3 (c : Dev nD) (t : Fin cfg0.N) : Vec Ideal S1024x1024 .bf16 := iblk m c 3 t
abbrev gat1 (c : Dev nD) (t : Fin cfg0.N) : Vec Ideal S1408x1024 .bf16 := iblk m c 4 t
abbrev gat3 (c : Dev nD) (t : Fin cfg0.N) : Vec Ideal S1408x1024 .bf16 := iblk m c 5 t
abbrev acc1 (c : Dev nD) (t : Fin cfg0.N) : Vec Ideal S1408x1024 .f32 := (outsAt0 m c t.val t.isLt).2.1
abbrev acc3 (c : Dev nD) (t : Fin cfg0.N) : Vec Ideal S1408x1024 .f32 := (outsAt0 m c t.val t.isLt).2.2

theorem keep0 (x : Vec Ideal S1408x1024 .f32) : View.read (Elt Ideal) (View.whole cc0_scratch0) ((Memref.isWhole_whole cc0_scratch0).unread x) = x :=
  Memref.IsWhole.read_unread _ _
theorem keep1 (x : Vec Ideal S1408x1024 .f32) : View.read (Elt Ideal) (View.whole cc0_scratch1) ((Memref.isWhole_whole cc0_scratch1).unread x) = x :=
  Memref.IsWhole.read_unread _ _

theorem acc1_at (c : Dev nD) (t : Fin cfg0.N) (h : t.val % 2 = 1) (r : Fin 1408) (n : Fin 1024) :
    acc1 m c t (ix2 r n) = ∑ s : Fin 2, ∑ k : Fin 1024,
      lhs1 m c ⟨2 * (t.val / 2) + s.val, Pipeline.run_point_lt_of_flush t h s⟩ (ix2 r k) * rhs1 m c ⟨2 * (t.val / 2) + s.val, Pipeline.run_point_lt_of_flush t h s⟩ (ix2 k n) := by
  have e := Pipeline.eq_sum_fin_of_reset_step_apply_of_flush (fun n h (q : Fin 1408 × Fin 1024) => (outsAt0 m c n h).2.1 (ix2 q.1 q.2)) 2 (fun _ => (0 : EReal))
    (fun p q => ∑ k : Fin 1024, lhs1 m c p (ix2 q.1 k) * rhs1 m c p (ix2 k q.2))
    (fun t h q => by
      beta_reduce
      rw [outsAt0_A m c t h (by omega) h (by omega) (by omega)]
      frame_out
      rw [first1_at])
    (fun t h q => by
      beta_reduce
      rw [outsAt0_B m c t h (by omega) h (by omega) (by omega)]
      frame_out
      rw [next1_at, keep0])
    t h (r, n)
  exact e.trans (zero_add _)

theorem acc3_at (c : Dev nD) (t : Fin cfg0.N) (h : t.val % 2 = 1) (r : Fin 1408) (n : Fin 1024) :
    acc3 m c t (ix2 r n) = ∑ s : Fin 2, ∑ k : Fin 1024,
      lhs3 m c ⟨2 * (t.val / 2) + s.val, Pipeline.run_point_lt_of_flush t h s⟩ (ix2 r k) * rhs3 m c ⟨2 * (t.val / 2) + s.val, Pipeline.run_point_lt_of_flush t h s⟩ (ix2 k n) := by
  have e := Pipeline.eq_sum_fin_of_reset_step_apply_of_flush (fun n h (q : Fin 1408 × Fin 1024) => (outsAt0 m c n h).2.2 (ix2 q.1 q.2)) 2 (fun _ => (0 : EReal))
    (fun p q => ∑ k : Fin 1024, lhs3 m c p (ix2 q.1 k) * rhs3 m c p (ix2 k q.2))
    (fun t h q => by
      beta_reduce
      rw [outsAt0_A m c t h (by omega) h (by omega) (by omega)]
      frame_out
      rw [first3_at])
    (fun t h q => by
      beta_reduce
      rw [outsAt0_B m c t h (by omega) h (by omega) (by omega)]
      frame_out
      rw [next3_at, keep1])
    t h (r, n)
  exact e.trans (zero_add _)

theorem out_at (c : Dev nD) (t : Fin cfg0.N) (h : t.val % 2 = 1) :
    (outsAt0 m c t.val t.isLt).1 = k0_pay7 (F := Ideal) (acc1 m c t) (acc3 m c t) (gat1 m c t) (gat3 m c t) := by
  unfold acc1 acc3
  rw [outsAt0_B m c t (by omega) h (by omega) h h]
  frame_out

abbrev arr0 (c : Dev nD) : Vec Ideal S8448x2048 .bf16 := m ((c.tc : Thread nD τ).loc main_arg0)
abbrev arr1 (c : Dev nD) : Vec Ideal S8448x2048 .bf16 := m ((c.tc : Thread nD τ).loc main_arg1)
abbrev arr2 (c : Dev nD) : Vec Ideal S8448x8192 .bf16 := m ((c.tc : Thread nD τ).loc main_arg2)
abbrev arr3 (c : Dev nD) : Vec Ideal S2048x4096 .f32 := m ((c.tc : Thread nD τ).loc main_arg3)
abbrev arr4 (c : Dev nD) : Vec Ideal S2048x4096 .f32 := m ((c.tc : Thread nD τ).loc main_arg4)

theorem lhs1_at (c : Dev nD) (t : Fin cfg0.N) (r : Fin 1408) (k : Fin 1024) : lhs1 m c t (ix2 r k)
    = arr0 m c (ix2 (⟨t.val / 8 * 1408 + r.val, by have := lt_of_lt_of_eq t.isLt N_0; omega⟩ : Fin 8448) (⟨t.val % 2 * 1024 + k.val, by omega⟩ : Fin 2048)) := by
  blk_ext [iblk, V, idx t]

theorem rhs1_at (c : Dev nD) (t : Fin cfg0.N) (k : Fin 1024) (n : Fin 1024) : rhs1 m c t (ix2 k n)
    = arr3 m c (ix2 (⟨t.val % 2 * 1024 + k.val, by omega⟩ : Fin 2048) (⟨t.val / 2 % 4 * 1024 + n.val, by omega⟩ : Fin 4096)) := by
  blk_point [iblk, V, idx t]

theorem gat1_at (c : Dev nD) (t : Fin cfg0.N) (r : Fin 1408) (n : Fin 1024) : gat1 m c t (ix2 r n)
    = arr2 m c (ix2 (⟨t.val / 8 * 1408 + r.val, by have := lt_of_lt_of_eq t.isLt N_0; omega⟩ : Fin 8448) (⟨t.val / 2 % 4 * 1024 + n.val, by omega⟩ : Fin 8192)) := by
  blk_ext [iblk, V, idx t]

theorem prod1_at (c : Dev nD) (t : Fin cfg0.N) (h : t.val % 2 = 1) (r : Fin 1408) (n : Fin 1024) :
    acc1 m c t (ix2 r n) = Cert.MergeRefIdeal.Mat.prod (arr0 m c) (arr3 m c) (ix2 (⟨t.val / 8 * 1408 + r.val, by have := lt_of_lt_of_eq t.isLt N_0; omega⟩ : Fin 8448) (⟨t.val / 2 % 4 * 1024 + n.val, by omega⟩ : Fin 4096)) := by
  have ht := lt_of_lt_of_eq t.isLt N_0
  rw [acc1_at m c t h, Cert.MergeRefIdeal.Mat.prod_at]
  refine Fin.sum_mul_add_congr fun s k hl => ?_
  rw [lhs1_at, rhs1_at]
  refine congrArg₂ (· * ·) (congrArg _ ?_) (congrArg _ ?_) <;> blk_ext

theorem lhs3_at (c : Dev nD) (t : Fin cfg0.N) (r : Fin 1408) (k : Fin 1024) : lhs3 m c t (ix2 r k)
    = arr1 m c (ix2 (⟨t.val / 8 * 1408 + r.val, by have := lt_of_lt_of_eq t.isLt N_0; omega⟩ : Fin 8448) (⟨t.val % 2 * 1024 + k.val, by omega⟩ : Fin 2048)) := by
  blk_ext [iblk, V, idx t]

theorem rhs3_at (c : Dev nD) (t : Fin cfg0.N) (k : Fin 1024) (n : Fin 1024) : rhs3 m c t (ix2 k n)
    = arr4 m c (ix2 (⟨t.val % 2 * 1024 + k.val, by omega⟩ : Fin 2048) (⟨t.val / 2 % 4 * 1024 + n.val, by omega⟩ : Fin 4096)) := by
  blk_point [iblk, V, idx t]

theorem gat3_at (c : Dev nD) (t : Fin cfg0.N) (r : Fin 1408) (n : Fin 1024) : gat3 m c t (ix2 r n)
    = arr2 m c (ix2 (⟨t.val / 8 * 1408 + r.val, by have := lt_of_lt_of_eq t.isLt N_0; omega⟩ : Fin 8448) (⟨4096 + (t.val / 2 % 4 * 1024 + n.val), by omega⟩ : Fin 8192)) := by
  blk_ext [iblk, V, idx t]

theorem prod3_at (c : Dev nD) (t : Fin cfg0.N) (h : t.val % 2 = 1) (r : Fin 1408) (n : Fin 1024) :
    acc3 m c t (ix2 r n) = Cert.MergeRefIdeal.Mat.prod (arr1 m c) (arr4 m c) (ix2 (⟨t.val / 8 * 1408 + r.val, by have := lt_of_lt_of_eq t.isLt N_0; omega⟩ : Fin 8448) (⟨t.val / 2 % 4 * 1024 + n.val, by omega⟩ : Fin 4096)) := by
  have ht := lt_of_lt_of_eq t.isLt N_0
  rw [acc3_at m c t h, Cert.MergeRefIdeal.Mat.prod_at]
  refine Fin.sum_mul_add_congr fun s k hl => ?_
  rw [lhs3_at, rhs3_at]
  refine congrArg₂ (· * ·) (congrArg _ ?_) (congrArg _ ?_) <;> blk_ext

/-- The result array, as a function of the arguments: the reference's own term. -/
abbrev OUT (c : Dev nD) : Vec Ideal S8448x4096 .bf16 :=
  Cert.MergeRefIdeal.Mat.REF (arr0 m c) (arr1 m c) (arr2 m c) (arr3 m c) (arr4 m c)

theorem point (c : Dev nD) (t : Fin cfg0.N) (h : t.val % 2 = 1) (r : Fin 1408) (n : Fin 1024) :
    (outsAt0 m c t.val t.isLt).1 (ix2 r n) = OUT m c (((cfg0.win 6).blk t).view.emb (ix2 r n)) := by
  have ht := lt_of_lt_of_eq t.isLt N_0
  have he : ((cfg0.win 6).blk t).view.emb (ix2 r n)
      = ix2 (⟨t.val / 8 * 1408 + r.val, by omega⟩ : Fin 8448) (⟨t.val / 2 % 4 * 1024 + n.val, by omega⟩ : Fin 4096) := by
    blk_ext [idx t]
  rw [he]
  unfold OUT
  rw [Cert.MergeRefIdeal.Mat.ref_at, out_at m c t h, end_at, prod1_at m c t h, prod3_at m c t h, gat1_at, gat3_at]

theorem final (c : Dev nD) : (dats m 0 c).arrAt 6 cfg0.N = OUT m c := by
  refine (dats m 0 c).arrAt_eq_of_covers 6 _ (by decide +kernel) fun t hf y => ?_
  blk_simp
  rw [after0_6]
  obtain ⟨r, n, rfl⟩ : ∃ (r : Fin 1408) (n : Fin 1024), y = ix2 r n := ⟨y 0, y 1, by idx_vars y; blk_ext⟩
  exact point m c t ((flush0_6 t).mp hf) r n

theorem algebraic : Cert.algebraic_MergeIdeal_MergeRefIdeal := by
  unfold Cert.algebraic_MergeIdeal_MergeRefIdeal
  pair_intro
  · run_from Cert.MergeIdeal.Value.run_blocks m g
  · run_from Cert.MergeRefIdeal.Value.run m' g'
    exact (final m c).symm

end Cert.MergeIdeal.Mat

end
-- ==== Proof.OutProj.lean ====
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The output projection: a sum kept block by block over the contracted dimension, then added to the residual. -/

namespace Cert.OutProjRefIdeal.Mat
open Cert.OutProjRefIdeal Cert.OutProjRefIdeal.Gen

/-- The reference's result, of its arguments. -/
def REF (a : Vec Ideal S8448x4096 .bf16) (h : Vec Ideal S8448x4096 .f32) (w : Vec Ideal S4096x4096 .f32) : Vec Ideal S8448x4096 .f32 :=
  addf (F := Ideal) (φ := .f32) h (Host.dotGeneral (φ₁ := .f32) (φ₂ := .f32) dot_S8448x4096_S4096x4096_S8448x4096_1_0_0_1_n_n none (extf (F := Ideal) (φ := .bf16) .f32 a bitsLt_bf16_f32) w)

theorem ref_at (a : Vec Ideal S8448x4096 .bf16) (h : Vec Ideal S8448x4096 .f32) (w : Vec Ideal S4096x4096 .f32) (r : Fin 8448) (n : Fin 4096) :
    REF a h w (ix2 r n) = h (ix2 r n) + ∑ k : Fin 4096, a (ix2 r k) * w (ix2 k n) := by
  pointwise [REF]

end Cert.OutProjRefIdeal.Mat

namespace Cert.OutProjIdeal.Mat
open Cert.OutProjIdeal Cert.OutProjIdeal.Gen
variable (m : (ℓ : Loc nD τ sig) → Buf (Elt Ideal) ℓ)

theorem first_at (x : Vec Ideal S1408x1024 .bf16) (w : Vec Ideal S1024x1024 .bf16) (r : Fin 1408) (n : Fin 1024) :
    k0_pay2 x w (ix2 r n) = 0 + ∑ k : Fin 1024, x (ix2 r k) * w (ix2 k n) := by
  pointwise [k0_pay2, k0_pay1]

theorem next_at (x : Vec Ideal S1408x1024 .bf16) (w : Vec Ideal S1024x1024 .bf16) (acc : Vec Ideal S1408x1024 .f32) (r : Fin 1408) (n : Fin 1024) :
    k0_pay3 x w acc (ix2 r n) = acc (ix2 r n) + ∑ k : Fin 1024, x (ix2 r k) * w (ix2 k n) := by
  pointwise [k0_pay3, k0_pay1]

theorem idx : ∀ t : Fin cfg0.N, win0_0.index t = ![t.val / 16, t.val % 4] ∧ win0_1.index t = ![t.val % 4, t.val / 4 % 4]
    ∧ win0_2.index t = ![t.val / 16, t.val / 4 % 4] ∧ win0_3.index t = ![t.val / 16, t.val / 4 % 4] :=
  (by decide +kernel : ∀ t : Fin grid0.N, _)

/-- The point's blocks of the operands. -/
abbrev lhs (c : Dev nD) (t : Fin cfg0.N) : Vec Ideal S1408x1024 .bf16 := iblk m c 0 t
abbrev rhs (c : Dev nD) (t : Fin cfg0.N) : Vec Ideal S1024x1024 .bf16 := iblk m c 1 t
abbrev add (c : Dev nD) (t : Fin cfg0.N) : Vec Ideal S1408x1024 .f32 := iblk m c 2 t

theorem keep (x : Vec Ideal S1408x1024 .f32) : View.read (Elt Ideal) (View.whole cc0_scratch0) ((Memref.isWhole_whole cc0_scratch0).unread x) = x :=
  Memref.IsWhole.read_unread _ _

/-- The kept sum after a run's last step. -/
theorem acc_at (c : Dev nD) (t : Fin cfg0.N) (h : t.val % 4 = 3) (r : Fin 1408) (n : Fin 1024) :
    (outsAt0 m c t.val t.isLt).2 (ix2 r n) = ∑ s : Fin 4, ∑ k : Fin 1024,
      lhs m c ⟨4 * (t.val / 4) + s.val, Pipeline.run_point_lt_of_flush t h s⟩ (ix2 r k) * rhs m c ⟨4 * (t.val / 4) + s.val, Pipeline.run_point_lt_of_flush t h s⟩ (ix2 k n) := by
  have e := Pipeline.eq_sum_fin_of_reset_step_apply_of_flush (fun n h (q : Fin 1408 × Fin 1024) => (outsAt0 m c n h).2 (ix2 q.1 q.2)) 4 (fun _ => (0 : EReal))
    (fun p q => ∑ k : Fin 1024, lhs m c p (ix2 q.1 k) * rhs m c p (ix2 k q.2))
    (fun t h q => by
      beta_reduce
      rw [outsAt0_A m c t h (by omega) (by omega)]
      frame_out
      rw [first_at])
    (fun t h q => by
      beta_reduce
      by_cases h2 : t.val % 4 = 3
      · rw [outsAt0_C m c t h (by omega) h2]
        frame_out
        rw [next_at, keep]
      · rw [outsAt0_B m c t h (by omega) h2]
        frame_out
        rw [next_at, keep])
    t h (r, n)
  exact e.trans (zero_add _)

theorem out_at (c : Dev nD) (t : Fin cfg0.N) (h : t.val % 4 = 3) (r : Fin 1408) (n : Fin 1024) :
    (outsAt0 m c t.val t.isLt).1 (ix2 r n) = add m c t (ix2 r n) + (show Vec Ideal S1408x1024 .f32 from (outsAt0 m c t.val t.isLt).2) (ix2 r n) := by
  rw [outsAt0_C m c t (by omega) (by omega) h]
  frame_out
  pointwise [k0_pay4]

abbrev arr0 (c : Dev nD) : Vec Ideal S8448x4096 .bf16 := m ((c.tc : Thread nD τ).loc main_arg0)
abbrev arr1 (c : Dev nD) : Vec Ideal S8448x4096 .f32 := m ((c.tc : Thread nD τ).loc main_arg1)
abbrev arr2 (c : Dev nD) : Vec Ideal S4096x4096 .f32 := m ((c.tc : Thread nD τ).loc main_arg2)

theorem lhs_at (c : Dev nD) (t : Fin cfg0.N) (r : Fin 1408) (k : Fin 1024) : lhs m c t (ix2 r k)
    = arr0 m c (ix2 (⟨t.val / 16 * 1408 + r.val, by have := lt_of_lt_of_eq t.isLt N_0; omega⟩ : Fin 8448) (⟨t.val % 4 * 1024 + k.val, by omega⟩ : Fin 4096)) := by
  blk_ext [iblk, V, idx t]

theorem rhs_at (c : Dev nD) (t : Fin cfg0.N) (k : Fin 1024) (n : Fin 1024) : rhs m c t (ix2 k n)
    = arr2 m c (ix2 (⟨t.val % 4 * 1024 + k.val, by omega⟩ : Fin 4096) (⟨t.val / 4 % 4 * 1024 + n.val, by omega⟩ : Fin 4096)) := by
  blk_point [iblk, V, idx t]

theorem add_at (c : Dev nD) (t : Fin cfg0.N) (r : Fin 1408) (n : Fin 1024) : add m c t (ix2 r n)
    = arr1 m c (ix2 (⟨t.val / 16 * 1408 + r.val, by have := lt_of_lt_of_eq t.isLt N_0; omega⟩ : Fin 8448) (⟨t.val / 4 % 4 * 1024 + n.val, by omega⟩ : Fin 4096)) := by
  blk_ext [iblk, V, idx t]

/-- The result array, as a function of the arguments: the reference's own term. -/
abbrev OUT (c : Dev nD) : Vec Ideal S8448x4096 .f32 :=
  Cert.OutProjRefIdeal.Mat.REF (arr0 m c) (arr1 m c) (arr2 m c)

/-- The kept sum is the reference's product. -/
theorem sum_at (c : Dev nD) (t : Fin cfg0.N) (h : t.val % 4 = 3) (r : Fin 1408) (n : Fin 1024) :
    (outsAt0 m c t.val t.isLt).2 (ix2 r n) = ∑ k : Fin 4096, arr0 m c (ix2 (⟨t.val / 16 * 1408 + r.val, by have := lt_of_lt_of_eq t.isLt N_0; omega⟩ : Fin 8448) k) * arr2 m c (ix2 k (⟨t.val / 4 % 4 * 1024 + n.val, by omega⟩ : Fin 4096)) := by
  have ht := lt_of_lt_of_eq t.isLt N_0
  refine (acc_at m c t h r n).trans ?_
  refine Fin.sum_mul_add_congr fun s k hl => ?_
  rw [lhs_at, rhs_at]
  refine congrArg₂ (· * ·) (congrArg _ ?_) (congrArg _ ?_) <;> blk_ext

theorem point (c : Dev nD) (t : Fin cfg0.N) (h : t.val % 4 = 3) (r : Fin 1408) (n : Fin 1024) :
    (outsAt0 m c t.val t.isLt).1 (ix2 r n) = OUT m c (((cfg0.win 3).blk t).view.emb (ix2 r n)) := by
  have ht := lt_of_lt_of_eq t.isLt N_0
  have he : ((cfg0.win 3).blk t).view.emb (ix2 r n)
      = ix2 (⟨t.val / 16 * 1408 + r.val, by omega⟩ : Fin 8448) (⟨t.val / 4 % 4 * 1024 + n.val, by omega⟩ : Fin 4096) := by
    blk_ext [idx t]
  rw [he]
  unfold OUT
  rw [Cert.OutProjRefIdeal.Mat.ref_at, out_at m c t h, add_at]
  exact congrArg (_ + ·) (sum_at m c t h r n)

theorem final (c : Dev nD) : (dats m 0 c).arrAt 3 cfg0.N = OUT m c := by
  refine (dats m 0 c).arrAt_eq_of_covers 3 _ (by decide +kernel) fun t hf y => ?_
  blk_simp
  rw [after0_3]
  obtain ⟨r, n, rfl⟩ : ∃ (r : Fin 1408) (n : Fin 1024), y = ix2 r n := ⟨y 0, y 1, by idx_vars y; blk_ext⟩
  exact point m c t ((flush0_3 t).mp hf) r n

theorem algebraic : Cert.algebraic_OutProjIdeal_OutProjRefIdeal := by
  unfold Cert.algebraic_OutProjIdeal_OutProjRefIdeal
  pair_intro
  · run_from Cert.OutProjIdeal.Value.run_blocks m g
  · run_from Cert.OutProjRefIdeal.Value.run m' g'
    exact (final m c).symm

end Cert.OutProjIdeal.Mat

end
-- ==== Proof.Qkq.lean ====
module

public import proofs.«01_k».proof.Defs
public import proofs.«01_k».proof.Proof.Gen.QkqIdeal.Value
public import proofs.«01_k».proof.Proof.Gen.QkqRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The projections of the two mixers' queries and of the first one's keys: a sum kept block by block over the contracted
dimension, then each head's 128 columns normalised and scaled by a gain. -/

namespace Cert.QkqRefIdeal.Mat
open Cert.QkqRefIdeal Cert.QkqRefIdeal.Gen

/-- The normalised entry `y` of a head whose entries are `f`. -/
def HEAD (y : EReal) (f : Fin 128 → EReal) : EReal :=
  y * Ideal.rsqrt (Ideal.div (∑ d : Fin 128, f d * f d) (Ideal.ofBits FTy.f32 1124073472#32) + Ideal.ofBits FTy.f32 897988541#32)

theorem head_congr {y z : EReal} {f g : Fin 128 → EReal} (h : y = z) (hf : ∀ d, f d = g d) : HEAD y f = HEAD z g := by
  rw [h, funext hf]

/-- The whole projection. -/
def PROJ (a : Vec Ideal S8448x4096 .bf16) (w : Vec Ideal S4096x9824 .f32) : FVec Ideal S8448x9824 .f32 :=
  Host.dotGeneral (φ₁ := .f32) (φ₂ := .f32) dot_S8448x4096_S4096x9824_S8448x9824_1_0_0_1_n_n none (extf (F := Ideal) (φ := .bf16) .f32 a bitsLt_bf16_f32) w

theorem proj_at (a : Vec Ideal S8448x4096 .bf16) (w : Vec Ideal S4096x9824 .f32) (r : Fin 8448) (n : Fin 9824) :
    PROJ a w (ix2 r n) = ∑ k : Fin 4096, a (ix2 r k) * w (ix2 k n) := by
  pointwise [PROJ]

/-- One part's heads, normalised. -/
def NORM (p : FVec Ideal S8448x2048 .f32) (g : Vec Ideal S128 .f32) : FVec Ideal S8448x16x128 .f32 :=
  mulf (F := Ideal) (φ := .f32) (mulf (F := Ideal) (φ := .f32) (shapeCast _ p shapeCasts_S8448x2048_S8448x16x128) (broadcastInDim S8448x16x128 ![0, 1, 2] bcast_S8448x16x1_S8448x16x128_0_1_2 (Host.rsqrt (F := Ideal) (φ := .f32) (addf (F := Ideal) (φ := .f32) (Host.divf (F := Ideal) (φ := .f32) (broadcastInDim S8448x16x1 ![0, 1] bcast_S8448x16_S8448x16x1_0_1 (Host.reduceAdd (F := Ideal) (φ := .f32) (mulf (F := Ideal) (φ := .f32) (shapeCast _ p shapeCasts_S8448x2048_S8448x16x128) (shapeCast _ p shapeCasts_S8448x2048_S8448x16x128)) (constant (F := Ideal) S_ .f32 0x00000000#32) reducesTo_S8448x16x128_S8448x16_d2 h_S_)) (broadcastInDim S8448x16x1 ![] bcast_S_S8448x16x1 (constant (F := Ideal) S_ .f32 0x43000000#32))) (broadcastInDim S8448x16x1 ![] bcast_S_S8448x16x1 (constant (F := Ideal) S_ .f32 0x358637BD#32)))))) (broadcastInDim S8448x16x128 ![0, 1, 2] bcast_S1x1x128_S8448x16x128_0_1_2 (broadcastInDim S1x1x128 ![2] bcast_S128_S1x1x128_2 g))

theorem norm_at (p : FVec Ideal S8448x2048 .f32) (g : Vec Ideal S128 .f32) (r : Fin 8448) (h : Fin 16) (d : Fin 128) :
    NORM p g (ix3 r h d) = HEAD (p (ix2 r ⟨h.val * 128 + d.val, by omega⟩)) (fun e => p (ix2 r ⟨h.val * 128 + e.val, by omega⟩)) * g (ix1 d) := by
  unfold HEAD
  pointwise [NORM]

def SCALE : FVec Ideal S8448x16x128 .f32 :=
  broadcastInDim S8448x16x128 ![] bcast_S_S8448x16x128 (constant (F := Ideal) S_ .f32 0x3DB504F3#32)

/-- The reference's result, of its arguments. -/
def REF (a : Vec Ideal S8448x4096 .bf16) (w : Vec Ideal S4096x9824 .f32) (q k b : Vec Ideal S128 .f32) : FVec Ideal S8448x6144 .bf16 :=
  truncf (F := Ideal) (φ := .f32) .bf16 (concatenate S8448x6144 1 [⟨S8448x2048, ((shapeCast _ (mulf (F := Ideal) (φ := .f32) (NORM (extractStridedSlice S8448x2048 ![0, 0] (PROJ a w) slices_S8448x9824_S8448x2048_0_0) q) SCALE) shapeCasts_S8448x16x128_S8448x2048) : FVec Ideal S8448x2048 .f32)⟩, ⟨S8448x2048, ((shapeCast _ (NORM (extractStridedSlice S8448x2048 ![0, 2048] (PROJ a w) slices_S8448x9824_S8448x2048_0_2048) k) shapeCasts_S8448x16x128_S8448x2048) : FVec Ideal S8448x2048 .f32)⟩, ⟨S8448x2048, ((shapeCast _ (mulf (F := Ideal) (φ := .f32) (NORM (extractStridedSlice S8448x2048 ![0, 6160] (PROJ a w) slices_S8448x9824_S8448x2048_0_6160) b) SCALE) shapeCasts_S8448x16x128_S8448x2048) : FVec Ideal S8448x2048 .f32)⟩] concatenates_S8448x2048_S8448x2048_S8448x2048_S8448x6144_d1) bitsLt_bf16_f32

theorem ref_at0 (a : Vec Ideal S8448x4096 .bf16) (w : Vec Ideal S4096x9824 .f32) (q k b : Vec Ideal S128 .f32) (r : Fin 8448) (n : Fin 2048) :
    REF a w q k b (ix2 r (⟨0 + n.val, by omega⟩ : Fin 6144)) = HEAD (PROJ a w (ix2 r ⟨0 + n.val, by omega⟩))
      (fun d => PROJ a w (ix2 r ⟨0 + (n.val / 128 * 128 + d.val), by omega⟩)) * (q (ix1 (⟨n.val % 128, by omega⟩ : Fin 128)) * Ideal.ofBits FTy.f32 0x3DB504F3#32) := by
  pointwise [REF, SCALE]
  rw [norm_at, mul_assoc]
  refine congrArg₂ (fun y z : EReal => y * z) (head_congr ?_ fun d => ?_) rfl
  · pointwise []
    exact congrArg (PROJ a w) (by blk_ext)
  · pointwise []

theorem ref_at1 (a : Vec Ideal S8448x4096 .bf16) (w : Vec Ideal S4096x9824 .f32) (q k b : Vec Ideal S128 .f32) (r : Fin 8448) (n : Fin 2048) :
    REF a w q k b (ix2 r (⟨2048 + n.val, by omega⟩ : Fin 6144)) = HEAD (PROJ a w (ix2 r ⟨2048 + n.val, by omega⟩))
      (fun d => PROJ a w (ix2 r ⟨2048 + (n.val / 128 * 128 + d.val), by omega⟩)) * k (ix1 (⟨n.val % 128, by omega⟩ : Fin 128)) := by
  pointwise [REF, SCALE]
  rw [norm_at]
  refine congrArg₂ (fun y z : EReal => y * z) (head_congr ?_ fun d => ?_) rfl
  · pointwise []
    exact congrArg (PROJ a w) (by blk_ext)
  · pointwise []

theorem ref_at2 (a : Vec Ideal S8448x4096 .bf16) (w : Vec Ideal S4096x9824 .f32) (q k b : Vec Ideal S128 .f32) (r : Fin 8448) (n : Fin 2048) :
    REF a w q k b (ix2 r (⟨4096 + n.val, by omega⟩ : Fin 6144)) = HEAD (PROJ a w (ix2 r ⟨6160 + n.val, by omega⟩))
      (fun d => PROJ a w (ix2 r ⟨6160 + (n.val / 128 * 128 + d.val), by omega⟩)) * (b (ix1 (⟨n.val % 128, by omega⟩ : Fin 128)) * Ideal.ofBits FTy.f32 0x3DB504F3#32) := by
  pointwise [REF, SCALE]
  refine (dif_neg (by omega)).trans ((dif_neg (by omega)).trans ?_)
  rw [norm_at, mul_assoc]
  refine congrArg₂ (fun y z : EReal => y * z) (head_congr ?_ fun d => ?_) (congrArg (fun z : EReal => z * Ideal.ofBits FTy.f32 0x3DB504F3#32) (congrArg b (by blk_ext)))
  · pointwise []
    exact congrArg (PROJ a w) (by blk_ext)
  · pointwise []
    exact congrArg (PROJ a w) (by blk_ext)

theorem res_eq (m : (ℓ : Loc nD τ sig) → Buf (Elt Ideal) ℓ) (c : Dev nD) : Value.res_out0 m c
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.QkqRefIdeal.Mat

namespace Cert.QkqIdeal.Mat
open Cert.QkqIdeal Cert.QkqIdeal.Gen
open Cert.QkqRefIdeal.Mat (HEAD head_congr PROJ proj_at)
variable (m : (ℓ : Loc nD τ sig) → Buf (Elt Ideal) ℓ)

theorem first_at (x : Vec Ideal S1408x1024 .bf16) (w : Vec Ideal S1024x1024 .bf16) (r : Fin 1408) (n : Fin 1024) :
    k0_pay2 x w (ix2 r n) = 0 + ∑ k : Fin 1024, x (ix2 r k) * w (ix2 k n) := by
  pointwise [k0_pay2, k0_pay1]

theorem next_at (x : Vec Ideal S1408x1024 .bf16) (w : Vec Ideal S1024x1024 .bf16) (acc : Vec Ideal S1408x1024 .f32) (r : Fin 1408) (n : Fin 1024) :
    k0_pay3 x w acc (ix2 r n) = acc (ix2 r n) + ∑ k : Fin 1024, x (ix2 r k) * w (ix2 k n) := by
  pointwise [k0_pay3, k0_pay1]

/-- What the body stores after a run's last step, of the kept sum and of the gains. -/
def END (a : Vec Ideal S1408x1024 .f32) (g : Vec Ideal S1x1024 .f32) : FVec Ideal S1408x1024 .bf16 :=
  k0_pay4 a (k0_pay5 g) (k0_pay6 a g) (k0_pay7 a g) (k0_pay8 a g) (k0_pay11 (k0_pay5 g) (k0_pay9 a) (k0_pay10 a)) (k0_pay12 a (k0_pay5 g)) (k0_pay13 a (k0_pay5 g)) (k0_pay14 a) (k0_pay15 a)

theorem end_at (a : Vec Ideal S1408x1024 .f32) (g : Vec Ideal S1x1024 .f32) (r : Fin 1408) (n : Fin 1024) :
    END a g (ix2 r n) = HEAD (a (ix2 r n)) (fun d => a (ix2 r ⟨n.val / 128 * 128 + d.val, by omega⟩)) * g (ix2 0 n) := by
  have hc : ∀ {y z : EReal} {f f' : Fin 128 → EReal} {b b' : EReal}, y = z → (∀ d, f d = f' d) → b = b' →
      y * Ideal.rsqrt (Ideal.div (∑ d : Fin 128, f d * f d) (Ideal.ofBits FTy.f32 1124073472#32) + Ideal.ofBits FTy.f32 897988541#32) * b = HEAD z f' * b' :=
    fun h hf hb => congrArg₂ (fun y z : EReal => y * z) (head_congr h hf) hb
  pointwise [END, k0_pay4, k0_pay5, k0_pay6, k0_pay7, k0_pay8, k0_pay9, k0_pay10, k0_pay11, k0_pay12, k0_pay13, k0_pay14, k0_pay15]
  split_ifs <;> refine hc (congrArg a ?_) (fun d => congrArg a ?_) (congrArg g ?_) <;> blk_ext

theorem idx : ∀ t : Fin cfg0.N, win0_0.index t = ![t.val / 24, t.val % 4] ∧ win0_1.index t = ![t.val % 4, t.val / 4 % 6]
    ∧ win0_2.index t = ![0, t.val / 4 % 6] ∧ win0_3.index t = ![t.val / 24, t.val / 4 % 6] :=
  (by decide +kernel : ∀ t : Fin grid0.N, _)

/-- The point's blocks of the operands and of the gains. -/
abbrev lhs (c : Dev nD) (t : Fin cfg0.N) : Vec Ideal S1408x1024 .bf16 := iblk m c 0 t
abbrev rhs (c : Dev nD) (t : Fin cfg0.N) : Vec Ideal S1024x1024 .bf16 := iblk m c 1 t
abbrev gai (c : Dev nD) (t : Fin cfg0.N) : Vec Ideal S1x1024 .f32 := iblk m c 2 t
abbrev acc (c : Dev nD) (t : Fin cfg0.N) : Vec Ideal S1408x1024 .f32 := (outsAt0 m c t.val t.isLt).2

theorem keep (x : Vec Ideal S1408x1024 .f32) : View.read (Elt Ideal) (View.whole cc0_scratch0) ((Memref.isWhole_whole cc0_scratch0).unread x) = x :=
  Memref.IsWhole.read_unread _ _

/-- The kept sum after a run's last step. -/
theorem acc_at (c : Dev nD) (t : Fin cfg0.N) (h : t.val % 4 = 3) (r : Fin 1408) (n : Fin 1024) :
    acc m c t (ix2 r n) = ∑ s : Fin 4, ∑ k : Fin 1024,
      lhs m c ⟨4 * (t.val / 4) + s.val, Pipeline.run_point_lt_of_flush t h s⟩ (ix2 r k) * rhs m c ⟨4 * (t.val / 4) + s.val, Pipeline.run_point_lt_of_flush t h s⟩ (ix2 k n) := by
  have e := Pipeline.eq_sum_fin_of_reset_step_apply_of_flush (fun n h (q : Fin 1408 × Fin 1024) => (outsAt0 m c n h).2 (ix2 q.1 q.2)) 4 (fun _ => (0 : EReal))
    (fun p q => ∑ k : Fin 1024, lhs m c p (ix2 q.1 k) * rhs m c p (ix2 k q.2))
    (fun t h q => by
      beta_reduce
      rw [outsAt0_A m c t h (by omega) (by omega)]
      frame_out
      rw [first_at])
    (fun t h q => by
      beta_reduce
      by_cases h2 : t.val % 4 = 3
      · rw [outsAt0_C m c t h (by omega) h2]
        frame_out
        rw [next_at, keep]
      · rw [outsAt0_B m c t h (by omega) h2]
        frame_out
        rw [next_at, keep])
    t h (r, n)
  exact e.trans (zero_add _)

theorem out_at (c : Dev nD) (t : Fin cfg0.N) (h : t.val % 4 = 3) :
    (outsAt0 m c t.val t.isLt).1 = END (acc m c t) (gai m c t) := by
  unfold acc END
  rw [outsAt0_C m c t (by omega) (by omega) h]
  frame_out

abbrev arr0 (c : Dev nD) : Vec Ideal S8448x4096 .bf16 := m ((c.tc : Thread nD τ).loc main_arg0)
abbrev arr1 (c : Dev nD) : Vec Ideal S4096x9824 .f32 := m ((c.tc : Thread nD τ).loc main_arg1)
abbrev arr2 (c : Dev nD) : Vec Ideal S128 .f32 := m ((c.tc : Thread nD τ).loc main_arg2)
abbrev arr3 (c : Dev nD) : Vec Ideal S128 .f32 := m ((c.tc : Thread nD τ).loc main_arg3)
abbrev arr4 (c : Dev nD) : Vec Ideal S128 .f32 := m ((c.tc : Thread nD τ).loc main_arg4)

/-- The weights and the gains the host makes for the call. -/
def WEI (w : Vec Ideal S4096x9824 .f32) : Vec Ideal S4096x6144 .bf16 :=
  truncf (F := Ideal) (φ := .f32) .bf16 (concatenate S4096x6144 1 [⟨S4096x2048, (extractStridedSlice S4096x2048 ![0, 0] w slices_S4096x9824_S4096x2048_0_0 : FVec Ideal S4096x2048 .f32)⟩, ⟨S4096x2048, (extractStridedSlice S4096x2048 ![0, 2048] w slices_S4096x9824_S4096x2048_0_2048 : FVec Ideal S4096x2048 .f32)⟩, ⟨S4096x2048, (extractStridedSlice S4096x2048 ![0, 6160] w slices_S4096x9824_S4096x2048_0_6160 : FVec Ideal S4096x2048 .f32)⟩] concatenates_S4096x2048_S4096x2048_S4096x2048_S4096x6144_d1) bitsLt_bf16_f32

def GAI (q k b : Vec Ideal S128 .f32) : Vec Ideal S1x6144 .f32 :=
  shapeCast S1x6144 (concatenate S6144 0 [⟨S2048, ((shapeCast _ (broadcastInDim S16x128 ![0, 1] bcast_S1x128_S16x128_0_1 (shapeCast S1x128 (mulf (F := Ideal) (φ := .f32) q (broadcastInDim S128 ![] bcast_S_S128 (constant (F := Ideal) S_ .f32 0x3DB504F3#32))) shapeCasts_S128_S1x128)) shapeCasts_S16x128_S2048) : FVec Ideal S2048 .f32)⟩, ⟨S2048, ((shapeCast _ (broadcastInDim S16x128 ![0, 1] bcast_S1x128_S16x128_0_1 (shapeCast S1x128 k shapeCasts_S128_S1x128)) shapeCasts_S16x128_S2048) : FVec Ideal S2048 .f32)⟩, ⟨S2048, ((shapeCast _ (broadcastInDim S16x128 ![0, 1] bcast_S1x128_S16x128_0_1 (shapeCast S1x128 (mulf (F := Ideal) (φ := .f32) b (broadcastInDim S128 ![] bcast_S_S128 (constant (F := Ideal) S_ .f32 0x3DB504F3#32))) shapeCasts_S128_S1x128)) shapeCasts_S16x128_S2048) : FVec Ideal S2048 .f32)⟩] concatenates_S2048_S2048_S2048_S6144_d0) shapeCasts_S6144_S1x6144

/-- Three rows one after the other. -/
def ROW (x y z : FVec Ideal S2048 .f32) : Vec Ideal S1x6144 .f32 :=
  shapeCast S1x6144 (concatenate S6144 0 [⟨S2048, x⟩, ⟨S2048, y⟩, ⟨S2048, z⟩] concatenates_S2048_S2048_S2048_S6144_d0) shapeCasts_S6144_S1x6144

theorem row_at (x y z : FVec Ideal S2048 .f32) (n : Fin 2048) (u : Fin 6144) (hu : u.val = 4096 + n.val) : ROW x y z (ix2 0 u) = z (ix1 n) := by
  pointwise [ROW]
  refine (dif_neg (by omega)).trans ((dif_neg (by omega)).trans ?_)
  exact congrArg z (by blk_ext)

theorem wei_eq (c : Dev nD) : V m c main_v4 = WEI (arr1 m c) := by
  unfold WEI
  simp only [V, hostOps0]
  after_results_simp <;> (try dsimp only [Matrix.cons_val]) <;> (try after_results_simp) <;> rfl

theorem gai_eq (c : Dev nD) : V m c main_v19 = GAI (arr2 m c) (arr3 m c) (arr4 m c) := by
  unfold GAI
  simp only [V, hostOps0]
  after_results_simp <;> (try dsimp only [Matrix.cons_val]) <;> (try after_results_simp) <;> rfl

theorem wei_at0 (w : Vec Ideal S4096x9824 .f32) (k : Fin 4096) (n : Fin 2048) :
    WEI w (ix2 k (⟨0 + n.val, by omega⟩ : Fin 6144)) = w (ix2 k (⟨0 + n.val, by omega⟩ : Fin 9824)) := by
  pointwise [WEI]

theorem gai_at0 (q k b : Vec Ideal S128 .f32) (n : Fin 2048) :
    GAI q k b (ix2 0 (⟨0 + n.val, by omega⟩ : Fin 6144)) = q (ix1 (⟨n.val % 128, by omega⟩ : Fin 128)) * Ideal.ofBits FTy.f32 0x3DB504F3#32 := by
  pointwise [GAI]

theorem wei_at1 (w : Vec Ideal S4096x9824 .f32) (k : Fin 4096) (n : Fin 2048) :
    WEI w (ix2 k (⟨2048 + n.val, by omega⟩ : Fin 6144)) = w (ix2 k (⟨2048 + n.val, by omega⟩ : Fin 9824)) := by
  pointwise [WEI]

theorem gai_at1 (q k b : Vec Ideal S128 .f32) (n : Fin 2048) :
    GAI q k b (ix2 0 (⟨2048 + n.val, by omega⟩ : Fin 6144)) = k (ix1 (⟨n.val % 128, by omega⟩ : Fin 128)) := by
  pointwise [GAI]

theorem wei_at2 (w : Vec Ideal S4096x9824 .f32) (k : Fin 4096) (n : Fin 2048) :
    WEI w (ix2 k (⟨4096 + n.val, by omega⟩ : Fin 6144)) = w (ix2 k (⟨6160 + n.val, by omega⟩ : Fin 9824)) := by
  pointwise [WEI]
  refine (dif_neg (by omega)).trans ((dif_neg (by omega)).trans ?_)
  exact congrArg w (by blk_ext)

theorem gai_at2 (q k b : Vec Ideal S128 .f32) (n : Fin 2048) :
    GAI q k b (ix2 0 (⟨4096 + n.val, by omega⟩ : Fin 6144)) = b (ix1 (⟨n.val % 128, by omega⟩ : Fin 128)) * Ideal.ofBits FTy.f32 0x3DB504F3#32 := by
  unfold GAI
  refine (row_at _ _ _ n ⟨4096 + n.val, by omega⟩ rfl).trans ?_
  pointwise []

theorem lhs_at (c : Dev nD) (t : Fin cfg0.N) (r : Fin 1408) (k : Fin 1024) : lhs m c t (ix2 r k)
    = arr0 m c (ix2 (⟨t.val / 24 * 1408 + r.val, by have := lt_of_lt_of_eq t.isLt N_0; omega⟩ : Fin 8448) (⟨t.val % 4 * 1024 + k.val, by omega⟩ : Fin 4096)) := by
  blk_ext [iblk, V, idx t]

theorem rhs_at (c : Dev nD) (t : Fin cfg0.N) (k : Fin 1024) (n : Fin 1024) : rhs m c t (ix2 k n)
    = WEI (arr1 m c) (ix2 (⟨t.val % 4 * 1024 + k.val, by omega⟩ : Fin 4096) (⟨t.val / 4 % 6 * 1024 + n.val, by omega⟩ : Fin 6144)) := by
  have he : ((cfg0.win 1).blk t).view.emb (ix2 k n) = ix2 (⟨t.val % 4 * 1024 + k.val, by omega⟩ : Fin 4096) (⟨t.val / 4 % 6 * 1024 + n.val, by omega⟩ : Fin 6144) := by
    blk_ext [idx t]
  refine Eq.trans (b := V m c main_v4 (((cfg0.win 1).blk t).view.emb (ix2 k n))) rfl ?_
  rw [he, wei_eq]

theorem gat_at (c : Dev nD) (t : Fin cfg0.N) (n : Fin 1024) : gai m c t (ix2 0 n)
    = GAI (arr2 m c) (arr3 m c) (arr4 m c) (ix2 0 (⟨t.val / 4 % 6 * 1024 + n.val, by omega⟩ : Fin 6144)) := by
  have he : ((cfg0.win 2).blk t).view.emb (ix2 0 n) = ix2 0 (⟨t.val / 4 % 6 * 1024 + n.val, by omega⟩ : Fin 6144) := by
    blk_ext [idx t]
  refine Eq.trans (b := V m c main_v19 (((cfg0.win 2).blk t).view.emb (ix2 0 n))) rfl ?_
  rw [he, gai_eq]

/-- The product of the rows with the chosen columns. -/
def KP (a : Vec Ideal S8448x4096 .bf16) (w : Vec Ideal S4096x9824 .f32) (r : Fin 8448) (n : Fin 6144) : EReal :=
  ∑ k : Fin 4096, a (ix2 r k) * WEI w (ix2 k n)

theorem sum_at (c : Dev nD) (t : Fin cfg0.N) (h : t.val % 4 = 3) (r : Fin 1408) (n : Fin 1024) :
    acc m c t (ix2 r n) = KP (arr0 m c) (arr1 m c) (⟨t.val / 24 * 1408 + r.val, by have := lt_of_lt_of_eq t.isLt N_0; omega⟩ : Fin 8448) (⟨t.val / 4 % 6 * 1024 + n.val, by omega⟩ : Fin 6144) := by
  have ht := lt_of_lt_of_eq t.isLt N_0
  rw [acc_at m c t h]
  unfold KP
  refine Fin.sum_mul_add_congr fun s k hl => ?_
  rw [lhs_at, rhs_at]
  refine congrArg₂ (· * ·) (congrArg _ ?_) (congrArg _ ?_) <;> blk_ext

theorem kp_at0 (a : Vec Ideal S8448x4096 .bf16) (w : Vec Ideal S4096x9824 .f32) (r : Fin 8448) (n : Fin 2048) :
    KP a w r (⟨0 + n.val, by omega⟩ : Fin 6144) = PROJ a w (ix2 r (⟨0 + n.val, by omega⟩ : Fin 9824)) := by
  unfold KP
  rw [proj_at]
  exact Finset.sum_congr rfl fun k _ => congrArg (_ * ·) (wei_at0 w k n)

theorem all_at0 (a : Vec Ideal S8448x4096 .bf16) (w : Vec Ideal S4096x9824 .f32) (q k b : Vec Ideal S128 .f32) (r : Fin 8448) (n : Fin 6144) (u : Fin 2048) (hn : n = ⟨0 + u.val, by omega⟩) :
    HEAD (KP a w r n) (fun d => KP a w r (⟨n.val / 128 * 128 + d.val, by omega⟩ : Fin 6144)) * GAI q k b (ix2 0 n)
      = Cert.QkqRefIdeal.Mat.REF a w q k b (ix2 r n) := by
  subst hn
  rw [Cert.QkqRefIdeal.Mat.ref_at0, gai_at0]
  refine congrArg (fun y : EReal => y * _) (head_congr (kp_at0 a w r u) fun d => ?_)
  refine Eq.trans (congrArg (KP a w r) (Fin.ext ?_)) (kp_at0 a w r ⟨u.val / 128 * 128 + d.val, by omega⟩)
  dsimp only
  omega

theorem kp_at1 (a : Vec Ideal S8448x4096 .bf16) (w : Vec Ideal S4096x9824 .f32) (r : Fin 8448) (n : Fin 2048) :
    KP a w r (⟨2048 + n.val, by omega⟩ : Fin 6144) = PROJ a w (ix2 r (⟨2048 + n.val, by omega⟩ : Fin 9824)) := by
  unfold KP
  rw [proj_at]
  exact Finset.sum_congr rfl fun k _ => congrArg (_ * ·) (wei_at1 w k n)

theorem all_at1 (a : Vec Ideal S8448x4096 .bf16) (w : Vec Ideal S4096x9824 .f32) (q k b : Vec Ideal S128 .f32) (r : Fin 8448) (n : Fin 6144) (u : Fin 2048) (hn : n = ⟨2048 + u.val, by omega⟩) :
    HEAD (KP a w r n) (fun d => KP a w r (⟨n.val / 128 * 128 + d.val, by omega⟩ : Fin 6144)) * GAI q k b (ix2 0 n)
      = Cert.QkqRefIdeal.Mat.REF a w q k b (ix2 r n) := by
  subst hn
  rw [Cert.QkqRefIdeal.Mat.ref_at1, gai_at1]
  refine congrArg (fun y : EReal => y * _) (head_congr (kp_at1 a w r u) fun d => ?_)
  refine Eq.trans (congrArg (KP a w r) (Fin.ext ?_)) (kp_at1 a w r ⟨u.val / 128 * 128 + d.val, by omega⟩)
  dsimp only
  omega

theorem kp_at2 (a : Vec Ideal S8448x4096 .bf16) (w : Vec Ideal S4096x9824 .f32) (r : Fin 8448) (n : Fin 2048) :
    KP a w r (⟨4096 + n.val, by omega⟩ : Fin 6144) = PROJ a w (ix2 r (⟨6160 + n.val, by omega⟩ : Fin 9824)) := by
  unfold KP
  rw [proj_at]
  exact Finset.sum_congr rfl fun k _ => congrArg (_ * ·) (wei_at2 w k n)

theorem all_at2 (a : Vec Ideal S8448x4096 .bf16) (w : Vec Ideal S4096x9824 .f32) (q k b : Vec Ideal S128 .f32) (r : Fin 8448) (n : Fin 6144) (u : Fin 2048) (hn : n = ⟨4096 + u.val, by omega⟩) :
    HEAD (KP a w r n) (fun d => KP a w r (⟨n.val / 128 * 128 + d.val, by omega⟩ : Fin 6144)) * GAI q k b (ix2 0 n)
      = Cert.QkqRefIdeal.Mat.REF a w q k b (ix2 r n) := by
  subst hn
  rw [Cert.QkqRefIdeal.Mat.ref_at2, gai_at2]
  refine congrArg (fun y : EReal => y * _) (head_congr (kp_at2 a w r u) fun d => ?_)
  refine Eq.trans (congrArg (KP a w r) (Fin.ext ?_)) (kp_at2 a w r ⟨u.val / 128 * 128 + d.val, by omega⟩)
  dsimp only
  omega

theorem all_at (a : Vec Ideal S8448x4096 .bf16) (w : Vec Ideal S4096x9824 .f32) (q k b : Vec Ideal S128 .f32) (r : Fin 8448) (n : Fin 6144) :
    HEAD (KP a w r n) (fun d => KP a w r (⟨n.val / 128 * 128 + d.val, by omega⟩ : Fin 6144)) * GAI q k b (ix2 0 n)
      = Cert.QkqRefIdeal.Mat.REF a w q k b (ix2 r n) := by
  rcases Nat.lt_or_ge n.val 2048 with h | h
  · exact all_at0 a w q k b r n ⟨n.val, h⟩ (Fin.ext (by dsimp only; omega))
  · rcases Nat.lt_or_ge n.val 4096 with h' | h'
    · exact all_at1 a w q k b r n ⟨n.val - 2048, by omega⟩ (Fin.ext (by dsimp only; omega))
    · exact all_at2 a w q k b r n ⟨n.val - 4096, by omega⟩ (Fin.ext (by dsimp only; omega))

/-- The result array, as a function of the arguments: the reference's own term. -/
abbrev OUT (c : Dev nD) : Vec Ideal S8448x6144 .bf16 :=
  Cert.QkqRefIdeal.Mat.REF (arr0 m c) (arr1 m c) (arr2 m c) (arr3 m c) (arr4 m c)

theorem point (c : Dev nD) (t : Fin cfg0.N) (h : t.val % 4 = 3) (r : Fin 1408) (n : Fin 1024) :
    (outsAt0 m c t.val t.isLt).1 (ix2 r n) = OUT m c (((cfg0.win 3).blk t).view.emb (ix2 r n)) := by
  have ht := lt_of_lt_of_eq t.isLt N_0
  have he : ((cfg0.win 3).blk t).view.emb (ix2 r n)
      = ix2 (⟨t.val / 24 * 1408 + r.val, by omega⟩ : Fin 8448) (⟨t.val / 4 % 6 * 1024 + n.val, by omega⟩ : Fin 6144) := by
    blk_ext [idx t]
  rw [he]
  unfold OUT
  rw [← all_at, out_at m c t h, end_at, gat_at]
  refine congrArg (fun y : EReal => y * _) (head_congr (sum_at m c t h r n) fun d => ?_)
  refine (sum_at m c t h r _).trans (congrArg (KP _ _ _) (Fin.ext ?_))
  dsimp only
  omega

theorem final (c : Dev nD) : (dats m 0 c).arrAt 3 cfg0.N = OUT m c := by
  refine (dats m 0 c).arrAt_eq_of_covers 3 _ (by decide +kernel) fun t hf y => ?_
  blk_simp
  rw [after0_3]
  obtain ⟨r, n, rfl⟩ : ∃ (r : Fin 1408) (n : Fin 1024), y = ix2 r n := ⟨y 0, y 1, by idx_vars y; blk_ext⟩
  exact point m c t ((flush0_3 t).mp hf) r n

theorem algebraic : Cert.algebraic_QkqIdeal_QkqRefIdeal := by
  unfold Cert.algebraic_QkqIdeal_QkqRefIdeal
  pair_intro
  · run_from Cert.QkqIdeal.Value.run_blocks m g
  · run_from Cert.QkqRefIdeal.Value.run m' g'
    have e := Cert.QkqRefIdeal.Mat.res_eq m' c
    rw [(hagree c).1, (hagree c).2.1, (hagree c).2.2.1, (hagree c).2.2.2.1, (hagree c).2.2.2.2] at e
    exact e.trans (final m c).symm

end Cert.QkqIdeal.Mat

end
-- ==== Proof.Va.lean ====
module

public import proofs.«01_k».proof.Defs
public import proofs.«01_k».proof.Proof.Gen.VaIdeal.Value
public import proofs.«01_k».proof.Proof.Gen.VaRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The projection of the values: a sum kept block by block over the contracted dimension. -/

namespace Cert.VaRefIdeal.Mat
open Cert.VaRefIdeal Cert.VaRefIdeal.Gen

/-- The reference's result, of its arguments. -/
def REF (a : Vec Ideal S8448x4096 .bf16) (w : Vec Ideal S4096x9824 .f32) : Vec Ideal S8448x2048 .bf16 :=
  truncf (F := Ideal) (φ := .f32) .bf16 (extractStridedSlice S8448x2048 ![0, 4096] (Host.dotGeneral (φ₁ := .f32) (φ₂ := .f32) dot_S8448x4096_S4096x9824_S8448x9824_1_0_0_1_n_n none (extf (F := Ideal) (φ := .bf16) .f32 a bitsLt_bf16_f32) w) slices_S8448x9824_S8448x2048_0_4096) bitsLt_bf16_f32

theorem ref_at (a : Vec Ideal S8448x4096 .bf16) (w : Vec Ideal S4096x9824 .f32) (r : Fin 8448) (n : Fin 2048) :
    REF a w (ix2 r n) = ∑ k : Fin 4096, a (ix2 r k) * w (ix2 k (⟨4096 + n.val, by omega⟩ : Fin 9824)) := by
  pointwise [REF]

end Cert.VaRefIdeal.Mat

namespace Cert.VaIdeal.Mat
open Cert.VaIdeal Cert.VaIdeal.Gen
variable (m : (ℓ : Loc nD τ sig) → Buf (Elt Ideal) ℓ)

theorem first_at (x : Vec Ideal S1408x1024 .bf16) (w : Vec Ideal S1024x1024 .bf16) (r : Fin 1408) (n : Fin 1024) :
    k0_pay2 x w (ix2 r n) = 0 + ∑ k : Fin 1024, x (ix2 r k) * w (ix2 k n) := by
  pointwise [k0_pay2, k0_pay1]

theorem next_at (x : Vec Ideal S1408x1024 .bf16) (w : Vec Ideal S1024x1024 .bf16) (acc : Vec Ideal S1408x1024 .f32) (r : Fin 1408) (n : Fin 1024) :
    k0_pay3 x w acc (ix2 r n) = acc (ix2 r n) + ∑ k : Fin 1024, x (ix2 r k) * w (ix2 k n) := by
  pointwise [k0_pay3, k0_pay1]

theorem idx : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, _)

/-- The point's blocks of the operands. -/
abbrev lhs (c : Dev nD) (t : Fin cfg0.N) : Vec Ideal S1408x1024 .bf16 := iblk m c 0 t
abbrev rhs (c : Dev nD) (t : Fin cfg0.N) : Vec Ideal S1024x1024 .bf16 := iblk m c 1 t

theorem keep (x : Vec Ideal S1408x1024 .f32) : View.read (Elt Ideal) (View.whole cc0_scratch0) ((Memref.isWhole_whole cc0_scratch0).unread x) = x :=
  Memref.IsWhole.read_unread _ _

/-- The kept sum after a run's last step. -/
theorem acc_at (c : Dev nD) (t : Fin cfg0.N) (h : t.val % 4 = 3) (r : Fin 1408) (n : Fin 1024) :
    (outsAt0 m c t.val t.isLt).2 (ix2 r n) = ∑ s : Fin 4, ∑ k : Fin 1024,
      lhs m c ⟨4 * (t.val / 4) + s.val, Pipeline.run_point_lt_of_flush t h s⟩ (ix2 r k) * rhs m c ⟨4 * (t.val / 4) + s.val, Pipeline.run_point_lt_of_flush t h s⟩ (ix2 k n) := by
  have e := Pipeline.eq_sum_fin_of_reset_step_apply_of_flush (fun n h (q : Fin 1408 × Fin 1024) => (outsAt0 m c n h).2 (ix2 q.1 q.2)) 4 (fun _ => (0 : EReal))
    (fun p q => ∑ k : Fin 1024, lhs m c p (ix2 q.1 k) * rhs m c p (ix2 k q.2))
    (fun t h q => by
      beta_reduce
      rw [outsAt0_A m c t h (by omega) (by omega)]
      frame_out
      rw [first_at])
    (fun t h q => by
      beta_reduce
      by_cases h2 : t.val % 4 = 3
      · rw [outsAt0_C m c t h (by omega) h2]
        frame_out
        rw [next_at, keep]
      · rw [outsAt0_B m c t h (by omega) h2]
        frame_out
        rw [next_at, keep])
    t h (r, n)
  exact e.trans (zero_add _)

theorem out_at (c : Dev nD) (t : Fin cfg0.N) (h : t.val % 4 = 3) (r : Fin 1408) (n : Fin 1024) :
    (outsAt0 m c t.val t.isLt).1 (ix2 r n) = (show Vec Ideal S1408x1024 .f32 from (outsAt0 m c t.val t.isLt).2) (ix2 r n) := by
  rw [outsAt0_C m c t (by omega) (by omega) h]
  frame_out
  pointwise [k0_pay4]

abbrev arr0 (c : Dev nD) : Vec Ideal S8448x4096 .bf16 := m ((c.tc : Thread nD τ).loc main_arg0)
abbrev arr1 (c : Dev nD) : Vec Ideal S4096x9824 .f32 := m ((c.tc : Thread nD τ).loc main_arg1)

theorem lhs_at (c : Dev nD) (t : Fin cfg0.N) (r : Fin 1408) (k : Fin 1024) : lhs m c t (ix2 r k)
    = arr0 m c (ix2 (⟨t.val / 8 * 1408 + r.val, by have := lt_of_lt_of_eq t.isLt N_0; omega⟩ : Fin 8448) (⟨t.val % 4 * 1024 + k.val, by omega⟩ : Fin 4096)) := by
  blk_ext [iblk, V, idx t]

theorem rhs_at (c : Dev nD) (t : Fin cfg0.N) (k : Fin 1024) (n : Fin 1024) : rhs m c t (ix2 k n)
    = arr1 m c (ix2 (⟨t.val % 4 * 1024 + k.val, by omega⟩ : Fin 4096) (⟨4096 + (t.val / 4 % 2 * 1024 + n.val), by omega⟩ : Fin 9824)) := by
  blk_point [iblk, V, idx t]

/-- The result array, as a function of the arguments: the reference's own term. -/
abbrev OUT (c : Dev nD) : Vec Ideal S8448x2048 .bf16 :=
  Cert.VaRefIdeal.Mat.REF (arr0 m c) (arr1 m c)

/-- The kept sum is the reference's product. -/
theorem sum_at (c : Dev nD) (t : Fin cfg0.N) (h : t.val % 4 = 3) (r : Fin 1408) (n : Fin 1024) :
    (outsAt0 m c t.val t.isLt).2 (ix2 r n) = ∑ k : Fin 4096, arr0 m c (ix2 (⟨t.val / 8 * 1408 + r.val, by have := lt_of_lt_of_eq t.isLt N_0; omega⟩ : Fin 8448) k) * arr1 m c (ix2 k (⟨4096 + (t.val / 4 % 2 * 1024 + n.val), by omega⟩ : Fin 9824)) := by
  have ht := lt_of_lt_of_eq t.isLt N_0
  refine (acc_at m c t h r n).trans ?_
  refine Fin.sum_mul_add_congr fun s k hl => ?_
  rw [lhs_at, rhs_at]
  refine congrArg₂ (· * ·) (congrArg _ ?_) (congrArg _ ?_) <;> blk_ext

theorem point (c : Dev nD) (t : Fin cfg0.N) (h : t.val % 4 = 3) (r : Fin 1408) (n : Fin 1024) :
    (outsAt0 m c t.val t.isLt).1 (ix2 r n) = OUT m c (((cfg0.win 2).blk t).view.emb (ix2 r n)) := by
  have ht := lt_of_lt_of_eq t.isLt N_0
  have he : ((cfg0.win 2).blk t).view.emb (ix2 r n)
      = ix2 (⟨t.val / 8 * 1408 + r.val, by omega⟩ : Fin 8448) (⟨t.val / 4 % 2 * 1024 + n.val, by omega⟩ : Fin 2048) := by
    blk_ext [idx t]
  rw [he]
  unfold OUT
  rw [Cert.VaRefIdeal.Mat.ref_at, out_at m c t h]
  exact sum_at m c t h r n

theorem final (c : Dev nD) : (dats m 0 c).arrAt 2 cfg0.N = OUT m c := by
  refine (dats m 0 c).arrAt_eq_of_covers 2 _ (by decide +kernel) fun t hf y => ?_
  blk_simp
  rw [after0_2]
  obtain ⟨r, n, rfl⟩ : ∃ (r : Fin 1408) (n : Fin 1024), y = ix2 r n := ⟨y 0, y 1, by idx_vars y; blk_ext⟩
  exact point m c t ((flush0_2 t).mp hf) r n

theorem algebraic : Cert.algebraic_VaIdeal_VaRefIdeal := by
  unfold Cert.algebraic_VaIdeal_VaRefIdeal
  pair_intro
  · run_from Cert.VaIdeal.Value.run_blocks m g
  · run_from Cert.VaRefIdeal.Value.run m' g'
    exact (final m c).symm

end Cert.VaIdeal.Mat

end
-- ==== Proof.Qi.lean ====
module

public import proofs.«01_k».proof.Defs
public import proofs.«01_k».proof.Proof.Gen.QiIdeal.Value
public import proofs.«01_k».proof.Proof.Gen.QiRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The projection of the index queries: a sum kept block by block over the contracted dimension. -/

namespace Cert.QiRefIdeal.Mat
open Cert.QiRefIdeal Cert.QiRefIdeal.Gen

/-- The reference's result, of its arguments. -/
def REF (a : Vec Ideal S8448x4096 .bf16) (w : Vec Ideal S4096x9824 .f32) : Vec Ideal S8448x1024 .bf16 :=
  truncf (F := Ideal) (φ := .f32) .bf16 (extractStridedSlice S8448x1024 ![0, 8720] (Host.dotGeneral (φ₁ := .f32) (φ₂ := .f32) dot_S8448x4096_S4096x9824_S8448x9824_1_0_0_1_n_n none (extf (F := Ideal) (φ := .bf16) .f32 a bitsLt_bf16_f32) w) slices_S8448x9824_S8448x1024_0_8720) bitsLt_bf16_f32

theorem ref_at (a : Vec Ideal S8448x4096 .bf16) (w : Vec Ideal S4096x9824 .f32) (r : Fin 8448) (n : Fin 1024) :
    REF a w (ix2 r n) = ∑ k : Fin 4096, a (ix2 r k) * w (ix2 k (⟨8720 + n.val, by omega⟩ : Fin 9824)) := by
  pointwise [REF]

end Cert.QiRefIdeal.Mat

namespace Cert.QiIdeal.Mat
open Cert.QiIdeal Cert.QiIdeal.Gen
variable (m : (ℓ : Loc nD τ sig) → Buf (Elt Ideal) ℓ)

theorem first_at (x : Vec Ideal S1408x1024 .bf16) (w : Vec Ideal S1024x1024 .bf16) (r : Fin 1408) (n : Fin 1024) :
    k0_pay2 x w (ix2 r n) = 0 + ∑ k : Fin 1024, x (ix2 r k) * w (ix2 k n) := by
  pointwise [k0_pay2, k0_pay1]

theorem next_at (x : Vec Ideal S1408x1024 .bf16) (w : Vec Ideal S1024x1024 .bf16) (acc : Vec Ideal S1408x1024 .f32) (r : Fin 1408) (n : Fin 1024) :
    k0_pay3 x w acc (ix2 r n) = acc (ix2 r n) + ∑ k : Fin 1024, x (ix2 r k) * w (ix2 k n) := by
  pointwise [k0_pay3, k0_pay1]

theorem idx : ∀ t : Fin cfg0.N, win0_0.index t = ![t.val / 4, t.val % 4] ∧ win0_1.index t = ![t.val % 4, t.val / 4 % 1]
    ∧ win0_2.index t = ![t.val / 4, t.val / 4 % 1] :=
  (by decide +kernel : ∀ t : Fin grid0.N, _)

/-- The point's blocks of the operands. -/
abbrev lhs (c : Dev nD) (t : Fin cfg0.N) : Vec Ideal S1408x1024 .bf16 := iblk m c 0 t
abbrev rhs (c : Dev nD) (t : Fin cfg0.N) : Vec Ideal S1024x1024 .bf16 := iblk m c 1 t

theorem keep (x : Vec Ideal S1408x1024 .f32) : View.read (Elt Ideal) (View.whole cc0_scratch0) ((Memref.isWhole_whole cc0_scratch0).unread x) = x :=
  Memref.IsWhole.read_unread _ _

/-- The kept sum after a run's last step. -/
theorem acc_at (c : Dev nD) (t : Fin cfg0.N) (h : t.val % 4 = 3) (r : Fin 1408) (n : Fin 1024) :
    (outsAt0 m c t.val t.isLt).2 (ix2 r n) = ∑ s : Fin 4, ∑ k : Fin 1024,
      lhs m c ⟨4 * (t.val / 4) + s.val, Pipeline.run_point_lt_of_flush t h s⟩ (ix2 r k) * rhs m c ⟨4 * (t.val / 4) + s.val, Pipeline.run_point_lt_of_flush t h s⟩ (ix2 k n) := by
  have e := Pipeline.eq_sum_fin_of_reset_step_apply_of_flush (fun n h (q : Fin 1408 × Fin 1024) => (outsAt0 m c n h).2 (ix2 q.1 q.2)) 4 (fun _ => (0 : EReal))
    (fun p q => ∑ k : Fin 1024, lhs m c p (ix2 q.1 k) * rhs m c p (ix2 k q.2))
    (fun t h q => by
      beta_reduce
      rw [outsAt0_A m c t h (by omega) (by omega)]
      frame_out
      rw [first_at])
    (fun t h q => by
      beta_reduce
      by_cases h2 : t.val % 4 = 3
      · rw [outsAt0_C m c t h (by omega) h2]
        frame_out
        rw [next_at, keep]
      · rw [outsAt0_B m c t h (by omega) h2]
        frame_out
        rw [next_at, keep])
    t h (r, n)
  exact e.trans (zero_add _)

theorem out_at (c : Dev nD) (t : Fin cfg0.N) (h : t.val % 4 = 3) (r : Fin 1408) (n : Fin 1024) :
    (outsAt0 m c t.val t.isLt).1 (ix2 r n) = (show Vec Ideal S1408x1024 .f32 from (outsAt0 m c t.val t.isLt).2) (ix2 r n) := by
  rw [outsAt0_C m c t (by omega) (by omega) h]
  frame_out
  pointwise [k0_pay4]

abbrev arr0 (c : Dev nD) : Vec Ideal S8448x4096 .bf16 := m ((c.tc : Thread nD τ).loc main_arg0)
abbrev arr1 (c : Dev nD) : Vec Ideal S4096x9824 .f32 := m ((c.tc : Thread nD τ).loc main_arg1)

theorem lhs_at (c : Dev nD) (t : Fin cfg0.N) (r : Fin 1408) (k : Fin 1024) : lhs m c t (ix2 r k)
    = arr0 m c (ix2 (⟨t.val / 4 * 1408 + r.val, by have := lt_of_lt_of_eq t.isLt N_0; omega⟩ : Fin 8448) (⟨t.val % 4 * 1024 + k.val, by omega⟩ : Fin 4096)) := by
  blk_ext [iblk, V, idx t]

theorem rhs_at (c : Dev nD) (t : Fin cfg0.N) (k : Fin 1024) (n : Fin 1024) : rhs m c t (ix2 k n)
    = arr1 m c (ix2 (⟨t.val % 4 * 1024 + k.val, by omega⟩ : Fin 4096) (⟨8720 + (t.val / 4 % 1 * 1024 + n.val), by omega⟩ : Fin 9824)) := by
  blk_point [iblk, V, idx t]

/-- The result array, as a function of the arguments: the reference's own term. -/
abbrev OUT (c : Dev nD) : Vec Ideal S8448x1024 .bf16 :=
  Cert.QiRefIdeal.Mat.REF (arr0 m c) (arr1 m c)

/-- The kept sum is the reference's product. -/
theorem sum_at (c : Dev nD) (t : Fin cfg0.N) (h : t.val % 4 = 3) (r : Fin 1408) (n : Fin 1024) :
    (outsAt0 m c t.val t.isLt).2 (ix2 r n) = ∑ k : Fin 4096, arr0 m c (ix2 (⟨t.val / 4 * 1408 + r.val, by have := lt_of_lt_of_eq t.isLt N_0; omega⟩ : Fin 8448) k) * arr1 m c (ix2 k (⟨8720 + (t.val / 4 % 1 * 1024 + n.val), by omega⟩ : Fin 9824)) := by
  have ht := lt_of_lt_of_eq t.isLt N_0
  refine (acc_at m c t h r n).trans ?_
  refine Fin.sum_mul_add_congr fun s k hl => ?_
  rw [lhs_at, rhs_at]
  refine congrArg₂ (· * ·) (congrArg _ ?_) (congrArg _ ?_) <;> blk_ext

theorem point (c : Dev nD) (t : Fin cfg0.N) (h : t.val % 4 = 3) (r : Fin 1408) (n : Fin 1024) :
    (outsAt0 m c t.val t.isLt).1 (ix2 r n) = OUT m c (((cfg0.win 2).blk t).view.emb (ix2 r n)) := by
  have ht := lt_of_lt_of_eq t.isLt N_0
  have he : ((cfg0.win 2).blk t).view.emb (ix2 r n)
      = ix2 (⟨t.val / 4 * 1408 + r.val, by omega⟩ : Fin 8448) (⟨t.val / 4 % 1 * 1024 + n.val, by omega⟩ : Fin 1024) := by
    blk_ext [idx t]
  rw [he]
  unfold OUT
  rw [Cert.QiRefIdeal.Mat.ref_at, out_at m c t h]
  exact sum_at m c t h r n

theorem final (c : Dev nD) : (dats m 0 c).arrAt 2 cfg0.N = OUT m c := by
  refine (dats m 0 c).arrAt_eq_of_covers 2 _ (by decide +kernel) fun t hf y => ?_
  blk_simp
  rw [after0_2]
  obtain ⟨r, n, rfl⟩ : ∃ (r : Fin 1408) (n : Fin 1024), y = ix2 r n := ⟨y 0, y 1, by idx_vars y; blk_ext⟩
  exact point m c t ((flush0_2 t).mp hf) r n

theorem algebraic : Cert.algebraic_QiIdeal_QiRefIdeal := by
  unfold Cert.algebraic_QiIdeal_QiRefIdeal
  pair_intro
  · run_from Cert.QiIdeal.Value.run_blocks m g
  · run_from Cert.QiRefIdeal.Value.run m' g'
    exact (final m c).symm

end Cert.QiIdeal.Mat

end
-- ==== Proof.Cb.lean ====
module

public import proofs.«01_k».proof.Defs
public import proofs.«01_k».proof.Proof.Gen.CbIdeal.Value
public import proofs.«01_k».proof.Proof.Gen.CbRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The projection of the latent: a sum kept block by block over the contracted dimension. -/

namespace Cert.CbRefIdeal.Mat
open Cert.CbRefIdeal Cert.CbRefIdeal.Gen

/-- The reference's result, of its arguments. -/
def REF (a : Vec Ideal S8448x4096 .bf16) (w : Vec Ideal S4096x9824 .f32) : Vec Ideal S8448x512 .bf16 :=
  truncf (F := Ideal) (φ := .f32) .bf16 (extractStridedSlice S8448x512 ![0, 8208] (Host.dotGeneral (φ₁ := .f32) (φ₂ := .f32) dot_S8448x4096_S4096x9824_S8448x9824_1_0_0_1_n_n none (extf (F := Ideal) (φ := .bf16) .f32 a bitsLt_bf16_f32) w) slices_S8448x9824_S8448x512_0_8208) bitsLt_bf16_f32

theorem ref_at (a : Vec Ideal S8448x4096 .bf16) (w : Vec Ideal S4096x9824 .f32) (r : Fin 8448) (n : Fin 512) :
    REF a w (ix2 r n) = ∑ k : Fin 4096, a (ix2 r k) * w (ix2 k (⟨8208 + n.val, by omega⟩ : Fin 9824)) := by
  pointwise [REF]

end Cert.CbRefIdeal.Mat

namespace Cert.CbIdeal.Mat
open Cert.CbIdeal Cert.CbIdeal.Gen
variable (m : (ℓ : Loc nD τ sig) → Buf (Elt Ideal) ℓ)

theorem first_at (x : Vec Ideal S1408x1024 .bf16) (w : Vec Ideal S1024x512 .bf16) (r : Fin 1408) (n : Fin 512) :
    k0_pay2 x w (ix2 r n) = 0 + ∑ k : Fin 1024, x (ix2 r k) * w (ix2 k n) := by
  pointwise [k0_pay2, k0_pay1]

theorem next_at (x : Vec Ideal S1408x1024 .bf16) (w : Vec Ideal S1024x512 .bf16) (acc : Vec Ideal S1408x512 .f32) (r : Fin 1408) (n : Fin 512) :
    k0_pay3 x w acc (ix2 r n) = acc (ix2 r n) + ∑ k : Fin 1024, x (ix2 r k) * w (ix2 k n) := by
  pointwise [k0_pay3, k0_pay1]

theorem idx : ∀ t : Fin cfg0.N, win0_0.index t = ![t.val / 4, t.val % 4] ∧ win0_1.index t = ![t.val % 4, t.val / 4 % 1]
    ∧ win0_2.index t = ![t.val / 4, t.val / 4 % 1] :=
  (by decide +kernel : ∀ t : Fin grid0.N, _)

/-- The point's blocks of the operands. -/
abbrev lhs (c : Dev nD) (t : Fin cfg0.N) : Vec Ideal S1408x1024 .bf16 := iblk m c 0 t
abbrev rhs (c : Dev nD) (t : Fin cfg0.N) : Vec Ideal S1024x512 .bf16 := iblk m c 1 t

theorem keep (x : Vec Ideal S1408x512 .f32) : View.read (Elt Ideal) (View.whole cc0_scratch0) ((Memref.isWhole_whole cc0_scratch0).unread x) = x :=
  Memref.IsWhole.read_unread _ _

/-- The kept sum after a run's last step. -/
theorem acc_at (c : Dev nD) (t : Fin cfg0.N) (h : t.val % 4 = 3) (r : Fin 1408) (n : Fin 512) :
    (outsAt0 m c t.val t.isLt).2 (ix2 r n) = ∑ s : Fin 4, ∑ k : Fin 1024,
      lhs m c ⟨4 * (t.val / 4) + s.val, Pipeline.run_point_lt_of_flush t h s⟩ (ix2 r k) * rhs m c ⟨4 * (t.val / 4) + s.val, Pipeline.run_point_lt_of_flush t h s⟩ (ix2 k n) := by
  have e := Pipeline.eq_sum_fin_of_reset_step_apply_of_flush (fun n h (q : Fin 1408 × Fin 512) => (outsAt0 m c n h).2 (ix2 q.1 q.2)) 4 (fun _ => (0 : EReal))
    (fun p q => ∑ k : Fin 1024, lhs m c p (ix2 q.1 k) * rhs m c p (ix2 k q.2))
    (fun t h q => by
      beta_reduce
      rw [outsAt0_A m c t h (by omega) (by omega)]
      frame_out
      rw [first_at])
    (fun t h q => by
      beta_reduce
      by_cases h2 : t.val % 4 = 3
      · rw [outsAt0_C m c t h (by omega) h2]
        frame_out
        rw [next_at, keep]
      · rw [outsAt0_B m c t h (by omega) h2]
        frame_out
        rw [next_at, keep])
    t h (r, n)
  exact e.trans (zero_add _)

theorem out_at (c : Dev nD) (t : Fin cfg0.N) (h : t.val % 4 = 3) (r : Fin 1408) (n : Fin 512) :
    (outsAt0 m c t.val t.isLt).1 (ix2 r n) = (show Vec Ideal S1408x512 .f32 from (outsAt0 m c t.val t.isLt).2) (ix2 r n) := by
  rw [outsAt0_C m c t (by omega) (by omega) h]
  frame_out
  pointwise [k0_pay4]

abbrev arr0 (c : Dev nD) : Vec Ideal S8448x4096 .bf16 := m ((c.tc : Thread nD τ).loc main_arg0)
abbrev arr1 (c : Dev nD) : Vec Ideal S4096x9824 .f32 := m ((c.tc : Thread nD τ).loc main_arg1)

theorem lhs_at (c : Dev nD) (t : Fin cfg0.N) (r : Fin 1408) (k : Fin 1024) : lhs m c t (ix2 r k)
    = arr0 m c (ix2 (⟨t.val / 4 * 1408 + r.val, by have := lt_of_lt_of_eq t.isLt N_0; omega⟩ : Fin 8448) (⟨t.val % 4 * 1024 + k.val, by omega⟩ : Fin 4096)) := by
  blk_ext [iblk, V, idx t]

theorem rhs_at (c : Dev nD) (t : Fin cfg0.N) (k : Fin 1024) (n : Fin 512) : rhs m c t (ix2 k n)
    = arr1 m c (ix2 (⟨t.val % 4 * 1024 + k.val, by omega⟩ : Fin 4096) (⟨8208 + (t.val / 4 % 1 * 512 + n.val), by omega⟩ : Fin 9824)) := by
  blk_point [iblk, V, idx t]

/-- The result array, as a function of the arguments: the reference's own term. -/
abbrev OUT (c : Dev nD) : Vec Ideal S8448x512 .bf16 :=
  Cert.CbRefIdeal.Mat.REF (arr0 m c) (arr1 m c)

/-- The kept sum is the reference's product. -/
theorem sum_at (c : Dev nD) (t : Fin cfg0.N) (h : t.val % 4 = 3) (r : Fin 1408) (n : Fin 512) :
    (outsAt0 m c t.val t.isLt).2 (ix2 r n) = ∑ k : Fin 4096, arr0 m c (ix2 (⟨t.val / 4 * 1408 + r.val, by have := lt_of_lt_of_eq t.isLt N_0; omega⟩ : Fin 8448) k) * arr1 m c (ix2 k (⟨8208 + (t.val / 4 % 1 * 512 + n.val), by omega⟩ : Fin 9824)) := by
  have ht := lt_of_lt_of_eq t.isLt N_0
  refine (acc_at m c t h r n).trans ?_
  refine Fin.sum_mul_add_congr fun s k hl => ?_
  rw [lhs_at, rhs_at]
  refine congrArg₂ (· * ·) (congrArg _ ?_) (congrArg _ ?_) <;> blk_ext

theorem point (c : Dev nD) (t : Fin cfg0.N) (h : t.val % 4 = 3) (r : Fin 1408) (n : Fin 512) :
    (outsAt0 m c t.val t.isLt).1 (ix2 r n) = OUT m c (((cfg0.win 2).blk t).view.emb (ix2 r n)) := by
  have ht := lt_of_lt_of_eq t.isLt N_0
  have he : ((cfg0.win 2).blk t).view.emb (ix2 r n)
      = ix2 (⟨t.val / 4 * 1408 + r.val, by omega⟩ : Fin 8448) (⟨t.val / 4 % 1 * 512 + n.val, by omega⟩ : Fin 512) := by
    blk_ext [idx t]
  rw [he]
  unfold OUT
  rw [Cert.CbRefIdeal.Mat.ref_at, out_at m c t h]
  exact sum_at m c t h r n

theorem final (c : Dev nD) : (dats m 0 c).arrAt 2 cfg0.N = OUT m c := by
  refine (dats m 0 c).arrAt_eq_of_covers 2 _ (by decide +kernel) fun t hf y => ?_
  blk_simp
  rw [after0_2]
  obtain ⟨r, n, rfl⟩ : ∃ (r : Fin 1408) (n : Fin 512), y = ix2 r n := ⟨y 0, y 1, by idx_vars y; blk_ext⟩
  exact point m c t ((flush0_2 t).mp hf) r n

theorem algebraic : Cert.algebraic_CbIdeal_CbRefIdeal := by
  unfold Cert.algebraic_CbIdeal_CbRefIdeal
  pair_intro
  · run_from Cert.CbIdeal.Value.run_blocks m g
  · run_from Cert.CbRefIdeal.Value.run m' g'
    exact (final m c).symm

end Cert.CbIdeal.Mat

end
-- ==== Proof.Small.lean ====
module

public import proofs.«01_k».proof.Defs
public import proofs.«01_k».proof.Proof.Gen.SmallIdeal.Value
public import proofs.«01_k».proof.Proof.Gen.SmallRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The small projection: the indexer's keys, the forget logits and the indexer's weights side by side, zeros after them. A
sum kept block by block over the contracted dimension. -/

namespace Cert.SmallRefIdeal.Mat
open Cert.SmallRefIdeal Cert.SmallRefIdeal.Gen

/-- The columns of `f` the call takes, zeros after them. -/
def COL (f : Fin 9824 → EReal) (n : Fin 128) : EReal :=
  if h : n.val < 64 then f ⟨9744 + n.val, by omega⟩
  else if h : n.val < 80 then f ⟨6144 + (n.val - 64), by omega⟩
  else if h : n.val < 96 then f ⟨9808 + (n.val - 80), by omega⟩
  else 0

/-- The whole projection. -/
def PROJ (a : Vec Ideal S8448x4096 .bf16) (w : Vec Ideal S4096x9824 .f32) : FVec Ideal S8448x9824 .f32 :=
  Host.dotGeneral (φ₁ := .f32) (φ₂ := .f32) dot_S8448x4096_S4096x9824_S8448x9824_1_0_0_1_n_n none (extf (F := Ideal) (φ := .bf16) .f32 a bitsLt_bf16_f32) w

theorem proj_at (a : Vec Ideal S8448x4096 .bf16) (w : Vec Ideal S4096x9824 .f32) (r : Fin 8448) (n : Fin 9824) :
    PROJ a w (ix2 r n) = ∑ k : Fin 4096, a (ix2 r k) * w (ix2 k n) := by
  pointwise [PROJ]

theorem zero_at : FloatOps.sitofp (F := Ideal) FTy.f32 0#32 = (0 : EReal) := by
  simp [FloatOps.sitofp]

/-- The reference's result, of its arguments. -/
def REF (a : Vec Ideal S8448x4096 .bf16) (w : Vec Ideal S4096x9824 .f32) : FVec Ideal S8448x128 .f32 :=
  pad S8448x128 ![0, 0] ![0, 32] ![0, 0] (concatenate S8448x96 1 [⟨S8448x64, (extractStridedSlice S8448x64 ![0, 9744] (PROJ a w) slices_S8448x9824_S8448x64_0_9744 : FVec Ideal S8448x64 .f32)⟩, ⟨S8448x16, (extractStridedSlice S8448x16 ![0, 6144] (PROJ a w) slices_S8448x9824_S8448x16_0_6144 : FVec Ideal S8448x16 .f32)⟩, ⟨S8448x16, (extractStridedSlice S8448x16 ![0, 9808] (PROJ a w) slices_S8448x9824_S8448x16_0_9808 : FVec Ideal S8448x16 .f32)⟩] concatenates_S8448x64_S8448x16_S8448x16_S8448x96_d1) (sitofp (F := Ideal) .f32 (constantI S_ 32 0#32)) pads_S8448x96_S8448x128_000_0320 h_S_

theorem ref_col (a : Vec Ideal S8448x4096 .bf16) (w : Vec Ideal S4096x9824 .f32) (r : Fin 8448) (n : Fin 128) :
    REF a w (ix2 r n) = COL (fun i => PROJ a w (ix2 r i)) n := by
  unfold COL
  pointwise [REF]
  by_cases h1 : n.val < 64
  · simp (disch := omega) only [dif_pos, dif_neg]
  by_cases h2 : n.val < 80
  · simp (disch := omega) only [dif_pos, dif_neg]
  by_cases h3 : n.val < 96
  · simp (disch := omega) only [dif_pos, dif_neg]
    exact congrArg (PROJ a w) (by blk_ext)
  · simp (disch := omega) only [dif_pos, dif_neg]
    exact zero_at

theorem ref_at (a : Vec Ideal S8448x4096 .bf16) (w : Vec Ideal S4096x9824 .f32) (r : Fin 8448) (n : Fin 128) :
    REF a w (ix2 r n) = ∑ k : Fin 4096, a (ix2 r k) * COL (fun i => w (ix2 k i)) n := by
  rw [ref_col]
  unfold COL
  split_ifs
  · exact proj_at a w r _
  · exact proj_at a w r _
  · exact proj_at a w r _
  · simp only [mul_zero, Finset.sum_const_zero]

end Cert.SmallRefIdeal.Mat

namespace Cert.SmallIdeal.Mat
open Cert.SmallIdeal Cert.SmallIdeal.Gen
open Cert.SmallRefIdeal.Mat (COL)
variable (m : (ℓ : Loc nD τ sig) → Buf (Elt Ideal) ℓ)

theorem first_at (x : Vec Ideal S1408x1024 .bf16) (w : Vec Ideal S1024x128 .bf16) (r : Fin 1408) (n : Fin 128) :
    k0_pay2 x w (ix2 r n) = 0 + ∑ k : Fin 1024, x (ix2 r k) * w (ix2 k n) := by
  pointwise [k0_pay2, k0_pay1]

theorem next_at (x : Vec Ideal S1408x1024 .bf16) (w : Vec Ideal S1024x128 .bf16) (acc : Vec Ideal S1408x128 .f32) (r : Fin 1408) (n : Fin 128) :
    k0_pay3 x w acc (ix2 r n) = acc (ix2 r n) + ∑ k : Fin 1024, x (ix2 r k) * w (ix2 k n) := by
  pointwise [k0_pay3, k0_pay1]

theorem idx : ∀ t : Fin cfg0.N, win0_0.index t = ![t.val / 4, t.val % 4] ∧ win0_1.index t = ![t.val % 4, t.val / 4 % 1]
    ∧ win0_2.index t = ![t.val / 4, t.val / 4 % 1] :=
  (by decide +kernel : ∀ t : Fin grid0.N, _)

/-- The point's blocks of the operands. -/
abbrev lhs (c : Dev nD) (t : Fin cfg0.N) : Vec Ideal S1408x1024 .bf16 := iblk m c 0 t
abbrev rhs (c : Dev nD) (t : Fin cfg0.N) : Vec Ideal S1024x128 .bf16 := iblk m c 1 t

theorem keep (x : Vec Ideal S1408x128 .f32) : View.read (Elt Ideal) (View.whole cc0_scratch0) ((Memref.isWhole_whole cc0_scratch0).unread x) = x :=
  Memref.IsWhole.read_unread _ _

/-- The kept sum after a run's last step. -/
theorem acc_at (c : Dev nD) (t : Fin cfg0.N) (h : t.val % 4 = 3) (r : Fin 1408) (n : Fin 128) :
    (outsAt0 m c t.val t.isLt).2 (ix2 r n) = ∑ s : Fin 4, ∑ k : Fin 1024,
      lhs m c ⟨4 * (t.val / 4) + s.val, Pipeline.run_point_lt_of_flush t h s⟩ (ix2 r k) * rhs m c ⟨4 * (t.val / 4) + s.val, Pipeline.run_point_lt_of_flush t h s⟩ (ix2 k n) := by
  have e := Pipeline.eq_sum_fin_of_reset_step_apply_of_flush (fun n h (q : Fin 1408 × Fin 128) => (outsAt0 m c n h).2 (ix2 q.1 q.2)) 4 (fun _ => (0 : EReal))
    (fun p q => ∑ k : Fin 1024, lhs m c p (ix2 q.1 k) * rhs m c p (ix2 k q.2))
    (fun t h q => by
      beta_reduce
      rw [outsAt0_A m c t h (by omega) (by omega)]
      frame_out
      rw [first_at])
    (fun t h q => by
      beta_reduce
      by_cases h2 : t.val % 4 = 3
      · rw [outsAt0_C m c t h (by omega) h2]
        frame_out
        rw [next_at, keep]
      · rw [outsAt0_B m c t h (by omega) h2]
        frame_out
        rw [next_at, keep])
    t h (r, n)
  exact e.trans (zero_add _)

theorem out_at (c : Dev nD) (t : Fin cfg0.N) (h : t.val % 4 = 3) (r : Fin 1408) (n : Fin 128) :
    (outsAt0 m c t.val t.isLt).1 (ix2 r n) = (show Vec Ideal S1408x128 .f32 from (outsAt0 m c t.val t.isLt).2) (ix2 r n) := by
  rw [outsAt0_C m c t (by omega) (by omega) h]
  frame_out

abbrev arr0 (c : Dev nD) : Vec Ideal S8448x4096 .bf16 := m ((c.tc : Thread nD τ).loc main_arg0)
abbrev arr1 (c : Dev nD) : Vec Ideal S4096x9824 .f32 := m ((c.tc : Thread nD τ).loc main_arg1)

/-- The weights the host makes for the call. -/
def WEI (w : Vec Ideal S4096x9824 .f32) : Vec Ideal S4096x128 .bf16 :=
  truncf (F := Ideal) (φ := .f32) .bf16 (concatenate S4096x128 1 [⟨S4096x64, (extractStridedSlice S4096x64 ![0, 9744] w slices_S4096x9824_S4096x64_0_9744 : FVec Ideal S4096x64 .f32)⟩, ⟨S4096x16, (extractStridedSlice S4096x16 ![0, 6144] w slices_S4096x9824_S4096x16_0_6144 : FVec Ideal S4096x16 .f32)⟩, ⟨S4096x0, (broadcastInDim S4096x0 ![] bcast_S_S4096x0 (constant (F := Ideal) S_ .f32 0x00000000#32) : FVec Ideal S4096x0 .f32)⟩, ⟨S4096x16, (extractStridedSlice S4096x16 ![0, 9808] w slices_S4096x9824_S4096x16_0_9808 : FVec Ideal S4096x16 .f32)⟩, ⟨S4096x32, (broadcastInDim S4096x32 ![] bcast_S_S4096x32 (constant (F := Ideal) S_ .f32 0x00000000#32) : FVec Ideal S4096x32 .f32)⟩] concatenates_S4096x64_S4096x16_S4096x0_S4096x16_S4096x32_S4096x128_d1) bitsLt_bf16_f32

theorem wei_eq (c : Dev nD) : V m c main_v6 = WEI (arr1 m c) := by
  unfold WEI
  simp only [V, hostOps0]
  after_results_simp <;> (try dsimp only [Matrix.cons_val]) <;> (try after_results_simp) <;> rfl

theorem wei_at (w : Vec Ideal S4096x9824 .f32) (k : Fin 4096) (n : Fin 128) :
    WEI w (ix2 k n) = COL (fun i => w (ix2 k i)) n := by
  unfold COL
  pointwise [WEI]
  by_cases h1 : n.val < 64
  · simp (disch := omega) only [dif_pos, dif_neg]
  by_cases h2 : n.val < 80
  · simp (disch := omega) only [dif_pos, dif_neg]
  by_cases h3 : n.val < 96
  · simp (disch := omega) only [dif_pos, dif_neg]
    exact congrArg w (by blk_ext)
  · simp (disch := omega) only [dif_pos, dif_neg]

theorem lhs_at (c : Dev nD) (t : Fin cfg0.N) (r : Fin 1408) (k : Fin 1024) : lhs m c t (ix2 r k)
    = arr0 m c (ix2 (⟨t.val / 4 * 1408 + r.val, by have := lt_of_lt_of_eq t.isLt N_0; omega⟩ : Fin 8448) (⟨t.val % 4 * 1024 + k.val, by omega⟩ : Fin 4096)) := by
  blk_ext [iblk, V, idx t]

theorem rhs_at (c : Dev nD) (t : Fin cfg0.N) (k : Fin 1024) (n : Fin 128) : rhs m c t (ix2 k n)
    = COL (fun i => arr1 m c (ix2 (⟨t.val % 4 * 1024 + k.val, by omega⟩ : Fin 4096) i)) n := by
  have he : ((cfg0.win 1).blk t).view.emb (ix2 k n) = ix2 (⟨t.val % 4 * 1024 + k.val, by omega⟩ : Fin 4096) n := by
    blk_ext [idx t]
  refine Eq.trans (b := V m c main_v6 (((cfg0.win 1).blk t).view.emb (ix2 k n))) rfl ?_
  rw [he, wei_eq, wei_at]

/-- The result array, as a function of the arguments: the reference's own term. -/
abbrev OUT (c : Dev nD) : Vec Ideal S8448x128 .bf16 :=
  Cert.SmallRefIdeal.Mat.REF (arr0 m c) (arr1 m c)

/-- The kept sum is the reference's product. -/
theorem sum_at (c : Dev nD) (t : Fin cfg0.N) (h : t.val % 4 = 3) (r : Fin 1408) (n : Fin 128) :
    (outsAt0 m c t.val t.isLt).2 (ix2 r n) = ∑ k : Fin 4096, arr0 m c (ix2 (⟨t.val / 4 * 1408 + r.val, by have := lt_of_lt_of_eq t.isLt N_0; omega⟩ : Fin 8448) k) * COL (fun i => arr1 m c (ix2 k i)) n := by
  have ht := lt_of_lt_of_eq t.isLt N_0
  refine (acc_at m c t h r n).trans ?_
  refine Fin.sum_mul_add_congr fun s k hl => ?_
  rw [lhs_at, rhs_at]
  refine congrArg₂ (fun y z : EReal => y * z) (congrArg _ ?_) (congrArg (fun u => COL (fun i => arr1 m c (ix2 u i)) _) ?_)
  · blk_ext
  · refine Fin.ext ?_
    dsimp only
    omega

theorem point (c : Dev nD) (t : Fin cfg0.N) (h : t.val % 4 = 3) (r : Fin 1408) (n : Fin 128) :
    (outsAt0 m c t.val t.isLt).1 (ix2 r n) = OUT m c (((cfg0.win 2).blk t).view.emb (ix2 r n)) := by
  have ht := lt_of_lt_of_eq t.isLt N_0
  have he : ((cfg0.win 2).blk t).view.emb (ix2 r n)
      = ix2 (⟨t.val / 4 * 1408 + r.val, by omega⟩ : Fin 8448) n := by
    blk_ext [idx t]
  rw [he]
  unfold OUT
  rw [Cert.SmallRefIdeal.Mat.ref_at, out_at m c t h]
  exact sum_at m c t h r n

theorem final (c : Dev nD) : (dats m 0 c).arrAt 2 cfg0.N = OUT m c := by
  refine (dats m 0 c).arrAt_eq_of_covers 2 _ (by decide +kernel) fun t hf y => ?_
  blk_simp
  rw [after0_2]
  obtain ⟨r, n, rfl⟩ : ∃ (r : Fin 1408) (n : Fin 128), y = ix2 r n := ⟨y 0, y 1, by idx_vars y; blk_ext⟩
  exact point m c t ((flush0_2 t).mp hf) r n

theorem algebraic : Cert.algebraic_SmallIdeal_SmallRefIdeal := by
  unfold Cert.algebraic_SmallIdeal_SmallRefIdeal
  pair_intro
  · run_from Cert.SmallIdeal.Value.run_blocks m g
  · run_from Cert.SmallRefIdeal.Value.run m' g'
    exact (final m c).symm

end Cert.SmallIdeal.Mat

end
-- ==== Proof.Norm.lean ====
module

public import proofs.«01_k».proof.Defs
public import proofs.«01_k».proof.Proof.Gen.NormIdeal.Value
public import proofs.«01_k».proof.Proof.Gen.NormRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The norm of each row, times the gain. -/

namespace Cert.NormRefIdeal.Mat
open Cert.NormRefIdeal Cert.NormRefIdeal.Gen

/-- The reference's result, of its arguments. -/
def REF (x : Vec Ideal S8448x4096 .f32) (g : Vec Ideal S4096 .f32) : FVec Ideal S8448x4096 .bf16 :=
  truncf (F := Ideal) (φ := .f32) .bf16 (mulf (F := Ideal) (φ := .f32) (mulf (F := Ideal) (φ := .f32) x (broadcastInDim S8448x4096 ![0, 1] bcast_S8448x1_S8448x4096_0_1 (Host.rsqrt (F := Ideal) (φ := .f32) (addf (F := Ideal) (φ := .f32) (Host.divf (F := Ideal) (φ := .f32) (broadcastInDim S8448x1 ![0] bcast_S8448_S8448x1_0 (Host.reduceAdd (F := Ideal) (φ := .f32) (mulf (F := Ideal) (φ := .f32) x x) (constant (F := Ideal) S_ .f32 0x00000000#32) reducesTo_S8448x4096_S8448_d1 h_S_)) (broadcastInDim S8448x1 ![] bcast_S_S8448x1 (constant (F := Ideal) S_ .f32 0x45800000#32))) (broadcastInDim S8448x1 ![] bcast_S_S8448x1 (constant (F := Ideal) S_ .f32 0x358637BD#32)))))) (broadcastInDim S8448x4096 ![0, 1] bcast_S1x4096_S8448x4096_0_1 (broadcastInDim S1x4096 ![1] bcast_S4096_S1x4096_1 g))) bitsLt_bf16_f32

theorem ref_at (x : Vec Ideal S8448x4096 .f32) (g : Vec Ideal S4096 .f32) (r : Fin 8448) (n : Fin 4096) :
    REF x g (ix2 r n) = x (ix2 r n) * Ideal.rsqrt (Ideal.div (∑ d : Fin 4096, x (ix2 r d) * x (ix2 r d)) (Ideal.ofBits FTy.f32 1166016512#32) + Ideal.ofBits FTy.f32 897988541#32) * g (ix1 n) := by
  pointwise [REF]

end Cert.NormRefIdeal.Mat

namespace Cert.NormIdeal.Mat
open Cert.NormIdeal Cert.NormIdeal.Gen
variable (m : (ℓ : Loc nD τ sig) → Buf (Elt Ideal) ℓ)

theorem pay_at (x : Vec Ideal S256x4096 .f32) (g : Vec Ideal S1x4096 .f32) (r : Fin 256) (n : Fin 4096) :
    k0_pay1 x g (ix2 r n) = x (ix2 r n) * Ideal.rsqrt (Ideal.div (∑ d : Fin 4096, x (ix2 r d) * x (ix2 r d)) (Ideal.ofBits FTy.f32 1166016512#32) + Ideal.ofBits FTy.f32 897988541#32) * g (ix2 0 n) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The point's blocks. -/
abbrev row (c : Dev nD) (t : Fin cfg0.N) : Vec Ideal S256x4096 .f32 := iblk m c 0 t
abbrev gai (c : Dev nD) (t : Fin cfg0.N) : Vec Ideal S1x4096 .f32 := iblk m c 1 t
abbrev arr0 (c : Dev nD) : Vec Ideal S8448x4096 .f32 := m ((c.tc : Thread nD τ).loc main_arg0)
abbrev arr1 (c : Dev nD) : Vec Ideal S4096 .f32 := m ((c.tc : Thread nD τ).loc main_arg1)

theorem row_at (c : Dev nD) (t : Fin cfg0.N) (r : Fin 256) (k : Fin 4096) : row m c t (ix2 r k)
    = arr0 m c (ix2 (⟨t.val * 256 + r.val, by have := lt_of_lt_of_eq t.isLt N_0; omega⟩ : Fin 8448) k) := by
  blk_ext [iblk, V, idx t]

theorem gai_at (c : Dev nD) (t : Fin cfg0.N) (n : Fin 4096) : gai m c t (ix2 0 n) = arr1 m c (ix1 n) := by
  blk_point [iblk, V, idx t]

/-- The result array, as a function of the arguments: the reference's own term. -/
abbrev OUT (c : Dev nD) : Vec Ideal S8448x4096 .bf16 :=
  Cert.NormRefIdeal.Mat.REF (arr0 m c) (arr1 m c)

theorem point (c : Dev nD) (t : Fin cfg0.N) (r : Fin 256) (n : Fin 4096) :
    k0_pay1 (row m c t) (gai m c t) (ix2 r n) = OUT m c (((cfg0.win 2).blk t).view.emb (ix2 r n)) := by
  have ht := lt_of_lt_of_eq t.isLt N_0
  have he : ((cfg0.win 2).blk t).view.emb (ix2 r n) = ix2 (⟨t.val * 256 + r.val, by omega⟩ : Fin 8448) n := by
    blk_ext [idx t]
  rw [he]
  unfold OUT
  rw [Cert.NormRefIdeal.Mat.ref_at, pay_at]
  simp only [row_at, gai_at]

theorem final (c : Dev nD) : (dats m 0 c).arrAt 2 cfg0.N = OUT m c := by
  refine (dats m 0 c).arrAt_eq_of_covers 2 _ (by decide +kernel) fun t hf y => ?_
  blk_simp
  rw [after0_2]
  obtain ⟨r, n, rfl⟩ : ∃ (r : Fin 256) (n : Fin 4096), y = ix2 r n := ⟨y 0, y 1, by idx_vars y; blk_ext⟩
  refine Eq.trans ?_ (point m c t r n)
  unfold out0_2
  frame_out

theorem algebraic : Cert.algebraic_NormIdeal_NormRefIdeal := by
  unfold Cert.algebraic_NormIdeal_NormRefIdeal
  pair_intro
  · run_from Cert.NormIdeal.Value.run_blocks m g
  · run_from Cert.NormRefIdeal.Value.run m' g'
    exact (final m c).symm

end Cert.NormIdeal.Mat

end
-- ==== Proof.TopTwo.lean ====
module

public import Idealize.ShloMosaic.Lib.SortPrefix
public import Idealize.ShloMosaic.PureOps.Ideal
public import Mathlib.Tactic.FinCases

@[expose] public section

noncomputable section

open Idealize.ShloMosaic

/-! The two greatest of eight extended reals, the first among equals first: a scan over the eight, twice, against a
    stable sort. -/

namespace TopTwo

variable (v : Fin 8 → EReal)

/-- One step of the scan: the later position where its value is strictly greater. -/
def step (b e : Fin 8) : Fin 8 := if v b < v e then e else b

/-- The scan's position: the first of the greatest. -/
def arg : Fin 8 := step v (step v (step v (step v (step v (step v (step v 0 1) 2) 3) 4) 5) 6) 7

/-- The values with the first of the greatest taken out. -/
def rest (q : Fin 8) : EReal := if q = arg v then ⊥ else v q

/-- The first of the greatest of the rest. -/
def arg2 : Fin 8 := arg (rest v)

/-- `b` is the first of the greatest among the positions up to `k`. -/
def Good (k b : Fin 8) : Prop := b ≤ k ∧ (∀ q ≤ k, v q ≤ v b) ∧ ∀ q < b, v q < v b

theorem Good.step {k b e : Fin 8} (h : Good v k b) (he : k.val + 1 = e.val) : Good v e (step v b e) := by
  obtain ⟨h1, h2, h3⟩ := h
  have hle : ∀ q : Fin 8, q ≤ e → q ≤ k ∨ q = e := fun q hq => by
    rw [Fin.le_def] at *
    rcases Nat.lt_or_ge k.val q.val with h | h
    · exact Or.inr (Fin.ext (by omega))
    · exact Or.inl h
  unfold TopTwo.step
  split_ifs with h
  · refine ⟨le_refl _, fun q hq => ?_, fun q hq => ?_⟩
    · rcases hle q hq with hq | rfl
      · exact (h2 q hq).trans h.le
      · exact le_refl _
    · rcases hle q hq.le with hq' | rfl
      · exact (h2 q hq').trans_lt h
      · exact absurd hq (lt_irrefl _)
  · refine ⟨?_, fun q hq => ?_, h3⟩
    · rw [Fin.le_def] at *; omega
    · rcases hle q hq with hq | rfl
      · exact h2 q hq
      · exact not_lt.mp h

theorem arg_good : Good v 7 (arg v) := by
  have h0 : Good v 0 0 := ⟨le_refl _, fun q hq => by rw [Fin.le_zero_iff.mp hq], fun q hq => absurd hq (Fin.not_lt_zero q)⟩
  exact Good.step v (Good.step v (Good.step v (Good.step v (Good.step v (Good.step v (Good.step v h0 rfl) rfl) rfl) rfl) rfl) rfl) rfl

theorem le_arg (q : Fin 8) : v q ≤ v (arg v) := (arg_good v).2.1 q (Fin.le_last q)

theorem lt_arg (q : Fin 8) (h : q < arg v) : v q < v (arg v) := (arg_good v).2.2 q h

variable (hv : ∀ q, v q ≠ ⊥)

theorem rest_of_ne {q : Fin 8} (h : q ≠ arg v) : rest v q = v q := if_neg h

include hv

theorem arg2_ne : arg2 v ≠ arg v := by
  intro h
  obtain ⟨q, hq⟩ : ∃ q : Fin 8, q ≠ arg v := exists_ne _
  have := le_arg (rest v) q
  rw [rest_of_ne v hq, show arg (rest v) = arg v from h] at this
  unfold rest at this
  rw [if_pos rfl] at this
  exact hv q (le_bot_iff.mp this)

theorem le_arg2 (q : Fin 8) (h : q ≠ arg v) : v q ≤ v (arg2 v) := by
  have := le_arg (rest v) q
  rwa [rest_of_ne v h, show arg (rest v) = arg2 v from rfl, rest_of_ne v (arg2_ne v hv)] at this

theorem lt_arg2 (q : Fin 8) (h : q ≠ arg v) (hq : q < arg2 v) : v q < v (arg2 v) := by
  have := lt_arg (rest v) q hq
  rwa [rest_of_ne v h, show arg (rest v) = arg2 v from rfl, rest_of_ne v (arg2_ne v hv)] at this

omit hv

/-- Before: a greater value, or an equal one at an earlier position. -/
def bef (k k' : Fin 8) : Bool := decide (v k' < v k) || (decide (v k = v k') && decide (k < k'))

theorem bef_total : StrictTotalBefore (bef v) :=
  StrictTotalBefore.of_key_then_position (fun a b : EReal => decide (b < a)) v (fun a => by simp)
    (fun a b c h1 h2 => by simp only [decide_eq_true_eq] at *; exact h2.trans h1)
    (fun a b => by simp only [decide_eq_true_eq]; exact (lt_trichotomy b a).imp id (Or.imp Eq.symm id))

theorem cmp_eq (k k' : Fin 8) : (Ideal.cmp .ogt (v k) (v k') == 1#1) = decide (v k' < v k) := by
  unfold Ideal.cmp
  by_cases h : v k' < v k <;> simp [h]

/-- The stable sort of a list whose positions ascend does not need the positions. -/
theorem sort_eq (l : List (Fin 8)) (hl : l.Pairwise (· < ·)) :
    stableSort (fun k k' => decide (v k' < v k)) l = stableSort (bef v) l := by
  induction l with
  | nil => rfl
  | cons a l ih =>
    rw [List.pairwise_cons] at hl
    unfold stableSort
    rw [ih hl.2]
    refine insertBefore_congr _ _ a _ fun b hb => ?_
    have hb' : b ∈ l := (perm_stableSort (bef v) l).mem_iff.mp hb
    have := hl.1 b hb'
    unfold bef
    simp [not_lt.mpr this.le]

theorem sorted_eq (k : Fin 8) : sortedFrom (fun k k' => Ideal.cmp .ogt (v k) (v k') == 1#1) k = sortedFrom (bef v) k := by
  have h : sortPositions 8 (fun k k' => Ideal.cmp .ogt (v k) (v k') == 1#1) = sortPositions 8 (bef v) := by
    rw [show (fun k k' => Ideal.cmp .ogt (v k) (v k') == 1#1) = fun k k' => decide (v k' < v k) from
      funext fun k => funext fun k' => cmp_eq v k k']
    exact sort_eq v _ (List.pairwise_lt_finRange 8)
  unfold sortedFrom
  rw [List.get_of_eq h]
  rfl

include hv

theorem sorted_at (i : Fin 2) :
    sortedFrom (fun k k' => Ideal.cmp .ogt (v k) (v k') == 1#1) (i.castLE (by decide)) = ![arg v, arg2 v] i := by
  rw [sorted_eq]
  have hne := arg2_ne v hv
  refine (bef_total v).sortedFrom_eq_of_prefix (by decide) ![arg v, arg2 v] ?_ ?_ ?_ i
  · intro i j h
    fin_cases i <;> fin_cases j <;> simp_all
  · intro i j h
    fin_cases i <;> fin_cases j <;> simp_all
    have h1 := le_arg v (arg2 v)
    unfold bef
    rw [decide_eq_false (not_lt.mpr h1), Bool.false_or, Bool.and_eq_false_iff]
    by_cases e : arg2 v < arg v
    · left; exact decide_eq_false (lt_arg v _ e).ne
    · right; exact decide_eq_false e
  · intro i p h
    have h0 : p ≠ arg v := fun e => h 0 e.symm
    have h1 : p ≠ arg2 v := fun e => h 1 e.symm
    unfold bef
    fin_cases i
    · show (decide (v (arg v) < v p) || (decide (v p = v (arg v)) && decide (p < arg v))) = false
      rw [decide_eq_false (not_lt.mpr (le_arg v p)), Bool.false_or, Bool.and_eq_false_iff]
      by_cases e : p < arg v
      · left; exact decide_eq_false (lt_arg v _ e).ne
      · right; exact decide_eq_false e
    · show (decide (v (arg2 v) < v p) || (decide (v p = v (arg2 v)) && decide (p < arg2 v))) = false
      rw [decide_eq_false (not_lt.mpr (le_arg2 v hv p h0)), Bool.false_or, Bool.and_eq_false_iff]
      by_cases e : p < arg2 v
      · left; exact decide_eq_false (lt_arg2 v hv _ h0 e).ne
      · right; exact decide_eq_false e

end TopTwo

end
-- ==== Proof.RouterRef.lean ====
module

public import proofs.«01_k».proof.Defs
public import proofs.«01_k».proof.Proof.Gen.RouterRefIdeal.Run
public import proofs.«01_k».proof.Proof.FoxMath
public import proofs.«01_k».proof.Proof.TopTwo
public import Idealize.ShloMosaic.Lib.Pointwise

@[expose] public section

set_option maxRecDepth 16384

noncomputable section

open Idealize.ShloMosaic Idealize.ShloMosaic.TcCoe Idealize.SL.Sem

/-! The router's reference, of its arguments. -/

namespace Cert.RouterRefIdeal.Mat
open Cert.RouterRefIdeal Cert.RouterRefIdeal.Gen

/-- The norm of each row, times the gain. -/
def HN (x : Vec Ideal S8448x4096 .f32) (g : Vec Ideal S4096 .f32) : FVec Ideal S8448x4096 .f32 :=
  mulf (F := Ideal) (φ := .f32) (mulf (F := Ideal) (φ := .f32) x (broadcastInDim S8448x4096 ![0, 1] bcast_S8448x1_S8448x4096_0_1 (Host.rsqrt (F := Ideal) (φ := .f32) (addf (F := Ideal) (φ := .f32) (Host.divf (F := Ideal) (φ := .f32) (broadcastInDim S8448x1 ![0] bcast_S8448_S8448x1_0 (Host.reduceAdd (F := Ideal) (φ := .f32) (mulf (F := Ideal) (φ := .f32) x x) (constant (F := Ideal) S_ .f32 0x00000000#32) reducesTo_S8448x4096_S8448_d1 h_S_)) (broadcastInDim S8448x1 ![] bcast_S_S8448x1 (constant (F := Ideal) S_ .f32 0x45800000#32))) (broadcastInDim S8448x1 ![] bcast_S_S8448x1 (constant (F := Ideal) S_ .f32 0x358637BD#32)))))) (broadcastInDim S8448x4096 ![0, 1] bcast_S1x4096_S8448x4096_0_1 (broadcastInDim S1x4096 ![1] bcast_S4096_S1x4096_1 g))

/-- The logits. -/
def LG (x : Vec Ideal S8448x4096 .f32) (g : Vec Ideal S4096 .f32) (w : Vec Ideal S4096x8 .f32) : FVec Ideal S8448x8 .f32 :=
  Host.dotGeneral (F := Ideal) (φ₁ := .f32) (φ₂ := .f32) dot_S8448x4096_S4096x8_S8448x8_1_0_0_1_n_n none (HN x g) w

/-- The two greatest logits of a row, and their positions. -/
def VALS (L : FVec Ideal S8448x8 .f32) : FVec Ideal S8448x2 .f32 :=
  (Host.topK S8448x2 1 (FloatOps.cmpfTotal (F := Ideal) (φ := .f32) .gt) L sliceFits_S8448x8_S8448x2).1

def POSN (L : FVec Ideal S8448x8 .f32) : IVec S8448x2 32 :=
  (Host.topK S8448x2 1 (FloatOps.cmpfTotal (F := Ideal) (φ := .f32) .gt) L sliceFits_S8448x8_S8448x2).2

/-- The exponentials of the two. -/
def EX (v : FVec Ideal S8448x2 .f32) : FVec Ideal S8448x2 .f32 :=
  Host.exp (F := Ideal) (φ := .f32) (subf (F := Ideal) (φ := .f32) v (broadcastInDim S8448x2 ![0, 1] bcast_S8448x1_S8448x2_0_1 (broadcastInDim S8448x1 ![0] bcast_S8448_S8448x1_0 (maximumf (F := Ideal) (φ := .f32) (broadcastInDim S8448 ![] bcast_S_S8448 (constant (F := Ideal) S_ .f32 0xFF800000#32)) (Host.reduce (FloatOps.maximumf (F := Ideal) (φ := .f32)) v (constant (F := Ideal) S_ .f32 0xFF800000#32) reducesTo_S8448x2_S8448_d1 h_S_)))))

/-- Their softmax. -/
def SM (e : FVec Ideal S8448x2 .f32) : FVec Ideal S8448x2 .f32 :=
  Host.divf (F := Ideal) (φ := .f32) e (broadcastInDim S8448x2 ![0, 1] bcast_S8448x1_S8448x2_0_1 (broadcastInDim S8448x1 ![0] bcast_S8448_S8448x1_0 (Host.reduceAdd (F := Ideal) (φ := .f32) e (constant (F := Ideal) S_ .f32 0x00000000#32) reducesTo_S8448x2_S8448_d1 h_S_)))

/-- The weights at their positions, zero elsewhere. -/
def GT (i : IVec S8448x2 32) (s : FVec Ideal S8448x2 .f32) : FVec Ideal S8448x8 .f32 :=
  Host.reduceAdd (F := Ideal) (φ := .f32) (mulf (F := Ideal) (φ := .f32) (uitofp (F := Ideal) .f32 (cmpi .eq (broadcastInDim S8448x2x8 ![0, 1, 2] bcast_S8448x2x1_S8448x2x8_0_1_2 (broadcastInDim S8448x2x1 ![0, 1] bcast_S8448x2_S8448x2x1_0_1 i)) (broadcastInDim S8448x2x8 ![0, 1, 2] bcast_S1x1x8_S8448x2x8_0_1_2 (iotaInDim S1x1x8 32 2)))) (broadcastInDim S8448x2x8 ![0, 1, 2] bcast_S8448x2x1_S8448x2x8_0_1_2 (broadcastInDim S8448x2x1 ![0, 1] bcast_S8448x2_S8448x2x1_0_1 s))) (constant (F := Ideal) S_ .f32 0x00000000#32) reducesTo_S8448x2x8_S8448x8_d1 h_S_

/-- The gates in 128 columns. -/
def PD (o : FVec Ideal S8448x8 .f32) : FVec Ideal S8448x128 .f32 :=
  pad S8448x128 ![0, 0] ![0, 120] ![0, 0] o (sitofp (F := Ideal) .f32 (constantI S_ 32 0#32)) pads_S8448x8_S8448x128_000_01200 h_S_

def RG (x : Vec Ideal S8448x4096 .f32) (g : Vec Ideal S4096 .f32) (w : Vec Ideal S4096x8 .f32) : FVec Ideal S8448x128 .f32 :=
  PD (GT (POSN (LG x g w)) (SM (EX (VALS (LG x g w)))))

def RH (x : Vec Ideal S8448x4096 .f32) (g : Vec Ideal S4096 .f32) : FVec Ideal S8448x4096 .bf16 :=
  truncf (F := Ideal) (φ := .f32) .bf16 (HN x g) bitsLt_bf16_f32

theorem res_eq (m : (ℓ : Loc nD τ sig) → Buf (Elt Ideal) ℓ) (c : Dev nD) : Cert.RouterRefIdeal.Value.res_out1 m c
    = RG (m ((c.tc : Thread nD τ).loc main_arg0)) (m ((c.tc : Thread nD τ).loc main_arg1)) (m ((c.tc : Thread nD τ).loc main_arg2)) := rfl

/-- A row's reciprocal root mean square. -/
def RS (z : Fin 4096 → EReal) : EReal :=
  Ideal.rsqrt (Ideal.div (∑ d : Fin 4096, z d * z d) (Ideal.ofBits FTy.f32 1166016512#32) + Ideal.ofBits FTy.f32 897988541#32)

theorem hn_at (x : Vec Ideal S8448x4096 .f32) (g : Vec Ideal S4096 .f32) (r : Fin 8448) (n : Fin 4096) :
    HN x g (ix2 r n) = x (ix2 r n) * RS (fun d => x (ix2 r d)) * g (ix1 n) := by
  pointwise [HN]
  rfl

theorem rh_at (x : Vec Ideal S8448x4096 .f32) (g : Vec Ideal S4096 .f32) (r : Fin 8448) (n : Fin 4096) :
    RH x g (ix2 r n) = x (ix2 r n) * RS (fun d => x (ix2 r d)) * g (ix1 n) := hn_at x g r n

theorem lg_at (x : Vec Ideal S8448x4096 .f32) (g : Vec Ideal S4096 .f32) (w : Vec Ideal S4096x8 .f32) (r : Fin 8448) (e : Fin 8) :
    LG x g w (ix2 r e) = ∑ d : Fin 4096, x (ix2 r d) * RS (fun d => x (ix2 r d)) * g (ix1 d) * w (ix2 d e) := by
  unfold LG
  pointwise
  simp only [hn_at]

theorem vals_at (L : FVec Ideal S8448x8 .f32) (r : Fin 8448) (hv : ∀ e, L (ix2 r e) ≠ ⊥) (j : Fin 2) :
    VALS L (ix2 r j) = L (ix2 r (![TopTwo.arg fun e => L (ix2 r e), TopTwo.arg2 fun e => L (ix2 r e)] j)) := by
  rw [← TopTwo.sorted_at _ hv j]
  have ha : ∀ k : Fin 8, (ix2 r (⟨j.val, by omega⟩ : Fin 8) : S8448x8.Idx).along (1 : Fin 2) k = ix2 r k := fun k => by
    funext a; fin_cases a <;> rfl
  refine Eq.trans (b := L ((ix2 r (⟨j.val, by omega⟩ : Fin 8) : S8448x8.Idx).along (1 : Fin 2) (sortedFrom (fun k k' : Fin 8 => Ideal.cmp .ogt (L ((ix2 r (⟨j.val, by omega⟩ : Fin 8) : S8448x8.Idx).along (1 : Fin 2) k)) (L ((ix2 r (⟨j.val, by omega⟩ : Fin 8) : S8448x8.Idx).along (1 : Fin 2) k')) == 1#1) (j.castLE (by decide))))) ?_ ?_
  · unfold VALS
    have hs : ∀ (z : FVec Ideal S8448x8 .f32), extractStridedSlice S8448x2 (fun _ => 0) z sliceFits_S8448x8_S8448x2 (ix2 r j) = z (ix2 r (⟨j.val, by omega⟩ : Fin 8)) := fun z => by
      pointwise
    unfold Host.topK
    dsimp only
    rw [hs]
    unfold Host.sort2
    rw [dif_pos (by decide)]
    rfl
  · simp only [ha]
    exact congrArg L (ha _)

theorem posn_at (L : FVec Ideal S8448x8 .f32) (r : Fin 8448) (hv : ∀ e, L (ix2 r e) ≠ ⊥) (j : Fin 2) :
    POSN L (ix2 r j) = BitVec.ofNat 32 (![TopTwo.arg fun e => L (ix2 r e), TopTwo.arg2 fun e => L (ix2 r e)] j).val := by
  rw [← TopTwo.sorted_at _ hv j]
  have ha : ∀ k : Fin 8, (ix2 r (⟨j.val, by omega⟩ : Fin 8) : S8448x8.Idx).along (1 : Fin 2) k = ix2 r k := fun k => by
    funext a; fin_cases a <;> rfl
  refine Eq.trans (b := BitVec.ofNat 32 (((ix2 r (⟨j.val, by omega⟩ : Fin 8) : S8448x8.Idx).along (1 : Fin 2) (sortedFrom (fun k k' : Fin 8 => Ideal.cmp .ogt (L ((ix2 r (⟨j.val, by omega⟩ : Fin 8) : S8448x8.Idx).along (1 : Fin 2) k)) (L ((ix2 r (⟨j.val, by omega⟩ : Fin 8) : S8448x8.Idx).along (1 : Fin 2) k')) == 1#1) (j.castLE (by decide)))) 1).val) ?_ ?_
  · unfold POSN
    have hs : ∀ (z : IVec S8448x8 32), extractStridedSlice S8448x2 (fun _ => 0) z sliceFits_S8448x8_S8448x2 (ix2 r j) = z (ix2 r (⟨j.val, by omega⟩ : Fin 8)) := fun z => by
      pointwise
    unfold Host.topK
    dsimp only
    rw [hs]
    unfold Host.sort2
    rw [dif_pos (by decide)]
    rfl
  · simp only [ha]
    rfl

theorem ninf : Ideal.ofBits FTy.f32 4286578688#32 = ⊥ := by
  simp [Ideal.ofBits, Ideal.ieee]

theorem ex_at (v : FVec Ideal S8448x2 .f32) (r : Fin 8448) (j : Fin 2) :
    EX v (ix2 r j) = Ideal.exp (v (ix2 r j) - max (v (ix2 r 0)) (v (ix2 r 1))) := by
  pointwise [EX]
  rw [ninf, show (Finset.univ : Finset (Fin 2)) = {0, 1} from rfl, Finset.fold_insert (by decide), Finset.fold_singleton]
  simp

theorem sm_at (v : FVec Ideal S8448x2 .f32) (r : Fin 8448) (j : Fin 2) :
    SM v (ix2 r j) = Ideal.div (v (ix2 r j)) (v (ix2 r 0) + v (ix2 r 1)) := by
  pointwise [SM]
  rw [Fin.sum_univ_two]

theorem hot (a b : BitVec 32) (x : EReal) :
    FloatOps.uitofp (F := Ideal) FTy.f32 (IntOp.cmpi CmpIPredicate.eq a b) * x = if a = b then x else 0 := by
  show (((IntOp.cmpi CmpIPredicate.eq a b).toNat : ℝ) : EReal) * x = _
  unfold IntOp.cmpi
  by_cases h : a = b <;> simp [h]

theorem gt_at (i : IVec S8448x2 32) (s : FVec Ideal S8448x2 .f32) (r : Fin 8448) (e : Fin 8) :
    GT i s (ix2 r e) = (if i (ix2 r 0) = BitVec.ofNat 32 e.val then s (ix2 r 0) else 0) + (if i (ix2 r 1) = BitVec.ofNat 32 e.val then s (ix2 r 1) else 0) := by
  pointwise [GT]
  rw [Fin.sum_univ_two, hot, hot]

theorem pd_at (o : FVec Ideal S8448x8 .f32) (r : Fin 8448) (n : Fin 128) :
    PD o (ix2 r n) = if h : n.val < 8 then o (ix2 r ⟨n.val, h⟩) else 0 := by
  pointwise [PD]
  split_ifs
  · rfl
  · show (((0#32 : BitVec 32).toInt : ℝ) : EReal) = 0
    simp

theorem c4096 : Ideal.ofBits FTy.f32 1166016512#32 = ((4096 : ℝ) : EReal) := by
  simp [Ideal.ofBits, Ideal.ieee]
  rw [← EReal.coe_mul]
  norm_num

theorem ceps : ∃ a : ℝ, 0 < a ∧ Ideal.ofBits FTy.f32 897988541#32 = (a : EReal) := by
  refine ⟨_, ?_, rfl⟩
  rw [if_neg (by decide)]
  positivity

/-- A normed entry is a real number, whatever the row: of a row with an infinity it is zero. -/
theorem nrm_real (z : Fin 4096 → EReal) (n : Fin 4096) : FoxMath.IsReal (z n * RS z) := by
  obtain ⟨a, ha, he⟩ := ceps
  have sq : ∀ d, 0 ≤ z d * z d := fun d => by
    generalize z d = y
    induction y with
    | bot => simp
    | top => simp
    | coe y => rw [← EReal.coe_mul]; exact EReal.coe_nonneg.mpr (mul_self_nonneg y)
  have hS : 0 ≤ ∑ d, z d * z d := Finset.sum_nonneg fun d _ => sq d
  have hc : ((4096 : ℝ) : EReal) ≠ 0 := by
    intro h
    have := EReal.coe_eq_zero.mp h
    norm_num at this
  unfold RS
  rw [c4096, he]
  by_cases ht : ∑ d, z d * z d = ⊤
  · have : Ideal.div (⊤ : EReal) ((4096 : ℝ) : EReal) = ⊤ := by
      unfold Ideal.div
      rw [if_neg hc, ← EReal.coe_inv]
      exact EReal.top_mul_coe_of_pos (by norm_num)
    rw [ht, this, EReal.top_add_coe]
    show FoxMath.IsReal (z n * 0)
    rw [mul_zero]
    exact FoxMath.isReal_coe 0
  · have hz : FoxMath.IsReal (z n) := by
      have hle : z n * z n ≤ ∑ d, z d * z d := Finset.single_le_sum (f := fun d => z d * z d) (fun d _ => sq d) (Finset.mem_univ n)
      constructor <;> intro h <;> rw [h] at hle <;> exact ht (top_le_iff.mp (by simpa using hle))
    obtain ⟨s, hs⟩ : ∃ s : ℝ, ∑ d, z d * z d = s := FoxMath.IsReal.exists ⟨fun h => by rw [h] at hS; exact absurd hS (by simp), ht⟩
    rw [hs] at hS ⊢
    have hs0 : 0 ≤ s := EReal.coe_nonneg.mp hS
    refine hz.mul ?_
    have : Ideal.div (s : EReal) ((4096 : ℝ) : EReal) + (a : EReal) = ((s * (4096 : ℝ)⁻¹ + a : ℝ) : EReal) := by
      unfold Ideal.div
      rw [if_neg hc, ← EReal.coe_inv, ← EReal.coe_mul, ← EReal.coe_add]
    rw [this]
    have hp : 0 < s * (4096 : ℝ)⁻¹ + a := by positivity
    show FoxMath.IsReal (if s * (4096 : ℝ)⁻¹ + a < 0 then ⊥ else if s * (4096 : ℝ)⁻¹ + a = 0 then ⊤ else (((Real.sqrt (s * (4096 : ℝ)⁻¹ + a))⁻¹ : ℝ) : EReal))
    rw [if_neg (not_lt.mpr hp.le), if_neg hp.ne']
    exact FoxMath.isReal_coe _

/-- The router's weights over a row: one weight at each of the two positions. -/
def PICK (l : Fin 8 → EReal) (n : ℕ) : EReal :=
  if n = (TopTwo.arg l).val then Ideal.div 1 (1 + Ideal.exp (l (TopTwo.arg2 l) - l (TopTwo.arg l)))
  else if n = (TopTwo.arg2 l).val then
    Ideal.div (Ideal.exp (l (TopTwo.arg2 l) - l (TopTwo.arg l))) (1 + Ideal.exp (l (TopTwo.arg2 l) - l (TopTwo.arg l)))
  else 0

theorem word (a : Fin 8) (b : Fin 128) : BitVec.ofNat 32 a.val = BitVec.ofNat 32 b.val ↔ b.val = a.val := by
  constructor
  · intro h
    have := congrArg BitVec.toNat h
    simp only [BitVec.toNat_ofNat] at this
    omega
  · intro h; rw [h]

theorem rg_at (x : Vec Ideal S8448x4096 .f32) (g : Vec Ideal S4096 .f32) (w : Vec Ideal S4096x8 .f32) (r : Fin 8448) (n : Fin 128)
    (hl : ∀ e, FoxMath.IsReal (LG x g w (ix2 r e))) : RG x g w (ix2 r n) = PICK (fun e => LG x g w (ix2 r e)) n.val := by
  have hb : ∀ e, LG x g w (ix2 r e) ≠ ⊥ := fun e => (hl e).1
  have hne := TopTwo.arg2_ne (fun e => LG x g w (ix2 r e)) hb
  have hle := TopTwo.le_arg (fun e => LG x g w (ix2 r e)) (TopTwo.arg2 fun e => LG x g w (ix2 r e))
  unfold RG
  rw [pd_at]
  simp only [gt_at, posn_at _ _ hb, sm_at, ex_at, vals_at _ _ hb, Matrix.cons_val_zero, Matrix.cons_val_one, word]
  unfold PICK
  generalize hi : TopTwo.arg (fun e => LG x g w (ix2 r e)) = i at *
  generalize hk : TopTwo.arg2 (fun e => LG x g w (ix2 r e)) = k at *
  rw [max_eq_left hle]
  obtain ⟨a, ha⟩ := (hl i).exists
  have h1 : Ideal.exp (LG x g w (ix2 r i) - LG x g w (ix2 r i)) = 1 := by
    rw [ha, ← EReal.coe_sub, sub_self]
    show ((Real.exp 0 : ℝ) : EReal) = 1
    rw [Real.exp_zero]; rfl
  rw [h1]
  have hv : i.val ≠ k.val := fun h => hne (Fin.ext h.symm)
  dsimp only
  split_ifs <;> first | omega | simp

end Cert.RouterRefIdeal.Mat

end
-- ==== Proof.Router.lean ====
module

public import proofs.«01_k».proof.Defs
public import proofs.«01_k».proof.Proof.Gen.RouterIdeal.Value
public import proofs.«01_k».proof.Proof.Gen.Pre_finite_router
public import proofs.«01_k».proof.Proof.RouterRef
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The norm of each row, and the router's gates from it. -/

namespace Cert.RouterIdeal.Mat
open Cert.RouterIdeal Cert.RouterIdeal.Gen
open Cert.RouterRefIdeal.Mat (RS PICK)
open TopTwo (step arg arg2 rest)

/-- A position as the body's 32-bit word. -/
abbrev W (b : Fin 8) : BitVec 32 := BitVec.ofNat 32 b.val

/-- One step of the body's scan, on the value or on the position. -/
theorem pick {α : Type} {a b : FVec Ideal S256x1 .f32} {u w : S256x1.Idx → α} {j : S256x1.Idx} (l : Fin 8 → EReal) (f : Fin 8 → α) {p e : Fin 8}
    (ha : a j = l p) (hb : b j = l e) (hu : u j = f p) (hw : w j = f e) :
    select (cmpf (F := Ideal) (φ := .f32) .ogt b a) w u j = f (step l p e) := by
  show (if Ideal.cmp .ogt (b j) (a j) = 1#1 then w j else u j) = _
  rw [ha, hb, hu, hw]
  unfold TopTwo.step Ideal.cmp
  by_cases h : l p < l e <;> simp [h]

/-- The first of the greatest taken out. -/
theorem mask {a : FVec Ideal S256x1 .f32} {i w : IVec S256x1 32} {j : S256x1.Idx} (l : Fin 8 → EReal) (e : Fin 8)
    (hi : i j = W (arg l)) (hw : w j = W e) (ha : a j = l e) :
    select (cmpi .eq i w) (broadcast S256x1 (Scalar.ofBits (F := Ideal) .f32 0xFF800000#32)) a j = rest l e := by
  show (if IntOp.cmpi .eq (i j) (w j) = 1#1 then Ideal.ofBits .f32 0xFF800000#32 else a j) = _
  rw [hi, hw, ha, Cert.RouterRefIdeal.Mat.ninf]
  have hW : W (arg l) = W e ↔ e = arg l :=
    (Cert.RouterRefIdeal.Mat.word (arg l) (e.castLE (by decide))).trans (Fin.ext_iff (a := e) (b := arg l)).symm
  unfold TopTwo.rest IntOp.cmpi
  by_cases h : e = arg l
  · rw [if_pos h, hW.mpr h]; simp
  · rw [if_neg h]
    have : W (arg l) ≠ W e := fun h' => h (hW.mp h')
    rw [beq_eq_false_iff_ne.mpr this]
    exact if_neg (show ¬ BitVec.ofBool false = 1#1 by decide)

/-- The norm, times the gain, before it is rounded. -/
theorem pay2_at (x : Vec Ideal S256x4096 .f32) (g : Vec Ideal S1x4096 .f32) (r : Fin 256) (n : Fin 4096) :
    k0_pay2 x g (ix2 r n) = x (ix2 r n) * RS (fun d => x (ix2 r d)) * g (ix2 0 n) := by
  pointwise [k0_pay2]
  rfl

theorem pay3_at (x : Vec Ideal S256x4096 .f32) (g : Vec Ideal S1x4096 .f32) (r : Fin 256) (n : Fin 4096) :
    k0_pay3 x g (ix2 r n) = x (ix2 r n) * RS (fun d => x (ix2 r d)) * g (ix2 0 n) := by
  pointwise [k0_pay3]
  rw [pay2_at]

/-- A row's logit, from the router's row. -/
abbrev LOG (x : Vec Ideal S256x4096 .f32) (g : Vec Ideal S1x4096 .f32) (w : Vec Ideal S8x4096 .f32) (r : Fin 256) (e : Fin 8) : EReal :=
  ∑ d : Fin 4096, x (ix2 r d) * RS (fun d => x (ix2 r d)) * g (ix2 0 d) * w (ix2 e d)

section
variable (x0 : Vec Ideal S256x4096 .f32) (x1 : Vec Ideal S1x4096 .f32) (x2 : Vec Ideal S8x4096 .f32) (r : Fin 256)

theorem l0 : k0_pay56 x0 x1 x2 (ix2 r 0) = LOG x0 x1 x2 r 0 := by
  pointwise [k0_pay56, k0_pay4]
  simp only [pay2_at]
  pointwise

theorem l1 : k0_pay57 x0 x1 x2 (ix2 r 0) = LOG x0 x1 x2 r 1 := by
  pointwise [k0_pay57, k0_pay5]
  simp only [pay2_at]
  pointwise

theorem l2 : k0_pay58 x0 x1 x2 (ix2 r 0) = LOG x0 x1 x2 r 2 := by
  pointwise [k0_pay58, k0_pay6]
  simp only [pay2_at]
  pointwise

theorem l3 : k0_pay8 (k0_pay55 x0 x1 x2) (k0_pay59 x0 x1 x2) (ix2 r 0) = LOG x0 x1 x2 r 3 := by
  pointwise [k0_pay55, k0_pay59, k0_pay7, k0_pay8]
  simp only [pay2_at]
  pointwise

theorem l4 : k0_pay9 (k0_pay55 x0 x1 x2) (View.ld x2 r0_6) (ix2 r 0) = LOG x0 x1 x2 r 4 := by
  pointwise [k0_pay55, k0_pay9]
  simp only [pay2_at]
  pointwise

theorem l5 : k0_pay60 x0 x1 x2 (ix2 r 0) = LOG x0 x1 x2 r 5 := by
  pointwise [k0_pay55, k0_pay60, k0_pay10]
  simp only [pay2_at]
  pointwise

theorem l6 : k0_pay61 x0 x1 x2 (ix2 r 0) = LOG x0 x1 x2 r 6 := by
  pointwise [k0_pay55, k0_pay61, k0_pay11]
  simp only [pay2_at]
  pointwise

theorem l7 : k0_pay62 x0 x1 x2 (ix2 r 0) = LOG x0 x1 x2 r 7 := by
  pointwise [k0_pay55, k0_pay62, k0_pay12]
  simp only [pay2_at]
  pointwise

end

section
variable {v14 v37 : FVec Ideal S256x4096 .f32} {v22 v28 v34 v52 v58 v64 : FVec Ideal S256x1 .f32} {v41 : Vec Ideal S1x4096 .f32} {j : S256x1.Idx}

/-- The first scan: the greatest logit and its position. -/
theorem first (l : Fin 8 → EReal) (h0 : v22 j = l 0) (h1 : v28 j = l 1) (h2 : v34 j = l 2) (h3 : k0_pay8 v14 v37 j = l 3)
    (h4 : k0_pay9 v14 v41 j = l 4) (h5 : v52 j = l 5) (h6 : v58 j = l 6) (h7 : v64 j = l 7) :
    k0_pay27 v52 v58 v64 (k0_pay21 v14 v22 v28 v34 v37 v41) j = l (arg l)
    ∧ k0_pay28 v52 v58 v64 (k0_pay19 v14 v22 v28 v34 v37) (k0_pay20 v14 v22 v28 v34 v37 v41) (k0_pay21 v14 v22 v28 v34 v37 v41) 4#32 j = W (arg l) := by
  have b1 : k0_pay14 v22 v28 j = l (step l 0 1) := pick l l h0 h1 h0 h1
  have b2 : k0_pay16 v22 v28 v34 j = l (step l (step l 0 1) 2) := pick l l b1 h2 b1 h2
  have b3 : k0_pay18 v14 v22 v28 v34 v37 j = l (step l (step l (step l 0 1) 2) 3) := pick l l b2 h3 b2 h3
  have b4 : k0_pay21 v14 v22 v28 v34 v37 v41 j = l (step l (step l (step l (step l 0 1) 2) 3) 4) := pick l l b3 h4 b3 h4
  have b5 : k0_pay23 v52 (k0_pay21 v14 v22 v28 v34 v37 v41) j = l (step l (step l (step l (step l (step l 0 1) 2) 3) 4) 5) := pick l l b4 h5 b4 h5
  have b6 : k0_pay25 v52 v58 (k0_pay21 v14 v22 v28 v34 v37 v41) j = l (step l (step l (step l (step l (step l (step l 0 1) 2) 3) 4) 5) 6) := pick l l b5 h6 b5 h6
  have b7 : k0_pay27 v52 v58 v64 (k0_pay21 v14 v22 v28 v34 v37 v41) j = l (step l (step l (step l (step l (step l (step l (step l 0 1) 2) 3) 4) 5) 6) 7) := pick l l b6 h7 b6 h7
  refine ⟨b7, ?_⟩
  exact pick l W b6 h7 (pick l W b5 h6 (pick l W b4 h5 (pick l W b3 h4 (pick l W b2 h3 (pick l W b1 h2 (pick l W h0 h1 rfl rfl) rfl) rfl) rfl) rfl) rfl) rfl

variable {v91 v97 v101 v105 v109 v113 v117 v121 : FVec Ideal S256x1 .f32} {v93 : IVec S256x1 32}

/-- The second scan's position, before it is spread over the columns. -/
def SECOND (v64 : FVec Ideal S256x1 .f32) (v93 : IVec S256x1 32) (v97 v101 v105 v109 v113 v117 v121 : FVec Ideal S256x1 .f32) : IVec S256x1 32 :=
  select (k0_pay49 v64 v93 v97 v101 v105 v109 v113 v117 v121 7#32) (broadcast S256x1 7#32) (select (k0_pay47 v97 v101 v105 v109 v113 v117 v121) (broadcast S256x1 6#32) (select (k0_pay45 v97 v101 v105 v109 v113 v117) (broadcast S256x1 5#32) (select (k0_pay43 v97 v101 v105 v109 v113) (broadcast S256x1 4#32) (select (k0_pay41 v97 v101 v105 v109) (broadcast S256x1 3#32) (select (k0_pay39 v97 v101 v105) (broadcast S256x1 2#32) (select (k0_pay37 v97 v101) (broadcast S256x1 1#32) (broadcast S256x1 0#32)))))))

/-- The second scan: the exponential of the difference, and the position. -/
theorem second (l : Fin 8 → EReal) (hv : ∀ e, l e ≠ ⊥) (hi : v93 j = W (arg l)) (hm : v91 j = l (arg l)) (h7 : v64 j = l 7)
    (r0 : v97 j = rest l 0) (r1 : v101 j = rest l 1) (r2 : v105 j = rest l 2) (r3 : v109 j = rest l 3) (r4 : v113 j = rest l 4)
    (r5 : v117 j = rest l 5) (r6 : v121 j = rest l 6) :
    k0_pay50 v64 v91 v93 v97 v101 v105 v109 v113 v117 v121 7#32 j = Ideal.exp (l (arg2 l) - l (arg l))
    ∧ SECOND v64 v93 v97 v101 v105 v109 v113 v117 v121 j = W (arg2 l) := by
  have r7 : k0_pay36 v64 v93 7#32 j = rest l 7 := mask l 7 hi rfl h7
  have b1 : k0_pay38 v97 v101 j = rest l (step (rest l) 0 1) := pick (rest l) (rest l) r0 r1 r0 r1
  have b2 : k0_pay40 v97 v101 v105 j = rest l (step (rest l) (step (rest l) 0 1) 2) := pick (rest l) (rest l) b1 r2 b1 r2
  have b3 : k0_pay42 v97 v101 v105 v109 j = rest l (step (rest l) (step (rest l) (step (rest l) 0 1) 2) 3) := pick (rest l) (rest l) b2 r3 b2 r3
  have b4 : k0_pay44 v97 v101 v105 v109 v113 j = rest l (step (rest l) (step (rest l) (step (rest l) (step (rest l) 0 1) 2) 3) 4) := pick (rest l) (rest l) b3 r4 b3 r4
  have b5 : k0_pay46 v97 v101 v105 v109 v113 v117 j = rest l (step (rest l) (step (rest l) (step (rest l) (step (rest l) (step (rest l) 0 1) 2) 3) 4) 5) := pick (rest l) (rest l) b4 r5 b4 r5
  have b6 : k0_pay48 v97 v101 v105 v109 v113 v117 v121 j = rest l (step (rest l) (step (rest l) (step (rest l) (step (rest l) (step (rest l) (step (rest l) 0 1) 2) 3) 4) 5) 6) := pick (rest l) (rest l) b5 r6 b5 r6
  have b7 : select (k0_pay49 v64 v93 v97 v101 v105 v109 v113 v117 v121 7#32) (k0_pay36 v64 v93 7#32) (k0_pay48 v97 v101 v105 v109 v113 v117 v121) j = rest l (step (rest l) (step (rest l) (step (rest l) (step (rest l) (step (rest l) (step (rest l) (step (rest l) 0 1) 2) 3) 4) 5) 6) 7) := pick (rest l) (rest l) b6 r7 b6 r7
  refine ⟨?_, pick (rest l) W b6 r7 (pick (rest l) W b5 r6 (pick (rest l) W b4 r5 (pick (rest l) W b3 r4 (pick (rest l) W b2 r3 (pick (rest l) W b1 r2 (pick (rest l) W r0 r1 rfl rfl) rfl) rfl) rfl) rfl) rfl) rfl⟩
  have b : select (k0_pay49 v64 v93 v97 v101 v105 v109 v113 v117 v121 7#32) (k0_pay36 v64 v93 7#32) (k0_pay48 v97 v101 v105 v109 v113 v117 v121) j = l (arg2 l) :=
    b7.trans (TopTwo.rest_of_ne l (TopTwo.arg2_ne l hv))
  show Ideal.exp (select (k0_pay49 v64 v93 v97 v101 v105 v109 v113 v117 v121 7#32) (k0_pay36 v64 v93 7#32) (k0_pay48 v97 v101 v105 v109 v113 v117 v121) j - v91 j) = _
  rw [b, hm]

theorem one : Ideal.ofBits FTy.f32 0x3F800000#32 = 1 := by
  simp [Ideal.ofBits, Ideal.ieee]
  rw [← EReal.coe_mul]
  norm_num

theorem weight1 : k0_pay51 v64 v91 v93 v97 v101 v105 v109 v113 v117 v121 7#32 j = Ideal.div 1 (1 + k0_pay50 v64 v91 v93 v97 v101 v105 v109 v113 v117 v121 7#32 j) := by
  rw [← one]
  rfl

theorem weight2 : k0_pay52 v64 v91 v93 v97 v101 v105 v109 v113 v117 v121 7#32 j = Ideal.div (k0_pay50 v64 v91 v93 v97 v101 v105 v109 v113 v117 v121 7#32 j) (1 + k0_pay50 v64 v91 v93 v97 v101 v105 v109 v113 v117 v121 7#32 j) := by
  rw [← one]
  rfl

end

theorem sel (n : Fin 128) (a : Fin 8) (x y : EReal) :
    Scalar.select (IntOp.cmpi CmpIPredicate.eq (BitVec.ofNat 32 n.val) (W a)) x y = if n.val = a.val then x else y := by
  have hw := Cert.RouterRefIdeal.Mat.word a n
  unfold Scalar.select IntOp.cmpi
  by_cases h : n.val = a.val
  · have h' : BitVec.ofNat 32 n.val = W a := (hw.mpr h).symm
    rw [if_pos h, h']
    dsimp only
    rw [beq_self_eq_true]
    exact if_pos (show BitVec.ofBool true = 1#1 by decide)
  · have h' : BitVec.ofNat 32 n.val ≠ W a := fun e => h (hw.mp e.symm)
    rw [if_neg h]
    dsimp only
    rw [beq_eq_false_iff_ne.mpr h']
    exact if_neg (show ¬ BitVec.ofBool false = 1#1 by decide)

/-- The body's last value: the first weight in its column, the second in its, zero elsewhere. -/
theorem spread (v160 v163 : FVec Ideal S256x1 .f32) (v93 v154 : IVec S256x1 32) (r : Fin 256) (n : Fin 128) (a b : Fin 8)
    (ha : v93 (ix2 r 0) = W a) (hb : v154 (ix2 r 0) = W b) :
    k0_pay1 v160 v163 (k0_pay53 v93) (cmpi .eq (iota .tc S256x128 32 [1] iota_S256x128_d1_w32) (broadcastTo S256x128 v154 broadcasts_S256x1_S256x128)) (Scalar.ofBits (F := Ideal) .f32 0x00000000#32) (ix2 r n)
    = if n.val = a.val then v160 (ix2 r 0) else if n.val = b.val then v163 (ix2 r 0) else 0 := by
  pointwise [k0_pay1, k0_pay53]
  rw [ha, hb, sel, sel]

section
variable (x0 : Vec Ideal S256x4096 .f32) (x1 : Vec Ideal S1x4096 .f32) (x2 : Vec Ideal S8x4096 .f32) (r : Fin 256) (n : Fin 128)

theorem body (hv : ∀ e, LOG x0 x1 x2 r e ≠ ⊥) : out0_4 x0 x1 x2 (ix2 r n) = PICK (LOG x0 x1 x2 r) n.val := by
  obtain ⟨hm, hi⟩ := first (LOG x0 x1 x2 r) (l0 x0 x1 x2 r) (l1 x0 x1 x2 r) (l2 x0 x1 x2 r) (l3 x0 x1 x2 r) (l4 x0 x1 x2 r) (l5 x0 x1 x2 r) (l6 x0 x1 x2 r) (l7 x0 x1 x2 r)
  have hm' : k0_pay66 x0 x1 x2 (ix2 r 0) = LOG x0 x1 x2 r (arg (LOG x0 x1 x2 r)) := hm
  have hi' : k0_pay67 x0 x1 x2 (ix2 r 0) = W (arg (LOG x0 x1 x2 r)) := hi
  have r0 : k0_pay68 x0 x1 x2 (ix2 r 0) = rest (LOG x0 x1 x2 r) 0 := mask (LOG x0 x1 x2 r) 0 hi rfl (l0 x0 x1 x2 r)
  have r1 : k0_pay69 x0 x1 x2 (ix2 r 0) = rest (LOG x0 x1 x2 r) 1 := mask (LOG x0 x1 x2 r) 1 hi rfl (l1 x0 x1 x2 r)
  have r2 : k0_pay70 x0 x1 x2 (ix2 r 0) = rest (LOG x0 x1 x2 r) 2 := mask (LOG x0 x1 x2 r) 2 hi rfl (l2 x0 x1 x2 r)
  have r3 : k0_pay71 x0 x1 x2 (ix2 r 0) = rest (LOG x0 x1 x2 r) 3 := mask (LOG x0 x1 x2 r) 3 hi rfl (l3 x0 x1 x2 r)
  have r4 : k0_pay72 x0 x1 x2 (ix2 r 0) = rest (LOG x0 x1 x2 r) 4 := mask (LOG x0 x1 x2 r) 4 hi rfl (l4 x0 x1 x2 r)
  have r5 : k0_pay73 x0 x1 x2 (ix2 r 0) = rest (LOG x0 x1 x2 r) 5 := mask (LOG x0 x1 x2 r) 5 hi rfl (l5 x0 x1 x2 r)
  have r6 : k0_pay74 x0 x1 x2 (ix2 r 0) = rest (LOG x0 x1 x2 r) 6 := mask (LOG x0 x1 x2 r) 6 hi rfl (l6 x0 x1 x2 r)
  obtain ⟨ht, hj⟩ := second (LOG x0 x1 x2 r) hv hi' hm' (l7 x0 x1 x2 r) r0 r1 r2 r3 r4 r5 r6
  unfold out0_4
  frame_out
  refine (spread _ _ _ _ r n _ _ hi' hj).trans ?_
  unfold PICK
  rw [← ht]
  rw [weight1, weight2]

end

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The point's blocks. -/
abbrev row (c : Dev nD) (t : Fin cfg0.N) : Vec Ideal S256x4096 .f32 := iblk m c 0 t
abbrev gai (c : Dev nD) (t : Fin cfg0.N) : Vec Ideal S1x4096 .f32 := iblk m c 1 t
abbrev rou (c : Dev nD) (t : Fin cfg0.N) : Vec Ideal S8x4096 .f32 := iblk m c 2 t
abbrev arr0 (c : Dev nD) : Vec Ideal S8448x4096 .f32 := m ((c.tc : Thread nD τ).loc main_arg0)
abbrev arr1 (c : Dev nD) : Vec Ideal S4096 .f32 := m ((c.tc : Thread nD τ).loc main_arg1)
abbrev arr2 (c : Dev nD) : Vec Ideal S4096x8 .f32 := m ((c.tc : Thread nD τ).loc main_arg2)

theorem row_at (c : Dev nD) (t : Fin cfg0.N) (r : Fin 256) (k : Fin 4096) : row m c t (ix2 r k)
    = arr0 m c (ix2 (⟨t.val * 256 + r.val, by have := lt_of_lt_of_eq t.isLt N_0; omega⟩ : Fin 8448) k) := by
  blk_ext [iblk, V, idx t]

theorem gai_at (c : Dev nD) (t : Fin cfg0.N) (n : Fin 4096) : gai m c t (ix2 0 n) = arr1 m c (ix1 n) := by
  blk_point [iblk, V, idx t]

theorem rou_at (c : Dev nD) (t : Fin cfg0.N) (e : Fin 8) (n : Fin 4096) : rou m c t (ix2 e n) = arr2 m c (ix2 n e) := by
  blk_point [iblk, V, idx t]

/-- The result arrays, as functions of the arguments: the reference's own terms. -/
abbrev OUT3 (c : Dev nD) : Vec Ideal S8448x4096 .bf16 := Cert.RouterRefIdeal.Mat.RH (arr0 m c) (arr1 m c)
abbrev OUT4 (c : Dev nD) : Vec Ideal S8448x128 .f32 := Cert.RouterRefIdeal.Mat.RG (arr0 m c) (arr1 m c) (arr2 m c)

theorem point3 (c : Dev nD) (t : Fin cfg0.N) (r : Fin 256) (n : Fin 4096) :
    k0_pay3 (row m c t) (gai m c t) (ix2 r n) = OUT3 m c (((cfg0.win 3).blk t).view.emb (ix2 r n)) := by
  have ht := lt_of_lt_of_eq t.isLt N_0
  have he : ((cfg0.win 3).blk t).view.emb (ix2 r n) = ix2 (⟨t.val * 256 + r.val, by omega⟩ : Fin 8448) n := by
    blk_ext [idx t]
  rw [he]
  unfold OUT3
  rw [Cert.RouterRefIdeal.Mat.rh_at, pay3_at]
  simp only [row_at, gai_at]

theorem final3 (c : Dev nD) : (dats m 0 c).arrAt 3 cfg0.N = OUT3 m c := by
  refine (dats m 0 c).arrAt_eq_of_covers 3 _ (by decide +kernel) fun t hf y => ?_
  blk_simp
  rw [after0_3]
  obtain ⟨r, n, rfl⟩ : ∃ (r : Fin 256) (n : Fin 4096), y = ix2 r n := ⟨y 0, y 1, by idx_vars y; blk_ext⟩
  refine Eq.trans ?_ (point3 m c t r n)
  unfold out0_3
  frame_out

section
variable (hg : ∀ c n, FoxMath.IsReal (arr1 m c (ix1 n))) (hw : ∀ c n e, FoxMath.IsReal (arr2 m c (ix2 n e)))
include hg hw

theorem lg_real (c : Dev nD) (r : Fin 8448) (e : Fin 8) :
    FoxMath.IsReal (Cert.RouterRefIdeal.Mat.LG (arr0 m c) (arr1 m c) (arr2 m c) (ix2 r e)) := by
  rw [Cert.RouterRefIdeal.Mat.lg_at]
  exact FoxMath.IsReal.sum _ fun d =>
    ((Cert.RouterRefIdeal.Mat.nrm_real (fun d => arr0 m c (ix2 r d)) d).mul (hg c d)).mul (hw c d e)

theorem point4 (c : Dev nD) (t : Fin cfg0.N) (r : Fin 256) (n : Fin 128) :
    out0_4 (row m c t) (gai m c t) (rou m c t) (ix2 r n) = OUT4 m c (((cfg0.win 4).blk t).view.emb (ix2 r n)) := by
  have ht := lt_of_lt_of_eq t.isLt N_0
  have he : ((cfg0.win 4).blk t).view.emb (ix2 r n) = ix2 (⟨t.val * 256 + r.val, by omega⟩ : Fin 8448) n := by
    blk_ext [idx t]
  rw [he]
  unfold OUT4
  have hL : LOG (row m c t) (gai m c t) (rou m c t) r
      = fun e => Cert.RouterRefIdeal.Mat.LG (arr0 m c) (arr1 m c) (arr2 m c) (ix2 (⟨t.val * 256 + r.val, by omega⟩ : Fin 8448) e) := by
    funext e
    rw [Cert.RouterRefIdeal.Mat.lg_at]
    simp only [LOG, row_at, gai_at, rou_at]
  rw [Cert.RouterRefIdeal.Mat.rg_at _ _ _ _ _ (lg_real m hg hw c _), body, hL]
  intro e
  rw [hL]
  exact (lg_real m hg hw c _ e).1

theorem final4 (c : Dev nD) : (dats m 0 c).arrAt 4 cfg0.N = OUT4 m c := by
  refine (dats m 0 c).arrAt_eq_of_covers 4 _ (by decide +kernel) fun t hf y => ?_
  blk_simp
  rw [after0_4]
  obtain ⟨r, n, rfl⟩ : ∃ (r : Fin 256) (n : Fin 128), y = ix2 r n := ⟨y 0, y 1, by idx_vars y; blk_ext⟩
  exact point4 m hg hw c t r n

end

theorem pinf : Ideal.ofBits FTy.f32 0x7F800000#32 = ⊤ := by
  simp [Ideal.ofBits, Ideal.ieee]

/-- Both comparisons true: the value is a real number. -/
theorem real_of_bits (x : EReal)
    (h : IntOp.andi (BitVec.ofBool (decide (x < Ideal.ofBits FTy.f32 0x7F800000#32))) (BitVec.ofBool (decide (Ideal.ofBits FTy.f32 0xFF800000#32 < x))) = 1#1) :
    FoxMath.IsReal x := by
  rw [pinf, Cert.RouterRefIdeal.Mat.ninf] at h
  refine ⟨fun e => ?_, fun e => ?_⟩
  · subst e
    simp [IntOp.andi] at h
  · subst e
    simp [IntOp.andi] at h

section
variable [hPre : Cert.Pre_finite_router.Facts]

theorem g_real (hp : Cert.Pre_RouterIdeal_finite_router m) (c : Dev nD) (n : Fin 4096) : FoxMath.IsReal (arr1 m c (ix1 n)) := by
  have h := congrFun (hp c).1 (ix1 n)
  unfold Cert.Pre_finite_router.fn at h
  pointwise at h
  exact real_of_bits _ h

theorem w_real (hp : Cert.Pre_RouterIdeal_finite_router m) (c : Dev nD) (n : Fin 4096) (e : Fin 8) : FoxMath.IsReal (arr2 m c (ix2 n e)) := by
  have h := congrFun (hp c).2 (ix2 n e)
  unfold Cert.Pre_finite_router.fn at h
  pointwise at h
  exact real_of_bits _ h
end

theorem algebraic : Cert.algebraic_RouterIdeal_RouterRefIdeal_pre_finite_router := by
  unfold Cert.algebraic_RouterIdeal_RouterRefIdeal_pre_finite_router
  pair_intro
  · run_from Cert.RouterIdeal.Value.run_blocks m g
  · run_from Cert.RouterRefIdeal.Value.run m' g'
    · exact (final3 m c).symm
    · have e := Cert.RouterRefIdeal.Mat.res_eq m' c
      rw [(hagree c).1, (hagree c).2.1, (hagree c).2.2] at e
      exact e.trans (final4 m (g_real m hpre) (w_real m hpre) c).symm

end Cert.RouterIdeal.Mat

end
-- ==== Proof.PostRef.lean ====
module

public import proofs.«01_k».proof.Defs
public import proofs.«01_k».proof.Proof.Gen.PostIdeal.Value
public import proofs.«01_k».proof.Proof.Gen.PostRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! The step after the projections: the running sums of the forget gates, the indexer's keys transposed, the keys and values
of the latents. This module: what the reference computes. -/

namespace Cert.PostRefIdeal.Mat
open Cert.PostRefIdeal Cert.PostRefIdeal.Gen

/-- The forget logits. -/
def Z (a0 : Vec Ideal S8448x128 .f32) (a2 : Vec Ideal S16 .f32) : FVec Ideal S8448x16 .f32 :=
  addf (F := Ideal) (φ := .f32) (extractStridedSlice S8448x16 ![0, 64] a0 slices_S8448x128_S8448x16_0_64) (broadcastInDim S8448x16 ![0, 1] bcast_S1x16_S8448x16_0_1 (broadcastInDim S1x16 ![1] bcast_S16_S1x16_1 a2))

/-- Their negations, as the softplus takes them. -/
def D (a0 : Vec Ideal S8448x128 .f32) (a2 : Vec Ideal S16 .f32) : FVec Ideal S8448x16 .f32 :=
  subf (F := Ideal) (φ := .f32) (Host.negf (F := Ideal) (φ := .f32) (Z a0 a2)) (broadcastInDim S8448x16 ![] bcast_S_S8448x16 (constant (F := Ideal) S_ .f32 0x00000000#32))

/-- The logarithms of the sigmoids. -/
def LS (a0 : Vec Ideal S8448x128 .f32) (a2 : Vec Ideal S16 .f32) : FVec Ideal S8448x16 .f32 :=
  Host.negf (F := Ideal) (φ := .f32) (select (cmpf (F := Ideal) (φ := .f32) .une (D a0 a2) (D a0 a2)) (addf (F := Ideal) (φ := .f32) (Host.negf (F := Ideal) (φ := .f32) (Z a0 a2)) (broadcastInDim S8448x16 ![] bcast_S_S8448x16 (constant (F := Ideal) S_ .f32 0x00000000#32))) (addf (F := Ideal) (φ := .f32) (maximumf (F := Ideal) (φ := .f32) (Host.negf (F := Ideal) (φ := .f32) (Z a0 a2)) (broadcastInDim S8448x16 ![] bcast_S_S8448x16 (constant (F := Ideal) S_ .f32 0x00000000#32))) (Host.log1p (F := Ideal) (φ := .f32) (Host.exp (F := Ideal) (φ := .f32) (Host.negf (F := Ideal) (φ := .f32) (Host.absf (F := Ideal) (φ := .f32) (D a0 a2)))))))

/-- The same, head by head, zero off the tokens. -/
def LT (a0 : Vec Ideal S8448x128 .f32) (a2 : Vec Ideal S16 .f32) : FVec Ideal S2x16x4224 .f32 :=
  select (broadcastInDim S2x16x4224 ![2] bcast_S4224_S2x16x4224_2 (ori (cmpi .slt (iotaInDim S4224 32 0) (broadcastInDim S4224 ![] bcast_S_S4224 (constantI S_ 32 16#32))) (cmpi .sge (iotaInDim S4224 32 0) (broadcastInDim S4224 ![] bcast_S_S4224 (constantI S_ 32 128#32))))) (transpose S2x16x4224 [0, 2, 1] (shapeCast S2x4224x16 (LS a0 a2) shapeCasts_S8448x16_S2x4224x16) transposes_S2x4224x16_S2x16x4224_0_2_1) (broadcastInDim S2x16x4224 ![] bcast_S_S2x16x4224 (id (constant (F := Ideal) S_ .f32 0x00000000#32)))

/-- The running sums of the forget gates, a large number off the tokens. -/
def C (a0 : Vec Ideal S8448x128 .f32) (a2 : Vec Ideal S16 .f32) : FVec Ideal S2x16x4224 .f32 :=
  select (broadcastInDim S2x16x4224 ![2] bcast_S4224_S2x16x4224_2 (ori (cmpi .slt (iotaInDim S4224 32 0) (broadcastInDim S4224 ![] bcast_S_S4224 (constantI S_ 32 16#32))) (cmpi .sge (iotaInDim S4224 32 0) (broadcastInDim S4224 ![] bcast_S_S4224 (constantI S_ 32 128#32))))) (Host.reduceAdd (F := Ideal) (φ := .f32) (select (broadcastInDim S2x16x4224x4224 ![2, 3] bcast_S4224x4224_S2x16x4224x4224_2_3 (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0))))) (broadcastInDim S2x16x4224x4224 ![0, 1, 2, 3] bcast_S2x16x1x4224_S2x16x4224x4224_0_1_2_3 (broadcastInDim S2x16x1x4224 ![0, 1, 3] bcast_S2x16x4224_S2x16x1x4224_0_1_3 (LT a0 a2))) (broadcastInDim S2x16x4224x4224 ![] bcast_S_S2x16x4224x4224 (id (constant (F := Ideal) S_ .f32 0x00000000#32)))) (constant (F := Ideal) S_ .f32 0x00000000#32) reducesTo_S2x16x4224x4224_S2x16x4224_d3 h_S_) (broadcastInDim S2x16x4224 ![] bcast_S_S2x16x4224 (id (constant (F := Ideal) S_ .f32 0x7149F2CA#32)))

/-- The indexer's keys, transposed, twice. -/
def KIT (a0 : Vec Ideal S8448x128 .f32) : FVec Ideal S2x128x4224 .bf16 :=
  truncf (F := Ideal) (φ := .f32) .bf16 (concatenate S2x128x4224 1 [⟨S2x64x4224, (transpose S2x64x4224 [0, 2, 1] (shapeCast S2x4224x64 (extractStridedSlice S8448x64 ![0, 0] a0 slices_S8448x128_S8448x64_0_0) shapeCasts_S8448x64_S2x4224x64) transposes_S2x4224x64_S2x64x4224_0_2_1 : FVec Ideal S2x64x4224 .f32)⟩, ⟨S2x64x4224, (transpose S2x64x4224 [0, 2, 1] (shapeCast S2x4224x64 (extractStridedSlice S8448x64 ![0, 0] a0 slices_S8448x128_S8448x64_0_0) shapeCasts_S8448x64_S2x4224x64) transposes_S2x4224x64_S2x64x4224_0_2_1 : FVec Ideal S2x64x4224 .f32)⟩] concatenates_S2x64x4224_S2x64x4224_S2x128x4224_d1) bitsLt_bf16_f32

/-- The latents, normalised. -/
def NRM (a1 : Vec Ideal S8448x512 .bf16) (a3 : Vec Ideal S512 .f32) : FVec Ideal S8448x512 .f32 :=
  mulf (F := Ideal) (φ := .f32) (mulf (F := Ideal) (φ := .f32) (extf (F := Ideal) (φ := .bf16) .f32 a1 bitsLt_bf16_f32) (broadcastInDim S8448x512 ![0, 1] bcast_S8448x1_S8448x512_0_1 (Host.rsqrt (F := Ideal) (φ := .f32) (addf (F := Ideal) (φ := .f32) (Host.divf (F := Ideal) (φ := .f32) (broadcastInDim S8448x1 ![0] bcast_S8448_S8448x1_0 (Host.reduceAdd (F := Ideal) (φ := .f32) (mulf (F := Ideal) (φ := .f32) (extf (F := Ideal) (φ := .bf16) .f32 a1 bitsLt_bf16_f32) (extf (F := Ideal) (φ := .bf16) .f32 a1 bitsLt_bf16_f32)) (constant (F := Ideal) S_ .f32 0x00000000#32) reducesTo_S8448x512_S8448_d1 h_S_)) (broadcastInDim S8448x1 ![] bcast_S_S8448x1 (constant (F := Ideal) S_ .f32 0x44000000#32))) (broadcastInDim S8448x1 ![] bcast_S_S8448x1 (constant (F := Ideal) S_ .f32 0x358637BD#32)))))) (broadcastInDim S8448x512 ![0, 1] bcast_S1x512_S8448x512_0_1 (broadcastInDim S1x512 ![1] bcast_S512_S1x512_1 a3))

/-- The keys and values of the latents. -/
def KV (a1 : Vec Ideal S8448x512 .bf16) (a3 : Vec Ideal S512 .f32) (a4 : Vec Ideal S512x512 .f32) : FVec Ideal S8448x512 .f32 :=
  Host.dotGeneral (F := Ideal) (φ₁ := .f32) (φ₂ := .f32) dot_S8448x512_S512x512_S8448x512_1_0_0_1_n_n none (NRM a1 a3) a4

/-- The keys, head by head. -/
def KH (a1 : Vec Ideal S8448x512 .bf16) (a3 : Vec Ideal S512 .f32) (a4 : Vec Ideal S512x512 .f32) : FVec Ideal S8448x2x128 .f32 :=
  shapeCast S8448x2x128 (extractStridedSlice S8448x256 ![0, 0] (KV a1 a3 a4) slices_S8448x512_S8448x256_0_0) shapeCasts_S8448x256_S8448x2x128

/-- The same, normalised. -/
def KN (a1 : Vec Ideal S8448x512 .bf16) (a3 : Vec Ideal S512 .f32) (a4 : Vec Ideal S512x512 .f32) (a5 : Vec Ideal S128 .f32) : FVec Ideal S8448x2x128 .f32 :=
  mulf (F := Ideal) (φ := .f32) (mulf (F := Ideal) (φ := .f32) (KH a1 a3 a4) (broadcastInDim S8448x2x128 ![0, 1, 2] bcast_S8448x2x1_S8448x2x128_0_1_2 (Host.rsqrt (F := Ideal) (φ := .f32) (addf (F := Ideal) (φ := .f32) (Host.divf (F := Ideal) (φ := .f32) (broadcastInDim S8448x2x1 ![0, 1] bcast_S8448x2_S8448x2x1_0_1 (Host.reduceAdd (F := Ideal) (φ := .f32) (mulf (F := Ideal) (φ := .f32) (KH a1 a3 a4) (KH a1 a3 a4)) (constant (F := Ideal) S_ .f32 0x00000000#32) reducesTo_S8448x2x128_S8448x2_d2 h_S_)) (broadcastInDim S8448x2x1 ![] bcast_S_S8448x2x1 (constant (F := Ideal) S_ .f32 0x43000000#32))) (broadcastInDim S8448x2x1 ![] bcast_S_S8448x2x1 (constant (F := Ideal) S_ .f32 0x358637BD#32)))))) (broadcastInDim S8448x2x128 ![0, 1, 2] bcast_S1x1x128_S8448x2x128_0_1_2 (broadcastInDim S1x1x128 ![2] bcast_S128_S1x1x128_2 a5))

/-- The keys. -/
def KB (a1 : Vec Ideal S8448x512 .bf16) (a3 : Vec Ideal S512 .f32) (a4 : Vec Ideal S512x512 .f32) (a5 : Vec Ideal S128 .f32) : FVec Ideal S8448x256 .bf16 :=
  truncf (F := Ideal) (φ := .f32) .bf16 (shapeCast S8448x256 (KN a1 a3 a4 a5) shapeCasts_S8448x2x128_S8448x256) bitsLt_bf16_f32

/-- The values. -/
def VB (a1 : Vec Ideal S8448x512 .bf16) (a3 : Vec Ideal S512 .f32) (a4 : Vec Ideal S512x512 .f32) : FVec Ideal S8448x256 .bf16 :=
  truncf (F := Ideal) (φ := .f32) .bf16 (extractStridedSlice S8448x256 ![0, 256] (KV a1 a3 a4) slices_S8448x512_S8448x256_0_256) bitsLt_bf16_f32

/-- Whether a position holds a token. -/
abbrev tok (s : ℕ) : Prop := s < 16 ∨ 128 ≤ s

/-- The logarithm of the sigmoid, as the call takes it. -/
def lsk (z : EReal) : EReal := min z 0 - Ideal.log1p (Ideal.exp (0 - max z (-z)))

theorem sel (p : Bool) (x y : EReal) : Scalar.select (BitVec.ofBool p) x y = if p = true then x else y := by
  cases p <;> rfl

theorem tok_word {s : ℕ} (h : s < 4224) :
    IntOp.ori (IntOp.cmpi CmpIPredicate.slt (BitVec.ofNat 32 s) 16#32) (IntOp.cmpi CmpIPredicate.sge (BitVec.ofNat 32 s) 128#32) = BitVec.ofBool (decide (tok s)) := by
  rw [WordCmp.cmpi_slt_ofNat (by omega) (by omega), WordCmp.cmpi_sge_ofNat (by omega) (by omega), WordCmp.ori_ofBool, Bool.decide_or]

theorem zero_word : id (constant (F := Ideal) S_ FTy.f32 0#32) ix0 = (0 : EReal) := Ideal.ofBits_zero .f32

/-- The softplus of a number that is not positive is real. -/
theorem soft (z : EReal) : ∃ e : ℝ, Ideal.log1p (Ideal.exp (-max z (-z))) = (e : EReal) := by
  have key : ∀ q : ℝ, 0 ≤ q → ∃ e : ℝ, Ideal.log (1 + (q : EReal)) = (e : EReal) := fun q hq => by
    refine ⟨Real.log (1 + q), ?_⟩
    rw [show (1 : EReal) + (q : EReal) = ((1 + q : ℝ) : EReal) from by rw [EReal.coe_add, EReal.coe_one]]
    show (if 1 + q ≤ 0 then (⊥ : EReal) else _) = _
    rw [if_neg (by linarith)]
  unfold Ideal.log1p
  induction z with
  | bot => exact key 0 le_rfl
  | top => exact key 0 le_rfl
  | coe x =>
    rw [← EReal.coe_neg, ← EReal.coe_strictMono.monotone.map_max, ← EReal.coe_neg]
    exact key _ (Real.exp_pos _).le

/-- The logarithm of the sigmoid is real or minus infinity. -/
theorem lsk_cases (z : EReal) : lsk z = ⊥ ∨ ∃ e : ℝ, lsk z = (e : EReal) := by
  unfold lsk
  rw [zero_sub]
  obtain ⟨e, he⟩ := soft z
  rw [he]
  induction z with
  | bot => left; simp
  | top => right; exact ⟨0 - e, by rw [min_eq_right le_top, EReal.coe_sub, EReal.coe_zero]⟩
  | coe x => right; exact ⟨min x 0 - e, by rw [EReal.coe_sub, EReal.coe_strictMono.monotone.map_min, EReal.coe_zero]⟩

theorem lsk_eq (z : EReal) : -(max (-z) 0 + Ideal.log1p (Ideal.exp (-max (-z) (- -z)))) = lsk z := by
  unfold lsk
  rw [zero_sub, neg_neg, max_comm (-z) z]
  obtain ⟨e, he⟩ := soft z
  rw [he, EReal.neg_add (Or.inr (EReal.coe_ne_top e)) (Or.inr (EReal.coe_ne_bot e))]
  have e2 : -max (-z) 0 = min z 0 := by
    rcases le_total z 0 with hz | hz
    · rw [max_eq_left (by rw [EReal.le_neg, neg_zero]; exact hz), neg_neg, min_eq_left hz]
    · rw [max_eq_right (by rw [EReal.neg_le, neg_zero]; exact hz), neg_zero, min_eq_right hz]
  rw [e2]

theorem ls_at (a0 : Vec Ideal S8448x128 .f32) (a2 : Vec Ideal S16 .f32) (r : Fin 8448) (h : Fin 16) :
    LS a0 a2 (ix2 r h) = lsk (a0 (ix2 r (⟨64 + h.val, by omega⟩ : Fin 128)) + a2 (ix1 h)) := by
  pointwise [LS, D, Z]
  rw [if_neg (fun h => h rfl)]
  exact lsk_eq _

theorem lt_at (a0 : Vec Ideal S8448x128 .f32) (a2 : Vec Ideal S16 .f32) (b : Fin 2) (h : Fin 16) (s : Fin 4224) :
    LT a0 a2 (ix3 b h s) = if tok s.val then LS a0 a2 (ix2 (⟨b.val * 4224 + s.val, by omega⟩ : Fin 8448) h) else 0 := by
  pointwise [LT]
  rw [tok_word s.isLt, sel, zero_word]
  exact if_congr decide_eq_true_iff rfl rfl

theorem c_at (a0 : Vec Ideal S8448x128 .f32) (a2 : Vec Ideal S16 .f32) (b : Fin 2) (h : Fin 16) (t : Fin 4224) :
    C a0 a2 (ix3 b h t) = if tok t.val then ∑ s : Fin 4224, (if s.val ≤ t.val then LT a0 a2 (ix3 b h s) else 0) else Ideal.ofBits .f32 0x7149F2CA#32 := by
  pointwise [C]
  rw [tok_word t.isLt, sel]
  refine if_congr decide_eq_true_iff (Finset.sum_congr rfl fun x _ => ?_) rfl
  rw [WordCmp.cmpi_sle_ofNat (by omega) (by omega), sel, zero_word]
  exact if_congr decide_eq_true_iff rfl rfl

theorem kit_at (a0 : Vec Ideal S8448x128 .f32) (b : Fin 2) (k : Fin 128) (t : Fin 4224) :
    KIT a0 (ix3 b k t) = a0 (ix2 (⟨b.val * 4224 + t.val, by omega⟩ : Fin 8448) (⟨k.val % 64, by omega⟩ : Fin 128)) := by
  pointwise [KIT]
  split_ifs with h <;> refine congrArg (fun q => a0 (ix2 _ q)) (Fin.ext ?_) <;> dsimp only <;> omega

/-- A row's latents, normalised. -/
def nrm (x : Fin 512 → EReal) (g : Fin 512 → EReal) (k : Fin 512) : EReal :=
  x k * Ideal.rsqrt (Ideal.div (∑ d : Fin 512, x d * x d) (Ideal.ofBits FTy.f32 0x44000000#32) + Ideal.ofBits FTy.f32 0x358637BD#32) * g k

theorem nrm_at (a1 : Vec Ideal S8448x512 .bf16) (a3 : Vec Ideal S512 .f32) (r : Fin 8448) (k : Fin 512) :
    NRM a1 a3 (ix2 r k) = nrm (fun k => a1 (ix2 r k)) (fun k => a3 (ix1 k)) k := by
  unfold nrm
  pointwise [NRM]

/-- A row's keys and values. -/
def kv (x : Fin 512 → EReal) (g : Fin 512 → EReal) (w : Fin 512 → Fin 512 → EReal) (n : Fin 512) : EReal :=
  ∑ k : Fin 512, nrm x g k * w k n

theorem kv_at (a1 : Vec Ideal S8448x512 .bf16) (a3 : Vec Ideal S512 .f32) (a4 : Vec Ideal S512x512 .f32) (r : Fin 8448) (n : Fin 512) :
    KV a1 a3 a4 (ix2 r n) = kv (fun k => a1 (ix2 r k)) (fun k => a3 (ix1 k)) (fun k n => a4 (ix2 k n)) n := by
  unfold kv
  simp only [← nrm_at]
  pointwise [KV]

theorem vb_at (a1 : Vec Ideal S8448x512 .bf16) (a3 : Vec Ideal S512 .f32) (a4 : Vec Ideal S512x512 .f32) (r : Fin 8448) (n : Fin 256) :
    VB a1 a3 a4 (ix2 r n) = KV a1 a3 a4 (ix2 r (⟨256 + n.val, by omega⟩ : Fin 512)) := by
  pointwise [VB]

/-- A head's keys, normalised. -/
def kn (x : Fin 128 → EReal) (g : EReal) (k : Fin 128) : EReal :=
  x k * Ideal.rsqrt (Ideal.div (∑ d : Fin 128, x d * x d) (Ideal.ofBits FTy.f32 0x43000000#32) + Ideal.ofBits FTy.f32 0x358637BD#32) * g

theorem kh_at (a1 : Vec Ideal S8448x512 .bf16) (a3 : Vec Ideal S512 .f32) (a4 : Vec Ideal S512x512 .f32) (r : Fin 8448) (h : Fin 2) (n : Fin 128) :
    KH a1 a3 a4 (ix3 r h n) = KV a1 a3 a4 (ix2 r (⟨h.val * 128 + n.val, by omega⟩ : Fin 512)) := by
  pointwise [KH]

theorem kn_at (a1 : Vec Ideal S8448x512 .bf16) (a3 : Vec Ideal S512 .f32) (a4 : Vec Ideal S512x512 .f32) (a5 : Vec Ideal S128 .f32) (r : Fin 8448) (h : Fin 2) (n : Fin 128) :
    KN a1 a3 a4 a5 (ix3 r h n) = kn (fun n => KH a1 a3 a4 (ix3 r h n)) (a5 (ix1 n)) n := by
  unfold kn
  pointwise [KN]

theorem kb_at (a1 : Vec Ideal S8448x512 .bf16) (a3 : Vec Ideal S512 .f32) (a4 : Vec Ideal S512x512 .f32) (a5 : Vec Ideal S128 .f32) (r : Fin 8448) (n : Fin 256) :
    KB a1 a3 a4 a5 (ix2 r n) = KN a1 a3 a4 a5 (ix3 r (⟨n.val / 128, by omega⟩ : Fin 2) (⟨n.val % 128, by omega⟩ : Fin 128)) := by
  pointwise [KB]

end Cert.PostRefIdeal.Mat

end
-- ==== Proof.Post.lean ====
module

public import proofs.«01_k».proof.Defs
public import proofs.«01_k».proof.Proof.PostRef
public import proofs.«01_k».proof.Proof.Gen.PostIdeal.Value
public import proofs.«01_k».proof.Proof.Gen.PostIdeal.Frame
public import proofs.«01_k».proof.Proof.Gen.Post.Frame
public import proofs.«01_k».proof.Proof.Gen.PostRefIdeal.Run
public import Idealize.ShloMosaic.Lib.Pipeline.ValueKit
public import Idealize.ShloMosaic.Lib.Pointwise
public import Idealize.ShloMosaic.Lib.Routing.OpsSet
public import Idealize.ShloMosaic.Lib.Quiescent

@[expose] public section

set_option maxRecDepth 16384

noncomputable section

open Idealize.ShloMosaic Idealize.ShloMosaic.TcCoe Idealize.SL.Sem

/-! The step after the projections: a row of running sums is carried from block to block of a batch; the rest of a block
reads the block alone. -/

namespace Cert.PostIdeal.Mat
open Cert.PostIdeal Cert.PostIdeal.Gen
open Cert.PostRefIdeal.Mat (tok lsk nrm kv kn sel)
variable (m : (ℓ : Loc nD τ sig) → Buf (Elt Ideal) ℓ)

theorem tok_word (i r : ℕ) (hi : i < 11) (h : r < 384) :
    IntOp.ori (IntOp.cmpi CmpIPredicate.slt (IntOp.addi (Scalar.muli (BitVec.ofNat 32 i) 384#32) (BitVec.ofNat 32 r)) 16#32)
      (IntOp.cmpi CmpIPredicate.sge (IntOp.addi (Scalar.muli (BitVec.ofNat 32 i) 384#32) (BitVec.ofNat 32 r)) 128#32) = BitVec.ofBool (decide (tok (i * 384 + r))) := by
  have e : IntOp.addi (Scalar.muli (BitVec.ofNat 32 i) 384#32) (BitVec.ofNat 32 r) = BitVec.ofNat 32 (i * 384 + r) := by
    show BitVec.ofNat 32 i * 384#32 + BitVec.ofNat 32 r = _
    rw [BitVec.ofNat_add, BitVec.ofNat_mul]
  rw [e]
  exact Cert.PostRefIdeal.Mat.tok_word (by omega)

theorem pay3_at (i : grid0.Coords) (r : Fin 384) :
    k0_pay3 i (ix2 r 0) = BitVec.ofBool (decide (tok ((i 1).val * 384 + r.val))) := by
  have hi : (i 1).val < 11 := (i 1).isLt
  rw [← tok_word _ _ hi r.isLt]
  pointwise [k0_pay3]

theorem pay4_at (i : grid0.Coords) (x : Vec Ideal S384x128 .f32) (b : Vec Ideal S1x128 .f32) (r : Fin 384) (n : Fin 128) :
    k0_pay4 i x b (ix2 r n) = if tok ((i 1).val * 384 + r.val) then lsk (x (ix2 r n) + b (ix2 0 n)) else 0 := by
  pointwise [k0_pay4]
  rw [pay3_at, sel]
  exact if_congr decide_eq_true_iff rfl rfl

theorem pay5_at (r k : Fin 384) : k0_pay5 (F := Ideal) (ix2 r k) = if k.val ≤ r.val then 1 else 0 := by
  pointwise [k0_pay5]
  rw [WordCmp.cmpi_sge_ofNat (by omega) (by omega), sel]
  exact if_congr decide_eq_true_iff rfl rfl

theorem pay10_at (i : grid0.Coords) (x : Vec Ideal S384x128 .f32) (b : Vec Ideal S1x128 .f32) (r : Fin 384) (n : Fin 128) :
    k0_pay10 i x b (ix2 r n) = (∑ k : Fin 384, k0_pay5 (F := Ideal) (ix2 r k) * k0_pay4 i x b (ix2 k n))
      + ∑ k : Fin 384, k0_pay5 (F := Ideal) (ix2 r k) * (k0_pay4 i x b (ix2 k n) - k0_pay4 i x b (ix2 k n)) := by
  pointwise [k0_pay10, k0_pay6, k0_pay8, k0_pay7]

theorem pay9_at (i : grid0.Coords) (x : Vec Ideal S384x128 .f32) (b : Vec Ideal S1x128 .f32) (r : Fin 384) (n : Fin 128) :
    k0_pay9 i x b (ix2 r n) = (k0_pay4 i x b (ix2 r n) - k0_pay4 i x b (ix2 r n)) - (k0_pay4 i x b (ix2 r n) - k0_pay4 i x b (ix2 r n)) := by
  pointwise [k0_pay9, k0_pay8, k0_pay7, k0_pay6]

theorem pay12_at (v32 : FVec Ideal S384x384 .bf16) (v39 : FVec Ideal S384x128 .bf16) (v42 : FVec Ideal S384x128 .f32) (v48 : Vec Ideal S1x128 .f32) (r : Fin 384) (n : Fin 128) :
    k0_pay12 v32 v39 v42 (constant (F := Ideal) S384x128 .f32 0x00000000#32) v48 (ix2 r n) = v42 (ix2 r n) + (∑ k : Fin 384, v32 (ix2 r k) * v39 (ix2 k n)) + v48 (ix2 0 n) := by
  pointwise [k0_pay12]

theorem pay13_at (v32 : FVec Ideal S384x384 .bf16) (v39 : FVec Ideal S384x128 .bf16) (v42 : FVec Ideal S384x128 .f32) (z : FVec Ideal S384x128 .f32) (v48 : Vec Ideal S1x128 .f32) (n : Fin 128) :
    k0_pay13 v32 v39 v42 z v48 (ix2 0 n) = k0_pay12 v32 v39 v42 z v48 (ix2 (383 : Fin 384) n) := by
  pointwise [k0_pay13]

theorem pay14_at (v9 : IVec S384x1 1) (v32 : FVec Ideal S384x384 .bf16) (v39 : FVec Ideal S384x128 .bf16) (v42 : FVec Ideal S384x128 .f32) (z : FVec Ideal S384x128 .f32) (v48 : Vec Ideal S1x128 .f32) (h : Fin 16) (r : Fin 384) :
    k0_pay14 v9 v32 v39 v42 z v48 (ix3 0 h r) = Scalar.select (v9 (ix2 r 0)) (k0_pay12 v32 v39 v42 z v48 (ix2 r (⟨64 + h.val, by omega⟩ : Fin 128))) (Ideal.ofBits .f32 0x7149F2CA#32) := by
  pointwise [k0_pay14]

/-- A bf16 addition of the three parts of the block's gates is their sum up to the row. -/
theorem parts (l : Fin 384 → EReal) (hl : ∀ k, l k = ⊥ ∨ ∃ e : ℝ, l k = (e : EReal)) (r : Fin 384) :
    (∑ k : Fin 384, (if k.val ≤ r.val then (1 : EReal) else 0) * l k)
      + (∑ k : Fin 384, (if k.val ≤ r.val then (1 : EReal) else 0) * (l k - l k))
      + (∑ k : Fin 384, (if k.val ≤ r.val then (1 : EReal) else 0) * ((l k - l k) - (l k - l k)))
      = ∑ k : Fin 384, if k.val ≤ r.val then l k else 0 := by
  rw [← Finset.sum_add_distrib, ← Finset.sum_add_distrib]
  refine Finset.sum_congr rfl fun k _ => ?_
  split_ifs
  · rw [one_mul, one_mul, one_mul]
    rcases hl k with h | ⟨e, h⟩
    · rw [h]
      simp
    · rw [h, ← EReal.coe_sub, ← EReal.coe_sub, ← EReal.coe_add, ← EReal.coe_add]
      exact congrArg _ (by ring)
  · simp

theorem pay16_at (x : Vec Ideal S384x128 .f32) (k : Fin 64) (r : Fin 384) : k0_pay16 x (ix3 0 k r) = x (ix2 r (⟨k.val, by omega⟩ : Fin 128)) := by
  pointwise [k0_pay16, k0_pay15]

theorem pay17_at (x : Vec Ideal S384x128 .f32) (k : Fin 64) (r : Fin 384) : k0_pay17 x (ix3 0 k r) = x (ix2 r (⟨k.val, by omega⟩ : Fin 128)) := by
  pointwise [k0_pay17, k0_pay15]

theorem kv_at (x : Vec Ideal S384x512 .bf16) (g : Vec Ideal S1x512 .f32) (w : Vec Ideal S512x512 .bf16) (r : Fin 384) (n : Fin 512) :
    k0_pay20 (k0_pay18 x) (k0_pay19 x) (Scalar.ofBits (F := Ideal) .f32 0x44000000#32) g w (ix2 r n) = kv (fun k => x (ix2 r k)) (fun k => g (ix2 0 k)) (fun k n => w (ix2 k n)) n := by
  unfold kv nrm
  pointwise [k0_pay20, k0_pay18, k0_pay19]

theorem pay21_at (v74 : FVec Ideal S384x512 .f32) (v77 : FVec Ideal S384x1 .f32) (z : Ideal .f32) (g : Vec Ideal S1x512 .f32) (w : Vec Ideal S512x512 .bf16) (q : Vec Ideal S1x128 .f32) (r : Fin 384) (n : Fin 128) :
    k0_pay21 v74 v77 z g w q (ix2 r n) = kn (fun n => k0_pay20 v74 v77 z g w (ix2 r (⟨n.val, by omega⟩ : Fin 512))) (q (ix2 0 n)) n := by
  unfold kn
  pointwise [k0_pay21]

theorem pay22_at (v74 : FVec Ideal S384x512 .f32) (v77 : FVec Ideal S384x1 .f32) (z : Ideal .f32) (g : Vec Ideal S1x512 .f32) (w : Vec Ideal S512x512 .bf16) (q : Vec Ideal S1x128 .f32) (r : Fin 384) (n : Fin 128) :
    k0_pay1 (k0_pay22 v74 v77 z g w) q (ix2 r n) = kn (fun n => k0_pay20 v74 v77 z g w (ix2 r (⟨128 + n.val, by omega⟩ : Fin 512))) (q (ix2 0 n)) n := by
  unfold kn
  pointwise [k0_pay22, k0_pay1]

theorem pay2_at (v92 : FVec Ideal S384x512 .f32) (r : Fin 384) (n : Fin 256) :
    k0_pay2 v92 (ix2 r n) = v92 (ix2 r (⟨256 + n.val, by omega⟩ : Fin 512)) := by
  pointwise [k0_pay2]

/-- The block's running sums over what was carried into it. -/
abbrev CS (i : grid0.Coords) (x : Vec Ideal S384x128 .f32) (b : Vec Ideal S1x128 .f32) (p : Vec Ideal S1x128 .f32) : FVec Ideal S384x128 .f32 :=
  k0_pay12 (k0_pay5 (F := Ideal)) (k0_pay9 i x b) (k0_pay10 i x b) (constant (F := Ideal) S384x128 .f32 0x00000000#32) p

theorem cs_at (i : grid0.Coords) (x : Vec Ideal S384x128 .f32) (b : Vec Ideal S1x128 .f32) (p : Vec Ideal S1x128 .f32) (r : Fin 384) (n : Fin 128) :
    CS i x b p (ix2 r n) = (∑ k : Fin 384, if k.val ≤ r.val then k0_pay4 i x b (ix2 k n) else 0) + p (ix2 0 n) := by
  unfold CS
  rw [pay12_at, pay10_at]
  simp only [pay9_at, pay5_at]
  rw [parts (fun k => k0_pay4 i x b (ix2 k n)) (fun k => ?_) r]
  beta_reduce
  rw [pay4_at]
  split_ifs
  · exact Cert.PostRefIdeal.Mat.lsk_cases _
  · exact Or.inr ⟨0, EReal.coe_zero.symm⟩

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val / 11, 0, t.val % 11] ∧ win0_7.index t = ![t.val / 11, 0, t.val % 11]
    ∧ win0_8.index t = ![t.val, 0] ∧ win0_9.index t = ![t.val, 0] ∧ (grid0.coords t 1).val = t.val % 11 :=
  (by decide +kernel : ∀ t : Fin grid0.N, _)

/-- The point's blocks. -/
abbrev sma (c : Dev nD) (t : Fin cfg0.N) : Vec Ideal S384x128 .f32 := iblk m c 0 t
abbrev lat (c : Dev nD) (t : Fin cfg0.N) : Vec Ideal S384x512 .bf16 := iblk m c 1 t
abbrev bro (c : Dev nD) (t : Fin cfg0.N) : Vec Ideal S1x128 .f32 := iblk m c 2 t
abbrev gai (c : Dev nD) (t : Fin cfg0.N) : Vec Ideal S1x512 .f32 := iblk m c 3 t
abbrev wei (c : Dev nD) (t : Fin cfg0.N) : Vec Ideal S512x512 .bf16 := iblk m c 4 t
abbrev kga (c : Dev nD) (t : Fin cfg0.N) : Vec Ideal S1x128 .f32 := iblk m c 5 t
abbrev arr0 (c : Dev nD) : Vec Ideal S8448x128 .f32 := m ((c.tc : Thread nD τ).loc main_arg0)
abbrev arr1 (c : Dev nD) : Vec Ideal S8448x512 .bf16 := m ((c.tc : Thread nD τ).loc main_arg1)
abbrev arr2 (c : Dev nD) : Vec Ideal S16 .f32 := m ((c.tc : Thread nD τ).loc main_arg2)
abbrev arr3 (c : Dev nD) : Vec Ideal S512 .f32 := m ((c.tc : Thread nD τ).loc main_arg3)
abbrev arr4 (c : Dev nD) : Vec Ideal S512x512 .f32 := m ((c.tc : Thread nD τ).loc main_arg4)
abbrev arr5 (c : Dev nD) : Vec Ideal S128 .f32 := m ((c.tc : Thread nD τ).loc main_arg5)

theorem sma_at (c : Dev nD) (t : Fin cfg0.N) (r : Fin 384) (k : Fin 128) : sma m c t (ix2 r k)
    = arr0 m c (ix2 (⟨t.val * 384 + r.val, by have := lt_of_lt_of_eq t.isLt N_0; omega⟩ : Fin 8448) k) := by
  blk_ext [iblk, V, idx t]

theorem lat_at (c : Dev nD) (t : Fin cfg0.N) (r : Fin 384) (k : Fin 512) : lat m c t (ix2 r k)
    = arr1 m c (ix2 (⟨t.val * 384 + r.val, by have := lt_of_lt_of_eq t.isLt N_0; omega⟩ : Fin 8448) k) := by
  blk_ext [iblk, V, idx t]

theorem gai_at (c : Dev nD) (t : Fin cfg0.N) (n : Fin 512) : gai m c t (ix2 0 n) = arr3 m c (ix1 n) := by
  blk_point [iblk, V, idx t]

theorem wei_at (c : Dev nD) (t : Fin cfg0.N) (k n : Fin 512) : wei m c t (ix2 k n) = arr4 m c (ix2 k n) := by
  blk_point [iblk, V, idx t]

theorem kga_at (c : Dev nD) (t : Fin cfg0.N) (n : Fin 128) : kga m c t (ix2 0 n) = arr5 m c (ix1 n) := by
  blk_point [iblk, V, idx t]

/-- Where the host puts the forget bias. -/
def PLACE : IVec S2 32 :=
  concatenate S2 0 [⟨S1, broadcastInDim S1 ![] bcast_S_S1 (constantI S_ 32 0#32)⟩, ⟨S1, broadcastInDim S1 ![] bcast_S_S1 (constantI S_ 32 64#32)⟩] concatenates_S1_S1_S2_d0

/-- The row of biases the host makes for the call. -/
def BROW (b : Vec Ideal S16 .f32) : Vec Ideal S1x128 .f32 :=
  Host.scatter scatter_S1x128_S2_S16_0_0_01_0 (fun _ b => b) (broadcastInDim S1x128 ![] bcast_S_S1x128 (constant (F := Ideal) S_ .f32 0x00000000#32)) PLACE b

theorem bro_eq (c : Dev nD) : V m c main_v4 = BROW (arr2 m c) := by
  unfold BROW PLACE
  simp only [V, hostOps0]
  after_results_simp <;> (try dsimp only [Matrix.cons_val]) <;> (try after_results_simp) <;> rfl

theorem place_at : ∀ j : Fin 16, scatter_S1x128_S2_S16_0_0_01_0.resultIdx? (ix1 j) PLACE = some (ix2 (0 : Fin 1) (⟨64 + j.val, by omega⟩ : Fin 128)) := by
  decide +kernel

theorem brow_at (b : Vec Ideal S16 .f32) (h : Fin 16) : BROW b (ix2 0 (⟨64 + h.val, by omega⟩ : Fin 128)) = b (ix1 h) := by
  refine Idealize.ShloMosaic.Routing.scatter_set_hit _ _ PLACE b _ _ (fun k hk => ?_) (ix1 h) (place_at h)
  obtain ⟨j, rfl⟩ : ∃ j : Fin 16, k = ix1 j := ⟨k 0, by idx_vars k; blk_ext⟩
  rw [place_at j] at hk
  have e : (⟨64 + j.val, by omega⟩ : Fin 128) = ⟨64 + h.val, by omega⟩ := congrFun (Option.some.inj hk) 1
  have e' := congrArg Fin.val e
  exact congrArg (fun z => b (ix1 z)) (Fin.ext (by dsimp only at e'; omega))

theorem bro_at (c : Dev nD) (t : Fin cfg0.N) (n : Fin 128) : bro m c t (ix2 0 n) = BROW (arr2 m c) (ix2 0 n) := by
  have he : ((cfg0.win 2).blk t).view.emb (ix2 (0 : Fin 1) n) = ix2 (0 : Fin 1) n := by
    blk_ext [idx t]
  refine Eq.trans (b := V m c main_v4 (((cfg0.win 2).blk t).view.emb (ix2 (0 : Fin 1) n))) rfl ?_
  rw [he, bro_eq]

theorem keep (x : Vec Ideal S1x128 .f32) : View.read (Elt Ideal) (View.whole cc0_scratch0) ((Memref.isWhole_whole cc0_scratch0).unread x) = x :=
  Memref.IsWhole.read_unread _ _

/-- The row carried out of a point. -/
abbrev car (c : Dev nD) (t : ℕ) (h : t < cfg0.N) : Vec Ideal S1x128 .f32 := (outsAt0 m c t h).2.2.2.2

theorem car_A (c : Dev nD) (t : Fin cfg0.N) (h : t.val % 11 = 0) (n : Fin 128) :
    car m c t.val t.isLt (ix2 0 n) = CS (grid0.coords t) (sma m c t) (bro m c t) (k0_pay11 (F := Ideal)) (ix2 (383 : Fin 384) n) := by
  unfold car
  rw [outsAt0_A m c t h]
  frame_out
  exact pay13_at _ _ _ _ _ n

theorem car_B (c : Dev nD) (t : Fin cfg0.N) (h : ¬ t.val % 11 = 0) (n : Fin 128) :
    car m c t.val t.isLt (ix2 0 n) = CS (grid0.coords t) (sma m c t) (bro m c t) (car m c (t.val - 1) (Nat.lt_of_le_of_lt (Nat.sub_le _ _) t.isLt)) (ix2 (383 : Fin 384) n) := by
  unfold car
  rw [outsAt0_B m c t h]
  frame_out
  rw [keep]
  exact pay13_at _ _ _ _ _ n

theorem c_A (c : Dev nD) (t : Fin cfg0.N) (h : t.val % 11 = 0) (k : Fin 16) (r : Fin 384) :
    (outsAt0 m c t.val t.isLt).1 (ix3 0 k r) = Scalar.select (k0_pay3 (grid0.coords t) (ix2 r 0)) (CS (grid0.coords t) (sma m c t) (bro m c t) (k0_pay11 (F := Ideal)) (ix2 r (⟨64 + k.val, by omega⟩ : Fin 128))) (Ideal.ofBits .f32 0x7149F2CA#32) := by
  rw [outsAt0_A m c t h]
  frame_out
  exact pay14_at _ _ _ _ _ _ k r

theorem c_B (c : Dev nD) (t : Fin cfg0.N) (h : ¬ t.val % 11 = 0) (k : Fin 16) (r : Fin 384) :
    (outsAt0 m c t.val t.isLt).1 (ix3 0 k r) = Scalar.select (k0_pay3 (grid0.coords t) (ix2 r 0)) (CS (grid0.coords t) (sma m c t) (bro m c t) (car m c (t.val - 1) (Nat.lt_of_le_of_lt (Nat.sub_le _ _) t.isLt)) (ix2 r (⟨64 + k.val, by omega⟩ : Fin 128))) (Ideal.ofBits .f32 0x7149F2CA#32) := by
  rw [outsAt0_B m c t h]
  frame_out
  rw [keep]
  exact pay14_at _ _ _ _ _ _ k r

/-- The two stores of the indexer's keys, read at an index. -/
theorem kit_two (x : Vec Ideal S384x128 .f32) (k : Fin 128) (r : Fin 384) :
    View.canon (Val := Elt Ideal) (e := .bf16) [⟨Rect.unit (s := S1x128x384) ![0, 64, 0] S1x64x384.size inb_S1x128x384_S1x64x384_0_64_0, k0_pay17 x⟩,
        ⟨Rect.unit (s := S1x128x384) ![0, 0, 0] S1x64x384.size inb_S1x128x384_S1x64x384_0_0_0, k0_pay16 x⟩]
      (ix3 (0 : Fin 1) k r) = x (ix2 r (⟨k.val % 64, by omega⟩ : Fin 128)) := by
  refine View.canon_eq_of_allAt _ _ _ (View.cover_of_tiled_head _ _ _ rfl _) (View.allAt_cons_unit _ _ _ _ _ ?_ (View.allAt_cons_unit _ _ _ _ _ ?_ (View.allAt_nil _ _)))
  · intro y hy
    obtain ⟨a, q, z, rfl⟩ : ∃ (a : Fin 1) (q : Fin 64) (z : Fin 384), y = ix3 a q z := ⟨y 0, y 1, y 2, by idx_vars y; blk_ext⟩
    obtain rfl : a = 0 := Subsingleton.elim _ _
    have h1 : k.val = 64 + q.val := hy 1
    have h2 : r.val = 0 + z.val := hy 2
    refine (pay17_at x q z).trans (congrArg x (congrArg₂ ix2 (Fin.ext ?_) (Fin.ext ?_))) <;> first | omega | (dsimp only; omega)
  · intro y hy
    obtain ⟨a, q, z, rfl⟩ : ∃ (a : Fin 1) (q : Fin 64) (z : Fin 384), y = ix3 a q z := ⟨y 0, y 1, y 2, by idx_vars y; blk_ext⟩
    obtain rfl : a = 0 := Subsingleton.elim _ _
    have h1 : k.val = 0 + q.val := hy 1
    have h2 : r.val = 0 + z.val := hy 2
    refine (pay16_at x q z).trans (congrArg x (congrArg₂ ix2 (Fin.ext ?_) (Fin.ext ?_))) <;> first | omega | (dsimp only; omega)

theorem kit_out (c : Dev nD) (t : Fin cfg0.N) (k : Fin 128) (r : Fin 384) :
    (outsAt0 m c t.val t.isLt).2.1 (ix3 0 k r) = sma m c t (ix2 r (⟨k.val % 64, by omega⟩ : Fin 128)) := by
  by_cases h : t.val % 11 = 0
  · rw [outsAt0_A m c t h]
    frame_out
    exact kit_two _ k r
  · rw [outsAt0_B m c t h]
    frame_out
    exact kit_two _ k r

/-- The block's keys and values. -/
abbrev KVB (c : Dev nD) (t : Fin cfg0.N) : FVec Ideal S384x512 .f32 :=
  k0_pay20 (k0_pay18 (lat m c t)) (k0_pay19 (lat m c t)) (Scalar.ofBits (F := Ideal) .f32 0x44000000#32) (gai m c t) (wei m c t)

theorem vb_out (c : Dev nD) (t : Fin cfg0.N) (r : Fin 384) (n : Fin 256) :
    (outsAt0 m c t.val t.isLt).2.2.2.1 (ix2 r n) = KVB m c t (ix2 r (⟨256 + n.val, by omega⟩ : Fin 512)) := by
  by_cases h : t.val % 11 = 0
  · rw [outsAt0_A m c t h]
    frame_out
    exact pay2_at _ r n
  · rw [outsAt0_B m c t h]
    frame_out
    exact pay2_at _ r n

/-- The two stores of the keys, read at an index. -/
theorem kb_two (u v : FVec Ideal S384x128 .bf16) (f : Fin 256 → EReal) (r : Fin 384) (n : Fin 256)
    (hu : ∀ q : Fin 128, u (ix2 r q) = f ⟨q.val, by omega⟩) (hv : ∀ q : Fin 128, v (ix2 r q) = f ⟨128 + q.val, by omega⟩) :
    View.canon (Val := Elt Ideal) (e := .bf16) [⟨Rect.unit (s := S384x256) ![0, 128] S384x128.size inb_S384x256_S384x128_0_128, v⟩,
        ⟨Rect.unit (s := S384x256) ![0, 0] S384x128.size inb_S384x256_S384x128_0_0, u⟩]
      (ix2 r n) = f n := by
  refine View.canon_eq_of_allAt _ _ _ (View.cover_of_tiled_head _ _ _ rfl _) (View.allAt_cons_unit _ _ _ _ _ ?_ (View.allAt_cons_unit _ _ _ _ _ ?_ (View.allAt_nil _ _)))
  · intro y hy
    obtain ⟨z, q, rfl⟩ : ∃ (z : Fin 384) (q : Fin 128), y = ix2 z q := ⟨y 0, y 1, by idx_vars y; blk_ext⟩
    have h1 : n.val = 128 + q.val := hy 1
    have h2 : r.val = 0 + z.val := hy 0
    obtain rfl : r = z := Fin.ext (by omega)
    exact (hv q).trans (congrArg f (Fin.ext h1.symm))
  · intro y hy
    obtain ⟨z, q, rfl⟩ : ∃ (z : Fin 384) (q : Fin 128), y = ix2 z q := ⟨y 0, y 1, by idx_vars y; blk_ext⟩
    have h1 : n.val = 0 + q.val := hy 1
    have h2 : r.val = 0 + z.val := hy 0
    obtain rfl : r = z := Fin.ext (by omega)
    exact (hu q).trans (congrArg f (Fin.ext (by dsimp only; omega)))

/-- The block's keys, normalised head by head. -/
def KNB (c : Dev nD) (t : Fin cfg0.N) (r : Fin 384) (n : Fin 256) : EReal :=
  kn (fun k => KVB m c t (ix2 r (⟨n.val / 128 * 128 + k.val, by omega⟩ : Fin 512))) (kga m c t (ix2 0 (⟨n.val % 128, by omega⟩ : Fin 128))) (⟨n.val % 128, by omega⟩ : Fin 128)

theorem kn_congr {x y : Fin 128 → EReal} {g g' : EReal} {k k' : Fin 128} (hx : x = y) (hg : g = g') (hk : k = k') : kn x g k = kn y g' k' := by
  rw [hx, hg, hk]

theorem knb_lo (c : Dev nD) (t : Fin cfg0.N) (r : Fin 384) (q : Fin 128) :
    kn (fun k => KVB m c t (ix2 r (⟨k.val, by omega⟩ : Fin 512))) (kga m c t (ix2 0 q)) q = KNB m c t r ⟨q.val, by omega⟩ := by
  unfold KNB
  refine kn_congr (funext fun k => congrArg (fun z => KVB m c t (ix2 r z)) (Fin.ext ?_)) (congrArg (fun z => kga m c t (ix2 0 z)) (Fin.ext ?_)) (Fin.ext ?_) <;> dsimp only <;> omega

theorem knb_hi (c : Dev nD) (t : Fin cfg0.N) (r : Fin 384) (q : Fin 128) :
    kn (fun k => KVB m c t (ix2 r (⟨128 + k.val, by omega⟩ : Fin 512))) (kga m c t (ix2 0 q)) q = KNB m c t r ⟨128 + q.val, by omega⟩ := by
  unfold KNB
  refine kn_congr (funext fun k => congrArg (fun z => KVB m c t (ix2 r z)) (Fin.ext ?_)) (congrArg (fun z => kga m c t (ix2 0 z)) (Fin.ext ?_)) (Fin.ext ?_) <;> dsimp only <;> omega

theorem kb_out (c : Dev nD) (t : Fin cfg0.N) (r : Fin 384) (n : Fin 256) :
    (outsAt0 m c t.val t.isLt).2.2.1 (ix2 r n) = KNB m c t r n := by
  by_cases h : t.val % 11 = 0
  · rw [outsAt0_A m c t h]
    frame_out
    exact kb_two _ _ (KNB m c t r) r n (fun q => (pay21_at _ _ _ _ _ _ r q).trans (knb_lo m c t r q)) fun q => (pay22_at _ _ _ _ _ _ r q).trans (knb_hi m c t r q)
  · rw [outsAt0_B m c t h]
    frame_out
    exact kb_two _ _ (KNB m c t r) r n (fun q => (pay21_at _ _ _ _ _ _ r q).trans (knb_lo m c t r q)) fun q => (pay22_at _ _ _ _ _ _ r q).trans (knb_hi m c t r q)

theorem upto {N r : ℕ} (hr : r < N) (f : ℕ → EReal) : (∑ k : Fin N, if k.val ≤ r then f k.val else 0) = ∑ k ∈ Finset.range (r + 1), f k := by
  rw [Fin.sum_univ_eq_sum_range (fun k => if k ≤ r then f k else 0) N, ← Finset.sum_filter]
  refine Finset.sum_congr (Finset.ext fun k => ?_) fun _ _ => rfl
  rw [Finset.mem_filter, Finset.mem_range, Finset.mem_range]
  omega

/-- A batch's gates, zero off the tokens. -/
def gate (c : Dev nD) (b s : ℕ) (n : Fin 128) : EReal :=
  if h : b * 4224 + s < 8448 then (if tok s then lsk (arr0 m c (ix2 (⟨b * 4224 + s, h⟩ : Fin 8448) n) + BROW (arr2 m c) (ix2 0 n)) else 0) else 0

theorem gate_at (c : Dev nD) (t : Fin cfg0.N) (k : Fin 384) (n : Fin 128) :
    k0_pay4 (grid0.coords t) (sma m c t) (bro m c t) (ix2 k n) = gate m c (t.val / 11) (t.val % 11 * 384 + k.val) n := by
  have ht := lt_of_lt_of_eq t.isLt N_0
  unfold gate
  rw [pay4_at, (idx t).2.2.2.2.2.2.2.2.2.2, sma_at, bro_at, dif_pos (by omega)]
  refine if_congr Iff.rfl (congrArg (fun z => lsk (arr0 m c (ix2 z n) + BROW (arr2 m c) (ix2 0 n))) (Fin.ext ?_)) rfl
  dsimp only
  omega

theorem cs_sum (c : Dev nD) (t : Fin cfg0.N) (p : Vec Ideal S1x128 .f32) (n : Fin 128)
    (hp : p (ix2 0 n) = ∑ s ∈ Finset.range (t.val % 11 * 384), gate m c (t.val / 11) s n) (r : Fin 384) :
    CS (grid0.coords t) (sma m c t) (bro m c t) p (ix2 r n) = ∑ s ∈ Finset.range (t.val % 11 * 384 + (r.val + 1)), gate m c (t.val / 11) s n := by
  rw [cs_at, hp]
  simp only [gate_at]
  rw [upto r.isLt (fun k => gate m c (t.val / 11) (t.val % 11 * 384 + k) n), Finset.sum_range_add (fun s => gate m c (t.val / 11) s n) (t.val % 11 * 384) (r.val + 1), add_comm]

theorem pay11_at (n : Fin 128) : k0_pay11 (F := Ideal) (ix2 0 n) = 0 := by
  pointwise [k0_pay11]

theorem car_sum (c : Dev nD) (n : Fin 128) : ∀ (t : ℕ) (h : t < cfg0.N),
    car m c t h (ix2 0 n) = ∑ s ∈ Finset.range (t % 11 * 384 + 384), gate m c (t / 11) s n
  | t, h => by
    by_cases h0 : t % 11 = 0
    · refine (car_A m c ⟨t, h⟩ h0 n).trans (cs_sum m c ⟨t, h⟩ _ n ?_ 383)
      dsimp only
      rw [pay11_at, h0, zero_mul, Finset.range_zero, Finset.sum_empty]
    · have hl : t - 1 < cfg0.N := Nat.lt_of_le_of_lt (Nat.sub_le _ _) h
      have e := car_sum c n (t - 1) hl
      rw [show (t - 1) % 11 * 384 + 384 = t % 11 * 384 by omega, show (t - 1) / 11 = t / 11 by omega] at e
      exact (car_B m c ⟨t, h⟩ h0 n).trans (cs_sum m c ⟨t, h⟩ _ n e 383)
  termination_by t => t
  decreasing_by omega

theorem c_out (c : Dev nD) (t : Fin cfg0.N) (k : Fin 16) (r : Fin 384) :
    (outsAt0 m c t.val t.isLt).1 (ix3 0 k r) = if tok (t.val % 11 * 384 + r.val)
      then ∑ s ∈ Finset.range (t.val % 11 * 384 + (r.val + 1)), gate m c (t.val / 11) s (⟨64 + k.val, by omega⟩ : Fin 128) else Ideal.ofBits .f32 0x7149F2CA#32 := by
  by_cases h0 : t.val % 11 = 0
  · rw [c_A m c t h0, pay3_at, sel, (idx t).2.2.2.2.2.2.2.2.2.2]
    refine if_congr decide_eq_true_iff (cs_sum m c t _ _ ?_ r) rfl
    rw [pay11_at, h0, zero_mul, Finset.range_zero, Finset.sum_empty]
  · rw [c_B m c t h0, pay3_at, sel, (idx t).2.2.2.2.2.2.2.2.2.2]
    refine if_congr decide_eq_true_iff (cs_sum m c t _ _ ?_ r) rfl
    have ht := lt_of_lt_of_eq t.isLt N_0
    rw [car_sum, show (t.val - 1) % 11 * 384 + 384 = t.val % 11 * 384 by omega, show (t.val - 1) / 11 = t.val / 11 by omega]

/-- The result arrays, as functions of the arguments: the reference's own terms. -/
abbrev OUT6 (c : Dev nD) : FVec Ideal S2x16x4224 .f32 := Cert.PostRefIdeal.Mat.C (arr0 m c) (arr2 m c)
abbrev OUT7 (c : Dev nD) : FVec Ideal S2x128x4224 .bf16 := Cert.PostRefIdeal.Mat.KIT (arr0 m c)
abbrev OUT8 (c : Dev nD) : FVec Ideal S8448x256 .bf16 := Cert.PostRefIdeal.Mat.KB (arr1 m c) (arr3 m c) (arr4 m c) (arr5 m c)
abbrev OUT9 (c : Dev nD) : FVec Ideal S8448x256 .bf16 := Cert.PostRefIdeal.Mat.VB (arr1 m c) (arr3 m c) (arr4 m c)

theorem lt_gate (c : Dev nD) (b : Fin 2) (k : Fin 16) (s : Fin 4224) :
    Cert.PostRefIdeal.Mat.LT (arr0 m c) (arr2 m c) (ix3 b k s) = gate m c b.val s.val (⟨64 + k.val, by omega⟩ : Fin 128) := by
  unfold gate
  rw [Cert.PostRefIdeal.Mat.lt_at, Cert.PostRefIdeal.Mat.ls_at, dif_pos (by omega), brow_at]

theorem point6 (c : Dev nD) (t : Fin cfg0.N) (k : Fin 16) (r : Fin 384) :
    (outsAt0 m c t.val t.isLt).1 (ix3 0 k r) = OUT6 m c (((cfg0.win 6).blk t).view.emb (ix3 (0 : Fin 1) k r)) := by
  have ht := lt_of_lt_of_eq t.isLt N_0
  have he : ((cfg0.win 6).blk t).view.emb (ix3 (0 : Fin 1) k r) = ix3 (⟨t.val / 11, by omega⟩ : Fin 2) k (⟨t.val % 11 * 384 + r.val, by omega⟩ : Fin 4224) := by
    blk_ext [idx t]
  rw [he]
  unfold OUT6
  rw [Cert.PostRefIdeal.Mat.c_at, c_out]
  refine if_congr Iff.rfl ?_ rfl
  simp only [lt_gate]
  exact (upto (N := 4224) (r := t.val % 11 * 384 + r.val) (by omega) (fun s => gate m c (t.val / 11) s _)).symm

theorem point7 (c : Dev nD) (t : Fin cfg0.N) (k : Fin 128) (r : Fin 384) :
    (outsAt0 m c t.val t.isLt).2.1 (ix3 0 k r) = OUT7 m c (((cfg0.win 7).blk t).view.emb (ix3 (0 : Fin 1) k r)) := by
  have ht := lt_of_lt_of_eq t.isLt N_0
  have he : ((cfg0.win 7).blk t).view.emb (ix3 (0 : Fin 1) k r) = ix3 (⟨t.val / 11, by omega⟩ : Fin 2) k (⟨t.val % 11 * 384 + r.val, by omega⟩ : Fin 4224) := by
    blk_ext [idx t]
  rw [he]
  unfold OUT7
  rw [Cert.PostRefIdeal.Mat.kit_at, kit_out, sma_at]
  refine congrArg (fun z => arr0 m c (ix2 z _)) (Fin.ext ?_)
  dsimp only
  omega

theorem kvb_at (c : Dev nD) (t : Fin cfg0.N) (r : Fin 384) (n : Fin 512) :
    KVB m c t (ix2 r n) = Cert.PostRefIdeal.Mat.KV (arr1 m c) (arr3 m c) (arr4 m c) (ix2 (⟨t.val * 384 + r.val, by have := lt_of_lt_of_eq t.isLt N_0; omega⟩ : Fin 8448) n) := by
  unfold KVB
  rw [kv_at, Cert.PostRefIdeal.Mat.kv_at]
  simp only [lat_at, gai_at, wei_at]

theorem point8 (c : Dev nD) (t : Fin cfg0.N) (r : Fin 384) (n : Fin 256) :
    (outsAt0 m c t.val t.isLt).2.2.1 (ix2 r n) = OUT8 m c (((cfg0.win 8).blk t).view.emb (ix2 r n)) := by
  have ht := lt_of_lt_of_eq t.isLt N_0
  have he : ((cfg0.win 8).blk t).view.emb (ix2 r n) = ix2 (⟨t.val * 384 + r.val, by omega⟩ : Fin 8448) n := by
    blk_ext [idx t]
  rw [he]
  unfold OUT8
  rw [Cert.PostRefIdeal.Mat.kb_at, Cert.PostRefIdeal.Mat.kn_at, kb_out]
  unfold KNB
  simp only [kvb_at, kga_at, Cert.PostRefIdeal.Mat.kh_at]

theorem point9 (c : Dev nD) (t : Fin cfg0.N) (r : Fin 384) (n : Fin 256) :
    (outsAt0 m c t.val t.isLt).2.2.2.1 (ix2 r n) = OUT9 m c (((cfg0.win 9).blk t).view.emb (ix2 r n)) := by
  have ht := lt_of_lt_of_eq t.isLt N_0
  have he : ((cfg0.win 9).blk t).view.emb (ix2 r n) = ix2 (⟨t.val * 384 + r.val, by omega⟩ : Fin 8448) n := by
    blk_ext [idx t]
  rw [he]
  unfold OUT9
  rw [Cert.PostRefIdeal.Mat.vb_at, vb_out, kvb_at]

theorem final6 (c : Dev nD) : (dats m 0 c).arrAt 6 cfg0.N = OUT6 m c := by
  refine (dats m 0 c).arrAt_eq_of_covers 6 _ (by decide +kernel) fun t hf y => ?_
  blk_simp
  rw [after0_6]
  obtain ⟨a, k, r, rfl⟩ : ∃ (a : Fin 1) (k : Fin 16) (r : Fin 384), y = ix3 a k r := ⟨y 0, y 1, y 2, by idx_vars y; blk_ext⟩
  obtain rfl : a = 0 := Subsingleton.elim _ _
  exact point6 m c t k r

theorem final7 (c : Dev nD) : (dats m 0 c).arrAt 7 cfg0.N = OUT7 m c := by
  refine (dats m 0 c).arrAt_eq_of_covers 7 _ (by decide +kernel) fun t hf y => ?_
  blk_simp
  rw [after0_7]
  obtain ⟨a, k, r, rfl⟩ : ∃ (a : Fin 1) (k : Fin 128) (r : Fin 384), y = ix3 a k r := ⟨y 0, y 1, y 2, by idx_vars y; blk_ext⟩
  obtain rfl : a = 0 := Subsingleton.elim _ _
  exact point7 m c t k r

theorem final8 (c : Dev nD) : (dats m 0 c).arrAt 8 cfg0.N = OUT8 m c := by
  refine (dats m 0 c).arrAt_eq_of_covers 8 _ (by decide +kernel) fun t hf y => ?_
  blk_simp
  rw [after0_8]
  obtain ⟨r, n, rfl⟩ : ∃ (r : Fin 384) (n : Fin 256), y = ix2 r n := ⟨y 0, y 1, by idx_vars y; blk_ext⟩
  exact point8 m c t r n

theorem final9 (c : Dev nD) : (dats m 0 c).arrAt 9 cfg0.N = OUT9 m c := by
  refine (dats m 0 c).arrAt_eq_of_covers 9 _ (by decide +kernel) fun t hf y => ?_
  blk_simp
  rw [after0_9]
  obtain ⟨r, n, rfl⟩ : ∃ (r : Fin 384) (n : Fin 256), y = ix2 r n := ⟨y 0, y 1, by idx_vars y; blk_ext⟩
  exact point9 m c t r n

theorem algebraic : Cert.algebraic_PostIdeal_PostRefIdeal := by
  unfold Cert.algebraic_PostIdeal_PostRefIdeal
  pair_intro
  · run_from Cert.PostIdeal.Value.run_blocks m g
  · run_from Cert.PostRefIdeal.Value.run m' g'
    · exact (final6 m c).symm
    · exact (final7 m c).symm
    · exact (final8 m c).symm
    · exact (final9 m c).symm

end Cert.PostIdeal.Mat

end
-- ==== Proof.BiasNum.lean ====
module

public import Idealize.ShloMosaic.Lib.Pointwise
public import Idealize.ShloMosaic.Lib.Routing.OpsSet

@[expose] public section

set_option maxRecDepth 65536

noncomputable section

open Idealize.ShloMosaic

/-! The buckets of the distances: the reference's formula in words and reals, and the same numbers in whole numbers. -/

namespace BiasNum

/-- The bucket of a distance, without its sign. -/
def bkt (n : ℕ) : ℕ := if n < 8 then n else min (8 + Nat.log2 (n * n / 64)) 15

/-- The bucket of a signed distance, 255 added. -/
def bk (u : ℕ) : ℕ := if 255 < u then 16 + bkt (u - 255) else bkt (255 - u)

/-- The distance, 255 added, that an entry of the table stands for: three strips of 128 queries and 256 keys. -/
def rel (s q k : ℕ) : ℕ :=
  if s = 0 then (if k < 128 then 255 + k - q else 126)
  else if s = 1 then (if k < 128 then 239 + k - q else 127 + k - q)
  else 127 + k - q

theorem bk_lt (u : ℕ) : bk u < 32 := by
  unfold bk bkt
  split_ifs <;> omega

/-- The steps past the eighth bucket, from the logarithm. -/
def T (x : BitVec 32) : BitVec 32 :=
  FloatOps.fptosi (F := Ideal) (φ := .f32) 32
    (Ideal.div (Ideal.log (Ideal.div (FloatOps.sitofp (F := Ideal) FTy.f32 (IntOp.maxsi (IntOp.absi x) 1#32)) (Ideal.ofBits FTy.f32 1090519040#32)))
        (Ideal.log (Ideal.ofBits FTy.f32 1098907648#32)) * Ideal.ofBits FTy.f32 1090519040#32)

/-- The bucket's word, of the steps and the distance. -/
def Gi (t x : BitVec 32) : BitVec 32 :=
  IntOp.addi (Scalar.select (IntOp.cmpi CmpIPredicate.sgt x 0#32) 16#32 0#32)
    (Scalar.select (IntOp.cmpi CmpIPredicate.slt (IntOp.absi x) 8#32) (IntOp.absi x) (IntOp.minsi (IntOp.addi (8#32) t) 15#32))

/-- The bucket's word, of the distance. -/
def G (x : BitVec 32) : BitVec 32 := Gi (T x) x

/-- A row number, counted from the end where it is negative. -/
def W (b : BitVec 32) : BitVec 32 := Scalar.select (IntOp.cmpi CmpIPredicate.slt b 0#32) (IntOp.addi b 32#32) b

theorem c8 : Ideal.ofBits FTy.f32 1090519040#32 = ((8 : ℝ) : EReal) := by
  simp [Ideal.ofBits, Ideal.ieee, -EReal.coe_mul]
  norm_num [Nat.shiftRight_eq_div_pow]

theorem c16 : Ideal.ofBits FTy.f32 1098907648#32 = ((16 : ℝ) : EReal) := by
  simp [Ideal.ofBits, Ideal.ieee, -EReal.coe_mul]
  norm_num [Nat.shiftRight_eq_div_pow]

theorem steps (n k : ℕ) (hn : 8 ≤ n) (h1 : 2 ^ k * 64 ≤ n * n) (h2 : n * n < 2 ^ (k + 1) * 64) :
    ⌊Real.log ((n : ℝ) * (1 / 8)) * (1 / Real.log 16) * 8⌋ = (k : ℤ) := by
  have hl2 : 0 < Real.log 2 := Real.log_pos (by norm_num)
  have h16 : Real.log 16 = 4 * Real.log 2 := by
    rw [show (16 : ℝ) = 2 ^ 4 by norm_num, Real.log_pow]
    norm_num
  have hn0 : (0 : ℝ) < n := by exact_mod_cast (by omega : 0 < n)
  have hx : (0 : ℝ) < (n : ℝ) * (1 / 8) := by positivity
  have hsq : Real.log (((n : ℝ) * (1 / 8)) ^ 2) = 2 * Real.log ((n : ℝ) * (1 / 8)) := by
    rw [Real.log_pow]
    norm_num
  have e : Real.log ((n : ℝ) * (1 / 8)) * (1 / Real.log 16) * 8 = Real.log (((n : ℝ) * (1 / 8)) ^ 2) / Real.log 2 := by
    rw [hsq, h16]
    field_simp
    ring
  have g1 : (2 : ℝ) ^ k ≤ ((n : ℝ) * (1 / 8)) ^ 2 := by
    have : ((2 ^ k * 64 : ℕ) : ℝ) ≤ ((n * n : ℕ) : ℝ) := by exact_mod_cast h1
    push_cast at this
    nlinarith
  have g2 : ((n : ℝ) * (1 / 8)) ^ 2 < (2 : ℝ) ^ (k + 1) := by
    have : ((n * n : ℕ) : ℝ) < ((2 ^ (k + 1) * 64 : ℕ) : ℝ) := by exact_mod_cast h2
    push_cast at this
    nlinarith
  rw [e, Int.floor_eq_iff]
  constructor
  · rw [le_div_iff₀ hl2]
    have := Real.log_le_log (by positivity) g1
    rw [Real.log_pow] at this
    exact_mod_cast this
  · rw [div_lt_iff₀ hl2]
    have := Real.log_lt_log (by positivity) g2
    have e2 : Real.log ((2 : ℝ) ^ (k + 1)) = ((k : ℝ) + 1) * Real.log 2 := by
      rw [Real.log_pow]
      push_cast
      rfl
    rw [e2] at this
    exact this

theorem bounds : ∀ n < 256, 8 ≤ n → 2 ^ Nat.log2 (n * n / 64) * 64 ≤ n * n ∧ n * n < 2 ^ (Nat.log2 (n * n / 64) + 1) * 64 ∧ Nat.log2 (n * n / 64) < 32 := by
  decide +kernel

theorem toInt_of : ∀ n < 256, (BitVec.ofNat 32 n).toInt = (n : ℤ) := by
  decide +kernel

theorem t_at (x : BitVec 32) (n : ℕ) (h8 : 8 ≤ n) (hn : n < 256) (hx : IntOp.maxsi (IntOp.absi x) 1#32 = BitVec.ofNat 32 n) :
    T x = BitVec.ofNat 32 (Nat.log2 (n * n / 64)) := by
  obtain ⟨h1, h2, h3⟩ := bounds n hn h8
  have hn0 : (0 : ℝ) < n := by exact_mod_cast (by omega : 0 < n)
  have hl : 0 < Real.log 16 := Real.log_pos (by norm_num)
  have hn8 : (1 : ℝ) ≤ (n : ℝ) * (1 / 8) := by
    have : (8 : ℝ) ≤ n := by exact_mod_cast h8
    linarith
  have e : T x = Ideal.fptosi 32 (((Real.log ((n : ℝ) * (1 / 8)) * (1 / Real.log 16) * 8 : ℝ)) : EReal) := by
    unfold T
    rw [hx, c8, c16]
    show Ideal.fptosi 32 (Ideal.div (Ideal.log (Ideal.div ((((BitVec.ofNat 32 n).toInt : ℝ)) : EReal) ((8 : ℝ) : EReal))) (Ideal.log ((16 : ℝ) : EReal)) * ((8 : ℝ) : EReal)) = _
    rw [toInt_of n hn, Ideal.div_coe (by norm_num), ← EReal.coe_mul, Ideal.log_coe, Ideal.log_coe, if_neg (not_le.2 (by push_cast; linarith)), if_neg (by norm_num), Ideal.div_coe hl.ne', ← EReal.coe_mul, ← EReal.coe_mul]
    push_cast
    rfl
  rw [e]
  unfold Ideal.fptosi
  rw [Ideal.toIntClamped_coe, if_pos (mul_nonneg (mul_nonneg (Real.log_nonneg hn8) (by positivity)) (by norm_num)), steps n _ h8 h1 h2]
  have hk : max (-((2 ^ (32 - 1) : ℕ) : ℤ)) (min (((2 ^ (32 - 1) : ℕ) : ℤ) - 1) ((Nat.log2 (n * n / 64) : ℕ) : ℤ)) = ((Nat.log2 (n * n / 64) : ℕ) : ℤ) := by
    norm_num
    omega
  rw [hk, BitVec.ofInt_natCast]

/-- The distance's size. -/
def siz (u : ℕ) : ℕ := if 255 < u then u - 255 else 255 - u

theorem max_at : ∀ u < 383, 8 ≤ siz u → IntOp.maxsi (IntOp.absi (BitVec.ofNat 32 u - 255#32)) 1#32 = BitVec.ofNat 32 (siz u) := by
  decide +kernel

theorem siz_lt : ∀ u < 383, siz u < 256 := by
  decide +kernel

theorem far_words : ∀ u < 383, 8 ≤ siz u → Gi (BitVec.ofNat 32 (Nat.log2 (siz u * siz u / 64))) (BitVec.ofNat 32 u - 255#32) = BitVec.ofNat 32 (bk u) := by
  decide +kernel

theorem near_words (t : BitVec 32) : ∀ u < 383, ¬ 8 ≤ siz u → Gi t (BitVec.ofNat 32 u - 255#32) = BitVec.ofNat 32 (bk u) := by
  intro u hu h
  have : 247 < u ∧ u < 263 := by
    unfold siz at h
    split_ifs at h <;> omega
  obtain ⟨h1, h2⟩ := this
  interval_cases u <;> rfl

theorem g_at (u : ℕ) (hu : u < 383) : G (BitVec.ofNat 32 u - 255#32) = BitVec.ofNat 32 (bk u) := by
  unfold G
  by_cases h : 8 ≤ siz u
  · rw [t_at _ _ h (siz_lt u hu) (max_at u hu h)]
    exact far_words u hu h
  · exact near_words _ u hu h

theorem keep : ∀ b < 32, W (BitVec.ofNat 32 b) = BitVec.ofNat 32 b := by
  decide +kernel

theorem w_at (u : ℕ) (hu : u < 383) : W (G (BitVec.ofNat 32 u - 255#32)) = BitVec.ofNat 32 (bk u) := by
  rw [g_at u hu]
  exact keep _ (bk_lt u)

/-- The rows of a strip, from its sixteen runs of eight rows. -/
theorem rows (f : ℕ → BitVec 32) (c s : ℕ)
    (h0 : ∀ q < 8, ∀ k < 256, f (c + (0 + q) * 256 + k) = BitVec.ofNat 32 (bk (rel s (0 + q) k)))
    (h1 : ∀ q < 8, ∀ k < 256, f (c + (8 + q) * 256 + k) = BitVec.ofNat 32 (bk (rel s (8 + q) k)))
    (h2 : ∀ q < 8, ∀ k < 256, f (c + (16 + q) * 256 + k) = BitVec.ofNat 32 (bk (rel s (16 + q) k)))
    (h3 : ∀ q < 8, ∀ k < 256, f (c + (24 + q) * 256 + k) = BitVec.ofNat 32 (bk (rel s (24 + q) k)))
    (h4 : ∀ q < 8, ∀ k < 256, f (c + (32 + q) * 256 + k) = BitVec.ofNat 32 (bk (rel s (32 + q) k)))
    (h5 : ∀ q < 8, ∀ k < 256, f (c + (40 + q) * 256 + k) = BitVec.ofNat 32 (bk (rel s (40 + q) k)))
    (h6 : ∀ q < 8, ∀ k < 256, f (c + (48 + q) * 256 + k) = BitVec.ofNat 32 (bk (rel s (48 + q) k)))
    (h7 : ∀ q < 8, ∀ k < 256, f (c + (56 + q) * 256 + k) = BitVec.ofNat 32 (bk (rel s (56 + q) k)))
    (h8 : ∀ q < 8, ∀ k < 256, f (c + (64 + q) * 256 + k) = BitVec.ofNat 32 (bk (rel s (64 + q) k)))
    (h9 : ∀ q < 8, ∀ k < 256, f (c + (72 + q) * 256 + k) = BitVec.ofNat 32 (bk (rel s (72 + q) k)))
    (h10 : ∀ q < 8, ∀ k < 256, f (c + (80 + q) * 256 + k) = BitVec.ofNat 32 (bk (rel s (80 + q) k)))
    (h11 : ∀ q < 8, ∀ k < 256, f (c + (88 + q) * 256 + k) = BitVec.ofNat 32 (bk (rel s (88 + q) k)))
    (h12 : ∀ q < 8, ∀ k < 256, f (c + (96 + q) * 256 + k) = BitVec.ofNat 32 (bk (rel s (96 + q) k)))
    (h13 : ∀ q < 8, ∀ k < 256, f (c + (104 + q) * 256 + k) = BitVec.ofNat 32 (bk (rel s (104 + q) k)))
    (h14 : ∀ q < 8, ∀ k < 256, f (c + (112 + q) * 256 + k) = BitVec.ofNat 32 (bk (rel s (112 + q) k)))
    (h15 : ∀ q < 8, ∀ k < 256, f (c + (120 + q) * 256 + k) = BitVec.ofNat 32 (bk (rel s (120 + q) k)))
    (q k : ℕ) (hq : q < 128) (hk : k < 256) : f (c + q * 256 + k) = BitVec.ofNat 32 (bk (rel s q k)) := by
  obtain ⟨a, b, ha, hb, rfl⟩ : ∃ a b : ℕ, a < 16 ∧ b < 8 ∧ q = a * 8 + b := ⟨q / 8, q % 8, by omega, by omega, by omega⟩
  interval_cases a
  · exact h0 b hb k hk
  · exact h1 b hb k hk
  · exact h2 b hb k hk
  · exact h3 b hb k hk
  · exact h4 b hb k hk
  · exact h5 b hb k hk
  · exact h6 b hb k hk
  · exact h7 b hb k hk
  · exact h8 b hb k hk
  · exact h9 b hb k hk
  · exact h10 b hb k hk
  · exact h11 b hb k hk
  · exact h12 b hb k hk
  · exact h13 b hb k hk
  · exact h14 b hb k hk
  · exact h15 b hb k hk

end BiasNum

end
-- ==== Proof.BiasRef.lean ====
module

public import proofs.«01_k».proof.Defs
public import proofs.«01_k».proof.Proof.Gen.BiasRefIdeal.Run
public import proofs.«01_k».proof.Proof.BiasNum
public import Idealize.ShloMosaic.Lib.Pipeline.ValueKit
public import Idealize.ShloMosaic.Lib.Pointwise
public import Idealize.ShloMosaic.Lib.Routing.OpsSet

@[expose] public section

set_option maxRecDepth 16384

noncomputable section

open Idealize.ShloMosaic Idealize.ShloMosaic.TcCoe Idealize.SL.Sem

/-! The bias table's reference, read entry by entry. -/

namespace Cert.BiasRefIdeal.Mat
open Cert.BiasRefIdeal Cert.BiasRefIdeal.Gen

/-- Key less query, in one block. -/
def D : IVec S128x128 32 :=
  subi (broadcastInDim S128x128 ![0, 1] bcast_S1x128_S128x128_0_1 (broadcastInDim S1x128 ![1] bcast_S128_S1x128_1 (iotaInDim S128 32 0))) (broadcastInDim S128x128 ![0, 1] bcast_S128x1_S128x128_0_1 (broadcastInDim S128x1 ![0] bcast_S128_S128x1_0 (iotaInDim S128 32 0)))

/-- The first strip's distances. -/
def ST0 : IVec S128x256 32 :=
  concatenate S128x256 1 [⟨S128x128, D⟩, ⟨S128x128, id (broadcastInDim S128x128 ![] bcast_S_S128x128 (constantI S_ 32 4294967167#32))⟩] concatenates_S128x128_S128x128_S128x256_d1

/-- The second strip's distances. -/
def ST1 : IVec S128x256 32 :=
  concatenate S128x256 1 [⟨S128x128, subi D (broadcastInDim S128x128 ![] bcast_S_S128x128 (constantI S_ 32 16#32))⟩, ⟨S128x128, D⟩] concatenates_S128x128_S128x128_S128x256_d1

/-- The third strip's distances. -/
def ST2 : IVec S128x256 32 :=
  concatenate S128x256 1 [⟨S128x128, subi D (broadcastInDim S128x128 ![] bcast_S_S128x128 (constantI S_ 32 128#32))⟩, ⟨S128x128, D⟩] concatenates_S128x128_S128x128_S128x256_d1

/-- The distances of the three strips. -/
def REL3 : IVec S3x128x256 32 :=
  concatenate S3x128x256 0 [⟨S1x128x256, broadcastInDim S1x128x256 ![1, 2] bcast_S128x256_S1x128x256_1_2 ST0⟩, ⟨S1x128x256, broadcastInDim S1x128x256 ![1, 2] bcast_S128x256_S1x128x256_1_2 ST1⟩, ⟨S1x128x256, broadcastInDim S1x128x256 ![1, 2] bcast_S128x256_S1x128x256_1_2 ST2⟩] concatenates_S1x128x256_S1x128x256_S1x128x256_S3x128x256_d0

/-- The distances in one row. -/
def REL : IVec S98304 32 := shapeCast _ REL3 shapeCasts_S3x128x256_S98304

/-- The buckets of a row of distances. -/
def BK (v : IVec S98304 32) : IVec S98304 32 :=
  addi (id (select (cmpi .sgt v (broadcastInDim S98304 ![] bcast_S_S98304 (constantI S_ 32 0#32))) (broadcastInDim S98304 ![] bcast_S_S98304 (constantI S_ 32 16#32)) (broadcastInDim S98304 ![] bcast_S_S98304 (constantI S_ 32 0#32))))
    (select (cmpi .slt (absi v) (broadcastInDim S98304 ![] bcast_S_S98304 (constantI S_ 32 8#32))) (absi v)
      (minsi (addi (broadcastInDim S98304 ![] bcast_S_S98304 (constantI S_ 32 8#32))
        (fptosi (F := Ideal) (φ := .f32) 32 (mulf (F := Ideal) (φ := .f32) (Host.divf (F := Ideal) (φ := .f32) (Host.log (F := Ideal) (φ := .f32) (Host.divf (F := Ideal) (φ := .f32) (sitofp (F := Ideal) .f32 (maxsi (absi v) (broadcastInDim S98304 ![] bcast_S_S98304 (constantI S_ 32 1#32)))) (broadcastInDim S98304 ![] bcast_S_S98304 (constant (F := Ideal) S_ .f32 0x41000000#32))))
          (broadcastInDim S98304 ![] bcast_S_S98304 (Host.log (F := Ideal) (φ := .f32) (constant (F := Ideal) S_ .f32 0x41800000#32)))) (broadcastInDim S98304 ![] bcast_S_S98304 (constant (F := Ideal) S_ .f32 0x41000000#32)))))
        (broadcastInDim S98304 ![] bcast_S_S98304 (constantI S_ 32 15#32))))

/-- The rows of the table that a row of distances takes. -/
def IX (v : IVec S98304 32) : IVec S98304 32 :=
  select (cmpi .slt (BK v) (broadcastInDim S98304 ![] bcast_S_S98304 (constantI S_ 32 0#32))) (addi (BK v) (broadcastInDim S98304 ![] bcast_S_S98304 (constantI S_ 32 32#32))) (BK v)

/-- The far distance. -/
def FAR : IVec S1 32 := broadcastInDim S1 ![] bcast_S_S1 (constantI S_ 32 4294967167#32)

/-- The bucket of one distance. -/
def BK1 (v : IVec S1 32) : IVec S1 32 :=
  addi (id (select (cmpi .sgt v (broadcastInDim S1 ![] bcast_S_S1 (constantI S_ 32 0#32))) (broadcastInDim S1 ![] bcast_S_S1 (constantI S_ 32 16#32)) (broadcastInDim S1 ![] bcast_S_S1 (constantI S_ 32 0#32))))
    (select (cmpi .slt (absi v) (broadcastInDim S1 ![] bcast_S_S1 (constantI S_ 32 8#32))) (id (absi v))
      (minsi (addi (broadcastInDim S1 ![] bcast_S_S1 (constantI S_ 32 8#32))
        (fptosi (F := Ideal) (φ := .f32) 32 (mulf (F := Ideal) (φ := .f32) (Host.divf (F := Ideal) (φ := .f32) (Host.log (F := Ideal) (φ := .f32) (Host.divf (F := Ideal) (φ := .f32) (sitofp (F := Ideal) .f32 (maxsi (absi v) (broadcastInDim S1 ![] bcast_S_S1 (constantI S_ 32 1#32)))) (broadcastInDim S1 ![] bcast_S_S1 (constant (F := Ideal) S_ .f32 0x41000000#32))))
          (broadcastInDim S1 ![] bcast_S_S1 (Host.log (F := Ideal) (φ := .f32) (constant (F := Ideal) S_ .f32 0x41800000#32)))) (broadcastInDim S1 ![] bcast_S_S1 (constant (F := Ideal) S_ .f32 0x41000000#32)))))
        (broadcastInDim S1 ![] bcast_S_S1 (constantI S_ 32 15#32))))

/-- The row of the table that one distance takes. -/
def IX1 (v : IVec S1 32) : IVec S1 32 :=
  select (cmpi .slt (BK1 v) (broadcastInDim S1 ![] bcast_S_S1 (constantI S_ 32 0#32))) (addi (BK1 v) (broadcastInDim S1 ![] bcast_S_S1 (constantI S_ 32 32#32))) (BK1 v)

/-- The table's rows that the strips take. -/
def TAKE (x : Vec Ideal S32x16 .f32) : FVec Ideal S98304x16 .f32 :=
  Host.gather gather_S32x16_S98304x1_S98304x16_1_0_n_n_0_1_116 x (broadcastInDim S98304x1 ![0] bcast_S98304_S98304x1_0 (IX REL))

/-- The table's row that the far distance takes. -/
def TAKE1 (x : Vec Ideal S32x16 .f32) : FVec Ideal S1x16 .f32 :=
  Host.gather gather_S32x16_S1x1_S1x16_1_0_n_n_0_1_116 x (broadcastInDim S1x1 ![0] bcast_S1_S1x1_0 (IX1 FAR))

/-- The reference's result, of its argument. -/
def REF (x : Vec Ideal S32x16 .f32) : FVec Ideal S3x16x32768 .f32 :=
  transpose S3x16x32768 [0, 2, 1] (shapeCast _ (subf (F := Ideal) (φ := .f32) (TAKE x) (broadcastInDim S98304x16 ![0, 1] bcast_S1x16_S98304x16_0_1 (TAKE1 x))) shapeCasts_S98304x16_S3x32768x16) transposes_S3x32768x16_S3x16x32768_0_2_1

theorem res_eq (m : (ℓ : Loc nD τ sig) → Buf (Elt Ideal) ℓ) (c : Dev nD) : Cert.BiasRefIdeal.Value.res_out0 m c
    = REF (m ((c.tc : Thread nD τ).loc main_arg0)) := by
  unfold Cert.BiasRefIdeal.Value.res_out0 Cert.BiasRefIdeal.Value.res_main_v89 REF TAKE TAKE1 IX IX1 BK BK1 REL REL3 ST0 ST1 ST2 D FAR
  rfl

theorem bk_at (v : IVec S98304 32) (j : Fin 98304) : BK v (ix1 j) = BiasNum.G (v (ix1 j)) := by
  unfold BiasNum.G BiasNum.Gi BiasNum.T
  pointwise [BK, id]

theorem ix_at (v : IVec S98304 32) (j : Fin 98304) : IX v (ix1 j) = BiasNum.W (BiasNum.G (v (ix1 j))) := by
  unfold BiasNum.W
  rw [← bk_at]
  pointwise [IX]

theorem bk1_at (v : IVec S1 32) : BK1 v (ix1 0) = BiasNum.G (v (ix1 0)) := by
  unfold BiasNum.G BiasNum.Gi BiasNum.T
  pointwise [BK1, id]

theorem ix1_at (v : IVec S1 32) : IX1 v (ix1 0) = BiasNum.W (BiasNum.G (v (ix1 0))) := by
  unfold BiasNum.W
  rw [← bk1_at]
  pointwise [IX1]

theorem rel_at (s : Fin 3) (q : Fin 128) (k : Fin 256) (h : s.val * 32768 + q.val * 256 + k.val < 98304) : REL (ix1 (⟨s.val * 32768 + q.val * 256 + k.val, h⟩ : Fin 98304)) = REL3 (ix3 s q k) := by
  pointwise [REL]

theorem st0_at (q : Fin 128) (k : Fin 256) : ST0 (ix2 q k) = if h : k.val < 128 then IntOp.subi (BitVec.ofNat 32 k.val) (BitVec.ofNat 32 q.val) else 4294967167#32 := by
  pointwise [ST0, D, id]

theorem st1_at (q : Fin 128) (k : Fin 256) : ST1 (ix2 q k) = if h : k.val < 128 then IntOp.subi (IntOp.subi (BitVec.ofNat 32 k.val) (BitVec.ofNat 32 q.val)) 16#32 else IntOp.subi (BitVec.ofNat 32 (k.val - 128)) (BitVec.ofNat 32 q.val) := by
  pointwise [ST1, D]

theorem st2_at (q : Fin 128) (k : Fin 256) : ST2 (ix2 q k) = if h : k.val < 128 then IntOp.subi (IntOp.subi (BitVec.ofNat 32 k.val) (BitVec.ofNat 32 q.val)) 128#32 else IntOp.subi (BitVec.ofNat 32 (k.val - 128)) (BitVec.ofNat 32 q.val) := by
  pointwise [ST2, D]

theorem rel3_at (s : Fin 3) (q : Fin 128) (k : Fin 256) : REL3 (ix3 s q k) = BitVec.ofNat 32 (BiasNum.rel s.val q.val k.val) - 255#32 := by
  have hq := q.isLt
  have hk := k.isLt
  have e : REL3 (ix3 s q k) = if h : s.val < 1 then ST0 (ix2 q k) else if h : s.val - 1 < 1 then ST1 (ix2 q k) else ST2 (ix2 q k) := by
    pointwise [REL3]
  rw [e, st0_at, st1_at, st2_at]
  unfold BiasNum.rel IntOp.subi
  obtain ⟨s, hs⟩ := s
  dsimp only
  have h3 : s = 0 ∨ s = 1 ∨ s = 2 := by omega
  rcases h3 with rfl | rfl | rfl <;> by_cases h : k.val < 128 <;> simp only [h, dif_pos, dif_neg, if_pos, if_neg, not_true, not_false_eq_true, Nat.lt_irrefl, Nat.zero_lt_one, OfNat.ofNat_ne_zero, one_ne_zero, Nat.reduceSub, Nat.reduceLT, OfNat.ofNat_ne_one] <;> bv_omega

theorem rel_lt (s : Fin 3) (q : Fin 128) (k : Fin 256) : BiasNum.rel s.val q.val k.val < 383 := by
  have hk := k.isLt
  unfold BiasNum.rel
  split_ifs <;> omega

theorem ref_at (x : Vec Ideal S32x16 .f32) (s : Fin 3) (h : Fin 16) (j : Fin 32768) :
    REF x (ix3 s h j) = TAKE x (ix2 (⟨s.val * 32768 + j.val, by omega⟩ : Fin 98304) h) - TAKE1 x (ix2 0 h) := by
  pointwise [REF]

theorem far_at : FAR (ix1 0) = 4294967167#32 := by
  pointwise [FAR]

theorem take1_at (x : Vec Ideal S32x16 .f32) (h : Fin 16) : TAKE1 x (ix2 0 h) = x (ix2 (15 : Fin 32) h) := by
  unfold TAKE1
  refine Idealize.ShloMosaic.Routing.gather_row _ rfl rfl rfl rfl rfl x _ 0 h 15 ?_ (by norm_num)
  have e : broadcastInDim S1x1 ![0] bcast_S1_S1x1_0 (IX1 FAR) (ix2 0 0) = IX1 FAR (ix1 0) := by pointwise
  refine e.trans ?_
  rw [ix1_at, far_at]
  exact BiasNum.w_at 126 (by norm_num)

theorem take_at (x : Vec Ideal S32x16 .f32) (s : Fin 3) (q : Fin 128) (k : Fin 256) (h : Fin 16) (j : Fin 98304) (hj : j.val = s.val * 32768 + q.val * 256 + k.val) :
    TAKE x (ix2 j h) = x (ix2 (⟨BiasNum.bk (BiasNum.rel s.val q.val k.val), BiasNum.bk_lt _⟩ : Fin 32) h) := by
  unfold TAKE
  refine Idealize.ShloMosaic.Routing.gather_row _ rfl rfl rfl rfl rfl x _ _ h _ ?_ (by norm_num)
  have e : broadcastInDim S98304x1 ![0] bcast_S98304_S98304x1_0 (IX REL) (ix2 j 0) = IX REL (ix1 j) := by pointwise
  refine e.trans ?_
  have hl : s.val * 32768 + q.val * 256 + k.val < 98304 := hj ▸ j.isLt
  obtain rfl : j = ⟨s.val * 32768 + q.val * 256 + k.val, hl⟩ := Fin.ext hj
  rw [ix_at, rel_at, rel3_at]
  exact BiasNum.w_at _ (rel_lt s q k)

theorem ref_bucket (x : Vec Ideal S32x16 .f32) (s : Fin 3) (q : Fin 128) (k : Fin 256) (h : Fin 16) (hj : q.val * 256 + k.val < 32768) :
    REF x (ix3 s h (⟨q.val * 256 + k.val, hj⟩ : Fin 32768)) = x (ix2 (⟨BiasNum.bk (BiasNum.rel s.val q.val k.val), BiasNum.bk_lt _⟩ : Fin 32) h) - x (ix2 (15 : Fin 32) h) := by
  rw [ref_at, take1_at, take_at x s q k h _ (Nat.add_assoc _ _ _).symm]

end Cert.BiasRefIdeal.Mat

end
-- ==== Proof.BiasTab0.lean ====
module

public import proofs.«01_k».proof.BiasIdeal
public import proofs.«01_k».proof.Proof.BiasNum

@[expose] public section

set_option maxRecDepth 65536

open Idealize.ShloMosaic

/-! The first strip of the table of buckets that the call has as a constant, entry by entry, eight queries at a time. -/

namespace Cert.BiasIdeal.Tab0

theorem r0 : ∀ q < 8, ∀ k < 256, lit0t (0 + (0 + q) * 256 + k) = BitVec.ofNat 32 (BiasNum.bk (BiasNum.rel 0 (0 + q) k)) := by
  decide +kernel

theorem r1 : ∀ q < 8, ∀ k < 256, lit0t (0 + (8 + q) * 256 + k) = BitVec.ofNat 32 (BiasNum.bk (BiasNum.rel 0 (8 + q) k)) := by
  decide +kernel

theorem r2 : ∀ q < 8, ∀ k < 256, lit0t (0 + (16 + q) * 256 + k) = BitVec.ofNat 32 (BiasNum.bk (BiasNum.rel 0 (16 + q) k)) := by
  decide +kernel

theorem r3 : ∀ q < 8, ∀ k < 256, lit0t (0 + (24 + q) * 256 + k) = BitVec.ofNat 32 (BiasNum.bk (BiasNum.rel 0 (24 + q) k)) := by
  decide +kernel

theorem r4 : ∀ q < 8, ∀ k < 256, lit0t (0 + (32 + q) * 256 + k) = BitVec.ofNat 32 (BiasNum.bk (BiasNum.rel 0 (32 + q) k)) := by
  decide +kernel

theorem r5 : ∀ q < 8, ∀ k < 256, lit0t (0 + (40 + q) * 256 + k) = BitVec.ofNat 32 (BiasNum.bk (BiasNum.rel 0 (40 + q) k)) := by
  decide +kernel

theorem r6 : ∀ q < 8, ∀ k < 256, lit0t (0 + (48 + q) * 256 + k) = BitVec.ofNat 32 (BiasNum.bk (BiasNum.rel 0 (48 + q) k)) := by
  decide +kernel

theorem r7 : ∀ q < 8, ∀ k < 256, lit0t (0 + (56 + q) * 256 + k) = BitVec.ofNat 32 (BiasNum.bk (BiasNum.rel 0 (56 + q) k)) := by
  decide +kernel

theorem r8 : ∀ q < 8, ∀ k < 256, lit0t (0 + (64 + q) * 256 + k) = BitVec.ofNat 32 (BiasNum.bk (BiasNum.rel 0 (64 + q) k)) := by
  decide +kernel

theorem r9 : ∀ q < 8, ∀ k < 256, lit0t (0 + (72 + q) * 256 + k) = BitVec.ofNat 32 (BiasNum.bk (BiasNum.rel 0 (72 + q) k)) := by
  decide +kernel

theorem r10 : ∀ q < 8, ∀ k < 256, lit0t (0 + (80 + q) * 256 + k) = BitVec.ofNat 32 (BiasNum.bk (BiasNum.rel 0 (80 + q) k)) := by
  decide +kernel

theorem r11 : ∀ q < 8, ∀ k < 256, lit0t (0 + (88 + q) * 256 + k) = BitVec.ofNat 32 (BiasNum.bk (BiasNum.rel 0 (88 + q) k)) := by
  decide +kernel

theorem r12 : ∀ q < 8, ∀ k < 256, lit0t (0 + (96 + q) * 256 + k) = BitVec.ofNat 32 (BiasNum.bk (BiasNum.rel 0 (96 + q) k)) := by
  decide +kernel

theorem r13 : ∀ q < 8, ∀ k < 256, lit0t (0 + (104 + q) * 256 + k) = BitVec.ofNat 32 (BiasNum.bk (BiasNum.rel 0 (104 + q) k)) := by
  decide +kernel

theorem r14 : ∀ q < 8, ∀ k < 256, lit0t (0 + (112 + q) * 256 + k) = BitVec.ofNat 32 (BiasNum.bk (BiasNum.rel 0 (112 + q) k)) := by
  decide +kernel

theorem r15 : ∀ q < 8, ∀ k < 256, lit0t (0 + (120 + q) * 256 + k) = BitVec.ofNat 32 (BiasNum.bk (BiasNum.rel 0 (120 + q) k)) := by
  decide +kernel

theorem row (q k : ℕ) (hq : q < 128) (hk : k < 256) : lit0t (0 + q * 256 + k) = BitVec.ofNat 32 (BiasNum.bk (BiasNum.rel 0 q k)) :=
  BiasNum.rows lit0t 0 0 r0 r1 r2 r3 r4 r5 r6 r7 r8 r9 r10 r11 r12 r13 r14 r15 q k hq hk

end Cert.BiasIdeal.Tab0
-- ==== Proof.BiasTab1.lean ====
module

public import proofs.«01_k».proof.BiasIdeal
public import proofs.«01_k».proof.Proof.BiasNum

@[expose] public section

set_option maxRecDepth 65536

open Idealize.ShloMosaic

/-! The second strip of the table of buckets that the call has as a constant, entry by entry, eight queries at a time. -/

namespace Cert.BiasIdeal.Tab1

theorem r0 : ∀ q < 8, ∀ k < 256, lit0t (32768 + (0 + q) * 256 + k) = BitVec.ofNat 32 (BiasNum.bk (BiasNum.rel 1 (0 + q) k)) := by
  decide +kernel

theorem r1 : ∀ q < 8, ∀ k < 256, lit0t (32768 + (8 + q) * 256 + k) = BitVec.ofNat 32 (BiasNum.bk (BiasNum.rel 1 (8 + q) k)) := by
  decide +kernel

theorem r2 : ∀ q < 8, ∀ k < 256, lit0t (32768 + (16 + q) * 256 + k) = BitVec.ofNat 32 (BiasNum.bk (BiasNum.rel 1 (16 + q) k)) := by
  decide +kernel

theorem r3 : ∀ q < 8, ∀ k < 256, lit0t (32768 + (24 + q) * 256 + k) = BitVec.ofNat 32 (BiasNum.bk (BiasNum.rel 1 (24 + q) k)) := by
  decide +kernel

theorem r4 : ∀ q < 8, ∀ k < 256, lit0t (32768 + (32 + q) * 256 + k) = BitVec.ofNat 32 (BiasNum.bk (BiasNum.rel 1 (32 + q) k)) := by
  decide +kernel

theorem r5 : ∀ q < 8, ∀ k < 256, lit0t (32768 + (40 + q) * 256 + k) = BitVec.ofNat 32 (BiasNum.bk (BiasNum.rel 1 (40 + q) k)) := by
  decide +kernel

theorem r6 : ∀ q < 8, ∀ k < 256, lit0t (32768 + (48 + q) * 256 + k) = BitVec.ofNat 32 (BiasNum.bk (BiasNum.rel 1 (48 + q) k)) := by
  decide +kernel

theorem r7 : ∀ q < 8, ∀ k < 256, lit0t (32768 + (56 + q) * 256 + k) = BitVec.ofNat 32 (BiasNum.bk (BiasNum.rel 1 (56 + q) k)) := by
  decide +kernel

theorem r8 : ∀ q < 8, ∀ k < 256, lit0t (32768 + (64 + q) * 256 + k) = BitVec.ofNat 32 (BiasNum.bk (BiasNum.rel 1 (64 + q) k)) := by
  decide +kernel

theorem r9 : ∀ q < 8, ∀ k < 256, lit0t (32768 + (72 + q) * 256 + k) = BitVec.ofNat 32 (BiasNum.bk (BiasNum.rel 1 (72 + q) k)) := by
  decide +kernel

theorem r10 : ∀ q < 8, ∀ k < 256, lit0t (32768 + (80 + q) * 256 + k) = BitVec.ofNat 32 (BiasNum.bk (BiasNum.rel 1 (80 + q) k)) := by
  decide +kernel

theorem r11 : ∀ q < 8, ∀ k < 256, lit0t (32768 + (88 + q) * 256 + k) = BitVec.ofNat 32 (BiasNum.bk (BiasNum.rel 1 (88 + q) k)) := by
  decide +kernel

theorem r12 : ∀ q < 8, ∀ k < 256, lit0t (32768 + (96 + q) * 256 + k) = BitVec.ofNat 32 (BiasNum.bk (BiasNum.rel 1 (96 + q) k)) := by
  decide +kernel

theorem r13 : ∀ q < 8, ∀ k < 256, lit0t (32768 + (104 + q) * 256 + k) = BitVec.ofNat 32 (BiasNum.bk (BiasNum.rel 1 (104 + q) k)) := by
  decide +kernel

theorem r14 : ∀ q < 8, ∀ k < 256, lit0t (32768 + (112 + q) * 256 + k) = BitVec.ofNat 32 (BiasNum.bk (BiasNum.rel 1 (112 + q) k)) := by
  decide +kernel

theorem r15 : ∀ q < 8, ∀ k < 256, lit0t (32768 + (120 + q) * 256 + k) = BitVec.ofNat 32 (BiasNum.bk (BiasNum.rel 1 (120 + q) k)) := by
  decide +kernel

theorem row (q k : ℕ) (hq : q < 128) (hk : k < 256) : lit0t (32768 + q * 256 + k) = BitVec.ofNat 32 (BiasNum.bk (BiasNum.rel 1 q k)) :=
  BiasNum.rows lit0t 32768 1 r0 r1 r2 r3 r4 r5 r6 r7 r8 r9 r10 r11 r12 r13 r14 r15 q k hq hk

end Cert.BiasIdeal.Tab1
-- ==== Proof.BiasTab2.lean ====
module

public import proofs.«01_k».proof.BiasIdeal
public import proofs.«01_k».proof.Proof.BiasNum

@[expose] public section

set_option maxRecDepth 65536

open Idealize.ShloMosaic

/-! The third strip of the table of buckets that the call has as a constant, entry by entry, eight queries at a time. -/

namespace Cert.BiasIdeal.Tab2

theorem r0 : ∀ q < 8, ∀ k < 256, lit0t (65536 + (0 + q) * 256 + k) = BitVec.ofNat 32 (BiasNum.bk (BiasNum.rel 2 (0 + q) k)) := by
  decide +kernel

theorem r1 : ∀ q < 8, ∀ k < 256, lit0t (65536 + (8 + q) * 256 + k) = BitVec.ofNat 32 (BiasNum.bk (BiasNum.rel 2 (8 + q) k)) := by
  decide +kernel

theorem r2 : ∀ q < 8, ∀ k < 256, lit0t (65536 + (16 + q) * 256 + k) = BitVec.ofNat 32 (BiasNum.bk (BiasNum.rel 2 (16 + q) k)) := by
  decide +kernel

theorem r3 : ∀ q < 8, ∀ k < 256, lit0t (65536 + (24 + q) * 256 + k) = BitVec.ofNat 32 (BiasNum.bk (BiasNum.rel 2 (24 + q) k)) := by
  decide +kernel

theorem r4 : ∀ q < 8, ∀ k < 256, lit0t (65536 + (32 + q) * 256 + k) = BitVec.ofNat 32 (BiasNum.bk (BiasNum.rel 2 (32 + q) k)) := by
  decide +kernel

theorem r5 : ∀ q < 8, ∀ k < 256, lit0t (65536 + (40 + q) * 256 + k) = BitVec.ofNat 32 (BiasNum.bk (BiasNum.rel 2 (40 + q) k)) := by
  decide +kernel

theorem r6 : ∀ q < 8, ∀ k < 256, lit0t (65536 + (48 + q) * 256 + k) = BitVec.ofNat 32 (BiasNum.bk (BiasNum.rel 2 (48 + q) k)) := by
  decide +kernel

theorem r7 : ∀ q < 8, ∀ k < 256, lit0t (65536 + (56 + q) * 256 + k) = BitVec.ofNat 32 (BiasNum.bk (BiasNum.rel 2 (56 + q) k)) := by
  decide +kernel

theorem r8 : ∀ q < 8, ∀ k < 256, lit0t (65536 + (64 + q) * 256 + k) = BitVec.ofNat 32 (BiasNum.bk (BiasNum.rel 2 (64 + q) k)) := by
  decide +kernel

theorem r9 : ∀ q < 8, ∀ k < 256, lit0t (65536 + (72 + q) * 256 + k) = BitVec.ofNat 32 (BiasNum.bk (BiasNum.rel 2 (72 + q) k)) := by
  decide +kernel

theorem r10 : ∀ q < 8, ∀ k < 256, lit0t (65536 + (80 + q) * 256 + k) = BitVec.ofNat 32 (BiasNum.bk (BiasNum.rel 2 (80 + q) k)) := by
  decide +kernel

theorem r11 : ∀ q < 8, ∀ k < 256, lit0t (65536 + (88 + q) * 256 + k) = BitVec.ofNat 32 (BiasNum.bk (BiasNum.rel 2 (88 + q) k)) := by
  decide +kernel

theorem r12 : ∀ q < 8, ∀ k < 256, lit0t (65536 + (96 + q) * 256 + k) = BitVec.ofNat 32 (BiasNum.bk (BiasNum.rel 2 (96 + q) k)) := by
  decide +kernel

theorem r13 : ∀ q < 8, ∀ k < 256, lit0t (65536 + (104 + q) * 256 + k) = BitVec.ofNat 32 (BiasNum.bk (BiasNum.rel 2 (104 + q) k)) := by
  decide +kernel

theorem r14 : ∀ q < 8, ∀ k < 256, lit0t (65536 + (112 + q) * 256 + k) = BitVec.ofNat 32 (BiasNum.bk (BiasNum.rel 2 (112 + q) k)) := by
  decide +kernel

theorem r15 : ∀ q < 8, ∀ k < 256, lit0t (65536 + (120 + q) * 256 + k) = BitVec.ofNat 32 (BiasNum.bk (BiasNum.rel 2 (120 + q) k)) := by
  decide +kernel

theorem row (q k : ℕ) (hq : q < 128) (hk : k < 256) : lit0t (65536 + q * 256 + k) = BitVec.ofNat 32 (BiasNum.bk (BiasNum.rel 2 q k)) :=
  BiasNum.rows lit0t 65536 2 r0 r1 r2 r3 r4 r5 r6 r7 r8 r9 r10 r11 r12 r13 r14 r15 q k hq hk

end Cert.BiasIdeal.Tab2
-- ==== Proof.Bias.lean ====
module

public import proofs.«01_k».proof.Defs
public import proofs.«01_k».proof.Proof.BiasRef
public import proofs.«01_k».proof.Proof.BiasTab0
public import proofs.«01_k».proof.Proof.BiasTab1
public import proofs.«01_k».proof.Proof.BiasTab2
public import proofs.«01_k».proof.Proof.FoxMath
public import proofs.«01_k».proof.Proof.Gen.BiasIdeal.Value
public import proofs.«01_k».proof.Proof.Gen.BiasIdeal.Frame
public import proofs.«01_k».proof.Proof.Gen.Bias.Frame
public import proofs.«01_k».proof.Proof.Gen.BiasRefIdeal.Run
public import proofs.«01_k».proof.Proof.Gen.Pre_finite_table
public import Idealize.ShloMosaic.Lib.Pipeline.ValueKit
public import Idealize.ShloMosaic.Lib.Pointwise
public import Idealize.ShloMosaic.Lib.Routing.OpsSet
public import Idealize.ShloMosaic.Lib.Quiescent

@[expose] public section

set_option maxRecDepth 16384

noncomputable section

open Idealize.ShloMosaic Idealize.ShloMosaic.TcCoe Idealize.SL.Sem

/-! The bias of every pair of places in the three strips: the table's column of the pair's bucket, less the column of the far
bucket. -/

namespace Cert.BiasIdeal.Mat
open Cert.BiasIdeal Cert.BiasIdeal.Gen
variable (m : (ℓ : Loc nD τ sig) → Buf (Elt Ideal) ℓ)

theorem sel (p : Bool) (x y : EReal) : Scalar.select (BitVec.ofBool p) x y = if p = true then x else y := by
  cases p <;> rfl

/-- The three products with the bucket's mark each take the bucket's column. -/
theorem pay_at (w : Vec Ideal S1x1x4096 .i32) (x : Vec Ideal S16x128 .f32) (h : Fin 16) (n : Fin 4096) (b : Fin 128)
    (hw : w (ix3 0 0 n) = BitVec.ofNat 32 b.val) :
    k0_pay1 w x (ix3 0 h n) = (x (ix2 h b) - x (ix2 h 15)) + (x (ix2 h b) - x (ix2 h 15) - (x (ix2 h b) - x (ix2 h 15)))
      + (x (ix2 h b) - x (ix2 h 15) - (x (ix2 h b) - x (ix2 h 15)) - (x (ix2 h b) - x (ix2 h 15) - (x (ix2 h b) - x (ix2 h 15)))) := by
  have take : ∀ f : Fin 128 → EReal, (∑ j : Fin 128, Scalar.select (IntOp.cmpi CmpIPredicate.eq (BitVec.ofNat 32 j.val) (w (ix3 0 0 n))) (f j) 0) = f b := by
    intro f
    rw [hw, Finset.sum_eq_single b]
    · rw [WordCmp.cmpi_eq_ofNat (by omega) (by omega), sel, if_pos (by simp)]
    · intro j _ hj
      rw [WordCmp.cmpi_eq_ofNat (by omega) (by omega), sel, if_neg (by simpa using fun e => hj (Fin.ext e))]
    · intro hb
      exact absurd (Finset.mem_univ b) hb
  pointwise [k0_pay1]
  rw [take (fun j => x (ix2 h j) - x (ix2 h 15)), take (fun j => x (ix2 h j) - x (ix2 h 15) - (x (ix2 h j) - x (ix2 h 15))),
    take (fun j => x (ix2 h j) - x (ix2 h 15) - (x (ix2 h j) - x (ix2 h 15)) - (x (ix2 h j) - x (ix2 h 15) - (x (ix2 h j) - x (ix2 h 15))))]

/-- Of real numbers, the second and third parts are nothing. -/
theorem parts (x y : EReal) (hx : FoxMath.IsReal x) (hy : FoxMath.IsReal y) : (x - y) + (x - y - (x - y)) + (x - y - (x - y) - (x - y - (x - y))) = x - y := by
  obtain ⟨a, rfl⟩ := hx.exists
  obtain ⟨b, rfl⟩ := hy.exists
  rw [← EReal.coe_sub, ← EReal.coe_sub, ← EReal.coe_sub, ← EReal.coe_add, ← EReal.coe_add]
  exact congrArg _ (by ring)

/-- The three strips in one array. -/
theorem strips (f : ℕ → BitVec 32)
    (h0 : ∀ q k : ℕ, q < 128 → k < 256 → f (0 + q * 256 + k) = BitVec.ofNat 32 (BiasNum.bk (BiasNum.rel 0 q k)))
    (h1 : ∀ q k : ℕ, q < 128 → k < 256 → f (32768 + q * 256 + k) = BitVec.ofNat 32 (BiasNum.bk (BiasNum.rel 1 q k)))
    (h2 : ∀ q k : ℕ, q < 128 → k < 256 → f (65536 + q * 256 + k) = BitVec.ofNat 32 (BiasNum.bk (BiasNum.rel 2 q k)))
    (s q k : ℕ) (hs : s < 3) (hq : q < 128) (hk : k < 256) : f (s * 32768 + (q * 256 + k)) = BitVec.ofNat 32 (BiasNum.bk (BiasNum.rel s q k)) := by
  rw [← Nat.add_assoc]
  interval_cases s
  · exact h0 q k hq hk
  · exact h1 q k hq hk
  · exact h2 q k hq hk

/-- The call's constant: the bucket of every pair of places. -/
theorem bucket (s q k : ℕ) (hs : s < 3) (hq : q < 128) (hk : k < 256) : lit0t (s * 32768 + (q * 256 + k)) = BitVec.ofNat 32 (BiasNum.bk (BiasNum.rel s q k)) :=
  strips lit0t Tab0.row Tab1.row Tab2.row s q k hs hq hk

theorem idx : ∀ t : Fin cfg0.N, win0_0.index t = ![t.val / 8, 0, t.val % 8] ∧ win0_1.index t = ![0, 0] ∧ win0_2.index t = ![t.val / 8, 0, t.val % 8] :=
  (by decide +kernel : ∀ t : Fin grid0.N, _)

/-- The point's blocks. -/
abbrev buc (c : Dev nD) (t : Fin cfg0.N) : Vec Ideal S1x1x4096 .i32 := iblk m c 0 t
abbrev tab (c : Dev nD) (t : Fin cfg0.N) : Vec Ideal S16x128 .f32 := iblk m c 1 t
abbrev arr0 (c : Dev nD) : Vec Ideal S32x16 .f32 := m ((c.tc : Thread nD τ).loc main_arg0)

/-- Where the host puts the table. -/
def PLACE : IVec S1 32 := broadcastInDim S1 ![] bcast_S_S1 (constantI S_ 32 0#32)

/-- The table with a column for every one of 128 buckets, which the host makes for the call. -/
def TABLE (x : Vec Ideal S32x16 .f32) : Vec Ideal S16x128 .f32 :=
  Host.scatter scatter_S16x128_S1_S16x32_01_n_1_0 (fun _ b => b) (broadcastInDim S16x128 ![] bcast_S_S16x128 (constant (F := Ideal) S_ .f32 0x00000000#32)) PLACE (transpose S16x32 [1, 0] x transposes_S32x16_S16x32_1_0)

theorem tab_eq (c : Dev nD) : V m c main_v3 = TABLE (arr0 m c) := by
  unfold TABLE PLACE
  simp only [V, hostOps0]
  after_results_simp <;> (try dsimp only [Matrix.cons_val]) <;> (try after_results_simp) <;> rfl

theorem buc_eq (c : Dev nD) : V m c main_c = fun i => lit0 (S3x1x32768.rowMajor i) := by
  simp only [V, hostOps0]
  after_results_simp <;> (try dsimp only [Matrix.cons_val]) <;> (try after_results_simp) <;> rfl

theorem place_at : ∀ (h : Fin 16) (j : Fin 32), scatter_S16x128_S1_S16x32_01_n_1_0.resultIdx? (ix2 h j) PLACE = some (ix2 h (⟨j.val, by omega⟩ : Fin 128)) := by
  decide +kernel

theorem table_at (x : Vec Ideal S32x16 .f32) (h : Fin 16) (j : Fin 32) : TABLE x (ix2 h (⟨j.val, by omega⟩ : Fin 128)) = x (ix2 j h) := by
  have e : transpose S16x32 [1, 0] x transposes_S32x16_S16x32_1_0 (ix2 h j) = x (ix2 j h) := by pointwise
  refine Eq.trans ?_ e
  refine Idealize.ShloMosaic.Routing.scatter_set_hit _ _ PLACE _ _ _ (fun k hk => ?_) (ix2 h j) (place_at h j)
  obtain ⟨h', j', rfl⟩ : ∃ (h' : Fin 16) (j' : Fin 32), k = ix2 h' j' := ⟨k 0, k 1, by idx_vars k; blk_ext⟩
  rw [place_at h' j'] at hk
  have e0 : h' = h := congrFun (Option.some.inj hk) 0
  have e1 : (⟨j'.val, by omega⟩ : Fin 128) = ⟨j.val, by omega⟩ := congrFun (Option.some.inj hk) 1
  have e2 : j' = j := Fin.ext (Fin.mk.inj e1)
  rw [e0, e2]

theorem tab_at (c : Dev nD) (t : Fin cfg0.N) (h : Fin 16) (n : Fin 128) : tab m c t (ix2 h n) = TABLE (arr0 m c) (ix2 h n) := by
  have he : ((cfg0.win 1).blk t).view.emb (ix2 h n) = ix2 h n := by
    blk_ext [idx t]
  refine Eq.trans (b := V m c main_v3 (((cfg0.win 1).blk t).view.emb (ix2 h n))) rfl ?_
  rw [he, tab_eq]

theorem buc_at (c : Dev nD) (t : Fin cfg0.N) (n : Fin 4096) : buc m c t (ix3 0 0 n) = lit0t (t.val / 8 * 32768 + (t.val % 8 * 4096 + n.val)) := by
  have ht := lt_of_lt_of_eq t.isLt N_0
  have he : ((cfg0.win 0).blk t).view.emb (ix3 (0 : Fin 1) (0 : Fin 1) n) = ix3 (⟨t.val / 8, by omega⟩ : Fin 3) (0 : Fin 1) (⟨t.val % 8 * 4096 + n.val, by omega⟩ : Fin 32768) := by
    blk_ext [idx t]
  refine Eq.trans (b := V m c main_c (((cfg0.win 0).blk t).view.emb (ix3 (0 : Fin 1) (0 : Fin 1) n))) rfl ?_
  rw [he, buc_eq]
  refine congrArg lit0t ?_
  refine (Shape.rowMajor_val_three _).trans ?_
  show (t.val / 8 * 1 + 0) * 32768 + (t.val % 8 * 4096 + n.val) = _
  omega

/-- The result array, as a function of the argument: the reference's own term. -/
abbrev OUT (c : Dev nD) : Vec Ideal S3x16x32768 .f32 := Cert.BiasRefIdeal.Mat.REF (arr0 m c)

section
variable (hx : ∀ (c : Dev nD) (j : Fin 32) (h : Fin 16), FoxMath.IsReal (arr0 m c (ix2 j h)))
include hx

theorem point (c : Dev nD) (t : Fin cfg0.N) (h : Fin 16) (n : Fin 4096) :
    k0_pay1 (buc m c t) (tab m c t) (ix3 0 h n) = OUT m c (((cfg0.win 2).blk t).view.emb (ix3 (0 : Fin 1) h n)) := by
  have ht := lt_of_lt_of_eq t.isLt N_0
  have hn := n.isLt
  have hq : t.val % 8 * 16 + n.val / 256 < 128 := by omega
  have hk : n.val % 256 < 256 := by omega
  have ej : t.val % 8 * 4096 + n.val = (t.val % 8 * 16 + n.val / 256) * 256 + n.val % 256 := by omega
  have hj : (t.val % 8 * 16 + n.val / 256) * 256 + n.val % 256 < 32768 := by omega
  have he : ((cfg0.win 2).blk t).view.emb (ix3 (0 : Fin 1) h n) = ix3 (⟨t.val / 8, by omega⟩ : Fin 3) h (⟨(t.val % 8 * 16 + n.val / 256) * 256 + n.val % 256, hj⟩ : Fin 32768) := by
    blk_ext [idx t]
  rw [he]
  unfold OUT
  have hb := BiasNum.bk_lt (BiasNum.rel (t.val / 8) (t.val % 8 * 16 + n.val / 256) (n.val % 256))
  have e := Cert.BiasRefIdeal.Mat.ref_bucket (arr0 m c) (⟨t.val / 8, by omega⟩ : Fin 3) (⟨_, hq⟩ : Fin 128) (⟨_, hk⟩ : Fin 256) h hj
  refine Eq.trans ?_ e.symm
  rw [pay_at _ _ h n (⟨_, lt_trans hb (by norm_num)⟩ : Fin 128) ?_]
  · have t15 : TABLE (arr0 m c) (ix2 h 15) = arr0 m c (ix2 15 h) := table_at (arr0 m c) h 15
    have tb := table_at (arr0 m c) h (⟨_, hb⟩ : Fin 32)
    rw [tab_at, tab_at, tb, t15]
    exact parts _ _ (hx c _ h) (hx c _ h)
  · rw [buc_at, ej]
    exact bucket _ _ _ (by omega) hq hk

theorem final (c : Dev nD) : (dats m 0 c).arrAt 2 cfg0.N = OUT m c := by
  refine (dats m 0 c).arrAt_eq_of_covers 2 _ (by decide +kernel) fun t hf y => ?_
  blk_simp
  rw [after0_2]
  obtain ⟨h, n, rfl⟩ : ∃ (h : Fin 16) (n : Fin 4096), y = ix3 (0 : Fin 1) h n := ⟨y 1, y 2, by idx_vars y; blk_ext⟩
  refine Eq.trans ?_ (point m hx c t h n)
  unfold out0_2
  frame_out

end

theorem pinf : Ideal.ofBits FTy.f32 0x7F800000#32 = ⊤ := by
  simp [Ideal.ofBits, Ideal.ieee]

theorem ninf : Ideal.ofBits FTy.f32 0xFF800000#32 = ⊥ := by
  simp [Ideal.ofBits, Ideal.ieee]

/-- Both comparisons true: the value is a real number. -/
theorem real_of_bits (x : EReal)
    (h : IntOp.andi (BitVec.ofBool (decide (x < Ideal.ofBits FTy.f32 0x7F800000#32))) (BitVec.ofBool (decide (Ideal.ofBits FTy.f32 0xFF800000#32 < x))) = 1#1) :
    FoxMath.IsReal x := by
  rw [pinf, ninf] at h
  refine ⟨fun e => ?_, fun e => ?_⟩
  · subst e
    simp [IntOp.andi] at h
  · subst e
    simp [IntOp.andi] at h

section
variable [hPre : Cert.Pre_finite_table.Facts]

theorem x_real (hp : Cert.Pre_BiasIdeal_finite_table m) (c : Dev nD) (j : Fin 32) (h : Fin 16) : FoxMath.IsReal (arr0 m c (ix2 j h)) := by
  have h := congrFun (hp c) (ix2 j h)
  unfold Cert.Pre_finite_table.fn at h
  pointwise at h
  exact real_of_bits _ h
end

theorem algebraic : Cert.algebraic_BiasIdeal_BiasRefIdeal_pre_finite_table := by
  unfold Cert.algebraic_BiasIdeal_BiasRefIdeal_pre_finite_table
  pair_intro
  · run_from Cert.BiasIdeal.Value.run_blocks m g
  · run_from Cert.BiasRefIdeal.Value.run m' g'
    have e := Cert.BiasRefIdeal.Mat.res_eq m' c
    rw [hagree c] at e
    exact e.trans (final m (x_real m hpre) c).symm

end Cert.BiasIdeal.Mat

end
-- ==== Proof.lean ====
module

public import proofs.«01_k».proof.Defs
public import proofs.«01_k».proof.Proof.Fox
public import proofs.«01_k».proof.Proof.Gen.Kernel
public import proofs.«01_k».proof.Proof.Gen.Kernel.Frame
public import proofs.«01_k».proof.Proof.Gen.KernelIdeal.Frame
public import proofs.«01_k».proof.Proof.MoeUp
public import proofs.«01_k».proof.Proof.Gen.MoeUp
public import proofs.«01_k».proof.Proof.Gen.MoeUp.Frame
public import proofs.«01_k».proof.Proof.MoeDown
public import proofs.«01_k».proof.Proof.Gen.MoeDown
public import proofs.«01_k».proof.Proof.Gen.MoeDown.Frame
public import proofs.«01_k».proof.Proof.FfnUp
public import proofs.«01_k».proof.Proof.Gen.FfnUp
public import proofs.«01_k».proof.Proof.Gen.FfnUp.Frame
public import proofs.«01_k».proof.Proof.FfnDown
public import proofs.«01_k».proof.Proof.Gen.FfnDown
public import proofs.«01_k».proof.Proof.Gen.FfnDown.Frame
public import proofs.«01_k».proof.Proof.Gate
public import proofs.«01_k».proof.Proof.Gen.Gate
public import proofs.«01_k».proof.Proof.Gen.Gate.Frame
public import proofs.«01_k».proof.Proof.Merge
public import proofs.«01_k».proof.Proof.Gen.Merge
public import proofs.«01_k».proof.Proof.Gen.Merge.Frame
public import proofs.«01_k».proof.Proof.OutProj
public import proofs.«01_k».proof.Proof.Gen.OutProj
public import proofs.«01_k».proof.Proof.Gen.OutProj.Frame
public import proofs.«01_k».proof.Proof.Qkq
public import proofs.«01_k».proof.Proof.Gen.Qkq
public import proofs.«01_k».proof.Proof.Gen.Qkq.Frame
public import proofs.«01_k».proof.Proof.Va
public import proofs.«01_k».proof.Proof.Gen.Va
public import proofs.«01_k».proof.Proof.Gen.Va.Frame
public import proofs.«01_k».proof.Proof.Qi
public import proofs.«01_k».proof.Proof.Gen.Qi
public import proofs.«01_k».proof.Proof.Gen.Qi.Frame
public import proofs.«01_k».proof.Proof.Cb
public import proofs.«01_k».proof.Proof.Gen.Cb
public import proofs.«01_k».proof.Proof.Gen.Cb.Frame
public import proofs.«01_k».proof.Proof.Small
public import proofs.«01_k».proof.Proof.Gen.Small
public import proofs.«01_k».proof.Proof.Gen.Small.Frame
public import proofs.«01_k».proof.Proof.Norm
public import proofs.«01_k».proof.Proof.Gen.Norm
public import proofs.«01_k».proof.Proof.Gen.Norm.Frame
public import proofs.«01_k».proof.Proof.Router
public import proofs.«01_k».proof.Proof.Gen.Router
public import proofs.«01_k».proof.Proof.Gen.Router.Frame
public import proofs.«01_k».proof.Proof.Post
public import proofs.«01_k».proof.Proof.Gen.Post
public import proofs.«01_k».proof.Proof.Gen.Post.Frame
public import proofs.«01_k».proof.Proof.Bias
public import proofs.«01_k».proof.Proof.Gen.Bias
public import proofs.«01_k».proof.Proof.Gen.Bias.Frame
public import Idealize.ShloMosaic.Lib.Quiescent

@[expose] public section

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.MoeUp.Gen.facts, Cert.MoeUpIdeal.Gen.facts, Cert.MoeUpRefIdeal.Gen.facts, Cert.MoeDown.Gen.facts, Cert.MoeDownIdeal.Gen.facts, Cert.MoeDownRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.Gate.Gen.facts, Cert.GateIdeal.Gen.facts, Cert.GateRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.Qkq.Gen.facts, Cert.QkqIdeal.Gen.facts, Cert.QkqRefIdeal.Gen.facts, Cert.Va.Gen.facts, Cert.VaIdeal.Gen.facts, Cert.VaRefIdeal.Gen.facts, Cert.Qi.Gen.facts, Cert.QiIdeal.Gen.facts, Cert.QiRefIdeal.Gen.facts, Cert.Cb.Gen.facts, Cert.CbIdeal.Gen.facts, Cert.CbRefIdeal.Gen.facts, Cert.Small.Gen.facts, Cert.SmallIdeal.Gen.facts, Cert.SmallRefIdeal.Gen.facts, Cert.Norm.Gen.facts, Cert.NormIdeal.Gen.facts, Cert.NormRefIdeal.Gen.facts, Cert.Router.Gen.facts, Cert.RouterIdeal.Gen.facts, Cert.RouterRefIdeal.Gen.facts, Cert.Post.Gen.facts, Cert.PostIdeal.Gen.facts, Cert.PostRefIdeal.Gen.facts, Cert.Bias.Gen.facts, Cert.BiasIdeal.Gen.facts, Cert.BiasRefIdeal.Gen.facts, Cert.Pre_finite_scores.Gen.facts, Cert.Pre_finite_router.Gen.facts, Cert.Pre_finite_table.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, Idealize.ShloMosaic.sem_eq_zero_of_no_sems (by decide) r.2⟩) (Cert.ReferenceIdeal.Value.run (F := Ideal) m ρ),
  fun m ρ _ => (θ_run Cert.ReferenceIdeal.defs _ _).mono (fun r h => ⟨fun c => (h c).2, Idealize.ShloMosaic.sem_eq_zero_of_no_sems (by decide) r.2⟩) (Cert.ReferenceIdeal.Value.run (F := Ideal) m ρ),
  fun m ρ _ => Cert.MoeUp.Gen.frame m ρ,
  fun m ρ _ => Cert.MoeUpIdeal.Gen.frame m ρ,
  fun m ρ _ => (θ_run Cert.MoeUpRefIdeal.defs _ _).mono (fun r h => ⟨fun c => (h c).2, Idealize.ShloMosaic.sem_eq_zero_of_no_sems (by decide) r.2⟩) (Cert.MoeUpRefIdeal.Value.run (F := Ideal) m ρ),
  fun m ρ _ => Cert.MoeDown.Gen.frame m ρ,
  fun m ρ _ => Cert.MoeDownIdeal.Gen.frame m ρ,
  fun m ρ _ => (θ_run Cert.MoeDownRefIdeal.defs _ _).mono (fun r h => ⟨fun c => (h c).2, Idealize.ShloMosaic.sem_eq_zero_of_no_sems (by decide) r.2⟩) (Cert.MoeDownRefIdeal.Value.run (F := Ideal) m ρ),
  fun m ρ _ => Cert.FfnUp.Gen.frame m ρ,
  fun m ρ _ => Cert.FfnUpIdeal.Gen.frame m ρ,
  fun m ρ _ => (θ_run Cert.FfnUpRefIdeal.defs _ _).mono (fun r h => ⟨fun c => (h c).2, Idealize.ShloMosaic.sem_eq_zero_of_no_sems (by decide) r.2⟩) (Cert.FfnUpRefIdeal.Value.run (F := Ideal) m ρ),
  fun m ρ _ => Cert.FfnDown.Gen.frame m ρ,
  fun m ρ _ => Cert.FfnDownIdeal.Gen.frame m ρ,
  fun m ρ _ => (θ_run Cert.FfnDownRefIdeal.defs _ _).mono (fun r h => ⟨fun c => (h c).2, Idealize.ShloMosaic.sem_eq_zero_of_no_sems (by decide) r.2⟩) (Cert.FfnDownRefIdeal.Value.run (F := Ideal) m ρ),
  fun m ρ _ => Cert.Gate.Gen.frame m ρ,
  fun m ρ _ => Cert.GateIdeal.Gen.frame m ρ,
  fun m ρ _ => (θ_run Cert.GateRefIdeal.defs _ _).mono (fun r h => ⟨fun c => (h c).2, Idealize.ShloMosaic.sem_eq_zero_of_no_sems (by decide) r.2⟩) (Cert.GateRefIdeal.Value.run (F := Ideal) m ρ),
  fun m ρ _ => Cert.Merge.Gen.frame m ρ,
  fun m ρ _ => Cert.MergeIdeal.Gen.frame m ρ,
  fun m ρ _ => (θ_run Cert.MergeRefIdeal.defs _ _).mono (fun r h => ⟨fun c => (h c).2, Idealize.ShloMosaic.sem_eq_zero_of_no_sems (by decide) r.2⟩) (Cert.MergeRefIdeal.Value.run (F := Ideal) m ρ),
  fun m ρ _ => Cert.OutProj.Gen.frame m ρ,
  fun m ρ _ => Cert.OutProjIdeal.Gen.frame m ρ,
  fun m ρ _ => (θ_run Cert.OutProjRefIdeal.defs _ _).mono (fun r h => ⟨fun c => (h c).2, Idealize.ShloMosaic.sem_eq_zero_of_no_sems (by decide) r.2⟩) (Cert.OutProjRefIdeal.Value.run (F := Ideal) m ρ),
  fun m ρ _ => Cert.Qkq.Gen.frame m ρ,
  fun m ρ _ => Cert.QkqIdeal.Gen.frame m ρ,
  fun m ρ _ => (θ_run Cert.QkqRefIdeal.defs _ _).mono (fun r h => ⟨fun c => (h c).2, Idealize.ShloMosaic.sem_eq_zero_of_no_sems (by decide) r.2⟩) (Cert.QkqRefIdeal.Value.run (F := Ideal) m ρ),
  fun m ρ _ => Cert.Va.Gen.frame m ρ,
  fun m ρ _ => Cert.VaIdeal.Gen.frame m ρ,
  fun m ρ _ => (θ_run Cert.VaRefIdeal.defs _ _).mono (fun r h => ⟨fun c => (h c).2, Idealize.ShloMosaic.sem_eq_zero_of_no_sems (by decide) r.2⟩) (Cert.VaRefIdeal.Value.run (F := Ideal) m ρ),
  fun m ρ _ => Cert.Qi.Gen.frame m ρ,
  fun m ρ _ => Cert.QiIdeal.Gen.frame m ρ,
  fun m ρ _ => (θ_run Cert.QiRefIdeal.defs _ _).mono (fun r h => ⟨fun c => (h c).2, Idealize.ShloMosaic.sem_eq_zero_of_no_sems (by decide) r.2⟩) (Cert.QiRefIdeal.Value.run (F := Ideal) m ρ),
  fun m ρ _ => Cert.Cb.Gen.frame m ρ,
  fun m ρ _ => Cert.CbIdeal.Gen.frame m ρ,
  fun m ρ _ => (θ_run Cert.CbRefIdeal.defs _ _).mono (fun r h => ⟨fun c => (h c).2, Idealize.ShloMosaic.sem_eq_zero_of_no_sems (by decide) r.2⟩) (Cert.CbRefIdeal.Value.run (F := Ideal) m ρ),
  fun m ρ _ => Cert.Small.Gen.frame m ρ,
  fun m ρ _ => Cert.SmallIdeal.Gen.frame m ρ,
  fun m ρ _ => (θ_run Cert.SmallRefIdeal.defs _ _).mono (fun r h => ⟨fun c => (h c).2, Idealize.ShloMosaic.sem_eq_zero_of_no_sems (by decide) r.2⟩) (Cert.SmallRefIdeal.Value.run (F := Ideal) m ρ),
  fun m ρ _ => Cert.Norm.Gen.frame m ρ,
  fun m ρ _ => Cert.NormIdeal.Gen.frame m ρ,
  fun m ρ _ => (θ_run Cert.NormRefIdeal.defs _ _).mono (fun r h => ⟨fun c => (h c).2, Idealize.ShloMosaic.sem_eq_zero_of_no_sems (by decide) r.2⟩) (Cert.NormRefIdeal.Value.run (F := Ideal) m ρ),
  fun m ρ _ => Cert.Router.Gen.frame m ρ,
  fun m ρ _ => Cert.RouterIdeal.Gen.frame m ρ,
  fun m ρ _ => Cert.RouterIdeal.Gen.frame m ρ,
  fun m ρ _ => (θ_run Cert.RouterRefIdeal.defs _ _).mono (fun r h => ⟨fun c => (h c).2.2, Idealize.ShloMosaic.sem_eq_zero_of_no_sems (by decide) r.2⟩) (Cert.RouterRefIdeal.Value.run (F := Ideal) m ρ),
  fun m ρ _ => (θ_run Cert.RouterRefIdeal.defs _ _).mono (fun r h => ⟨fun c => (h c).2.2, Idealize.ShloMosaic.sem_eq_zero_of_no_sems (by decide) r.2⟩) (Cert.RouterRefIdeal.Value.run (F := Ideal) m ρ),
  fun m ρ _ => Cert.Post.Gen.frame m ρ,
  fun m ρ _ => Cert.PostIdeal.Gen.frame m ρ,
  fun m ρ _ => (θ_run Cert.PostRefIdeal.defs _ _).mono (fun r h => ⟨fun c => (h c).2.2.2.2, Idealize.ShloMosaic.sem_eq_zero_of_no_sems (by decide) r.2⟩) (Cert.PostRefIdeal.Value.run (F := Ideal) m ρ),
  fun m ρ _ => Cert.Bias.Gen.frame m ρ,
  fun m ρ _ => Cert.BiasIdeal.Gen.frame m ρ,
  fun m ρ _ => Cert.BiasIdeal.Gen.frame m ρ,
  fun m ρ _ => (θ_run Cert.BiasRefIdeal.defs _ _).mono (fun r h => ⟨fun c => (h c).2, Idealize.ShloMosaic.sem_eq_zero_of_no_sems (by decide) r.2⟩) (Cert.BiasRefIdeal.Value.run (F := Ideal) m ρ),
  fun m ρ _ => (θ_run Cert.BiasRefIdeal.defs _ _).mono (fun r h => ⟨fun c => (h c).2, Idealize.ShloMosaic.sem_eq_zero_of_no_sems (by decide) r.2⟩) (Cert.BiasRefIdeal.Value.run (F := Ideal) m ρ),
  Idealize.ShloMosaic.IdealRules.named_const.statement Cert.KernelIdeal.κ "mask" .f32 0xF149F2CA#32 ⊥ rfl,
  Cert.KernelIdeal.Fox.algebraic,
  trivial,
  Cert.MoeUpIdeal.Mat.algebraic,
  trivial,
  Cert.MoeDownIdeal.Mat.algebraic,
  trivial,
  Cert.FfnUpIdeal.Mat.algebraic,
  trivial,
  Cert.FfnDownIdeal.Mat.algebraic,
  trivial,
  Cert.GateIdeal.Mat.algebraic,
  trivial,
  Cert.MergeIdeal.Mat.algebraic,
  trivial,
  Cert.OutProjIdeal.Mat.algebraic,
  trivial,
  Cert.QkqIdeal.Mat.algebraic,
  trivial,
  Cert.VaIdeal.Mat.algebraic,
  trivial,
  Cert.QiIdeal.Mat.algebraic,
  trivial,
  Cert.CbIdeal.Mat.algebraic,
  trivial,
  Cert.SmallIdeal.Mat.algebraic,
  trivial,
  Cert.NormIdeal.Mat.algebraic,
  trivial,
  Cert.RouterIdeal.Mat.algebraic,
  trivial,
  Cert.PostIdeal.Mat.algebraic,
  trivial,
  Cert.BiasIdeal.Mat.algebraic⟩

end Cert.Proof

end
